-- ==== Defs.lean ====
def Pre_Kernel (m : (ℓ : Loc Cert.Kernel.nD Cert.Kernel.τ Cert.Kernel.sig) → Buf (Elt Bits) ℓ) : Prop :=
  True

def Pre_Plain (m : (ℓ : Loc Cert.Plain.nD Cert.Plain.τ Cert.Plain.sig) → Buf (Elt Bits) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_SwigluIdeal (m : (ℓ : Loc Cert.SwigluIdeal.nD Cert.SwigluIdeal.τ Cert.SwigluIdeal.sig) → Buf (Elt Ideal) ℓ) : Prop :=
  True

def Pre_Grouped [hPre_experts_named : Cert.Pre_experts_named.Facts] (m : (ℓ : Loc Cert.Grouped.nD Cert.Grouped.τ Cert.Grouped.sig) → Buf (Elt Bits) ℓ) : Prop :=
  ∀ c : Dev Cert.Grouped.nD,
    (Cert.Pre_experts_named.fn (F := Bits) (m ((c.tc : Thread Cert.Grouped.nD Cert.Grouped.τ).loc Cert.Grouped.main_arg0)) (m ((c.tc : Thread Cert.Grouped.nD Cert.Grouped.τ).loc Cert.Grouped.main_arg1)) (m ((c.tc : Thread Cert.Grouped.nD Cert.Grouped.τ).loc Cert.Grouped.main_arg2)) (m ((c.tc : Thread Cert.Grouped.nD Cert.Grouped.τ).loc Cert.Grouped.main_arg3)) (m ((c.tc : Thread Cert.Grouped.nD Cert.Grouped.τ).loc Cert.Grouped.main_arg4)) (m ((c.tc : Thread Cert.Grouped.nD Cert.Grouped.τ).loc Cert.Grouped.main_arg5))) = (fun _ => 1#1)

def Pre_GroupedIdeal [hPre_experts_named : Cert.Pre_experts_named.Facts] (m : (ℓ : Loc Cert.GroupedIdeal.nD Cert.GroupedIdeal.τ Cert.GroupedIdeal.sig) → Buf (Elt Ideal) ℓ) : Prop :=
  ∀ c : Dev Cert.GroupedIdeal.nD,
    (Cert.Pre_experts_named.fn (F := Ideal) (m ((c.tc : Thread Cert.GroupedIdeal.nD Cert.GroupedIdeal.τ).loc Cert.GroupedIdeal.main_arg0)) (m ((c.tc : Thread Cert.GroupedIdeal.nD Cert.GroupedIdeal.τ).loc Cert.GroupedIdeal.main_arg1)) (m ((c.tc : Thread Cert.GroupedIdeal.nD Cert.GroupedIdeal.τ).loc Cert.GroupedIdeal.main_arg2)) (m ((c.tc : Thread Cert.GroupedIdeal.nD Cert.GroupedIdeal.τ).loc Cert.GroupedIdeal.main_arg3)) (m ((c.tc : Thread Cert.GroupedIdeal.nD Cert.GroupedIdeal.τ).loc Cert.GroupedIdeal.main_arg4)) (m ((c.tc : Thread Cert.GroupedIdeal.nD Cert.GroupedIdeal.τ).loc Cert.GroupedIdeal.main_arg5))) = (fun _ => 1#1)

def Pre_ExpertsIdeal (m : (ℓ : Loc Cert.ExpertsIdeal.nD Cert.ExpertsIdeal.τ Cert.ExpertsIdeal.sig) → Buf (Elt Ideal) ℓ) : Prop :=
  True

def Pre_ExpertsIdeal_experts_named [hPre_experts_named : Cert.Pre_experts_named.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_named.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjectionsIdeal (m : (ℓ : Loc Cert.ProjectionsIdeal.nD Cert.ProjectionsIdeal.τ Cert.ProjectionsIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_MixedIdeal (m : (ℓ : Loc Cert.MixedIdeal.nD Cert.MixedIdeal.τ Cert.MixedIdeal.sig) → Buf (Elt Ideal) ℓ) : Prop :=
  True

def Pre_Routed (m : (ℓ : Loc Cert.Routed.nD Cert.Routed.τ Cert.Routed.sig) → Buf (Elt Bits) ℓ) : Prop :=
  True

def Pre_RoutedIdeal (m : (ℓ : Loc Cert.RoutedIdeal.nD Cert.RoutedIdeal.τ Cert.RoutedIdeal.sig) → Buf (Elt Ideal) ℓ) : Prop :=
  True

def Pre_MixedRoutedIdeal (m : (ℓ : Loc Cert.MixedRoutedIdeal.nD Cert.MixedRoutedIdeal.τ Cert.MixedRoutedIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ConditionedIdeal (m : (ℓ : Loc Cert.ConditionedIdeal.nD Cert.ConditionedIdeal.τ Cert.ConditionedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_Plain [hPlain : Cert.Plain.Facts] : Prop :=
  ∀ (m : (ℓ : Loc Cert.Plain.nD Cert.Plain.τ Cert.Plain.sig) → Buf (Elt Bits) ℓ) (g : Dev Cert.Plain.nD → PrngReg), Pre_Plain m →
    θ_run (Cert.Plain.defs (F := Bits)) (onTc (τ := Cert.Plain.τ) (Cert.Plain.main (F := Bits))) ⟨m, fun _ => 0, g⟩ (fun r => (∀ c : Dev Cert.Plain.nD,
      r.2.mem ((c.tc : Thread Cert.Plain.nD Cert.Plain.τ).loc Cert.Plain.main_arg0) = m ((c.tc : Thread Cert.Plain.nD Cert.Plain.τ).loc Cert.Plain.main_arg0)
      ∧ r.2.mem ((c.tc : Thread Cert.Plain.nD Cert.Plain.τ).loc Cert.Plain.main_arg1) = m ((c.tc : Thread Cert.Plain.nD Cert.Plain.τ).loc Cert.Plain.main_arg1)
      ∧ r.2.mem ((c.tc : Thread Cert.Plain.nD Cert.Plain.τ).loc Cert.Plain.main_arg2) = m ((c.tc : Thread Cert.Plain.nD Cert.Plain.τ).loc Cert.Plain.main_arg2)
      ∧ r.2.mem ((c.tc : Thread Cert.Plain.nD Cert.Plain.τ).loc Cert.Plain.main_arg3) = m ((c.tc : Thread Cert.Plain.nD Cert.Plain.τ).loc Cert.Plain.main_arg3)
      ∧ r.2.mem ((c.tc : Thread Cert.Plain.nD Cert.Plain.τ).loc Cert.Plain.main_arg4) = m ((c.tc : Thread Cert.Plain.nD Cert.Plain.τ).loc Cert.Plain.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3)
      ∧ r.2.mem ((c.tc : Thread Cert.SwigluIdeal.nD Cert.SwigluIdeal.τ).loc Cert.SwigluIdeal.main_arg4) = m ((c.tc : Thread Cert.SwigluIdeal.nD Cert.SwigluIdeal.τ).loc Cert.SwigluIdeal.main_arg4)
      ∧ r.2.mem ((c.tc : Thread Cert.SwigluIdeal.nD Cert.SwigluIdeal.τ).loc Cert.SwigluIdeal.main_arg5) = m ((c.tc : Thread Cert.SwigluIdeal.nD Cert.SwigluIdeal.τ).loc Cert.SwigluIdeal.main_arg5)
      ∧ r.2.mem ((c.tc : Thread Cert.SwigluIdeal.nD Cert.SwigluIdeal.τ).loc Cert.SwigluIdeal.main_arg6) = m ((c.tc : Thread Cert.SwigluIdeal.nD Cert.SwigluIdeal.τ).loc Cert.SwigluIdeal.main_arg6)
      ∧ r.2.mem ((c.tc : Thread Cert.SwigluIdeal.nD Cert.SwigluIdeal.τ).loc Cert.SwigluIdeal.main_arg7) = m ((c.tc : Thread Cert.SwigluIdeal.nD Cert.SwigluIdeal.τ).loc Cert.SwigluIdeal.main_arg7))
      ∧ r.2.sem = fun _ => 0)

def quiescent_Grouped [hGrouped : Cert.Grouped.Facts] [hPre_experts_named : Cert.Pre_experts_named.Facts] : Prop :=
  ∀ (m : (ℓ : Loc Cert.Grouped.nD Cert.Grouped.τ Cert.Grouped.sig) → Buf (Elt Bits) ℓ) (g : Dev Cert.Grouped.nD → PrngReg), Pre_Grouped m →
    θ_run (Cert.Grouped.defs (F := Bits)) (onTc (τ := Cert.Grouped.τ) (Cert.Grouped.main (F := Bits))) ⟨m, fun _ => 0, g⟩ (fun r => (∀ c : Dev Cert.Grouped.nD,
      r.2.mem ((c.tc : Thread Cert.Grouped.nD Cert.Grouped.τ).loc Cert.Grouped.main_arg0) = m ((c.tc : Thread Cert.Grouped.nD Cert.Grouped.τ).loc Cert.Grouped.main_arg0)
      ∧ r.2.mem ((c.tc : Thread Cert.Grouped.nD Cert.Grouped.τ).loc Cert.Grouped.main_arg1) = m ((c.tc : Thread Cert.Grouped.nD Cert.Grouped.τ).loc Cert.Grouped.main_arg1)
      ∧ r.2.mem ((c.tc : Thread Cert.Grouped.nD Cert.Grouped.τ).loc Cert.Grouped.main_arg2) = m ((c.tc : Thread Cert.Grouped.nD Cert.Grouped.τ).loc Cert.Grouped.main_arg2)
      ∧ r.2.mem ((c.tc : Thread Cert.Grouped.nD Cert.Grouped.τ).loc Cert.Grouped.main_arg3) = m ((c.tc : Thread Cert.Grouped.nD Cert.Grouped.τ).loc Cert.Grouped.main_arg3)
      ∧ r.2.mem ((c.tc : Thread Cert.Grouped.nD Cert.Grouped.τ).loc Cert.Grouped.main_arg4) = m ((c.tc : Thread Cert.Grouped.nD Cert.Grouped.τ).loc Cert.Grouped.main_arg4)
      ∧ r.2.mem ((c.tc : Thread Cert.Grouped.nD Cert.Grouped.τ).loc Cert.Grouped.main_arg5) = m ((c.tc : Thread Cert.Grouped.nD Cert.Grouped.τ).loc Cert.Grouped.main_arg5))
      ∧ r.2.sem = fun _ => 0)

def quiescent_GroupedIdeal [hGroupedIdeal : Cert.GroupedIdeal.Facts] [hPre_experts_named : Cert.Pre_experts_named.Facts] : Prop :=
  ∀ (m : (ℓ : Loc Cert.GroupedIdeal.nD Cert.GroupedIdeal.τ Cert.GroupedIdeal.sig) → Buf (Elt Ideal) ℓ) (g : Dev Cert.GroupedIdeal.nD → PrngReg), Pre_GroupedIdeal m →
    θ_run (Cert.GroupedIdeal.defs (F := Ideal)) (onTc (τ := Cert.GroupedIdeal.τ) (Cert.GroupedIdeal.main (F := Ideal))) ⟨m, fun _ => 0, g⟩ (fun r => (∀ c : Dev Cert.GroupedIdeal.nD,
      r.2.mem ((c.tc : Thread Cert.GroupedIdeal.nD Cert.GroupedIdeal.τ).loc Cert.GroupedIdeal.main_arg0) = m ((c.tc : Thread Cert.GroupedIdeal.nD Cert.GroupedIdeal.τ).loc Cert.GroupedIdeal.main_arg0)
      ∧ r.2.mem ((c.tc : Thread Cert.GroupedIdeal.nD Cert.GroupedIdeal.τ).loc Cert.GroupedIdeal.main_arg1) = m ((c.tc : Thread Cert.GroupedIdeal.nD Cert.GroupedIdeal.τ).loc Cert.GroupedIdeal.main_arg1)
      ∧ r.2.mem ((c.tc : Thread Cert.GroupedIdeal.nD Cert.GroupedIdeal.τ).loc Cert.GroupedIdeal.main_arg2) = m ((c.tc : Thread Cert.GroupedIdeal.nD Cert.GroupedIdeal.τ).loc Cert.GroupedIdeal.main_arg2)
      ∧ r.2.mem ((c.tc : Thread Cert.GroupedIdeal.nD Cert.GroupedIdeal.τ).loc Cert.GroupedIdeal.main_arg3) = m ((c.tc : Thread Cert.GroupedIdeal.nD Cert.GroupedIdeal.τ).loc Cert.GroupedIdeal.main_arg3)
      ∧ r.2.mem ((c.tc : Thread Cert.GroupedIdeal.nD Cert.GroupedIdeal.τ).loc Cert.GroupedIdeal.main_arg4) = m ((c.tc : Thread Cert.GroupedIdeal.nD Cert.GroupedIdeal.τ).loc Cert.GroupedIdeal.main_arg4)
      ∧ r.2.mem ((c.tc : Thread Cert.GroupedIdeal.nD Cert.GroupedIdeal.τ).loc Cert.GroupedIdeal.main_arg5) = m ((c.tc : Thread Cert.GroupedIdeal.nD Cert.GroupedIdeal.τ).loc Cert.GroupedIdeal.main_arg5))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsIdeal_pre_experts_named [hExpertsIdeal : Cert.ExpertsIdeal.Facts] [hPre_experts_named : Cert.Pre_experts_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_experts_named m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjectionsIdeal [hProjectionsIdeal : Cert.ProjectionsIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ r.2.sem = fun _ => 0)

def quiescent_MixedIdeal [hMixedIdeal : Cert.MixedIdeal.Facts] : Prop :=
  ∀ (m : (ℓ : Loc Cert.MixedIdeal.nD Cert.MixedIdeal.τ Cert.MixedIdeal.sig) → Buf (Elt Ideal) ℓ) (g : Dev Cert.MixedIdeal.nD → PrngReg), Pre_MixedIdeal m →
    θ_run (Cert.MixedIdeal.defs (F := Ideal)) (onTc (τ := Cert.MixedIdeal.τ) (Cert.MixedIdeal.main (F := Ideal))) ⟨m, fun _ => 0, g⟩ (fun r => (∀ c : Dev Cert.MixedIdeal.nD,
      r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
      ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
      ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
      ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
      ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4)
      ∧ r.2.mem ((c.tc : Thread Cert.MixedIdeal.nD Cert.MixedIdeal.τ).loc Cert.MixedIdeal.main_arg5) = m ((c.tc : Thread Cert.MixedIdeal.nD Cert.MixedIdeal.τ).loc Cert.MixedIdeal.main_arg5)
      ∧ r.2.mem ((c.tc : Thread Cert.MixedIdeal.nD Cert.MixedIdeal.τ).loc Cert.MixedIdeal.main_arg6) = m ((c.tc : Thread Cert.MixedIdeal.nD Cert.MixedIdeal.τ).loc Cert.MixedIdeal.main_arg6))
      ∧ r.2.sem = fun _ => 0)

def quiescent_Routed [hRouted : Cert.Routed.Facts] : Prop :=
  ∀ (m : (ℓ : Loc Cert.Routed.nD Cert.Routed.τ Cert.Routed.sig) → Buf (Elt Bits) ℓ) (g : Dev Cert.Routed.nD → PrngReg), Pre_Routed m →
    θ_run (Cert.Routed.defs (F := Bits)) (onTc (τ := Cert.Routed.τ) (Cert.Routed.main (F := Bits))) ⟨m, fun _ => 0, g⟩ (fun r => (∀ c : Dev Cert.Routed.nD,
      r.2.mem ((c.tc : Thread Cert.Routed.nD Cert.Routed.τ).loc Cert.Routed.main_arg0) = m ((c.tc : Thread Cert.Routed.nD Cert.Routed.τ).loc Cert.Routed.main_arg0)
      ∧ r.2.mem ((c.tc : Thread Cert.Routed.nD Cert.Routed.τ).loc Cert.Routed.main_arg1) = m ((c.tc : Thread Cert.Routed.nD Cert.Routed.τ).loc Cert.Routed.main_arg1)
      ∧ r.2.mem ((c.tc : Thread Cert.Routed.nD Cert.Routed.τ).loc Cert.Routed.main_arg2) = m ((c.tc : Thread Cert.Routed.nD Cert.Routed.τ).loc Cert.Routed.main_arg2)
      ∧ r.2.mem ((c.tc : Thread Cert.Routed.nD Cert.Routed.τ).loc Cert.Routed.main_arg3) = m ((c.tc : Thread Cert.Routed.nD Cert.Routed.τ).loc Cert.Routed.main_arg3)
      ∧ r.2.mem ((c.tc : Thread Cert.Routed.nD Cert.Routed.τ).loc Cert.Routed.main_arg4) = m ((c.tc : Thread Cert.Routed.nD Cert.Routed.τ).loc Cert.Routed.main_arg4)
      ∧ r.2.mem ((c.tc : Thread Cert.Routed.nD Cert.Routed.τ).loc Cert.Routed.main_arg5) = m ((c.tc : Thread Cert.Routed.nD Cert.Routed.τ).loc Cert.Routed.main_arg5)
      ∧ r.2.mem ((c.tc : Thread Cert.Routed.nD Cert.Routed.τ).loc Cert.Routed.main_arg6) = m ((c.tc : Thread Cert.Routed.nD Cert.Routed.τ).loc Cert.Routed.main_arg6)
      ∧ r.2.mem ((c.tc : Thread Cert.Routed.nD Cert.Routed.τ).loc Cert.Routed.main_arg7) = m ((c.tc : Thread Cert.Routed.nD Cert.Routed.τ).loc Cert.Routed.main_arg7))
      ∧ r.2.sem = fun _ => 0)

def quiescent_RoutedIdeal [hRoutedIdeal : Cert.RoutedIdeal.Facts] : Prop :=
  ∀ (m : (ℓ : Loc Cert.RoutedIdeal.nD Cert.RoutedIdeal.τ Cert.RoutedIdeal.sig) → Buf (Elt Ideal) ℓ) (g : Dev Cert.RoutedIdeal.nD → PrngReg), Pre_RoutedIdeal m →
    θ_run (Cert.RoutedIdeal.defs (F := Ideal)) (onTc (τ := Cert.RoutedIdeal.τ) (Cert.RoutedIdeal.main (F := Ideal))) ⟨m, fun _ => 0, g⟩ (fun r => (∀ c : Dev Cert.RoutedIdeal.nD,
      r.2.mem ((c.tc : Thread Cert.RoutedIdeal.nD Cert.RoutedIdeal.τ).loc Cert.RoutedIdeal.main_arg0) = m ((c.tc : Thread Cert.RoutedIdeal.nD Cert.RoutedIdeal.τ).loc Cert.RoutedIdeal.main_arg0)
      ∧ r.2.mem ((c.tc : Thread Cert.RoutedIdeal.nD Cert.RoutedIdeal.τ).loc Cert.RoutedIdeal.main_arg1) = m ((c.tc : Thread Cert.RoutedIdeal.nD Cert.RoutedIdeal.τ).loc Cert.RoutedIdeal.main_arg1)
      ∧ r.2.mem ((c.tc : Thread Cert.RoutedIdeal.nD Cert.RoutedIdeal.τ).loc Cert.RoutedIdeal.main_arg2) = m ((c.tc : Thread Cert.RoutedIdeal.nD Cert.RoutedIdeal.τ).loc Cert.RoutedIdeal.main_arg2)
      ∧ r.2.mem ((c.tc : Thread Cert.RoutedIdeal.nD Cert.RoutedIdeal.τ).loc Cert.RoutedIdeal.main_arg3) = m ((c.tc : Thread Cert.RoutedIdeal.nD Cert.RoutedIdeal.τ).loc Cert.RoutedIdeal.main_arg3)
      ∧ r.2.mem ((c.tc : Thread Cert.RoutedIdeal.nD Cert.RoutedIdeal.τ).loc Cert.RoutedIdeal.main_arg4) = m ((c.tc : Thread Cert.RoutedIdeal.nD Cert.RoutedIdeal.τ).loc Cert.RoutedIdeal.main_arg4)
      ∧ r.2.mem ((c.tc : Thread Cert.RoutedIdeal.nD Cert.RoutedIdeal.τ).loc Cert.RoutedIdeal.main_arg5) = m ((c.tc : Thread Cert.RoutedIdeal.nD Cert.RoutedIdeal.τ).loc Cert.RoutedIdeal.main_arg5)
      ∧ r.2.mem ((c.tc : Thread Cert.RoutedIdeal.nD Cert.RoutedIdeal.τ).loc Cert.RoutedIdeal.main_arg6) = m ((c.tc : Thread Cert.RoutedIdeal.nD Cert.RoutedIdeal.τ).loc Cert.RoutedIdeal.main_arg6)
      ∧ r.2.mem ((c.tc : Thread Cert.RoutedIdeal.nD Cert.RoutedIdeal.τ).loc Cert.RoutedIdeal.main_arg7) = m ((c.tc : Thread Cert.RoutedIdeal.nD Cert.RoutedIdeal.τ).loc Cert.RoutedIdeal.main_arg7))
      ∧ r.2.sem = fun _ => 0)

def quiescent_MixedRoutedIdeal [hMixedRoutedIdeal : Cert.MixedRoutedIdeal.Facts] : Prop :=
  ∀ (m : (ℓ : Loc Cert.MixedRoutedIdeal.nD Cert.MixedRoutedIdeal.τ Cert.MixedRoutedIdeal.sig) → Buf (Elt Ideal) ℓ) (g : Dev Cert.MixedRoutedIdeal.nD → PrngReg), Pre_MixedRoutedIdeal m →
    θ_run (Cert.MixedRoutedIdeal.defs (F := Ideal)) (onTc (τ := Cert.MixedRoutedIdeal.τ) (Cert.MixedRoutedIdeal.main (F := Ideal))) ⟨m, fun _ => 0, g⟩ (fun r => (∀ c : Dev Cert.MixedRoutedIdeal.nD,
      r.2.mem ((c.tc : Thread Cert.MixedRoutedIdeal.nD Cert.MixedRoutedIdeal.τ).loc Cert.MixedRoutedIdeal.main_arg0) = m ((c.tc : Thread Cert.MixedRoutedIdeal.nD Cert.MixedRoutedIdeal.τ).loc Cert.MixedRoutedIdeal.main_arg0)
      ∧ r.2.mem ((c.tc : Thread Cert.MixedRoutedIdeal.nD Cert.MixedRoutedIdeal.τ).loc Cert.MixedRoutedIdeal.main_arg1) = m ((c.tc : Thread Cert.MixedRoutedIdeal.nD Cert.MixedRoutedIdeal.τ).loc Cert.MixedRoutedIdeal.main_arg1)
      ∧ r.2.mem ((c.tc : Thread Cert.MixedRoutedIdeal.nD Cert.MixedRoutedIdeal.τ).loc Cert.MixedRoutedIdeal.main_arg2) = m ((c.tc : Thread Cert.MixedRoutedIdeal.nD Cert.MixedRoutedIdeal.τ).loc Cert.MixedRoutedIdeal.main_arg2)
      ∧ r.2.mem ((c.tc : Thread Cert.MixedRoutedIdeal.nD Cert.MixedRoutedIdeal.τ).loc Cert.MixedRoutedIdeal.main_arg3) = m ((c.tc : Thread Cert.MixedRoutedIdeal.nD Cert.MixedRoutedIdeal.τ).loc Cert.MixedRoutedIdeal.main_arg3)
      ∧ r.2.mem ((c.tc : Thread Cert.MixedRoutedIdeal.nD Cert.MixedRoutedIdeal.τ).loc Cert.MixedRoutedIdeal.main_arg4) = m ((c.tc : Thread Cert.MixedRoutedIdeal.nD Cert.MixedRoutedIdeal.τ).loc Cert.MixedRoutedIdeal.main_arg4)
      ∧ r.2.mem ((c.tc : Thread Cert.MixedRoutedIdeal.nD Cert.MixedRoutedIdeal.τ).loc Cert.MixedRoutedIdeal.main_arg5) = m ((c.tc : Thread Cert.MixedRoutedIdeal.nD Cert.MixedRoutedIdeal.τ).loc Cert.MixedRoutedIdeal.main_arg5)
      ∧ r.2.mem ((c.tc : Thread Cert.MixedRoutedIdeal.nD Cert.MixedRoutedIdeal.τ).loc Cert.MixedRoutedIdeal.main_arg6) = m ((c.tc : Thread Cert.MixedRoutedIdeal.nD Cert.MixedRoutedIdeal.τ).loc Cert.MixedRoutedIdeal.main_arg6)
      ∧ r.2.mem ((c.tc : Thread Cert.MixedRoutedIdeal.nD Cert.MixedRoutedIdeal.τ).loc Cert.MixedRoutedIdeal.main_arg7) = m ((c.tc : Thread Cert.MixedRoutedIdeal.nD Cert.MixedRoutedIdeal.τ).loc Cert.MixedRoutedIdeal.main_arg7))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ConditionedIdeal [hConditionedIdeal : Cert.ConditionedIdeal.Facts] : Prop :=
  ∀ (m : (ℓ : Loc Cert.ConditionedIdeal.nD Cert.ConditionedIdeal.τ Cert.ConditionedIdeal.sig) → Buf (Elt Ideal) ℓ) (g : Dev Cert.ConditionedIdeal.nD → PrngReg), Pre_ConditionedIdeal m →
    θ_run (Cert.ConditionedIdeal.defs (F := Ideal)) (onTc (τ := Cert.ConditionedIdeal.τ) (Cert.ConditionedIdeal.main (F := Ideal))) ⟨m, fun _ => 0, g⟩ (fun r => (∀ c : Dev Cert.ConditionedIdeal.nD,
      r.2.mem ((c.tc : Thread Cert.ConditionedIdeal.nD Cert.ConditionedIdeal.τ).loc Cert.ConditionedIdeal.main_arg0) = m ((c.tc : Thread Cert.ConditionedIdeal.nD Cert.ConditionedIdeal.τ).loc Cert.ConditionedIdeal.main_arg0)
      ∧ r.2.mem ((c.tc : Thread Cert.ConditionedIdeal.nD Cert.ConditionedIdeal.τ).loc Cert.ConditionedIdeal.main_arg1) = m ((c.tc : Thread Cert.ConditionedIdeal.nD Cert.ConditionedIdeal.τ).loc Cert.ConditionedIdeal.main_arg1)
      ∧ r.2.mem ((c.tc : Thread Cert.ConditionedIdeal.nD Cert.ConditionedIdeal.τ).loc Cert.ConditionedIdeal.main_arg2) = m ((c.tc : Thread Cert.ConditionedIdeal.nD Cert.ConditionedIdeal.τ).loc Cert.ConditionedIdeal.main_arg2))
      ∧ r.2.sem = fun _ => 0)

def preserves_Ffn_FfnIdeal : Prop :=
  True

def algebraic_FfnIdeal_SwigluIdeal [hFfnIdeal : Cert.FfnIdeal.Facts] [hSwigluIdeal : Cert.SwigluIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.SwigluIdeal.nD Cert.SwigluIdeal.τ Cert.SwigluIdeal.sig) → Buf (Elt Ideal) ℓ) (g' : Dev Cert.SwigluIdeal.nD → PrngReg), Pre_FfnIdeal m →
    (∀ c : Dev Cert.FfnIdeal.nD,
      m' ((c.tc : Thread Cert.SwigluIdeal.nD Cert.SwigluIdeal.τ).loc Cert.SwigluIdeal.main_arg0) = m ((c.tc : Thread Cert.FfnIdeal.nD Cert.FfnIdeal.τ).loc Cert.FfnIdeal.main_arg0)
      ∧ m' ((c.tc : Thread Cert.SwigluIdeal.nD Cert.SwigluIdeal.τ).loc Cert.SwigluIdeal.main_arg1) = m ((c.tc : Thread Cert.FfnIdeal.nD Cert.FfnIdeal.τ).loc Cert.FfnIdeal.main_arg1)
      ∧ m' ((c.tc : Thread Cert.SwigluIdeal.nD Cert.SwigluIdeal.τ).loc Cert.SwigluIdeal.main_arg2) = m ((c.tc : Thread Cert.FfnIdeal.nD Cert.FfnIdeal.τ).loc Cert.FfnIdeal.main_arg2)
      ∧ m' ((c.tc : Thread Cert.SwigluIdeal.nD Cert.SwigluIdeal.τ).loc Cert.SwigluIdeal.main_arg3) = m ((c.tc : Thread Cert.FfnIdeal.nD Cert.FfnIdeal.τ).loc Cert.FfnIdeal.main_arg3)
      ∧ m' ((c.tc : Thread Cert.SwigluIdeal.nD Cert.SwigluIdeal.τ).loc Cert.SwigluIdeal.main_arg4) = m ((c.tc : Thread Cert.FfnIdeal.nD Cert.FfnIdeal.τ).loc Cert.FfnIdeal.main_arg4)
      ∧ m' ((c.tc : Thread Cert.SwigluIdeal.nD Cert.SwigluIdeal.τ).loc Cert.SwigluIdeal.main_arg5) = m ((c.tc : Thread Cert.FfnIdeal.nD Cert.FfnIdeal.τ).loc Cert.FfnIdeal.main_arg5)
      ∧ m' ((c.tc : Thread Cert.SwigluIdeal.nD Cert.SwigluIdeal.τ).loc Cert.SwigluIdeal.main_arg6) = m ((c.tc : Thread Cert.FfnIdeal.nD Cert.FfnIdeal.τ).loc Cert.FfnIdeal.main_arg6)
      ∧ m' ((c.tc : Thread Cert.SwigluIdeal.nD Cert.SwigluIdeal.τ).loc Cert.SwigluIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.SwigluIdeal.defs (F := Ideal)) (onTc (τ := Cert.SwigluIdeal.τ) (Cert.SwigluIdeal.main (F := Ideal))) ⟨m', fun _ => 0, g'⟩ (fun r => ∀ c : Dev Cert.SwigluIdeal.nD,
          r.2.mem ((c.tc : Thread Cert.SwigluIdeal.nD Cert.SwigluIdeal.τ).loc Cert.SwigluIdeal.main_v39) = v0 c
          ∧ r.2.mem ((c.tc : Thread Cert.SwigluIdeal.nD Cert.SwigluIdeal.τ).loc Cert.SwigluIdeal.main_arg0) = m' ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m' ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m' ((c.tc : Thread Cert.SwigluIdeal.nD Cert.SwigluIdeal.τ).loc Cert.SwigluIdeal.main_arg2)
          ∧ r.2.mem ((c.tc : Thread Cert.SwigluIdeal.nD Cert.SwigluIdeal.τ).loc Cert.SwigluIdeal.main_arg3) = m' ((c.tc : Thread Cert.SwigluIdeal.nD Cert.SwigluIdeal.τ).loc Cert.SwigluIdeal.main_arg3)
          ∧ r.2.mem ((c.tc : Thread Cert.SwigluIdeal.nD Cert.SwigluIdeal.τ).loc Cert.SwigluIdeal.main_arg4) = m' ((c.tc : Thread Cert.SwigluIdeal.nD Cert.SwigluIdeal.τ).loc Cert.SwigluIdeal.main_arg4)
          ∧ r.2.mem ((c.tc : Thread Cert.SwigluIdeal.nD Cert.SwigluIdeal.τ).loc Cert.SwigluIdeal.main_arg5) = m' ((c.tc : Thread Cert.SwigluIdeal.nD Cert.SwigluIdeal.τ).loc Cert.SwigluIdeal.main_arg5)
          ∧ r.2.mem ((c.tc : Thread Cert.SwigluIdeal.nD Cert.SwigluIdeal.τ).loc Cert.SwigluIdeal.main_arg6) = m' ((c.tc : Thread Cert.SwigluIdeal.nD Cert.SwigluIdeal.τ).loc Cert.SwigluIdeal.main_arg6)
          ∧ r.2.mem ((c.tc : Thread Cert.SwigluIdeal.nD Cert.SwigluIdeal.τ).loc Cert.SwigluIdeal.main_arg7) = m' ((c.tc : Thread Cert.SwigluIdeal.nD Cert.SwigluIdeal.τ).loc Cert.SwigluIdeal.main_arg7))

def preserves_Grouped_GroupedIdeal : Prop :=
  True

def algebraic_GroupedIdeal_ExpertsIdeal_on_rows_used [hGroupedIdeal : Cert.GroupedIdeal.Facts] [hExpertsIdeal : Cert.ExpertsIdeal.Facts] [hPre_experts_named : Cert.Pre_experts_named.Facts] [hOn_rows_used : Cert.On_rows_used.Facts] : Prop :=
  ∀ (m : (ℓ : Loc Cert.GroupedIdeal.nD Cert.GroupedIdeal.τ Cert.GroupedIdeal.sig) → Buf (Elt Ideal) ℓ) (g : Dev Cert.GroupedIdeal.nD → PrngReg)
    (m' : (ℓ : Loc Cert.ExpertsIdeal.nD Cert.ExpertsIdeal.τ Cert.ExpertsIdeal.sig) → Buf (Elt Ideal) ℓ) (g' : Dev Cert.ExpertsIdeal.nD → PrngReg), Pre_GroupedIdeal m →
    (∀ c : Dev Cert.GroupedIdeal.nD,
      m' ((c.tc : Thread Cert.ExpertsIdeal.nD Cert.ExpertsIdeal.τ).loc Cert.ExpertsIdeal.main_arg0) = m ((c.tc : Thread Cert.GroupedIdeal.nD Cert.GroupedIdeal.τ).loc Cert.GroupedIdeal.main_arg0)
      ∧ m' ((c.tc : Thread Cert.ExpertsIdeal.nD Cert.ExpertsIdeal.τ).loc Cert.ExpertsIdeal.main_arg1) = m ((c.tc : Thread Cert.GroupedIdeal.nD Cert.GroupedIdeal.τ).loc Cert.GroupedIdeal.main_arg1)
      ∧ m' ((c.tc : Thread Cert.ExpertsIdeal.nD Cert.ExpertsIdeal.τ).loc Cert.ExpertsIdeal.main_arg2) = m ((c.tc : Thread Cert.GroupedIdeal.nD Cert.GroupedIdeal.τ).loc Cert.GroupedIdeal.main_arg2)
      ∧ m' ((c.tc : Thread Cert.ExpertsIdeal.nD Cert.ExpertsIdeal.τ).loc Cert.ExpertsIdeal.main_arg3) = m ((c.tc : Thread Cert.GroupedIdeal.nD Cert.GroupedIdeal.τ).loc Cert.GroupedIdeal.main_arg3)
      ∧ m' ((c.tc : Thread Cert.ExpertsIdeal.nD Cert.ExpertsIdeal.τ).loc Cert.ExpertsIdeal.main_arg4) = m ((c.tc : Thread Cert.GroupedIdeal.nD Cert.GroupedIdeal.τ).loc Cert.GroupedIdeal.main_arg4)
      ∧ m' ((c.tc : Thread Cert.ExpertsIdeal.nD Cert.ExpertsIdeal.τ).loc Cert.ExpertsIdeal.main_arg5) = m ((c.tc : Thread Cert.GroupedIdeal.nD Cert.GroupedIdeal.τ).loc Cert.GroupedIdeal.main_arg5)) →
    ∃ (v0 : (c : Dev Cert.GroupedIdeal.nD) → Buf (Elt Ideal) ((c.tc : Thread Cert.GroupedIdeal.nD Cert.GroupedIdeal.τ).loc Cert.GroupedIdeal.main_v3)),
      θ_run (Cert.GroupedIdeal.defs (F := Ideal)) (onTc (τ := Cert.GroupedIdeal.τ) (Cert.GroupedIdeal.main (F := Ideal))) ⟨m, fun _ => 0, g⟩ (fun r => ∀ c : Dev Cert.GroupedIdeal.nD,
          (∀ i : (⟨2, ![139264, 1024]⟩ : Shape).Idx, (Cert.On_rows_used.fn (F := Ideal) (m ((c.tc : Thread Cert.GroupedIdeal.nD Cert.GroupedIdeal.τ).loc Cert.GroupedIdeal.main_arg0)) (m ((c.tc : Thread Cert.GroupedIdeal.nD Cert.GroupedIdeal.τ).loc Cert.GroupedIdeal.main_arg1)) (m ((c.tc : Thread Cert.GroupedIdeal.nD Cert.GroupedIdeal.τ).loc Cert.GroupedIdeal.main_arg2)) (m ((c.tc : Thread Cert.GroupedIdeal.nD Cert.GroupedIdeal.τ).loc Cert.GroupedIdeal.main_arg3)) (m ((c.tc : Thread Cert.GroupedIdeal.nD Cert.GroupedIdeal.τ).loc Cert.GroupedIdeal.main_arg4)) (m ((c.tc : Thread Cert.GroupedIdeal.nD Cert.GroupedIdeal.τ).loc Cert.GroupedIdeal.main_arg5))) i = 1#1 → r.2.mem ((c.tc : Thread Cert.GroupedIdeal.nD Cert.GroupedIdeal.τ).loc Cert.GroupedIdeal.main_v3) i = v0 c i)
          ∧ r.2.mem ((c.tc : Thread Cert.GroupedIdeal.nD Cert.GroupedIdeal.τ).loc Cert.GroupedIdeal.main_arg0) = m ((c.tc : Thread Cert.GroupedIdeal.nD Cert.GroupedIdeal.τ).loc Cert.GroupedIdeal.main_arg0)
          ∧ r.2.mem ((c.tc : Thread Cert.GroupedIdeal.nD Cert.GroupedIdeal.τ).loc Cert.GroupedIdeal.main_arg1) = m ((c.tc : Thread Cert.GroupedIdeal.nD Cert.GroupedIdeal.τ).loc Cert.GroupedIdeal.main_arg1)
          ∧ r.2.mem ((c.tc : Thread Cert.GroupedIdeal.nD Cert.GroupedIdeal.τ).loc Cert.GroupedIdeal.main_arg2) = m ((c.tc : Thread Cert.GroupedIdeal.nD Cert.GroupedIdeal.τ).loc Cert.GroupedIdeal.main_arg2)
          ∧ r.2.mem ((c.tc : Thread Cert.GroupedIdeal.nD Cert.GroupedIdeal.τ).loc Cert.GroupedIdeal.main_arg3) = m ((c.tc : Thread Cert.GroupedIdeal.nD Cert.GroupedIdeal.τ).loc Cert.GroupedIdeal.main_arg3)
          ∧ r.2.mem ((c.tc : Thread Cert.GroupedIdeal.nD Cert.GroupedIdeal.τ).loc Cert.GroupedIdeal.main_arg4) = m ((c.tc : Thread Cert.GroupedIdeal.nD Cert.GroupedIdeal.τ).loc Cert.GroupedIdeal.main_arg4)
          ∧ r.2.mem ((c.tc : Thread Cert.GroupedIdeal.nD Cert.GroupedIdeal.τ).loc Cert.GroupedIdeal.main_arg5) = m ((c.tc : Thread Cert.GroupedIdeal.nD Cert.GroupedIdeal.τ).loc Cert.GroupedIdeal.main_arg5))
      ∧ θ_run (Cert.ExpertsIdeal.defs (F := Ideal)) (onTc (τ := Cert.ExpertsIdeal.τ) (Cert.ExpertsIdeal.main (F := Ideal))) ⟨m', fun _ => 0, g'⟩ (fun r => ∀ c : Dev Cert.ExpertsIdeal.nD,
          (∀ i : (⟨2, ![139264, 1024]⟩ : Shape).Idx, (Cert.On_rows_used.fn (F := Ideal) (m ((c.tc : Thread Cert.GroupedIdeal.nD Cert.GroupedIdeal.τ).loc Cert.GroupedIdeal.main_arg0)) (m ((c.tc : Thread Cert.GroupedIdeal.nD Cert.GroupedIdeal.τ).loc Cert.GroupedIdeal.main_arg1)) (m ((c.tc : Thread Cert.GroupedIdeal.nD Cert.GroupedIdeal.τ).loc Cert.GroupedIdeal.main_arg2)) (m ((c.tc : Thread Cert.GroupedIdeal.nD Cert.GroupedIdeal.τ).loc Cert.GroupedIdeal.main_arg3)) (m ((c.tc : Thread Cert.GroupedIdeal.nD Cert.GroupedIdeal.τ).loc Cert.GroupedIdeal.main_arg4)) (m ((c.tc : Thread Cert.GroupedIdeal.nD Cert.GroupedIdeal.τ).loc Cert.GroupedIdeal.main_arg5))) i = 1#1 → r.2.mem ((c.tc : Thread Cert.ExpertsIdeal.nD Cert.ExpertsIdeal.τ).loc Cert.ExpertsIdeal.main_v115) i = v0 c i)
          ∧ r.2.mem ((c.tc : Thread Cert.ExpertsIdeal.nD Cert.ExpertsIdeal.τ).loc Cert.ExpertsIdeal.main_arg0) = m' ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m' ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m' ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m' ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m' ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m' ((c.tc : Thread Cert.ExpertsIdeal.nD Cert.ExpertsIdeal.τ).loc Cert.ExpertsIdeal.main_arg5))

def preserves_Proj_ProjIdeal : Prop :=
  True

def algebraic_ProjIdeal_ProjectionsIdeal [hProjIdeal : Cert.ProjIdeal.Facts] [hProjectionsIdeal : Cert.ProjectionsIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjectionsIdeal.nD Cert.ProjectionsIdeal.τ Cert.ProjectionsIdeal.sig) → Buf (Elt Ideal) ℓ) (g' : Dev Cert.ProjectionsIdeal.nD → PrngReg), Pre_ProjIdeal m →
    (∀ c : Dev Cert.ProjIdeal.nD,
      m' ((c.tc : Thread Cert.ProjectionsIdeal.nD Cert.ProjectionsIdeal.τ).loc Cert.ProjectionsIdeal.main_arg0) = m ((c.tc : Thread Cert.ProjIdeal.nD Cert.ProjIdeal.τ).loc Cert.ProjIdeal.main_arg0)
      ∧ m' ((c.tc : Thread Cert.ProjectionsIdeal.nD Cert.ProjectionsIdeal.τ).loc Cert.ProjectionsIdeal.main_arg1) = m ((c.tc : Thread Cert.ProjIdeal.nD Cert.ProjIdeal.τ).loc Cert.ProjIdeal.main_arg1)
      ∧ m' ((c.tc : Thread Cert.ProjectionsIdeal.nD Cert.ProjectionsIdeal.τ).loc Cert.ProjectionsIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v20_0)) (v1 : (c : Dev Cert.ProjIdeal.nD) → Buf (Elt Ideal) ((c.tc : Thread Cert.ProjIdeal.nD Cert.ProjIdeal.τ).loc Cert.ProjIdeal.main_v20_1)) (v2 : (c : Dev Cert.ProjIdeal.nD) → Buf (Elt Ideal) ((c.tc : Thread Cert.ProjIdeal.nD Cert.ProjIdeal.τ).loc Cert.ProjIdeal.main_v20_2)) (v3 : (c : Dev Cert.ProjIdeal.nD) → Buf (Elt Ideal) ((c.tc : Thread Cert.ProjIdeal.nD Cert.ProjIdeal.τ).loc Cert.ProjIdeal.main_v20_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v20_0) = v0 c
          ∧ r.2.mem ((c.tc : Thread Cert.ProjIdeal.nD Cert.ProjIdeal.τ).loc Cert.ProjIdeal.main_v20_1) = v1 c
          ∧ r.2.mem ((c.tc : Thread Cert.ProjIdeal.nD Cert.ProjIdeal.τ).loc Cert.ProjIdeal.main_v20_2) = v2 c
          ∧ r.2.mem ((c.tc : Thread Cert.ProjIdeal.nD Cert.ProjIdeal.τ).loc Cert.ProjIdeal.main_v20_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjectionsIdeal.defs (F := Ideal)) (onTc (τ := Cert.ProjectionsIdeal.τ) (Cert.ProjectionsIdeal.main (F := Ideal))) ⟨m', fun _ => 0, g'⟩ (fun r => ∀ c : Dev Cert.ProjectionsIdeal.nD,
          r.2.mem ((c.tc : Thread Cert.ProjectionsIdeal.nD Cert.ProjectionsIdeal.τ).loc Cert.ProjectionsIdeal.main_v34) = v0 c
          ∧ r.2.mem ((c.tc : Thread Cert.ProjectionsIdeal.nD Cert.ProjectionsIdeal.τ).loc Cert.ProjectionsIdeal.main_v35) = v1 c
          ∧ r.2.mem ((c.tc : Thread Cert.ProjectionsIdeal.nD Cert.ProjectionsIdeal.τ).loc Cert.ProjectionsIdeal.main_v31) = v2 c
          ∧ r.2.mem ((c.tc : Thread Cert.ProjectionsIdeal.nD Cert.ProjectionsIdeal.τ).loc Cert.ProjectionsIdeal.main_v36) = v3 c
          ∧ r.2.mem ((c.tc : Thread Cert.ProjectionsIdeal.nD Cert.ProjectionsIdeal.τ).loc Cert.ProjectionsIdeal.main_arg0) = m' ((c.tc : Thread Cert.ProjectionsIdeal.nD Cert.ProjectionsIdeal.τ).loc Cert.ProjectionsIdeal.main_arg0)
          ∧ r.2.mem ((c.tc : Thread Cert.ProjectionsIdeal.nD Cert.ProjectionsIdeal.τ).loc Cert.ProjectionsIdeal.main_arg1) = m' ((c.tc : Thread Cert.ProjectionsIdeal.nD Cert.ProjectionsIdeal.τ).loc Cert.ProjectionsIdeal.main_arg1)
          ∧ r.2.mem ((c.tc : Thread Cert.ProjectionsIdeal.nD Cert.ProjectionsIdeal.τ).loc Cert.ProjectionsIdeal.main_arg2) = m' ((c.tc : Thread Cert.ProjectionsIdeal.nD Cert.ProjectionsIdeal.τ).loc Cert.ProjectionsIdeal.main_arg2))

def preserves_Outproj_OutprojIdeal : Prop :=
  True

def algebraic_OutprojIdeal_MixedIdeal [hOutprojIdeal : Cert.OutprojIdeal.Facts] [hMixedIdeal : Cert.MixedIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.MixedIdeal.nD Cert.MixedIdeal.τ Cert.MixedIdeal.sig) → Buf (Elt Ideal) ℓ) (g' : Dev Cert.MixedIdeal.nD → PrngReg), Pre_OutprojIdeal m →
    (∀ c : Dev Cert.OutprojIdeal.nD,
      m' ((c.tc : Thread Cert.MixedIdeal.nD Cert.MixedIdeal.τ).loc Cert.MixedIdeal.main_arg0) = m ((c.tc : Thread Cert.OutprojIdeal.nD Cert.OutprojIdeal.τ).loc Cert.OutprojIdeal.main_arg0)
      ∧ m' ((c.tc : Thread Cert.MixedIdeal.nD Cert.MixedIdeal.τ).loc Cert.MixedIdeal.main_arg1) = m ((c.tc : Thread Cert.OutprojIdeal.nD Cert.OutprojIdeal.τ).loc Cert.OutprojIdeal.main_arg1)
      ∧ m' ((c.tc : Thread Cert.MixedIdeal.nD Cert.MixedIdeal.τ).loc Cert.MixedIdeal.main_arg2) = m ((c.tc : Thread Cert.OutprojIdeal.nD Cert.OutprojIdeal.τ).loc Cert.OutprojIdeal.main_arg2)
      ∧ m' ((c.tc : Thread Cert.MixedIdeal.nD Cert.MixedIdeal.τ).loc Cert.MixedIdeal.main_arg3) = m ((c.tc : Thread Cert.OutprojIdeal.nD Cert.OutprojIdeal.τ).loc Cert.OutprojIdeal.main_arg3)
      ∧ m' ((c.tc : Thread Cert.MixedIdeal.nD Cert.MixedIdeal.τ).loc Cert.MixedIdeal.main_arg4) = m ((c.tc : Thread Cert.OutprojIdeal.nD Cert.OutprojIdeal.τ).loc Cert.OutprojIdeal.main_arg4)
      ∧ m' ((c.tc : Thread Cert.MixedIdeal.nD Cert.MixedIdeal.τ).loc Cert.MixedIdeal.main_arg5) = m ((c.tc : Thread Cert.OutprojIdeal.nD Cert.OutprojIdeal.τ).loc Cert.OutprojIdeal.main_arg5)
      ∧ m' ((c.tc : Thread Cert.MixedIdeal.nD Cert.MixedIdeal.τ).loc Cert.MixedIdeal.main_arg6) = m ((c.tc : Thread Cert.OutprojIdeal.nD Cert.OutprojIdeal.τ).loc Cert.OutprojIdeal.main_arg6)) →
    ∃ (v0 : (c : Dev Cert.OutprojIdeal.nD) → Buf (Elt Ideal) ((c.tc : Thread Cert.OutprojIdeal.nD Cert.OutprojIdeal.τ).loc Cert.OutprojIdeal.main_v3_0)) (v1 : (c : Dev Cert.OutprojIdeal.nD) → Buf (Elt Ideal) ((c.tc : Thread Cert.OutprojIdeal.nD Cert.OutprojIdeal.τ).loc Cert.OutprojIdeal.main_v3_1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v3_0) = v0 c
          ∧ r.2.mem ((c.tc : Thread Cert.OutprojIdeal.nD Cert.OutprojIdeal.τ).loc Cert.OutprojIdeal.main_v3_1) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ θ_run (Cert.MixedIdeal.defs (F := Ideal)) (onTc (τ := Cert.MixedIdeal.τ) (Cert.MixedIdeal.main (F := Ideal))) ⟨m', fun _ => 0, g'⟩ (fun r => ∀ c : Dev Cert.MixedIdeal.nD,
          r.2.mem ((c.tc : Thread Cert.MixedIdeal.nD Cert.MixedIdeal.τ).loc Cert.MixedIdeal.main_v37) = v0 c
          ∧ r.2.mem ((c.tc : Thread Cert.MixedIdeal.nD Cert.MixedIdeal.τ).loc Cert.MixedIdeal.main_v50) = v1 c
          ∧ r.2.mem ((c.tc : Thread Cert.MixedIdeal.nD Cert.MixedIdeal.τ).loc Cert.MixedIdeal.main_arg0) = m' ((c.tc : Thread Cert.MixedIdeal.nD Cert.MixedIdeal.τ).loc Cert.MixedIdeal.main_arg0)
          ∧ r.2.mem ((c.tc : Thread Cert.MixedIdeal.nD Cert.MixedIdeal.τ).loc Cert.MixedIdeal.main_arg1) = m' ((c.tc : Thread Cert.MixedIdeal.nD Cert.MixedIdeal.τ).loc Cert.MixedIdeal.main_arg1)
          ∧ r.2.mem ((c.tc : Thread Cert.MixedIdeal.nD Cert.MixedIdeal.τ).loc Cert.MixedIdeal.main_arg2) = m' ((c.tc : Thread Cert.MixedIdeal.nD Cert.MixedIdeal.τ).loc Cert.MixedIdeal.main_arg2)
          ∧ r.2.mem ((c.tc : Thread Cert.MixedIdeal.nD Cert.MixedIdeal.τ).loc Cert.MixedIdeal.main_arg3) = m' ((c.tc : Thread Cert.MixedIdeal.nD Cert.MixedIdeal.τ).loc Cert.MixedIdeal.main_arg3)
          ∧ r.2.mem ((c.tc : Thread Cert.MixedIdeal.nD Cert.MixedIdeal.τ).loc Cert.MixedIdeal.main_arg4) = m' ((c.tc : Thread Cert.MixedIdeal.nD Cert.MixedIdeal.τ).loc Cert.MixedIdeal.main_arg4)
          ∧ r.2.mem ((c.tc : Thread Cert.MixedIdeal.nD Cert.MixedIdeal.τ).loc Cert.MixedIdeal.main_arg5) = m' ((c.tc : Thread Cert.MixedIdeal.nD Cert.MixedIdeal.τ).loc Cert.MixedIdeal.main_arg5)
          ∧ r.2.mem ((c.tc : Thread Cert.MixedIdeal.nD Cert.MixedIdeal.τ).loc Cert.MixedIdeal.main_arg6) = m' ((c.tc : Thread Cert.MixedIdeal.nD Cert.MixedIdeal.τ).loc Cert.MixedIdeal.main_arg6))

def preserves_Routed_RoutedIdeal : Prop :=
  True

def algebraic_RoutedIdeal_MixedRoutedIdeal [hRoutedIdeal : Cert.RoutedIdeal.Facts] [hMixedRoutedIdeal : Cert.MixedRoutedIdeal.Facts] : Prop :=
  ∀ (m : (ℓ : Loc Cert.RoutedIdeal.nD Cert.RoutedIdeal.τ Cert.RoutedIdeal.sig) → Buf (Elt Ideal) ℓ) (g : Dev Cert.RoutedIdeal.nD → PrngReg)
    (m' : (ℓ : Loc Cert.MixedRoutedIdeal.nD Cert.MixedRoutedIdeal.τ Cert.MixedRoutedIdeal.sig) → Buf (Elt Ideal) ℓ) (g' : Dev Cert.MixedRoutedIdeal.nD → PrngReg), Pre_RoutedIdeal m →
    (∀ c : Dev Cert.RoutedIdeal.nD,
      m' ((c.tc : Thread Cert.MixedRoutedIdeal.nD Cert.MixedRoutedIdeal.τ).loc Cert.MixedRoutedIdeal.main_arg0) = m ((c.tc : Thread Cert.RoutedIdeal.nD Cert.RoutedIdeal.τ).loc Cert.RoutedIdeal.main_arg0)
      ∧ m' ((c.tc : Thread Cert.MixedRoutedIdeal.nD Cert.MixedRoutedIdeal.τ).loc Cert.MixedRoutedIdeal.main_arg1) = m ((c.tc : Thread Cert.RoutedIdeal.nD Cert.RoutedIdeal.τ).loc Cert.RoutedIdeal.main_arg1)
      ∧ m' ((c.tc : Thread Cert.MixedRoutedIdeal.nD Cert.MixedRoutedIdeal.τ).loc Cert.MixedRoutedIdeal.main_arg2) = m ((c.tc : Thread Cert.RoutedIdeal.nD Cert.RoutedIdeal.τ).loc Cert.RoutedIdeal.main_arg2)
      ∧ m' ((c.tc : Thread Cert.MixedRoutedIdeal.nD Cert.MixedRoutedIdeal.τ).loc Cert.MixedRoutedIdeal.main_arg3) = m ((c.tc : Thread Cert.RoutedIdeal.nD Cert.RoutedIdeal.τ).loc Cert.RoutedIdeal.main_arg3)
      ∧ m' ((c.tc : Thread Cert.MixedRoutedIdeal.nD Cert.MixedRoutedIdeal.τ).loc Cert.MixedRoutedIdeal.main_arg4) = m ((c.tc : Thread Cert.RoutedIdeal.nD Cert.RoutedIdeal.τ).loc Cert.RoutedIdeal.main_arg4)
      ∧ m' ((c.tc : Thread Cert.MixedRoutedIdeal.nD Cert.MixedRoutedIdeal.τ).loc Cert.MixedRoutedIdeal.main_arg5) = m ((c.tc : Thread Cert.RoutedIdeal.nD Cert.RoutedIdeal.τ).loc Cert.RoutedIdeal.main_arg5)
      ∧ m' ((c.tc : Thread Cert.MixedRoutedIdeal.nD Cert.MixedRoutedIdeal.τ).loc Cert.MixedRoutedIdeal.main_arg6) = m ((c.tc : Thread Cert.RoutedIdeal.nD Cert.RoutedIdeal.τ).loc Cert.RoutedIdeal.main_arg6)
      ∧ m' ((c.tc : Thread Cert.MixedRoutedIdeal.nD Cert.MixedRoutedIdeal.τ).loc Cert.MixedRoutedIdeal.main_arg7) = m ((c.tc : Thread Cert.RoutedIdeal.nD Cert.RoutedIdeal.τ).loc Cert.RoutedIdeal.main_arg7)) →
    ∃ (v0 : (c : Dev Cert.RoutedIdeal.nD) → Buf (Elt Ideal) ((c.tc : Thread Cert.RoutedIdeal.nD Cert.RoutedIdeal.τ).loc Cert.RoutedIdeal.main_v4_0)) (v1 : (c : Dev Cert.RoutedIdeal.nD) → Buf (Elt Ideal) ((c.tc : Thread Cert.RoutedIdeal.nD Cert.RoutedIdeal.τ).loc Cert.RoutedIdeal.main_v4_1)) (v2 : (c : Dev Cert.RoutedIdeal.nD) → Buf (Elt Ideal) ((c.tc : Thread Cert.RoutedIdeal.nD Cert.RoutedIdeal.τ).loc Cert.RoutedIdeal.main_v4_2)),
      θ_run (Cert.RoutedIdeal.defs (F := Ideal)) (onTc (τ := Cert.RoutedIdeal.τ) (Cert.RoutedIdeal.main (F := Ideal))) ⟨m, fun _ => 0, g⟩ (fun r => ∀ c : Dev Cert.RoutedIdeal.nD,
          r.2.mem ((c.tc : Thread Cert.RoutedIdeal.nD Cert.RoutedIdeal.τ).loc Cert.RoutedIdeal.main_v4_0) = v0 c
          ∧ r.2.mem ((c.tc : Thread Cert.RoutedIdeal.nD Cert.RoutedIdeal.τ).loc Cert.RoutedIdeal.main_v4_1) = v1 c
          ∧ r.2.mem ((c.tc : Thread Cert.RoutedIdeal.nD Cert.RoutedIdeal.τ).loc Cert.RoutedIdeal.main_v4_2) = v2 c
          ∧ r.2.mem ((c.tc : Thread Cert.RoutedIdeal.nD Cert.RoutedIdeal.τ).loc Cert.RoutedIdeal.main_arg0) = m ((c.tc : Thread Cert.RoutedIdeal.nD Cert.RoutedIdeal.τ).loc Cert.RoutedIdeal.main_arg0)
          ∧ r.2.mem ((c.tc : Thread Cert.RoutedIdeal.nD Cert.RoutedIdeal.τ).loc Cert.RoutedIdeal.main_arg1) = m ((c.tc : Thread Cert.RoutedIdeal.nD Cert.RoutedIdeal.τ).loc Cert.RoutedIdeal.main_arg1)
          ∧ r.2.mem ((c.tc : Thread Cert.RoutedIdeal.nD Cert.RoutedIdeal.τ).loc Cert.RoutedIdeal.main_arg2) = m ((c.tc : Thread Cert.RoutedIdeal.nD Cert.RoutedIdeal.τ).loc Cert.RoutedIdeal.main_arg2)
          ∧ r.2.mem ((c.tc : Thread Cert.RoutedIdeal.nD Cert.RoutedIdeal.τ).loc Cert.RoutedIdeal.main_arg3) = m ((c.tc : Thread Cert.RoutedIdeal.nD Cert.RoutedIdeal.τ).loc Cert.RoutedIdeal.main_arg3)
          ∧ r.2.mem ((c.tc : Thread Cert.RoutedIdeal.nD Cert.RoutedIdeal.τ).loc Cert.RoutedIdeal.main_arg4) = m ((c.tc : Thread Cert.RoutedIdeal.nD Cert.RoutedIdeal.τ).loc Cert.RoutedIdeal.main_arg4)
          ∧ r.2.mem ((c.tc : Thread Cert.RoutedIdeal.nD Cert.RoutedIdeal.τ).loc Cert.RoutedIdeal.main_arg5) = m ((c.tc : Thread Cert.RoutedIdeal.nD Cert.RoutedIdeal.τ).loc Cert.RoutedIdeal.main_arg5)
          ∧ r.2.mem ((c.tc : Thread Cert.RoutedIdeal.nD Cert.RoutedIdeal.τ).loc Cert.RoutedIdeal.main_arg6) = m ((c.tc : Thread Cert.RoutedIdeal.nD Cert.RoutedIdeal.τ).loc Cert.RoutedIdeal.main_arg6)
          ∧ r.2.mem ((c.tc : Thread Cert.RoutedIdeal.nD Cert.RoutedIdeal.τ).loc Cert.RoutedIdeal.main_arg7) = m ((c.tc : Thread Cert.RoutedIdeal.nD Cert.RoutedIdeal.τ).loc Cert.RoutedIdeal.main_arg7))
      ∧ θ_run (Cert.MixedRoutedIdeal.defs (F := Ideal)) (onTc (τ := Cert.MixedRoutedIdeal.τ) (Cert.MixedRoutedIdeal.main (F := Ideal))) ⟨m', fun _ => 0, g'⟩ (fun r => ∀ c : Dev Cert.MixedRoutedIdeal.nD,
          r.2.mem ((c.tc : Thread Cert.MixedRoutedIdeal.nD Cert.MixedRoutedIdeal.τ).loc Cert.MixedRoutedIdeal.main_v37) = v0 c
          ∧ r.2.mem ((c.tc : Thread Cert.MixedRoutedIdeal.nD Cert.MixedRoutedIdeal.τ).loc Cert.MixedRoutedIdeal.main_v49) = v1 c
          ∧ r.2.mem ((c.tc : Thread Cert.MixedRoutedIdeal.nD Cert.MixedRoutedIdeal.τ).loc Cert.MixedRoutedIdeal.main_v52) = v2 c
          ∧ r.2.mem ((c.tc : Thread Cert.MixedRoutedIdeal.nD Cert.MixedRoutedIdeal.τ).loc Cert.MixedRoutedIdeal.main_arg0) = m' ((c.tc : Thread Cert.MixedRoutedIdeal.nD Cert.MixedRoutedIdeal.τ).loc Cert.MixedRoutedIdeal.main_arg0)
          ∧ r.2.mem ((c.tc : Thread Cert.MixedRoutedIdeal.nD Cert.MixedRoutedIdeal.τ).loc Cert.MixedRoutedIdeal.main_arg1) = m' ((c.tc : Thread Cert.MixedRoutedIdeal.nD Cert.MixedRoutedIdeal.τ).loc Cert.MixedRoutedIdeal.main_arg1)
          ∧ r.2.mem ((c.tc : Thread Cert.MixedRoutedIdeal.nD Cert.MixedRoutedIdeal.τ).loc Cert.MixedRoutedIdeal.main_arg2) = m' ((c.tc : Thread Cert.MixedRoutedIdeal.nD Cert.MixedRoutedIdeal.τ).loc Cert.MixedRoutedIdeal.main_arg2)
          ∧ r.2.mem ((c.tc : Thread Cert.MixedRoutedIdeal.nD Cert.MixedRoutedIdeal.τ).loc Cert.MixedRoutedIdeal.main_arg3) = m' ((c.tc : Thread Cert.MixedRoutedIdeal.nD Cert.MixedRoutedIdeal.τ).loc Cert.MixedRoutedIdeal.main_arg3)
          ∧ r.2.mem ((c.tc : Thread Cert.MixedRoutedIdeal.nD Cert.MixedRoutedIdeal.τ).loc Cert.MixedRoutedIdeal.main_arg4) = m' ((c.tc : Thread Cert.MixedRoutedIdeal.nD Cert.MixedRoutedIdeal.τ).loc Cert.MixedRoutedIdeal.main_arg4)
          ∧ r.2.mem ((c.tc : Thread Cert.MixedRoutedIdeal.nD Cert.MixedRoutedIdeal.τ).loc Cert.MixedRoutedIdeal.main_arg5) = m' ((c.tc : Thread Cert.MixedRoutedIdeal.nD Cert.MixedRoutedIdeal.τ).loc Cert.MixedRoutedIdeal.main_arg5)
          ∧ r.2.mem ((c.tc : Thread Cert.MixedRoutedIdeal.nD Cert.MixedRoutedIdeal.τ).loc Cert.MixedRoutedIdeal.main_arg6) = m' ((c.tc : Thread Cert.MixedRoutedIdeal.nD Cert.MixedRoutedIdeal.τ).loc Cert.MixedRoutedIdeal.main_arg6)
          ∧ r.2.mem ((c.tc : Thread Cert.MixedRoutedIdeal.nD Cert.MixedRoutedIdeal.τ).loc Cert.MixedRoutedIdeal.main_arg7) = m' ((c.tc : Thread Cert.MixedRoutedIdeal.nD Cert.MixedRoutedIdeal.τ).loc Cert.MixedRoutedIdeal.main_arg7))

def preserves_Modulation_ModulationIdeal : Prop :=
  True

def algebraic_ModulationIdeal_ConditionedIdeal [hModulationIdeal : Cert.ModulationIdeal.Facts] [hConditionedIdeal : Cert.ConditionedIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ConditionedIdeal.nD Cert.ConditionedIdeal.τ Cert.ConditionedIdeal.sig) → Buf (Elt Ideal) ℓ) (g' : Dev Cert.ConditionedIdeal.nD → PrngReg), Pre_ModulationIdeal m →
    (∀ c : Dev Cert.ModulationIdeal.nD,
      m' ((c.tc : Thread Cert.ConditionedIdeal.nD Cert.ConditionedIdeal.τ).loc Cert.ConditionedIdeal.main_arg0) = m ((c.tc : Thread Cert.ModulationIdeal.nD Cert.ModulationIdeal.τ).loc Cert.ModulationIdeal.main_arg0)
      ∧ m' ((c.tc : Thread Cert.ConditionedIdeal.nD Cert.ConditionedIdeal.τ).loc Cert.ConditionedIdeal.main_arg1) = m ((c.tc : Thread Cert.ModulationIdeal.nD Cert.ModulationIdeal.τ).loc Cert.ModulationIdeal.main_arg1)
      ∧ m' ((c.tc : Thread Cert.ConditionedIdeal.nD Cert.ConditionedIdeal.τ).loc Cert.ConditionedIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ConditionedIdeal.defs (F := Ideal)) (onTc (τ := Cert.ConditionedIdeal.τ) (Cert.ConditionedIdeal.main (F := Ideal))) ⟨m', fun _ => 0, g'⟩ (fun r => ∀ c : Dev Cert.ConditionedIdeal.nD,
          r.2.mem ((c.tc : Thread Cert.ConditionedIdeal.nD Cert.ConditionedIdeal.τ).loc Cert.ConditionedIdeal.main_v40) = v0 c
          ∧ r.2.mem ((c.tc : Thread Cert.ConditionedIdeal.nD Cert.ConditionedIdeal.τ).loc Cert.ConditionedIdeal.main_arg0) = m' ((c.tc : Thread Cert.ConditionedIdeal.nD Cert.ConditionedIdeal.τ).loc Cert.ConditionedIdeal.main_arg0)
          ∧ r.2.mem ((c.tc : Thread Cert.ConditionedIdeal.nD Cert.ConditionedIdeal.τ).loc Cert.ConditionedIdeal.main_arg1) = m' ((c.tc : Thread Cert.ConditionedIdeal.nD Cert.ConditionedIdeal.τ).loc Cert.ConditionedIdeal.main_arg1)
          ∧ r.2.mem ((c.tc : Thread Cert.ConditionedIdeal.nD Cert.ConditionedIdeal.τ).loc Cert.ConditionedIdeal.main_arg2) = m' ((c.tc : Thread Cert.ConditionedIdeal.nD Cert.ConditionedIdeal.τ).loc Cert.ConditionedIdeal.main_arg2))

def Claim : Prop :=
  ∃ (hKernel : Cert.Kernel.Facts) (hPlain : Cert.Plain.Facts) (hFfn : Cert.Ffn.Facts) (hFfnIdeal : Cert.FfnIdeal.Facts) (hSwigluIdeal : Cert.SwigluIdeal.Facts) (hGrouped : Cert.Grouped.Facts) (hGroupedIdeal : Cert.GroupedIdeal.Facts) (hExpertsIdeal : Cert.ExpertsIdeal.Facts) (hProj : Cert.Proj.Facts) (hProjIdeal : Cert.ProjIdeal.Facts) (hProjectionsIdeal : Cert.ProjectionsIdeal.Facts) (hOutproj : Cert.Outproj.Facts) (hOutprojIdeal : Cert.OutprojIdeal.Facts) (hMixedIdeal : Cert.MixedIdeal.Facts) (hRouted : Cert.Routed.Facts) (hRoutedIdeal : Cert.RoutedIdeal.Facts) (hMixedRoutedIdeal : Cert.MixedRoutedIdeal.Facts) (hModulation : Cert.Modulation.Facts) (hModulationIdeal : Cert.ModulationIdeal.Facts) (hConditionedIdeal : Cert.ConditionedIdeal.Facts) (hPre_experts_named : Cert.Pre_experts_named.Facts) (hOn_rows_used : Cert.On_rows_used.Facts),
    quiescent_Kernel (hKernel := hKernel)
    ∧ quiescent_Plain (hPlain := hPlain)
    ∧ quiescent_Ffn (hFfn := hFfn)
    ∧ quiescent_FfnIdeal (hFfnIdeal := hFfnIdeal)
    ∧ quiescent_SwigluIdeal (hSwigluIdeal := hSwigluIdeal)
    ∧ quiescent_Grouped (hGrouped := hGrouped) (hPre_experts_named := hPre_experts_named)
    ∧ quiescent_GroupedIdeal (hGroupedIdeal := hGroupedIdeal) (hPre_experts_named := hPre_experts_named)
    ∧ quiescent_ExpertsIdeal (hExpertsIdeal := hExpertsIdeal)
    ∧ quiescent_ExpertsIdeal_pre_experts_named (hExpertsIdeal := hExpertsIdeal) (hPre_experts_named := hPre_experts_named)
    ∧ quiescent_Proj (hProj := hProj)
    ∧ quiescent_ProjIdeal (hProjIdeal := hProjIdeal)
    ∧ quiescent_ProjectionsIdeal (hProjectionsIdeal := hProjectionsIdeal)
    ∧ quiescent_Outproj (hOutproj := hOutproj)
    ∧ quiescent_OutprojIdeal (hOutprojIdeal := hOutprojIdeal)
    ∧ quiescent_MixedIdeal (hMixedIdeal := hMixedIdeal)
    ∧ quiescent_Routed (hRouted := hRouted)
    ∧ quiescent_RoutedIdeal (hRoutedIdeal := hRoutedIdeal)
    ∧ quiescent_MixedRoutedIdeal (hMixedRoutedIdeal := hMixedRoutedIdeal)
    ∧ quiescent_Modulation (hModulation := hModulation)
    ∧ quiescent_ModulationIdeal (hModulationIdeal := hModulationIdeal)
    ∧ quiescent_ConditionedIdeal (hConditionedIdeal := hConditionedIdeal)
    ∧ preserves_Ffn_FfnIdeal
    ∧ algebraic_FfnIdeal_SwigluIdeal (hFfnIdeal := hFfnIdeal) (hSwigluIdeal := hSwigluIdeal)
    ∧ preserves_Grouped_GroupedIdeal
    ∧ algebraic_GroupedIdeal_ExpertsIdeal_on_rows_used (hGroupedIdeal := hGroupedIdeal) (hExpertsIdeal := hExpertsIdeal) (hPre_experts_named := hPre_experts_named) (hOn_rows_used := hOn_rows_used)
    ∧ preserves_Proj_ProjIdeal
    ∧ algebraic_ProjIdeal_ProjectionsIdeal (hProjIdeal := hProjIdeal) (hProjectionsIdeal := hProjectionsIdeal)
    ∧ preserves_Outproj_OutprojIdeal
    ∧ algebraic_OutprojIdeal_MixedIdeal (hOutprojIdeal := hOutprojIdeal) (hMixedIdeal := hMixedIdeal)
    ∧ preserves_Routed_RoutedIdeal
    ∧ algebraic_RoutedIdeal_MixedRoutedIdeal (hRoutedIdeal := hRoutedIdeal) (hMixedRoutedIdeal := hMixedRoutedIdeal)
    ∧ preserves_Modulation_ModulationIdeal
    ∧ algebraic_ModulationIdeal_ConditionedIdeal (hModulationIdeal := hModulationIdeal) (hConditionedIdeal := hConditionedIdeal)
-- ==== On_rows_used.lean ====
abbrev S139264x1024 : Shape := ⟨2, ![139264, 1024]⟩
abbrev S136 : Shape := ⟨1, ![136]⟩
abbrev S1 : Shape := ⟨1, ![1]⟩
abbrev S8x1024x2816 : Shape := ⟨3, ![8, 1024, 2816]⟩
abbrev S8x2816x1024 : Shape := ⟨3, ![8, 2816, 1024]⟩
abbrev S136x1024x1024 : Shape := ⟨3, ![136, 1024, 1024]⟩
abbrev S_ : Shape := ⟨0, ![]⟩

class Facts : Prop where
  shapeCasts_S136x1024x1024_S139264x1024 : S136x1024x1024.ShapeCasts S139264x1024
  shapeCasts_S1_S_ : S1.ShapeCasts S_
  bcast_S_S139264x1024 : S_.BroadcastsInDim S139264x1024 (![] : Fin 0 → Fin S139264x1024.rank)

variable [Facts]

def fn {F : FTy → Type} [FloatOps F] (main_arg0 : FVec F S139264x1024 .f32) (main_arg1 : IVec S136 32) (main_arg2 : IVec S1 32) (main_arg3 : FVec F S8x1024x2816 .f32) (main_arg4 : FVec F S8x1024x2816 .f32) (main_arg5 : FVec F S8x2816x1024 .f32) : IVec S139264x1024 1 :=
  let main_v0 : IVec S136x1024x1024 32 := iotaInDim S136x1024x1024 32 0
  let main_v1 : IVec S139264x1024 32 := shapeCast S139264x1024 main_v0 shapeCasts_S136x1024x1024_S139264x1024
  let main_v2 : IVec S_ 32 := shapeCast S_ main_arg2 shapeCasts_S1_S_
  let main_v3 : IVec S139264x1024 32 := broadcastInDim S139264x1024 ![] bcast_S_S139264x1024 main_v2
  let main_v4 : IVec S139264x1024 1 := cmpi .slt main_v1 main_v3
  main_v4
-- ==== Pre_experts_named.lean ====
abbrev S139264x1024 : Shape := ⟨2, ![139264, 1024]⟩
abbrev S136 : Shape := ⟨1, ![136]⟩
abbrev S1 : Shape := ⟨1, ![1]⟩
abbrev S8x1024x2816 : Shape := ⟨3, ![8, 1024, 2816]⟩
abbrev S8x2816x1024 : Shape := ⟨3, ![8, 2816, 1024]⟩
abbrev S_ : Shape := ⟨0, ![]⟩

class Facts : Prop where
  bcast_S_S136 : S_.BroadcastsInDim S136 (![] : Fin 0 → Fin S136.rank)

variable [Facts]

def fn {F : FTy → Type} [FloatOps F] (main_arg0 : FVec F S139264x1024 .f32) (main_arg1 : IVec S136 32) (main_arg2 : IVec S1 32) (main_arg3 : FVec F S8x1024x2816 .f32) (main_arg4 : FVec F S8x1024x2816 .f32) (main_arg5 : FVec F S8x2816x1024 .f32) : IVec S136 1 :=
  let main_c : IVec S_ 32 := constantI S_ 32 0#32
  let main_v0 : IVec S136 32 := broadcastInDim S136 ![] bcast_S_S136 main_c
  let main_v1 : IVec S136 1 := cmpi .sge main_arg1 main_v0
  let main_c_0 : IVec S_ 32 := constantI S_ 32 8#32
  let main_v2 : IVec S136 32 := broadcastInDim S136 ![] bcast_S_S136 main_c_0
  let main_v3 : IVec S136 1 := cmpi .slt main_arg1 main_v2
  let main_v4 : IVec S136 1 := andi main_v1 main_v3
  main_v4
-- ==== Kernel.lean ====
abbrev S65536x1280 : Shape := ⟨2, ![65536, 1280]⟩
abbrev S65536x640 : Shape := ⟨2, ![65536, 640]⟩
abbrev S128x64x512 : Shape := ⟨3, ![128, 64, 512]⟩
abbrev S2048x64 : Shape := ⟨2, ![2048, 64]⟩
abbrev S4096x128 : Shape := ⟨2, ![4096, 128]⟩
abbrev S65536x512 : Shape := ⟨2, ![65536, 512]⟩
abbrev S256x1024 : Shape := ⟨2, ![256, 1024]⟩
abbrev S4096x256 : Shape := ⟨2, ![4096, 256]⟩
abbrev S8x64x512 : Shape := ⟨3, ![8, 64, 512]⟩
abbrev S256x128 : Shape := ⟨2, ![256, 128]⟩
abbrev S256x512 : Shape := ⟨2, ![256, 512]⟩
abbrev S8x80x512 : Shape := ⟨3, ![8, 80, 512]⟩
abbrev S2048x128 : Shape := ⟨2, ![2048, 128]⟩
abbrev S8x64x8x256 : Shape := ⟨4, ![8, 64, 8, 256]⟩
abbrev S8x2x32x8x256 : Shape := ⟨5, ![8, 2, 32, 8, 256]⟩
abbrev S8x1x256 : Shape := ⟨3, ![8, 1, 256]⟩
abbrev S8x80x256 : Shape := ⟨3, ![8, 80, 256]⟩
abbrev S8x16x512 : Shape := ⟨3, ![8, 16, 512]⟩
abbrev S256x64 : Shape := ⟨2, ![256, 64]⟩
abbrev S512x256 : Shape := ⟨2, ![512, 256]⟩
abbrev S128x256 : Shape := ⟨2, ![128, 256]⟩
abbrev S1x256 : Shape := ⟨2, ![1, 256]⟩
abbrev S512x64 : Shape := ⟨2, ![512, 64]⟩
abbrev S64x8x256 : Shape := ⟨3, ![64, 8, 256]⟩
abbrev S1x64x8x256 : Shape := ⟨4, ![1, 64, 8, 256]⟩
abbrev S8x256 : Shape := ⟨2, ![8, 256]⟩
abbrev S1x1x1x8x256 : Shape := ⟨5, ![1, 1, 1, 8, 256]⟩
abbrev S256 : Shape := ⟨1, ![256]⟩
abbrev S1x1x256 : Shape := ⟨3, ![1, 1, 256]⟩
abbrev S1 : Shape := ⟨1, ![1]⟩
abbrev S1x1x1 : Shape := ⟨3, ![1, 1, 1]⟩
abbrev S512x512 : Shape := ⟨2, ![512, 512]⟩
abbrev S512x128 : Shape := ⟨2, ![512, 128]⟩
abbrev S1x80x512 : Shape := ⟨3, ![1, 80, 512]⟩
abbrev S80x512 : Shape := ⟨2, ![80, 512]⟩
abbrev S1x80x256 : Shape := ⟨3, ![1, 80, 256]⟩
abbrev S80x256 : Shape := ⟨2, ![80, 256]⟩
abbrev S64x256 : Shape := ⟨2, ![64, 256]⟩

abbrev nBuf : Space → Nat
  | .hbm => 6
  | .vmem => 20
  | .smem => 0
  | _ => 0

abbrev bufTy : (tb : Table) → Fin (tcTables nBuf tb) → BufTy
  | .hbm, ⟨0, _⟩ => ⟨S65536x1280, .bf16⟩
  | .hbm, ⟨1, _⟩ => ⟨S65536x640, .f32⟩
  | .hbm, ⟨2, _⟩ => ⟨S128x64x512, .bf16⟩
  | .hbm, ⟨3, _⟩ => ⟨S2048x64, .bf16⟩
  | .hbm, ⟨4, _⟩ => ⟨S4096x128, .bf16⟩
  | .hbm, ⟨5, _⟩ => ⟨S65536x512, .bf16⟩
  | .local _ .vmem, ⟨0, _⟩ => ⟨S256x1024, .bf16⟩
  | .local _ .vmem, ⟨1, _⟩ => ⟨S256x1024, .bf16⟩
  | .local _ .vmem, ⟨2, _⟩ => ⟨S4096x256, .bf16⟩
  | .local _ .vmem, ⟨3, _⟩ => ⟨S4096x256, .bf16⟩
  | .local _ .vmem, ⟨4, _⟩ => ⟨S8x64x512, .bf16⟩
  | .local _ .vmem, ⟨5, _⟩ => ⟨S8x64x512, .bf16⟩
  | .local _ .vmem, ⟨6, _⟩ => ⟨S256x128, .f32⟩
  | .local _ .vmem, ⟨7, _⟩ => ⟨S256x128, .f32⟩
  | .local _ .vmem, ⟨8, _⟩ => ⟨S2048x64, .bf16⟩
  | .local _ .vmem, ⟨9, _⟩ => ⟨S4096x128, .bf16⟩
  | .local _ .vmem, ⟨10, _⟩ => ⟨S256x512, .bf16⟩
  | .local _ .vmem, ⟨11, _⟩ => ⟨S256x512, .bf16⟩
  | .local _ .vmem, ⟨12, _⟩ => ⟨S4096x128, .bf16⟩
  | .local _ .vmem, ⟨13, _⟩ => ⟨S8x80x512, .bf16⟩
  | .local _ .vmem, ⟨14, _⟩ => ⟨S2048x128, .bf16⟩
  | .local _ .vmem, ⟨15, _⟩ => ⟨S2048x64, .bf16⟩
  | .local _ .vmem, ⟨16, _⟩ => ⟨S8x64x8x256, .i32⟩
  | .local _ .vmem, ⟨17, _⟩ => ⟨S8x2x32x8x256, .i32⟩
  | .local _ .vmem, ⟨18, _⟩ => ⟨S8x1x256, .f32⟩
  | .local _ .vmem, ⟨19, _⟩ => ⟨S8x80x256, .f32⟩
  | _, _ => ⟨S65536x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [BitOps F]

abbrev grid0 : Pipeline.Grid := ⟨2, ![16, 16], ![false, false]⟩

@[reducible] def k0_t1_loop (i : grid0.Coords) : Scf.Loop 32 :=
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_52 : BitVec 32 := 1#32
  ⟨c0_i32_50, v92, c1_i32_52⟩
def k0_mult1 (i : grid0.Coords) (k0_t1 : Fin (k0_t1_loop i).trips) : BitVec 32 :=
  let c2_i32_2787 : BitVec 32 := 2#32
  let c0_i32_50 : BitVec 32 := 0#32
  let c1_i32_52 : BitVec 32 := 1#32
  let arg17 : BitVec 32 := Scf.iv c0_i32_50 c1_i32_52 k0_t1
  let v4299 : BitVec 32 := Scalar.muli c2_i32_2787 arg17
  let c512_i32_2788 : BitVec 32 := 512#32
  let v4300 : BitVec 32 := Scalar.muli v4299 c512_i32_2788
  v4300
def k0_off1 (i : grid0.Coords) (k0_t1 : Fin (k0_t1_loop i).trips) : Fin 2 → Nat :=
  let c2_i32_2787 : BitVec 32 := 2#32
  let c0_i32_50 : BitVec 32 := 0#32
  let c1_i32_52 : BitVec 32 := 1#32
  let arg17 : BitVec 32 := Scf.iv c0_i32_50 c1_i32_52 k0_t1
  let v4299 : BitVec 32 := Scalar.muli c2_i32_2787 arg17
  let c512_i32_2788 : BitVec 32 := 512#32
  let v4300 : BitVec 32 := Scalar.muli v4299 c512_i32_2788
  let v4301 : BitVec 32 := v4300
  let v4302 : Index := Scalar.indexCast v4301
  let c128_2789 : Index := 128#32
  ![v4302.toNat, 128]
def k0_mult2 (i : grid0.Coords) (k0_t1 : Fin (k0_t1_loop i).trips) : BitVec 32 :=
  let c2_i32_2814 : BitVec 32 := 2#32
  let c0_i32_50 : BitVec 32 := 0#32
  let c1_i32_52 : BitVec 32 := 1#32
  let arg17 : BitVec 32 := Scf.iv c0_i32_50 c1_i32_52 k0_t1
  let v4320 : BitVec 32 := Scalar.muli c2_i32_2814 arg17
  let c1_i32_2815 : BitVec 32 := 1#32
  let v4321 : BitVec 32 := Scalar.addi v4320 c1_i32_2815
  let c512_i32_2816 : BitVec 32 := 512#32
  let v4322 : BitVec 32 := Scalar.muli v4321 c512_i32_2816
  v4322
def k0_off2 (i : grid0.Coords) (k0_t1 : Fin (k0_t1_loop i).trips) : Fin 2 → Nat :=
  let c2_i32_2814 : BitVec 32 := 2#32
  let c0_i32_50 : BitVec 32 := 0#32
  let c1_i32_52 : BitVec 32 := 1#32
  let arg17 : BitVec 32 := Scf.iv c0_i32_50 c1_i32_52 k0_t1
  let v4320 : BitVec 32 := Scalar.muli c2_i32_2814 arg17
  let c1_i32_2815 : BitVec 32 := 1#32
  let v4321 : BitVec 32 := Scalar.addi v4320 c1_i32_2815
  let c512_i32_2816 : BitVec 32 := 512#32
  let v4322 : BitVec 32 := Scalar.muli v4321 c512_i32_2816
  let v4323 : BitVec 32 := v4322
  let v4324 : Index := Scalar.indexCast v4323
  let c128_2817 : Index := 128#32
  ![v4324.toNat, 128]
def k0_off3 (i : grid0.Coords) (k0_t1 : Fin (k0_t1_loop i).trips) : Fin 4 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v4399 : Index := Scalar.indexCast v4342
  let c0_2856 : Index := 0#32
  let c0_2857 : Index := 0#32
  let c0_2858 : Index := 0#32
  ![v4399.toNat, 0, 0, 0]
def k0_off4 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5157 : Index := Scalar.indexCast v4342
  let c0_3095 : Index := 0#32
  let c0_3096 : Index := 0#32
  let c0_3097 : Index := 0#32
  let c0_3098 : Index := 0#32
  ![v5157.toNat, 0, 0, 0, 0]
def k0_off5 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5161 : Index := Scalar.indexCast v4342
  let c0_3099 : Index := 0#32
  let c1_3100 : Index := 1#32
  let c0_3101 : Index := 0#32
  let c0_3102 : Index := 0#32
  ![v5161.toNat, 0, 1, 0, 0]
def k0_off6 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5165 : Index := Scalar.indexCast v4342
  let c0_3103 : Index := 0#32
  let c2_3104 : Index := 2#32
  let c0_3105 : Index := 0#32
  let c0_3106 : Index := 0#32
  ![v5165.toNat, 0, 2, 0, 0]
def k0_off7 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5169 : Index := Scalar.indexCast v4342
  let c0_3107 : Index := 0#32
  let c3_3108 : Index := 3#32
  let c0_3109 : Index := 0#32
  let c0_3110 : Index := 0#32
  ![v5169.toNat, 0, 3, 0, 0]
def k0_off8 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5173 : Index := Scalar.indexCast v4342
  let c0_3111 : Index := 0#32
  let c4_3112 : Index := 4#32
  let c0_3113 : Index := 0#32
  let c0_3114 : Index := 0#32
  ![v5173.toNat, 0, 4, 0, 0]
def k0_off9 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5177 : Index := Scalar.indexCast v4342
  let c0_3115 : Index := 0#32
  let c5_3116 : Index := 5#32
  let c0_3117 : Index := 0#32
  let c0_3118 : Index := 0#32
  ![v5177.toNat, 0, 5, 0, 0]
def k0_off10 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5181 : Index := Scalar.indexCast v4342
  let c0_3119 : Index := 0#32
  let c6_3120 : Index := 6#32
  let c0_3121 : Index := 0#32
  let c0_3122 : Index := 0#32
  ![v5181.toNat, 0, 6, 0, 0]
def k0_off11 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5185 : Index := Scalar.indexCast v4342
  let c0_3123 : Index := 0#32
  let c7_3124 : Index := 7#32
  let c0_3125 : Index := 0#32
  let c0_3126 : Index := 0#32
  ![v5185.toNat, 0, 7, 0, 0]
def k0_off12 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5189 : Index := Scalar.indexCast v4342
  let c0_3127 : Index := 0#32
  let c8_3128 : Index := 8#32
  let c0_3129 : Index := 0#32
  let c0_3130 : Index := 0#32
  ![v5189.toNat, 0, 8, 0, 0]
def k0_off13 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5193 : Index := Scalar.indexCast v4342
  let c0_3131 : Index := 0#32
  let c9_3132 : Index := 9#32
  let c0_3133 : Index := 0#32
  let c0_3134 : Index := 0#32
  ![v5193.toNat, 0, 9, 0, 0]
def k0_off14 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5197 : Index := Scalar.indexCast v4342
  let c0_3135 : Index := 0#32
  let c10_3136 : Index := 10#32
  let c0_3137 : Index := 0#32
  let c0_3138 : Index := 0#32
  ![v5197.toNat, 0, 10, 0, 0]
def k0_off15 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5201 : Index := Scalar.indexCast v4342
  let c0_3139 : Index := 0#32
  let c11_3140 : Index := 11#32
  let c0_3141 : Index := 0#32
  let c0_3142 : Index := 0#32
  ![v5201.toNat, 0, 11, 0, 0]
def k0_off16 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5205 : Index := Scalar.indexCast v4342
  let c0_3143 : Index := 0#32
  let c12_3144 : Index := 12#32
  let c0_3145 : Index := 0#32
  let c0_3146 : Index := 0#32
  ![v5205.toNat, 0, 12, 0, 0]
def k0_off17 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5209 : Index := Scalar.indexCast v4342
  let c0_3147 : Index := 0#32
  let c13_3148 : Index := 13#32
  let c0_3149 : Index := 0#32
  let c0_3150 : Index := 0#32
  ![v5209.toNat, 0, 13, 0, 0]
def k0_off18 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5213 : Index := Scalar.indexCast v4342
  let c0_3151 : Index := 0#32
  let c14_3152 : Index := 14#32
  let c0_3153 : Index := 0#32
  let c0_3154 : Index := 0#32
  ![v5213.toNat, 0, 14, 0, 0]
def k0_off19 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5217 : Index := Scalar.indexCast v4342
  let c0_3155 : Index := 0#32
  let c15_3156 : Index := 15#32
  let c0_3157 : Index := 0#32
  let c0_3158 : Index := 0#32
  ![v5217.toNat, 0, 15, 0, 0]
def k0_off20 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5221 : Index := Scalar.indexCast v4342
  let c0_3159 : Index := 0#32
  let c16_3160 : Index := 16#32
  let c0_3161 : Index := 0#32
  let c0_3162 : Index := 0#32
  ![v5221.toNat, 0, 16, 0, 0]
def k0_off21 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5225 : Index := Scalar.indexCast v4342
  let c0_3163 : Index := 0#32
  let c17_3164 : Index := 17#32
  let c0_3165 : Index := 0#32
  let c0_3166 : Index := 0#32
  ![v5225.toNat, 0, 17, 0, 0]
def k0_off22 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5229 : Index := Scalar.indexCast v4342
  let c0_3167 : Index := 0#32
  let c18_3168 : Index := 18#32
  let c0_3169 : Index := 0#32
  let c0_3170 : Index := 0#32
  ![v5229.toNat, 0, 18, 0, 0]
def k0_off23 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5233 : Index := Scalar.indexCast v4342
  let c0_3171 : Index := 0#32
  let c19_3172 : Index := 19#32
  let c0_3173 : Index := 0#32
  let c0_3174 : Index := 0#32
  ![v5233.toNat, 0, 19, 0, 0]
def k0_off24 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5237 : Index := Scalar.indexCast v4342
  let c0_3175 : Index := 0#32
  let c20_3176 : Index := 20#32
  let c0_3177 : Index := 0#32
  let c0_3178 : Index := 0#32
  ![v5237.toNat, 0, 20, 0, 0]
def k0_off25 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5241 : Index := Scalar.indexCast v4342
  let c0_3179 : Index := 0#32
  let c21_3180 : Index := 21#32
  let c0_3181 : Index := 0#32
  let c0_3182 : Index := 0#32
  ![v5241.toNat, 0, 21, 0, 0]
def k0_off26 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5245 : Index := Scalar.indexCast v4342
  let c0_3183 : Index := 0#32
  let c22_3184 : Index := 22#32
  let c0_3185 : Index := 0#32
  let c0_3186 : Index := 0#32
  ![v5245.toNat, 0, 22, 0, 0]
def k0_off27 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5249 : Index := Scalar.indexCast v4342
  let c0_3187 : Index := 0#32
  let c23_3188 : Index := 23#32
  let c0_3189 : Index := 0#32
  let c0_3190 : Index := 0#32
  ![v5249.toNat, 0, 23, 0, 0]
def k0_off28 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5253 : Index := Scalar.indexCast v4342
  let c0_3191 : Index := 0#32
  let c24_3192 : Index := 24#32
  let c0_3193 : Index := 0#32
  let c0_3194 : Index := 0#32
  ![v5253.toNat, 0, 24, 0, 0]
def k0_off29 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5257 : Index := Scalar.indexCast v4342
  let c0_3195 : Index := 0#32
  let c25_3196 : Index := 25#32
  let c0_3197 : Index := 0#32
  let c0_3198 : Index := 0#32
  ![v5257.toNat, 0, 25, 0, 0]
def k0_off30 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5261 : Index := Scalar.indexCast v4342
  let c0_3199 : Index := 0#32
  let c26_3200 : Index := 26#32
  let c0_3201 : Index := 0#32
  let c0_3202 : Index := 0#32
  ![v5261.toNat, 0, 26, 0, 0]
def k0_off31 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5265 : Index := Scalar.indexCast v4342
  let c0_3203 : Index := 0#32
  let c27_3204 : Index := 27#32
  let c0_3205 : Index := 0#32
  let c0_3206 : Index := 0#32
  ![v5265.toNat, 0, 27, 0, 0]
def k0_off32 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5269 : Index := Scalar.indexCast v4342
  let c0_3207 : Index := 0#32
  let c28_3208 : Index := 28#32
  let c0_3209 : Index := 0#32
  let c0_3210 : Index := 0#32
  ![v5269.toNat, 0, 28, 0, 0]
def k0_off33 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5273 : Index := Scalar.indexCast v4342
  let c0_3211 : Index := 0#32
  let c29_3212 : Index := 29#32
  let c0_3213 : Index := 0#32
  let c0_3214 : Index := 0#32
  ![v5273.toNat, 0, 29, 0, 0]
def k0_off34 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5277 : Index := Scalar.indexCast v4342
  let c0_3215 : Index := 0#32
  let c30_3216 : Index := 30#32
  let c0_3217 : Index := 0#32
  let c0_3218 : Index := 0#32
  ![v5277.toNat, 0, 30, 0, 0]
def k0_off35 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v5281 : Index := Scalar.indexCast v4342
  let c0_3219 : Index := 0#32
  let c31_3220 : Index := 31#32
  let c0_3221 : Index := 0#32
  let c0_3222 : Index := 0#32
  ![v5281.toNat, 0, 31, 0, 0]
def k0_off36 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6037 : Index := Scalar.indexCast v4342
  let c1_3463 : Index := 1#32
  let c0_3464 : Index := 0#32
  let c0_3465 : Index := 0#32
  let c0_3466 : Index := 0#32
  ![v6037.toNat, 1, 0, 0, 0]
def k0_off37 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6041 : Index := Scalar.indexCast v4342
  let c1_3467 : Index := 1#32
  let c1_3468 : Index := 1#32
  let c0_3469 : Index := 0#32
  let c0_3470 : Index := 0#32
  ![v6041.toNat, 1, 1, 0, 0]
def k0_off38 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6045 : Index := Scalar.indexCast v4342
  let c1_3471 : Index := 1#32
  let c2_3472 : Index := 2#32
  let c0_3473 : Index := 0#32
  let c0_3474 : Index := 0#32
  ![v6045.toNat, 1, 2, 0, 0]
def k0_off39 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6049 : Index := Scalar.indexCast v4342
  let c1_3475 : Index := 1#32
  let c3_3476 : Index := 3#32
  let c0_3477 : Index := 0#32
  let c0_3478 : Index := 0#32
  ![v6049.toNat, 1, 3, 0, 0]
def k0_off40 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6053 : Index := Scalar.indexCast v4342
  let c1_3479 : Index := 1#32
  let c4_3480 : Index := 4#32
  let c0_3481 : Index := 0#32
  let c0_3482 : Index := 0#32
  ![v6053.toNat, 1, 4, 0, 0]
def k0_off41 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6057 : Index := Scalar.indexCast v4342
  let c1_3483 : Index := 1#32
  let c5_3484 : Index := 5#32
  let c0_3485 : Index := 0#32
  let c0_3486 : Index := 0#32
  ![v6057.toNat, 1, 5, 0, 0]
def k0_off42 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6061 : Index := Scalar.indexCast v4342
  let c1_3487 : Index := 1#32
  let c6_3488 : Index := 6#32
  let c0_3489 : Index := 0#32
  let c0_3490 : Index := 0#32
  ![v6061.toNat, 1, 6, 0, 0]
def k0_off43 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6065 : Index := Scalar.indexCast v4342
  let c1_3491 : Index := 1#32
  let c7_3492 : Index := 7#32
  let c0_3493 : Index := 0#32
  let c0_3494 : Index := 0#32
  ![v6065.toNat, 1, 7, 0, 0]
def k0_off44 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6069 : Index := Scalar.indexCast v4342
  let c1_3495 : Index := 1#32
  let c8_3496 : Index := 8#32
  let c0_3497 : Index := 0#32
  let c0_3498 : Index := 0#32
  ![v6069.toNat, 1, 8, 0, 0]
def k0_off45 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6073 : Index := Scalar.indexCast v4342
  let c1_3499 : Index := 1#32
  let c9_3500 : Index := 9#32
  let c0_3501 : Index := 0#32
  let c0_3502 : Index := 0#32
  ![v6073.toNat, 1, 9, 0, 0]
def k0_off46 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6077 : Index := Scalar.indexCast v4342
  let c1_3503 : Index := 1#32
  let c10_3504 : Index := 10#32
  let c0_3505 : Index := 0#32
  let c0_3506 : Index := 0#32
  ![v6077.toNat, 1, 10, 0, 0]
def k0_off47 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6081 : Index := Scalar.indexCast v4342
  let c1_3507 : Index := 1#32
  let c11_3508 : Index := 11#32
  let c0_3509 : Index := 0#32
  let c0_3510 : Index := 0#32
  ![v6081.toNat, 1, 11, 0, 0]
def k0_off48 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6085 : Index := Scalar.indexCast v4342
  let c1_3511 : Index := 1#32
  let c12_3512 : Index := 12#32
  let c0_3513 : Index := 0#32
  let c0_3514 : Index := 0#32
  ![v6085.toNat, 1, 12, 0, 0]
def k0_off49 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6089 : Index := Scalar.indexCast v4342
  let c1_3515 : Index := 1#32
  let c13_3516 : Index := 13#32
  let c0_3517 : Index := 0#32
  let c0_3518 : Index := 0#32
  ![v6089.toNat, 1, 13, 0, 0]
def k0_off50 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6093 : Index := Scalar.indexCast v4342
  let c1_3519 : Index := 1#32
  let c14_3520 : Index := 14#32
  let c0_3521 : Index := 0#32
  let c0_3522 : Index := 0#32
  ![v6093.toNat, 1, 14, 0, 0]
def k0_off51 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6097 : Index := Scalar.indexCast v4342
  let c1_3523 : Index := 1#32
  let c15_3524 : Index := 15#32
  let c0_3525 : Index := 0#32
  let c0_3526 : Index := 0#32
  ![v6097.toNat, 1, 15, 0, 0]
def k0_off52 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6101 : Index := Scalar.indexCast v4342
  let c1_3527 : Index := 1#32
  let c16_3528 : Index := 16#32
  let c0_3529 : Index := 0#32
  let c0_3530 : Index := 0#32
  ![v6101.toNat, 1, 16, 0, 0]
def k0_off53 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6105 : Index := Scalar.indexCast v4342
  let c1_3531 : Index := 1#32
  let c17_3532 : Index := 17#32
  let c0_3533 : Index := 0#32
  let c0_3534 : Index := 0#32
  ![v6105.toNat, 1, 17, 0, 0]
def k0_off54 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6109 : Index := Scalar.indexCast v4342
  let c1_3535 : Index := 1#32
  let c18_3536 : Index := 18#32
  let c0_3537 : Index := 0#32
  let c0_3538 : Index := 0#32
  ![v6109.toNat, 1, 18, 0, 0]
def k0_off55 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6113 : Index := Scalar.indexCast v4342
  let c1_3539 : Index := 1#32
  let c19_3540 : Index := 19#32
  let c0_3541 : Index := 0#32
  let c0_3542 : Index := 0#32
  ![v6113.toNat, 1, 19, 0, 0]
def k0_off56 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6117 : Index := Scalar.indexCast v4342
  let c1_3543 : Index := 1#32
  let c20_3544 : Index := 20#32
  let c0_3545 : Index := 0#32
  let c0_3546 : Index := 0#32
  ![v6117.toNat, 1, 20, 0, 0]
def k0_off57 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6121 : Index := Scalar.indexCast v4342
  let c1_3547 : Index := 1#32
  let c21_3548 : Index := 21#32
  let c0_3549 : Index := 0#32
  let c0_3550 : Index := 0#32
  ![v6121.toNat, 1, 21, 0, 0]
def k0_off58 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6125 : Index := Scalar.indexCast v4342
  let c1_3551 : Index := 1#32
  let c22_3552 : Index := 22#32
  let c0_3553 : Index := 0#32
  let c0_3554 : Index := 0#32
  ![v6125.toNat, 1, 22, 0, 0]
def k0_off59 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6129 : Index := Scalar.indexCast v4342
  let c1_3555 : Index := 1#32
  let c23_3556 : Index := 23#32
  let c0_3557 : Index := 0#32
  let c0_3558 : Index := 0#32
  ![v6129.toNat, 1, 23, 0, 0]
def k0_off60 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6133 : Index := Scalar.indexCast v4342
  let c1_3559 : Index := 1#32
  let c24_3560 : Index := 24#32
  let c0_3561 : Index := 0#32
  let c0_3562 : Index := 0#32
  ![v6133.toNat, 1, 24, 0, 0]
def k0_off61 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6137 : Index := Scalar.indexCast v4342
  let c1_3563 : Index := 1#32
  let c25_3564 : Index := 25#32
  let c0_3565 : Index := 0#32
  let c0_3566 : Index := 0#32
  ![v6137.toNat, 1, 25, 0, 0]
def k0_off62 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6141 : Index := Scalar.indexCast v4342
  let c1_3567 : Index := 1#32
  let c26_3568 : Index := 26#32
  let c0_3569 : Index := 0#32
  let c0_3570 : Index := 0#32
  ![v6141.toNat, 1, 26, 0, 0]
def k0_off63 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6145 : Index := Scalar.indexCast v4342
  let c1_3571 : Index := 1#32
  let c27_3572 : Index := 27#32
  let c0_3573 : Index := 0#32
  let c0_3574 : Index := 0#32
  ![v6145.toNat, 1, 27, 0, 0]
def k0_off64 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6149 : Index := Scalar.indexCast v4342
  let c1_3575 : Index := 1#32
  let c28_3576 : Index := 28#32
  let c0_3577 : Index := 0#32
  let c0_3578 : Index := 0#32
  ![v6149.toNat, 1, 28, 0, 0]
def k0_off65 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6153 : Index := Scalar.indexCast v4342
  let c1_3579 : Index := 1#32
  let c29_3580 : Index := 29#32
  let c0_3581 : Index := 0#32
  let c0_3582 : Index := 0#32
  ![v6153.toNat, 1, 29, 0, 0]
def k0_off66 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6157 : Index := Scalar.indexCast v4342
  let c1_3583 : Index := 1#32
  let c30_3584 : Index := 30#32
  let c0_3585 : Index := 0#32
  let c0_3586 : Index := 0#32
  ![v6157.toNat, 1, 30, 0, 0]
def k0_off67 (i : grid0.Coords) (k0_t1 : Fin (k0_t1_loop i).trips) : Fin 5 → Nat :=
  let c2_i32_2842 : BitVec 32 := 2#32
  let c0_i32_50 : BitVec 32 := 0#32
  let c1_i32_52 : BitVec 32 := 1#32
  let arg17 : BitVec 32 := Scf.iv c0_i32_50 c1_i32_52 k0_t1
  let v4342 : BitVec 32 := Scalar.muli c2_i32_2842 arg17
  let v6161 : Index := Scalar.indexCast v4342
  let c1_3587 : Index := 1#32
  let c31_3588 : Index := 31#32
  let c0_3589 : Index := 0#32
  let c0_3590 : Index := 0#32
  ![v6161.toNat, 1, 31, 0, 0]
def k0_off68 (i : grid0.Coords) (k0_t1 : Fin (k0_t1_loop i).trips) : Fin 4 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v6223 : Index := Scalar.indexCast v6166
  let c0_3607 : Index := 0#32
  let c0_3608 : Index := 0#32
  let c0_3609 : Index := 0#32
  ![v6223.toNat, 0, 0, 0]
def k0_off69 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v6981 : Index := Scalar.indexCast v6166
  let c0_3851 : Index := 0#32
  let c0_3852 : Index := 0#32
  let c0_3853 : Index := 0#32
  let c0_3854 : Index := 0#32
  ![v6981.toNat, 0, 0, 0, 0]
def k0_off70 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v6985 : Index := Scalar.indexCast v6166
  let c0_3855 : Index := 0#32
  let c1_3856 : Index := 1#32
  let c0_3857 : Index := 0#32
  let c0_3858 : Index := 0#32
  ![v6985.toNat, 0, 1, 0, 0]
def k0_off71 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v6989 : Index := Scalar.indexCast v6166
  let c0_3859 : Index := 0#32
  let c2_3860 : Index := 2#32
  let c0_3861 : Index := 0#32
  let c0_3862 : Index := 0#32
  ![v6989.toNat, 0, 2, 0, 0]
def k0_off72 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v6993 : Index := Scalar.indexCast v6166
  let c0_3863 : Index := 0#32
  let c3_3864 : Index := 3#32
  let c0_3865 : Index := 0#32
  let c0_3866 : Index := 0#32
  ![v6993.toNat, 0, 3, 0, 0]
def k0_off73 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v6997 : Index := Scalar.indexCast v6166
  let c0_3867 : Index := 0#32
  let c4_3868 : Index := 4#32
  let c0_3869 : Index := 0#32
  let c0_3870 : Index := 0#32
  ![v6997.toNat, 0, 4, 0, 0]
def k0_off74 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7001 : Index := Scalar.indexCast v6166
  let c0_3871 : Index := 0#32
  let c5_3872 : Index := 5#32
  let c0_3873 : Index := 0#32
  let c0_3874 : Index := 0#32
  ![v7001.toNat, 0, 5, 0, 0]
def k0_off75 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7005 : Index := Scalar.indexCast v6166
  let c0_3875 : Index := 0#32
  let c6_3876 : Index := 6#32
  let c0_3877 : Index := 0#32
  let c0_3878 : Index := 0#32
  ![v7005.toNat, 0, 6, 0, 0]
def k0_off76 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7009 : Index := Scalar.indexCast v6166
  let c0_3879 : Index := 0#32
  let c7_3880 : Index := 7#32
  let c0_3881 : Index := 0#32
  let c0_3882 : Index := 0#32
  ![v7009.toNat, 0, 7, 0, 0]
def k0_off77 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7013 : Index := Scalar.indexCast v6166
  let c0_3883 : Index := 0#32
  let c8_3884 : Index := 8#32
  let c0_3885 : Index := 0#32
  let c0_3886 : Index := 0#32
  ![v7013.toNat, 0, 8, 0, 0]
def k0_off78 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7017 : Index := Scalar.indexCast v6166
  let c0_3887 : Index := 0#32
  let c9_3888 : Index := 9#32
  let c0_3889 : Index := 0#32
  let c0_3890 : Index := 0#32
  ![v7017.toNat, 0, 9, 0, 0]
def k0_off79 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7021 : Index := Scalar.indexCast v6166
  let c0_3891 : Index := 0#32
  let c10_3892 : Index := 10#32
  let c0_3893 : Index := 0#32
  let c0_3894 : Index := 0#32
  ![v7021.toNat, 0, 10, 0, 0]
def k0_off80 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7025 : Index := Scalar.indexCast v6166
  let c0_3895 : Index := 0#32
  let c11_3896 : Index := 11#32
  let c0_3897 : Index := 0#32
  let c0_3898 : Index := 0#32
  ![v7025.toNat, 0, 11, 0, 0]
def k0_off81 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7029 : Index := Scalar.indexCast v6166
  let c0_3899 : Index := 0#32
  let c12_3900 : Index := 12#32
  let c0_3901 : Index := 0#32
  let c0_3902 : Index := 0#32
  ![v7029.toNat, 0, 12, 0, 0]
def k0_off82 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7033 : Index := Scalar.indexCast v6166
  let c0_3903 : Index := 0#32
  let c13_3904 : Index := 13#32
  let c0_3905 : Index := 0#32
  let c0_3906 : Index := 0#32
  ![v7033.toNat, 0, 13, 0, 0]
def k0_off83 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7037 : Index := Scalar.indexCast v6166
  let c0_3907 : Index := 0#32
  let c14_3908 : Index := 14#32
  let c0_3909 : Index := 0#32
  let c0_3910 : Index := 0#32
  ![v7037.toNat, 0, 14, 0, 0]
def k0_off84 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7041 : Index := Scalar.indexCast v6166
  let c0_3911 : Index := 0#32
  let c15_3912 : Index := 15#32
  let c0_3913 : Index := 0#32
  let c0_3914 : Index := 0#32
  ![v7041.toNat, 0, 15, 0, 0]
def k0_off85 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7045 : Index := Scalar.indexCast v6166
  let c0_3915 : Index := 0#32
  let c16_3916 : Index := 16#32
  let c0_3917 : Index := 0#32
  let c0_3918 : Index := 0#32
  ![v7045.toNat, 0, 16, 0, 0]
def k0_off86 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7049 : Index := Scalar.indexCast v6166
  let c0_3919 : Index := 0#32
  let c17_3920 : Index := 17#32
  let c0_3921 : Index := 0#32
  let c0_3922 : Index := 0#32
  ![v7049.toNat, 0, 17, 0, 0]
def k0_off87 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7053 : Index := Scalar.indexCast v6166
  let c0_3923 : Index := 0#32
  let c18_3924 : Index := 18#32
  let c0_3925 : Index := 0#32
  let c0_3926 : Index := 0#32
  ![v7053.toNat, 0, 18, 0, 0]
def k0_off88 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7057 : Index := Scalar.indexCast v6166
  let c0_3927 : Index := 0#32
  let c19_3928 : Index := 19#32
  let c0_3929 : Index := 0#32
  let c0_3930 : Index := 0#32
  ![v7057.toNat, 0, 19, 0, 0]
def k0_off89 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7061 : Index := Scalar.indexCast v6166
  let c0_3931 : Index := 0#32
  let c20_3932 : Index := 20#32
  let c0_3933 : Index := 0#32
  let c0_3934 : Index := 0#32
  ![v7061.toNat, 0, 20, 0, 0]
def k0_off90 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7065 : Index := Scalar.indexCast v6166
  let c0_3935 : Index := 0#32
  let c21_3936 : Index := 21#32
  let c0_3937 : Index := 0#32
  let c0_3938 : Index := 0#32
  ![v7065.toNat, 0, 21, 0, 0]
def k0_off91 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7069 : Index := Scalar.indexCast v6166
  let c0_3939 : Index := 0#32
  let c22_3940 : Index := 22#32
  let c0_3941 : Index := 0#32
  let c0_3942 : Index := 0#32
  ![v7069.toNat, 0, 22, 0, 0]
def k0_off92 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7073 : Index := Scalar.indexCast v6166
  let c0_3943 : Index := 0#32
  let c23_3944 : Index := 23#32
  let c0_3945 : Index := 0#32
  let c0_3946 : Index := 0#32
  ![v7073.toNat, 0, 23, 0, 0]
def k0_off93 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7077 : Index := Scalar.indexCast v6166
  let c0_3947 : Index := 0#32
  let c24_3948 : Index := 24#32
  let c0_3949 : Index := 0#32
  let c0_3950 : Index := 0#32
  ![v7077.toNat, 0, 24, 0, 0]
def k0_off94 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7081 : Index := Scalar.indexCast v6166
  let c0_3951 : Index := 0#32
  let c25_3952 : Index := 25#32
  let c0_3953 : Index := 0#32
  let c0_3954 : Index := 0#32
  ![v7081.toNat, 0, 25, 0, 0]
def k0_off95 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7085 : Index := Scalar.indexCast v6166
  let c0_3955 : Index := 0#32
  let c26_3956 : Index := 26#32
  let c0_3957 : Index := 0#32
  let c0_3958 : Index := 0#32
  ![v7085.toNat, 0, 26, 0, 0]
def k0_off96 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7089 : Index := Scalar.indexCast v6166
  let c0_3959 : Index := 0#32
  let c27_3960 : Index := 27#32
  let c0_3961 : Index := 0#32
  let c0_3962 : Index := 0#32
  ![v7089.toNat, 0, 27, 0, 0]
def k0_off97 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7093 : Index := Scalar.indexCast v6166
  let c0_3963 : Index := 0#32
  let c28_3964 : Index := 28#32
  let c0_3965 : Index := 0#32
  let c0_3966 : Index := 0#32
  ![v7093.toNat, 0, 28, 0, 0]
def k0_off98 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7097 : Index := Scalar.indexCast v6166
  let c0_3967 : Index := 0#32
  let c29_3968 : Index := 29#32
  let c0_3969 : Index := 0#32
  let c0_3970 : Index := 0#32
  ![v7097.toNat, 0, 29, 0, 0]
def k0_off99 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7101 : Index := Scalar.indexCast v6166
  let c0_3971 : Index := 0#32
  let c30_3972 : Index := 30#32
  let c0_3973 : Index := 0#32
  let c0_3974 : Index := 0#32
  ![v7101.toNat, 0, 30, 0, 0]
def k0_off100 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7105 : Index := Scalar.indexCast v6166
  let c0_3975 : Index := 0#32
  let c31_3976 : Index := 31#32
  let c0_3977 : Index := 0#32
  let c0_3978 : Index := 0#32
  ![v7105.toNat, 0, 31, 0, 0]
def k0_off101 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7861 : Index := Scalar.indexCast v6166
  let c1_4219 : Index := 1#32
  let c0_4220 : Index := 0#32
  let c0_4221 : Index := 0#32
  let c0_4222 : Index := 0#32
  ![v7861.toNat, 1, 0, 0, 0]
def k0_off102 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7865 : Index := Scalar.indexCast v6166
  let c1_4223 : Index := 1#32
  let c1_4224 : Index := 1#32
  let c0_4225 : Index := 0#32
  let c0_4226 : Index := 0#32
  ![v7865.toNat, 1, 1, 0, 0]
def k0_off103 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7869 : Index := Scalar.indexCast v6166
  let c1_4227 : Index := 1#32
  let c2_4228 : Index := 2#32
  let c0_4229 : Index := 0#32
  let c0_4230 : Index := 0#32
  ![v7869.toNat, 1, 2, 0, 0]
def k0_off104 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7873 : Index := Scalar.indexCast v6166
  let c1_4231 : Index := 1#32
  let c3_4232 : Index := 3#32
  let c0_4233 : Index := 0#32
  let c0_4234 : Index := 0#32
  ![v7873.toNat, 1, 3, 0, 0]
def k0_off105 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7877 : Index := Scalar.indexCast v6166
  let c1_4235 : Index := 1#32
  let c4_4236 : Index := 4#32
  let c0_4237 : Index := 0#32
  let c0_4238 : Index := 0#32
  ![v7877.toNat, 1, 4, 0, 0]
def k0_off106 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7881 : Index := Scalar.indexCast v6166
  let c1_4239 : Index := 1#32
  let c5_4240 : Index := 5#32
  let c0_4241 : Index := 0#32
  let c0_4242 : Index := 0#32
  ![v7881.toNat, 1, 5, 0, 0]
def k0_off107 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7885 : Index := Scalar.indexCast v6166
  let c1_4243 : Index := 1#32
  let c6_4244 : Index := 6#32
  let c0_4245 : Index := 0#32
  let c0_4246 : Index := 0#32
  ![v7885.toNat, 1, 6, 0, 0]
def k0_off108 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7889 : Index := Scalar.indexCast v6166
  let c1_4247 : Index := 1#32
  let c7_4248 : Index := 7#32
  let c0_4249 : Index := 0#32
  let c0_4250 : Index := 0#32
  ![v7889.toNat, 1, 7, 0, 0]
def k0_off109 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7893 : Index := Scalar.indexCast v6166
  let c1_4251 : Index := 1#32
  let c8_4252 : Index := 8#32
  let c0_4253 : Index := 0#32
  let c0_4254 : Index := 0#32
  ![v7893.toNat, 1, 8, 0, 0]
def k0_off110 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7897 : Index := Scalar.indexCast v6166
  let c1_4255 : Index := 1#32
  let c9_4256 : Index := 9#32
  let c0_4257 : Index := 0#32
  let c0_4258 : Index := 0#32
  ![v7897.toNat, 1, 9, 0, 0]
def k0_off111 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7901 : Index := Scalar.indexCast v6166
  let c1_4259 : Index := 1#32
  let c10_4260 : Index := 10#32
  let c0_4261 : Index := 0#32
  let c0_4262 : Index := 0#32
  ![v7901.toNat, 1, 10, 0, 0]
def k0_off112 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7905 : Index := Scalar.indexCast v6166
  let c1_4263 : Index := 1#32
  let c11_4264 : Index := 11#32
  let c0_4265 : Index := 0#32
  let c0_4266 : Index := 0#32
  ![v7905.toNat, 1, 11, 0, 0]
def k0_off113 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7909 : Index := Scalar.indexCast v6166
  let c1_4267 : Index := 1#32
  let c12_4268 : Index := 12#32
  let c0_4269 : Index := 0#32
  let c0_4270 : Index := 0#32
  ![v7909.toNat, 1, 12, 0, 0]
def k0_off114 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7913 : Index := Scalar.indexCast v6166
  let c1_4271 : Index := 1#32
  let c13_4272 : Index := 13#32
  let c0_4273 : Index := 0#32
  let c0_4274 : Index := 0#32
  ![v7913.toNat, 1, 13, 0, 0]
def k0_off115 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7917 : Index := Scalar.indexCast v6166
  let c1_4275 : Index := 1#32
  let c14_4276 : Index := 14#32
  let c0_4277 : Index := 0#32
  let c0_4278 : Index := 0#32
  ![v7917.toNat, 1, 14, 0, 0]
def k0_off116 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7921 : Index := Scalar.indexCast v6166
  let c1_4279 : Index := 1#32
  let c15_4280 : Index := 15#32
  let c0_4281 : Index := 0#32
  let c0_4282 : Index := 0#32
  ![v7921.toNat, 1, 15, 0, 0]
def k0_off117 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7925 : Index := Scalar.indexCast v6166
  let c1_4283 : Index := 1#32
  let c16_4284 : Index := 16#32
  let c0_4285 : Index := 0#32
  let c0_4286 : Index := 0#32
  ![v7925.toNat, 1, 16, 0, 0]
def k0_off118 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7929 : Index := Scalar.indexCast v6166
  let c1_4287 : Index := 1#32
  let c17_4288 : Index := 17#32
  let c0_4289 : Index := 0#32
  let c0_4290 : Index := 0#32
  ![v7929.toNat, 1, 17, 0, 0]
def k0_off119 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7933 : Index := Scalar.indexCast v6166
  let c1_4291 : Index := 1#32
  let c18_4292 : Index := 18#32
  let c0_4293 : Index := 0#32
  let c0_4294 : Index := 0#32
  ![v7933.toNat, 1, 18, 0, 0]
def k0_off120 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7937 : Index := Scalar.indexCast v6166
  let c1_4295 : Index := 1#32
  let c19_4296 : Index := 19#32
  let c0_4297 : Index := 0#32
  let c0_4298 : Index := 0#32
  ![v7937.toNat, 1, 19, 0, 0]
def k0_off121 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7941 : Index := Scalar.indexCast v6166
  let c1_4299 : Index := 1#32
  let c20_4300 : Index := 20#32
  let c0_4301 : Index := 0#32
  let c0_4302 : Index := 0#32
  ![v7941.toNat, 1, 20, 0, 0]
def k0_off122 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7945 : Index := Scalar.indexCast v6166
  let c1_4303 : Index := 1#32
  let c21_4304 : Index := 21#32
  let c0_4305 : Index := 0#32
  let c0_4306 : Index := 0#32
  ![v7945.toNat, 1, 21, 0, 0]
def k0_off123 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7949 : Index := Scalar.indexCast v6166
  let c1_4307 : Index := 1#32
  let c22_4308 : Index := 22#32
  let c0_4309 : Index := 0#32
  let c0_4310 : Index := 0#32
  ![v7949.toNat, 1, 22, 0, 0]
def k0_off124 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7953 : Index := Scalar.indexCast v6166
  let c1_4311 : Index := 1#32
  let c23_4312 : Index := 23#32
  let c0_4313 : Index := 0#32
  let c0_4314 : Index := 0#32
  ![v7953.toNat, 1, 23, 0, 0]
def k0_off125 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7957 : Index := Scalar.indexCast v6166
  let c1_4315 : Index := 1#32
  let c24_4316 : Index := 24#32
  let c0_4317 : Index := 0#32
  let c0_4318 : Index := 0#32
  ![v7957.toNat, 1, 24, 0, 0]
def k0_off126 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7961 : Index := Scalar.indexCast v6166
  let c1_4319 : Index := 1#32
  let c25_4320 : Index := 25#32
  let c0_4321 : Index := 0#32
  let c0_4322 : Index := 0#32
  ![v7961.toNat, 1, 25, 0, 0]
def k0_off127 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7965 : Index := Scalar.indexCast v6166
  let c1_4323 : Index := 1#32
  let c26_4324 : Index := 26#32
  let c0_4325 : Index := 0#32
  let c0_4326 : Index := 0#32
  ![v7965.toNat, 1, 26, 0, 0]
def k0_off128 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7969 : Index := Scalar.indexCast v6166
  let c1_4327 : Index := 1#32
  let c27_4328 : Index := 27#32
  let c0_4329 : Index := 0#32
  let c0_4330 : Index := 0#32
  ![v7969.toNat, 1, 27, 0, 0]
def k0_off129 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7973 : Index := Scalar.indexCast v6166
  let c1_4331 : Index := 1#32
  let c28_4332 : Index := 28#32
  let c0_4333 : Index := 0#32
  let c0_4334 : Index := 0#32
  ![v7973.toNat, 1, 28, 0, 0]
def k0_off130 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7977 : Index := Scalar.indexCast v6166
  let c1_4335 : Index := 1#32
  let c29_4336 : Index := 29#32
  let c0_4337 : Index := 0#32
  let c0_4338 : Index := 0#32
  ![v7977.toNat, 1, 29, 0, 0]
def k0_off131 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7981 : Index := Scalar.indexCast v6166
  let c1_4339 : Index := 1#32
  let c30_4340 : Index := 30#32
  let c0_4341 : Index := 0#32
  let c0_4342 : Index := 0#32
  ![v7981.toNat, 1, 30, 0, 0]
def k0_off132 (i : grid0.Coords) (k0_t1 : Fin (k0_t1_loop i).trips) : Fin 5 → Nat :=
  let c2_i32_3591 : BitVec 32 := 2#32
  let c0_i32_50 : BitVec 32 := 0#32
  let c1_i32_52 : BitVec 32 := 1#32
  let arg17 : BitVec 32 := Scf.iv c0_i32_50 c1_i32_52 k0_t1
  let v6165 : BitVec 32 := Scalar.muli c2_i32_3591 arg17
  let c1_i32_3592 : BitVec 32 := 1#32
  let v6166 : BitVec 32 := Scalar.addi v6165 c1_i32_3592
  let v7985 : Index := Scalar.indexCast v6166
  let c1_4343 : Index := 1#32
  let c31_4344 : Index := 31#32
  let c0_4345 : Index := 0#32
  let c0_4346 : Index := 0#32
  ![v7985.toNat, 1, 31, 0, 0]
@[reducible] def k0_t2_loop (i : grid0.Coords) : Scf.Loop 32 :=
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let v89 : BitVec 32 := Scalar.addi c0_i32_50 v88
  let c1_i32_53 : BitVec 32 := 1#32
  ⟨v92, v89, c1_i32_53⟩
def k0_mult3 (i : grid0.Coords) (k0_t2 : Fin (k0_t2_loop i).trips) : BitVec 32 :=
  let c2_i32_2787 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4299 : BitVec 32 := Scalar.muli c2_i32_2787 arg17
  let c512_i32_2788 : BitVec 32 := 512#32
  let v4300 : BitVec 32 := Scalar.muli v4299 c512_i32_2788
  v4300
def k0_off133 (i : grid0.Coords) (k0_t2 : Fin (k0_t2_loop i).trips) : Fin 2 → Nat :=
  let c2_i32_2787 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4299 : BitVec 32 := Scalar.muli c2_i32_2787 arg17
  let c512_i32_2788 : BitVec 32 := 512#32
  let v4300 : BitVec 32 := Scalar.muli v4299 c512_i32_2788
  let v4301 : BitVec 32 := v4300
  let v4302 : Index := Scalar.indexCast v4301
  let c128_2789 : Index := 128#32
  ![v4302.toNat, 128]
def k0_mult4 (i : grid0.Coords) (k0_t2 : Fin (k0_t2_loop i).trips) : BitVec 32 :=
  let c2_i32_2814 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4320 : BitVec 32 := Scalar.muli c2_i32_2814 arg17
  let c1_i32_2815 : BitVec 32 := 1#32
  let v4321 : BitVec 32 := Scalar.addi v4320 c1_i32_2815
  let c512_i32_2816 : BitVec 32 := 512#32
  let v4322 : BitVec 32 := Scalar.muli v4321 c512_i32_2816
  v4322
def k0_off134 (i : grid0.Coords) (k0_t2 : Fin (k0_t2_loop i).trips) : Fin 2 → Nat :=
  let c2_i32_2814 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4320 : BitVec 32 := Scalar.muli c2_i32_2814 arg17
  let c1_i32_2815 : BitVec 32 := 1#32
  let v4321 : BitVec 32 := Scalar.addi v4320 c1_i32_2815
  let c512_i32_2816 : BitVec 32 := 512#32
  let v4322 : BitVec 32 := Scalar.muli v4321 c512_i32_2816
  let v4323 : BitVec 32 := v4322
  let v4324 : Index := Scalar.indexCast v4323
  let c128_2817 : Index := 128#32
  ![v4324.toNat, 128]
def k0_off135 (i : grid0.Coords) (k0_t2 : Fin (k0_t2_loop i).trips) : Fin 4 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v4399 : Index := Scalar.indexCast v4342
  let c0_2856 : Index := 0#32
  let c0_2857 : Index := 0#32
  let c0_2858 : Index := 0#32
  ![v4399.toNat, 0, 0, 0]
def k0_off136 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5157 : Index := Scalar.indexCast v4342
  let c0_3095 : Index := 0#32
  let c0_3096 : Index := 0#32
  let c0_3097 : Index := 0#32
  let c0_3098 : Index := 0#32
  ![v5157.toNat, 0, 0, 0, 0]
def k0_off137 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5161 : Index := Scalar.indexCast v4342
  let c0_3099 : Index := 0#32
  let c1_3100 : Index := 1#32
  let c0_3101 : Index := 0#32
  let c0_3102 : Index := 0#32
  ![v5161.toNat, 0, 1, 0, 0]
def k0_off138 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5165 : Index := Scalar.indexCast v4342
  let c0_3103 : Index := 0#32
  let c2_3104 : Index := 2#32
  let c0_3105 : Index := 0#32
  let c0_3106 : Index := 0#32
  ![v5165.toNat, 0, 2, 0, 0]
def k0_off139 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5169 : Index := Scalar.indexCast v4342
  let c0_3107 : Index := 0#32
  let c3_3108 : Index := 3#32
  let c0_3109 : Index := 0#32
  let c0_3110 : Index := 0#32
  ![v5169.toNat, 0, 3, 0, 0]
def k0_off140 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5173 : Index := Scalar.indexCast v4342
  let c0_3111 : Index := 0#32
  let c4_3112 : Index := 4#32
  let c0_3113 : Index := 0#32
  let c0_3114 : Index := 0#32
  ![v5173.toNat, 0, 4, 0, 0]
def k0_off141 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5177 : Index := Scalar.indexCast v4342
  let c0_3115 : Index := 0#32
  let c5_3116 : Index := 5#32
  let c0_3117 : Index := 0#32
  let c0_3118 : Index := 0#32
  ![v5177.toNat, 0, 5, 0, 0]
def k0_off142 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5181 : Index := Scalar.indexCast v4342
  let c0_3119 : Index := 0#32
  let c6_3120 : Index := 6#32
  let c0_3121 : Index := 0#32
  let c0_3122 : Index := 0#32
  ![v5181.toNat, 0, 6, 0, 0]
def k0_off143 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5185 : Index := Scalar.indexCast v4342
  let c0_3123 : Index := 0#32
  let c7_3124 : Index := 7#32
  let c0_3125 : Index := 0#32
  let c0_3126 : Index := 0#32
  ![v5185.toNat, 0, 7, 0, 0]
def k0_off144 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5189 : Index := Scalar.indexCast v4342
  let c0_3127 : Index := 0#32
  let c8_3128 : Index := 8#32
  let c0_3129 : Index := 0#32
  let c0_3130 : Index := 0#32
  ![v5189.toNat, 0, 8, 0, 0]
def k0_off145 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5193 : Index := Scalar.indexCast v4342
  let c0_3131 : Index := 0#32
  let c9_3132 : Index := 9#32
  let c0_3133 : Index := 0#32
  let c0_3134 : Index := 0#32
  ![v5193.toNat, 0, 9, 0, 0]
def k0_off146 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5197 : Index := Scalar.indexCast v4342
  let c0_3135 : Index := 0#32
  let c10_3136 : Index := 10#32
  let c0_3137 : Index := 0#32
  let c0_3138 : Index := 0#32
  ![v5197.toNat, 0, 10, 0, 0]
def k0_off147 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5201 : Index := Scalar.indexCast v4342
  let c0_3139 : Index := 0#32
  let c11_3140 : Index := 11#32
  let c0_3141 : Index := 0#32
  let c0_3142 : Index := 0#32
  ![v5201.toNat, 0, 11, 0, 0]
def k0_off148 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5205 : Index := Scalar.indexCast v4342
  let c0_3143 : Index := 0#32
  let c12_3144 : Index := 12#32
  let c0_3145 : Index := 0#32
  let c0_3146 : Index := 0#32
  ![v5205.toNat, 0, 12, 0, 0]
def k0_off149 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5209 : Index := Scalar.indexCast v4342
  let c0_3147 : Index := 0#32
  let c13_3148 : Index := 13#32
  let c0_3149 : Index := 0#32
  let c0_3150 : Index := 0#32
  ![v5209.toNat, 0, 13, 0, 0]
def k0_off150 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5213 : Index := Scalar.indexCast v4342
  let c0_3151 : Index := 0#32
  let c14_3152 : Index := 14#32
  let c0_3153 : Index := 0#32
  let c0_3154 : Index := 0#32
  ![v5213.toNat, 0, 14, 0, 0]
def k0_off151 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5217 : Index := Scalar.indexCast v4342
  let c0_3155 : Index := 0#32
  let c15_3156 : Index := 15#32
  let c0_3157 : Index := 0#32
  let c0_3158 : Index := 0#32
  ![v5217.toNat, 0, 15, 0, 0]
def k0_off152 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5221 : Index := Scalar.indexCast v4342
  let c0_3159 : Index := 0#32
  let c16_3160 : Index := 16#32
  let c0_3161 : Index := 0#32
  let c0_3162 : Index := 0#32
  ![v5221.toNat, 0, 16, 0, 0]
def k0_off153 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5225 : Index := Scalar.indexCast v4342
  let c0_3163 : Index := 0#32
  let c17_3164 : Index := 17#32
  let c0_3165 : Index := 0#32
  let c0_3166 : Index := 0#32
  ![v5225.toNat, 0, 17, 0, 0]
def k0_off154 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5229 : Index := Scalar.indexCast v4342
  let c0_3167 : Index := 0#32
  let c18_3168 : Index := 18#32
  let c0_3169 : Index := 0#32
  let c0_3170 : Index := 0#32
  ![v5229.toNat, 0, 18, 0, 0]
def k0_off155 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5233 : Index := Scalar.indexCast v4342
  let c0_3171 : Index := 0#32
  let c19_3172 : Index := 19#32
  let c0_3173 : Index := 0#32
  let c0_3174 : Index := 0#32
  ![v5233.toNat, 0, 19, 0, 0]
def k0_off156 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5237 : Index := Scalar.indexCast v4342
  let c0_3175 : Index := 0#32
  let c20_3176 : Index := 20#32
  let c0_3177 : Index := 0#32
  let c0_3178 : Index := 0#32
  ![v5237.toNat, 0, 20, 0, 0]
def k0_off157 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5241 : Index := Scalar.indexCast v4342
  let c0_3179 : Index := 0#32
  let c21_3180 : Index := 21#32
  let c0_3181 : Index := 0#32
  let c0_3182 : Index := 0#32
  ![v5241.toNat, 0, 21, 0, 0]
def k0_off158 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5245 : Index := Scalar.indexCast v4342
  let c0_3183 : Index := 0#32
  let c22_3184 : Index := 22#32
  let c0_3185 : Index := 0#32
  let c0_3186 : Index := 0#32
  ![v5245.toNat, 0, 22, 0, 0]
def k0_off159 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5249 : Index := Scalar.indexCast v4342
  let c0_3187 : Index := 0#32
  let c23_3188 : Index := 23#32
  let c0_3189 : Index := 0#32
  let c0_3190 : Index := 0#32
  ![v5249.toNat, 0, 23, 0, 0]
def k0_off160 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5253 : Index := Scalar.indexCast v4342
  let c0_3191 : Index := 0#32
  let c24_3192 : Index := 24#32
  let c0_3193 : Index := 0#32
  let c0_3194 : Index := 0#32
  ![v5253.toNat, 0, 24, 0, 0]
def k0_off161 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5257 : Index := Scalar.indexCast v4342
  let c0_3195 : Index := 0#32
  let c25_3196 : Index := 25#32
  let c0_3197 : Index := 0#32
  let c0_3198 : Index := 0#32
  ![v5257.toNat, 0, 25, 0, 0]
def k0_off162 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5261 : Index := Scalar.indexCast v4342
  let c0_3199 : Index := 0#32
  let c26_3200 : Index := 26#32
  let c0_3201 : Index := 0#32
  let c0_3202 : Index := 0#32
  ![v5261.toNat, 0, 26, 0, 0]
def k0_off163 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5265 : Index := Scalar.indexCast v4342
  let c0_3203 : Index := 0#32
  let c27_3204 : Index := 27#32
  let c0_3205 : Index := 0#32
  let c0_3206 : Index := 0#32
  ![v5265.toNat, 0, 27, 0, 0]
def k0_off164 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5269 : Index := Scalar.indexCast v4342
  let c0_3207 : Index := 0#32
  let c28_3208 : Index := 28#32
  let c0_3209 : Index := 0#32
  let c0_3210 : Index := 0#32
  ![v5269.toNat, 0, 28, 0, 0]
def k0_off165 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5273 : Index := Scalar.indexCast v4342
  let c0_3211 : Index := 0#32
  let c29_3212 : Index := 29#32
  let c0_3213 : Index := 0#32
  let c0_3214 : Index := 0#32
  ![v5273.toNat, 0, 29, 0, 0]
def k0_off166 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5277 : Index := Scalar.indexCast v4342
  let c0_3215 : Index := 0#32
  let c30_3216 : Index := 30#32
  let c0_3217 : Index := 0#32
  let c0_3218 : Index := 0#32
  ![v5277.toNat, 0, 30, 0, 0]
def k0_off167 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v5281 : Index := Scalar.indexCast v4342
  let c0_3219 : Index := 0#32
  let c31_3220 : Index := 31#32
  let c0_3221 : Index := 0#32
  let c0_3222 : Index := 0#32
  ![v5281.toNat, 0, 31, 0, 0]
def k0_off168 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6037 : Index := Scalar.indexCast v4342
  let c1_3463 : Index := 1#32
  let c0_3464 : Index := 0#32
  let c0_3465 : Index := 0#32
  let c0_3466 : Index := 0#32
  ![v6037.toNat, 1, 0, 0, 0]
def k0_off169 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6041 : Index := Scalar.indexCast v4342
  let c1_3467 : Index := 1#32
  let c1_3468 : Index := 1#32
  let c0_3469 : Index := 0#32
  let c0_3470 : Index := 0#32
  ![v6041.toNat, 1, 1, 0, 0]
def k0_off170 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6045 : Index := Scalar.indexCast v4342
  let c1_3471 : Index := 1#32
  let c2_3472 : Index := 2#32
  let c0_3473 : Index := 0#32
  let c0_3474 : Index := 0#32
  ![v6045.toNat, 1, 2, 0, 0]
def k0_off171 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6049 : Index := Scalar.indexCast v4342
  let c1_3475 : Index := 1#32
  let c3_3476 : Index := 3#32
  let c0_3477 : Index := 0#32
  let c0_3478 : Index := 0#32
  ![v6049.toNat, 1, 3, 0, 0]
def k0_off172 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6053 : Index := Scalar.indexCast v4342
  let c1_3479 : Index := 1#32
  let c4_3480 : Index := 4#32
  let c0_3481 : Index := 0#32
  let c0_3482 : Index := 0#32
  ![v6053.toNat, 1, 4, 0, 0]
def k0_off173 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6057 : Index := Scalar.indexCast v4342
  let c1_3483 : Index := 1#32
  let c5_3484 : Index := 5#32
  let c0_3485 : Index := 0#32
  let c0_3486 : Index := 0#32
  ![v6057.toNat, 1, 5, 0, 0]
def k0_off174 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6061 : Index := Scalar.indexCast v4342
  let c1_3487 : Index := 1#32
  let c6_3488 : Index := 6#32
  let c0_3489 : Index := 0#32
  let c0_3490 : Index := 0#32
  ![v6061.toNat, 1, 6, 0, 0]
def k0_off175 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6065 : Index := Scalar.indexCast v4342
  let c1_3491 : Index := 1#32
  let c7_3492 : Index := 7#32
  let c0_3493 : Index := 0#32
  let c0_3494 : Index := 0#32
  ![v6065.toNat, 1, 7, 0, 0]
def k0_off176 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6069 : Index := Scalar.indexCast v4342
  let c1_3495 : Index := 1#32
  let c8_3496 : Index := 8#32
  let c0_3497 : Index := 0#32
  let c0_3498 : Index := 0#32
  ![v6069.toNat, 1, 8, 0, 0]
def k0_off177 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6073 : Index := Scalar.indexCast v4342
  let c1_3499 : Index := 1#32
  let c9_3500 : Index := 9#32
  let c0_3501 : Index := 0#32
  let c0_3502 : Index := 0#32
  ![v6073.toNat, 1, 9, 0, 0]
def k0_off178 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6077 : Index := Scalar.indexCast v4342
  let c1_3503 : Index := 1#32
  let c10_3504 : Index := 10#32
  let c0_3505 : Index := 0#32
  let c0_3506 : Index := 0#32
  ![v6077.toNat, 1, 10, 0, 0]
def k0_off179 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6081 : Index := Scalar.indexCast v4342
  let c1_3507 : Index := 1#32
  let c11_3508 : Index := 11#32
  let c0_3509 : Index := 0#32
  let c0_3510 : Index := 0#32
  ![v6081.toNat, 1, 11, 0, 0]
def k0_off180 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6085 : Index := Scalar.indexCast v4342
  let c1_3511 : Index := 1#32
  let c12_3512 : Index := 12#32
  let c0_3513 : Index := 0#32
  let c0_3514 : Index := 0#32
  ![v6085.toNat, 1, 12, 0, 0]
def k0_off181 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6089 : Index := Scalar.indexCast v4342
  let c1_3515 : Index := 1#32
  let c13_3516 : Index := 13#32
  let c0_3517 : Index := 0#32
  let c0_3518 : Index := 0#32
  ![v6089.toNat, 1, 13, 0, 0]
def k0_off182 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6093 : Index := Scalar.indexCast v4342
  let c1_3519 : Index := 1#32
  let c14_3520 : Index := 14#32
  let c0_3521 : Index := 0#32
  let c0_3522 : Index := 0#32
  ![v6093.toNat, 1, 14, 0, 0]
def k0_off183 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6097 : Index := Scalar.indexCast v4342
  let c1_3523 : Index := 1#32
  let c15_3524 : Index := 15#32
  let c0_3525 : Index := 0#32
  let c0_3526 : Index := 0#32
  ![v6097.toNat, 1, 15, 0, 0]
def k0_off184 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6101 : Index := Scalar.indexCast v4342
  let c1_3527 : Index := 1#32
  let c16_3528 : Index := 16#32
  let c0_3529 : Index := 0#32
  let c0_3530 : Index := 0#32
  ![v6101.toNat, 1, 16, 0, 0]
def k0_off185 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6105 : Index := Scalar.indexCast v4342
  let c1_3531 : Index := 1#32
  let c17_3532 : Index := 17#32
  let c0_3533 : Index := 0#32
  let c0_3534 : Index := 0#32
  ![v6105.toNat, 1, 17, 0, 0]
def k0_off186 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6109 : Index := Scalar.indexCast v4342
  let c1_3535 : Index := 1#32
  let c18_3536 : Index := 18#32
  let c0_3537 : Index := 0#32
  let c0_3538 : Index := 0#32
  ![v6109.toNat, 1, 18, 0, 0]
def k0_off187 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6113 : Index := Scalar.indexCast v4342
  let c1_3539 : Index := 1#32
  let c19_3540 : Index := 19#32
  let c0_3541 : Index := 0#32
  let c0_3542 : Index := 0#32
  ![v6113.toNat, 1, 19, 0, 0]
def k0_off188 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6117 : Index := Scalar.indexCast v4342
  let c1_3543 : Index := 1#32
  let c20_3544 : Index := 20#32
  let c0_3545 : Index := 0#32
  let c0_3546 : Index := 0#32
  ![v6117.toNat, 1, 20, 0, 0]
def k0_off189 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6121 : Index := Scalar.indexCast v4342
  let c1_3547 : Index := 1#32
  let c21_3548 : Index := 21#32
  let c0_3549 : Index := 0#32
  let c0_3550 : Index := 0#32
  ![v6121.toNat, 1, 21, 0, 0]
def k0_off190 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6125 : Index := Scalar.indexCast v4342
  let c1_3551 : Index := 1#32
  let c22_3552 : Index := 22#32
  let c0_3553 : Index := 0#32
  let c0_3554 : Index := 0#32
  ![v6125.toNat, 1, 22, 0, 0]
def k0_off191 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6129 : Index := Scalar.indexCast v4342
  let c1_3555 : Index := 1#32
  let c23_3556 : Index := 23#32
  let c0_3557 : Index := 0#32
  let c0_3558 : Index := 0#32
  ![v6129.toNat, 1, 23, 0, 0]
def k0_off192 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6133 : Index := Scalar.indexCast v4342
  let c1_3559 : Index := 1#32
  let c24_3560 : Index := 24#32
  let c0_3561 : Index := 0#32
  let c0_3562 : Index := 0#32
  ![v6133.toNat, 1, 24, 0, 0]
def k0_off193 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6137 : Index := Scalar.indexCast v4342
  let c1_3563 : Index := 1#32
  let c25_3564 : Index := 25#32
  let c0_3565 : Index := 0#32
  let c0_3566 : Index := 0#32
  ![v6137.toNat, 1, 25, 0, 0]
def k0_off194 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6141 : Index := Scalar.indexCast v4342
  let c1_3567 : Index := 1#32
  let c26_3568 : Index := 26#32
  let c0_3569 : Index := 0#32
  let c0_3570 : Index := 0#32
  ![v6141.toNat, 1, 26, 0, 0]
def k0_off195 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6145 : Index := Scalar.indexCast v4342
  let c1_3571 : Index := 1#32
  let c27_3572 : Index := 27#32
  let c0_3573 : Index := 0#32
  let c0_3574 : Index := 0#32
  ![v6145.toNat, 1, 27, 0, 0]
def k0_off196 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6149 : Index := Scalar.indexCast v4342
  let c1_3575 : Index := 1#32
  let c28_3576 : Index := 28#32
  let c0_3577 : Index := 0#32
  let c0_3578 : Index := 0#32
  ![v6149.toNat, 1, 28, 0, 0]
def k0_off197 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6153 : Index := Scalar.indexCast v4342
  let c1_3579 : Index := 1#32
  let c29_3580 : Index := 29#32
  let c0_3581 : Index := 0#32
  let c0_3582 : Index := 0#32
  ![v6153.toNat, 1, 29, 0, 0]
def k0_off198 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6157 : Index := Scalar.indexCast v4342
  let c1_3583 : Index := 1#32
  let c30_3584 : Index := 30#32
  let c0_3585 : Index := 0#32
  let c0_3586 : Index := 0#32
  ![v6157.toNat, 1, 30, 0, 0]
def k0_off199 (i : grid0.Coords) (k0_t2 : Fin (k0_t2_loop i).trips) : Fin 5 → Nat :=
  let c2_i32_2842 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v4342 : BitVec 32 := Scalar.muli c2_i32_2842 arg17
  let v6161 : Index := Scalar.indexCast v4342
  let c1_3587 : Index := 1#32
  let c31_3588 : Index := 31#32
  let c0_3589 : Index := 0#32
  let c0_3590 : Index := 0#32
  ![v6161.toNat, 1, 31, 0, 0]
def k0_off200 (i : grid0.Coords) (k0_t2 : Fin (k0_t2_loop i).trips) : Fin 4 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v6223 : Index := Scalar.indexCast v6166
  let c0_3607 : Index := 0#32
  let c0_3608 : Index := 0#32
  let c0_3609 : Index := 0#32
  ![v6223.toNat, 0, 0, 0]
def k0_off201 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v6981 : Index := Scalar.indexCast v6166
  let c0_3851 : Index := 0#32
  let c0_3852 : Index := 0#32
  let c0_3853 : Index := 0#32
  let c0_3854 : Index := 0#32
  ![v6981.toNat, 0, 0, 0, 0]
def k0_off202 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v6985 : Index := Scalar.indexCast v6166
  let c0_3855 : Index := 0#32
  let c1_3856 : Index := 1#32
  let c0_3857 : Index := 0#32
  let c0_3858 : Index := 0#32
  ![v6985.toNat, 0, 1, 0, 0]
def k0_off203 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v6989 : Index := Scalar.indexCast v6166
  let c0_3859 : Index := 0#32
  let c2_3860 : Index := 2#32
  let c0_3861 : Index := 0#32
  let c0_3862 : Index := 0#32
  ![v6989.toNat, 0, 2, 0, 0]
def k0_off204 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v6993 : Index := Scalar.indexCast v6166
  let c0_3863 : Index := 0#32
  let c3_3864 : Index := 3#32
  let c0_3865 : Index := 0#32
  let c0_3866 : Index := 0#32
  ![v6993.toNat, 0, 3, 0, 0]
def k0_off205 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v6997 : Index := Scalar.indexCast v6166
  let c0_3867 : Index := 0#32
  let c4_3868 : Index := 4#32
  let c0_3869 : Index := 0#32
  let c0_3870 : Index := 0#32
  ![v6997.toNat, 0, 4, 0, 0]
def k0_off206 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7001 : Index := Scalar.indexCast v6166
  let c0_3871 : Index := 0#32
  let c5_3872 : Index := 5#32
  let c0_3873 : Index := 0#32
  let c0_3874 : Index := 0#32
  ![v7001.toNat, 0, 5, 0, 0]
def k0_off207 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7005 : Index := Scalar.indexCast v6166
  let c0_3875 : Index := 0#32
  let c6_3876 : Index := 6#32
  let c0_3877 : Index := 0#32
  let c0_3878 : Index := 0#32
  ![v7005.toNat, 0, 6, 0, 0]
def k0_off208 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7009 : Index := Scalar.indexCast v6166
  let c0_3879 : Index := 0#32
  let c7_3880 : Index := 7#32
  let c0_3881 : Index := 0#32
  let c0_3882 : Index := 0#32
  ![v7009.toNat, 0, 7, 0, 0]
def k0_off209 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7013 : Index := Scalar.indexCast v6166
  let c0_3883 : Index := 0#32
  let c8_3884 : Index := 8#32
  let c0_3885 : Index := 0#32
  let c0_3886 : Index := 0#32
  ![v7013.toNat, 0, 8, 0, 0]
def k0_off210 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7017 : Index := Scalar.indexCast v6166
  let c0_3887 : Index := 0#32
  let c9_3888 : Index := 9#32
  let c0_3889 : Index := 0#32
  let c0_3890 : Index := 0#32
  ![v7017.toNat, 0, 9, 0, 0]
def k0_off211 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7021 : Index := Scalar.indexCast v6166
  let c0_3891 : Index := 0#32
  let c10_3892 : Index := 10#32
  let c0_3893 : Index := 0#32
  let c0_3894 : Index := 0#32
  ![v7021.toNat, 0, 10, 0, 0]
def k0_off212 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7025 : Index := Scalar.indexCast v6166
  let c0_3895 : Index := 0#32
  let c11_3896 : Index := 11#32
  let c0_3897 : Index := 0#32
  let c0_3898 : Index := 0#32
  ![v7025.toNat, 0, 11, 0, 0]
def k0_off213 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7029 : Index := Scalar.indexCast v6166
  let c0_3899 : Index := 0#32
  let c12_3900 : Index := 12#32
  let c0_3901 : Index := 0#32
  let c0_3902 : Index := 0#32
  ![v7029.toNat, 0, 12, 0, 0]
def k0_off214 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7033 : Index := Scalar.indexCast v6166
  let c0_3903 : Index := 0#32
  let c13_3904 : Index := 13#32
  let c0_3905 : Index := 0#32
  let c0_3906 : Index := 0#32
  ![v7033.toNat, 0, 13, 0, 0]
def k0_off215 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7037 : Index := Scalar.indexCast v6166
  let c0_3907 : Index := 0#32
  let c14_3908 : Index := 14#32
  let c0_3909 : Index := 0#32
  let c0_3910 : Index := 0#32
  ![v7037.toNat, 0, 14, 0, 0]
def k0_off216 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7041 : Index := Scalar.indexCast v6166
  let c0_3911 : Index := 0#32
  let c15_3912 : Index := 15#32
  let c0_3913 : Index := 0#32
  let c0_3914 : Index := 0#32
  ![v7041.toNat, 0, 15, 0, 0]
def k0_off217 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7045 : Index := Scalar.indexCast v6166
  let c0_3915 : Index := 0#32
  let c16_3916 : Index := 16#32
  let c0_3917 : Index := 0#32
  let c0_3918 : Index := 0#32
  ![v7045.toNat, 0, 16, 0, 0]
def k0_off218 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7049 : Index := Scalar.indexCast v6166
  let c0_3919 : Index := 0#32
  let c17_3920 : Index := 17#32
  let c0_3921 : Index := 0#32
  let c0_3922 : Index := 0#32
  ![v7049.toNat, 0, 17, 0, 0]
def k0_off219 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7053 : Index := Scalar.indexCast v6166
  let c0_3923 : Index := 0#32
  let c18_3924 : Index := 18#32
  let c0_3925 : Index := 0#32
  let c0_3926 : Index := 0#32
  ![v7053.toNat, 0, 18, 0, 0]
def k0_off220 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7057 : Index := Scalar.indexCast v6166
  let c0_3927 : Index := 0#32
  let c19_3928 : Index := 19#32
  let c0_3929 : Index := 0#32
  let c0_3930 : Index := 0#32
  ![v7057.toNat, 0, 19, 0, 0]
def k0_off221 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7061 : Index := Scalar.indexCast v6166
  let c0_3931 : Index := 0#32
  let c20_3932 : Index := 20#32
  let c0_3933 : Index := 0#32
  let c0_3934 : Index := 0#32
  ![v7061.toNat, 0, 20, 0, 0]
def k0_off222 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7065 : Index := Scalar.indexCast v6166
  let c0_3935 : Index := 0#32
  let c21_3936 : Index := 21#32
  let c0_3937 : Index := 0#32
  let c0_3938 : Index := 0#32
  ![v7065.toNat, 0, 21, 0, 0]
def k0_off223 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7069 : Index := Scalar.indexCast v6166
  let c0_3939 : Index := 0#32
  let c22_3940 : Index := 22#32
  let c0_3941 : Index := 0#32
  let c0_3942 : Index := 0#32
  ![v7069.toNat, 0, 22, 0, 0]
def k0_off224 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7073 : Index := Scalar.indexCast v6166
  let c0_3943 : Index := 0#32
  let c23_3944 : Index := 23#32
  let c0_3945 : Index := 0#32
  let c0_3946 : Index := 0#32
  ![v7073.toNat, 0, 23, 0, 0]
def k0_off225 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7077 : Index := Scalar.indexCast v6166
  let c0_3947 : Index := 0#32
  let c24_3948 : Index := 24#32
  let c0_3949 : Index := 0#32
  let c0_3950 : Index := 0#32
  ![v7077.toNat, 0, 24, 0, 0]
def k0_off226 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7081 : Index := Scalar.indexCast v6166
  let c0_3951 : Index := 0#32
  let c25_3952 : Index := 25#32
  let c0_3953 : Index := 0#32
  let c0_3954 : Index := 0#32
  ![v7081.toNat, 0, 25, 0, 0]
def k0_off227 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7085 : Index := Scalar.indexCast v6166
  let c0_3955 : Index := 0#32
  let c26_3956 : Index := 26#32
  let c0_3957 : Index := 0#32
  let c0_3958 : Index := 0#32
  ![v7085.toNat, 0, 26, 0, 0]
def k0_off228 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7089 : Index := Scalar.indexCast v6166
  let c0_3959 : Index := 0#32
  let c27_3960 : Index := 27#32
  let c0_3961 : Index := 0#32
  let c0_3962 : Index := 0#32
  ![v7089.toNat, 0, 27, 0, 0]
def k0_off229 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7093 : Index := Scalar.indexCast v6166
  let c0_3963 : Index := 0#32
  let c28_3964 : Index := 28#32
  let c0_3965 : Index := 0#32
  let c0_3966 : Index := 0#32
  ![v7093.toNat, 0, 28, 0, 0]
def k0_off230 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7097 : Index := Scalar.indexCast v6166
  let c0_3967 : Index := 0#32
  let c29_3968 : Index := 29#32
  let c0_3969 : Index := 0#32
  let c0_3970 : Index := 0#32
  ![v7097.toNat, 0, 29, 0, 0]
def k0_off231 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7101 : Index := Scalar.indexCast v6166
  let c0_3971 : Index := 0#32
  let c30_3972 : Index := 30#32
  let c0_3973 : Index := 0#32
  let c0_3974 : Index := 0#32
  ![v7101.toNat, 0, 30, 0, 0]
def k0_off232 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7105 : Index := Scalar.indexCast v6166
  let c0_3975 : Index := 0#32
  let c31_3976 : Index := 31#32
  let c0_3977 : Index := 0#32
  let c0_3978 : Index := 0#32
  ![v7105.toNat, 0, 31, 0, 0]
def k0_off233 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7861 : Index := Scalar.indexCast v6166
  let c1_4219 : Index := 1#32
  let c0_4220 : Index := 0#32
  let c0_4221 : Index := 0#32
  let c0_4222 : Index := 0#32
  ![v7861.toNat, 1, 0, 0, 0]
def k0_off234 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7865 : Index := Scalar.indexCast v6166
  let c1_4223 : Index := 1#32
  let c1_4224 : Index := 1#32
  let c0_4225 : Index := 0#32
  let c0_4226 : Index := 0#32
  ![v7865.toNat, 1, 1, 0, 0]
def k0_off235 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7869 : Index := Scalar.indexCast v6166
  let c1_4227 : Index := 1#32
  let c2_4228 : Index := 2#32
  let c0_4229 : Index := 0#32
  let c0_4230 : Index := 0#32
  ![v7869.toNat, 1, 2, 0, 0]
def k0_off236 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7873 : Index := Scalar.indexCast v6166
  let c1_4231 : Index := 1#32
  let c3_4232 : Index := 3#32
  let c0_4233 : Index := 0#32
  let c0_4234 : Index := 0#32
  ![v7873.toNat, 1, 3, 0, 0]
def k0_off237 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7877 : Index := Scalar.indexCast v6166
  let c1_4235 : Index := 1#32
  let c4_4236 : Index := 4#32
  let c0_4237 : Index := 0#32
  let c0_4238 : Index := 0#32
  ![v7877.toNat, 1, 4, 0, 0]
def k0_off238 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7881 : Index := Scalar.indexCast v6166
  let c1_4239 : Index := 1#32
  let c5_4240 : Index := 5#32
  let c0_4241 : Index := 0#32
  let c0_4242 : Index := 0#32
  ![v7881.toNat, 1, 5, 0, 0]
def k0_off239 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7885 : Index := Scalar.indexCast v6166
  let c1_4243 : Index := 1#32
  let c6_4244 : Index := 6#32
  let c0_4245 : Index := 0#32
  let c0_4246 : Index := 0#32
  ![v7885.toNat, 1, 6, 0, 0]
def k0_off240 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7889 : Index := Scalar.indexCast v6166
  let c1_4247 : Index := 1#32
  let c7_4248 : Index := 7#32
  let c0_4249 : Index := 0#32
  let c0_4250 : Index := 0#32
  ![v7889.toNat, 1, 7, 0, 0]
def k0_off241 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7893 : Index := Scalar.indexCast v6166
  let c1_4251 : Index := 1#32
  let c8_4252 : Index := 8#32
  let c0_4253 : Index := 0#32
  let c0_4254 : Index := 0#32
  ![v7893.toNat, 1, 8, 0, 0]
def k0_off242 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7897 : Index := Scalar.indexCast v6166
  let c1_4255 : Index := 1#32
  let c9_4256 : Index := 9#32
  let c0_4257 : Index := 0#32
  let c0_4258 : Index := 0#32
  ![v7897.toNat, 1, 9, 0, 0]
def k0_off243 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7901 : Index := Scalar.indexCast v6166
  let c1_4259 : Index := 1#32
  let c10_4260 : Index := 10#32
  let c0_4261 : Index := 0#32
  let c0_4262 : Index := 0#32
  ![v7901.toNat, 1, 10, 0, 0]
def k0_off244 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7905 : Index := Scalar.indexCast v6166
  let c1_4263 : Index := 1#32
  let c11_4264 : Index := 11#32
  let c0_4265 : Index := 0#32
  let c0_4266 : Index := 0#32
  ![v7905.toNat, 1, 11, 0, 0]
def k0_off245 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7909 : Index := Scalar.indexCast v6166
  let c1_4267 : Index := 1#32
  let c12_4268 : Index := 12#32
  let c0_4269 : Index := 0#32
  let c0_4270 : Index := 0#32
  ![v7909.toNat, 1, 12, 0, 0]
def k0_off246 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7913 : Index := Scalar.indexCast v6166
  let c1_4271 : Index := 1#32
  let c13_4272 : Index := 13#32
  let c0_4273 : Index := 0#32
  let c0_4274 : Index := 0#32
  ![v7913.toNat, 1, 13, 0, 0]
def k0_off247 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7917 : Index := Scalar.indexCast v6166
  let c1_4275 : Index := 1#32
  let c14_4276 : Index := 14#32
  let c0_4277 : Index := 0#32
  let c0_4278 : Index := 0#32
  ![v7917.toNat, 1, 14, 0, 0]
def k0_off248 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7921 : Index := Scalar.indexCast v6166
  let c1_4279 : Index := 1#32
  let c15_4280 : Index := 15#32
  let c0_4281 : Index := 0#32
  let c0_4282 : Index := 0#32
  ![v7921.toNat, 1, 15, 0, 0]
def k0_off249 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7925 : Index := Scalar.indexCast v6166
  let c1_4283 : Index := 1#32
  let c16_4284 : Index := 16#32
  let c0_4285 : Index := 0#32
  let c0_4286 : Index := 0#32
  ![v7925.toNat, 1, 16, 0, 0]
def k0_off250 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7929 : Index := Scalar.indexCast v6166
  let c1_4287 : Index := 1#32
  let c17_4288 : Index := 17#32
  let c0_4289 : Index := 0#32
  let c0_4290 : Index := 0#32
  ![v7929.toNat, 1, 17, 0, 0]
def k0_off251 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7933 : Index := Scalar.indexCast v6166
  let c1_4291 : Index := 1#32
  let c18_4292 : Index := 18#32
  let c0_4293 : Index := 0#32
  let c0_4294 : Index := 0#32
  ![v7933.toNat, 1, 18, 0, 0]
def k0_off252 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7937 : Index := Scalar.indexCast v6166
  let c1_4295 : Index := 1#32
  let c19_4296 : Index := 19#32
  let c0_4297 : Index := 0#32
  let c0_4298 : Index := 0#32
  ![v7937.toNat, 1, 19, 0, 0]
def k0_off253 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7941 : Index := Scalar.indexCast v6166
  let c1_4299 : Index := 1#32
  let c20_4300 : Index := 20#32
  let c0_4301 : Index := 0#32
  let c0_4302 : Index := 0#32
  ![v7941.toNat, 1, 20, 0, 0]
def k0_off254 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7945 : Index := Scalar.indexCast v6166
  let c1_4303 : Index := 1#32
  let c21_4304 : Index := 21#32
  let c0_4305 : Index := 0#32
  let c0_4306 : Index := 0#32
  ![v7945.toNat, 1, 21, 0, 0]
def k0_off255 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7949 : Index := Scalar.indexCast v6166
  let c1_4307 : Index := 1#32
  let c22_4308 : Index := 22#32
  let c0_4309 : Index := 0#32
  let c0_4310 : Index := 0#32
  ![v7949.toNat, 1, 22, 0, 0]
def k0_off256 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7953 : Index := Scalar.indexCast v6166
  let c1_4311 : Index := 1#32
  let c23_4312 : Index := 23#32
  let c0_4313 : Index := 0#32
  let c0_4314 : Index := 0#32
  ![v7953.toNat, 1, 23, 0, 0]
def k0_off257 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7957 : Index := Scalar.indexCast v6166
  let c1_4315 : Index := 1#32
  let c24_4316 : Index := 24#32
  let c0_4317 : Index := 0#32
  let c0_4318 : Index := 0#32
  ![v7957.toNat, 1, 24, 0, 0]
def k0_off258 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7961 : Index := Scalar.indexCast v6166
  let c1_4319 : Index := 1#32
  let c25_4320 : Index := 25#32
  let c0_4321 : Index := 0#32
  let c0_4322 : Index := 0#32
  ![v7961.toNat, 1, 25, 0, 0]
def k0_off259 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7965 : Index := Scalar.indexCast v6166
  let c1_4323 : Index := 1#32
  let c26_4324 : Index := 26#32
  let c0_4325 : Index := 0#32
  let c0_4326 : Index := 0#32
  ![v7965.toNat, 1, 26, 0, 0]
def k0_off260 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7969 : Index := Scalar.indexCast v6166
  let c1_4327 : Index := 1#32
  let c27_4328 : Index := 27#32
  let c0_4329 : Index := 0#32
  let c0_4330 : Index := 0#32
  ![v7969.toNat, 1, 27, 0, 0]
def k0_off261 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7973 : Index := Scalar.indexCast v6166
  let c1_4331 : Index := 1#32
  let c28_4332 : Index := 28#32
  let c0_4333 : Index := 0#32
  let c0_4334 : Index := 0#32
  ![v7973.toNat, 1, 28, 0, 0]
def k0_off262 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7977 : Index := Scalar.indexCast v6166
  let c1_4335 : Index := 1#32
  let c29_4336 : Index := 29#32
  let c0_4337 : Index := 0#32
  let c0_4338 : Index := 0#32
  ![v7977.toNat, 1, 29, 0, 0]
def k0_off263 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7981 : Index := Scalar.indexCast v6166
  let c1_4339 : Index := 1#32
  let c30_4340 : Index := 30#32
  let c0_4341 : Index := 0#32
  let c0_4342 : Index := 0#32
  ![v7981.toNat, 1, 30, 0, 0]
def k0_off264 (i : grid0.Coords) (k0_t2 : Fin (k0_t2_loop i).trips) : Fin 5 → Nat :=
  let c2_i32_3591 : BitVec 32 := 2#32
  let c0_i32_50 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_48 : BitVec 32 := 1#32
  let v87 : BitVec 32 := Scalar.shrui v4 c1_i32_48
  let v88 : BitVec 32 := Scalar.subi v87 c0_i32_50
  let c1_i32_51 : BitVec 32 := 1#32
  let v90 : BitVec 32 := Scalar.divsi v88 c1_i32_51
  let v91 : BitVec 32 := Scalar.muli v90 c1_i32_51
  let v92 : BitVec 32 := Scalar.addi c0_i32_50 v91
  let c1_i32_53 : BitVec 32 := 1#32
  let arg17 : BitVec 32 := Scf.iv v92 c1_i32_53 k0_t2
  let v6165 : BitVec 32 := Scalar.muli c2_i32_3591 arg17
  let c1_i32_3592 : BitVec 32 := 1#32
  let v6166 : BitVec 32 := Scalar.addi v6165 c1_i32_3592
  let v7985 : Index := Scalar.indexCast v6166
  let c1_4343 : Index := 1#32
  let c31_4344 : Index := 31#32
  let c0_4345 : Index := 0#32
  let c0_4346 : Index := 0#32
  ![v7985.toNat, 1, 31, 0, 0]
def k0_cond2 (i : grid0.Coords) : BitVec 1 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_54 : BitVec 32 := 1#32
  let v93 : BitVec 32 := Scalar.andi v4 c1_i32_54
  let c1_i32_55 : BitVec 32 := 1#32
  let v94 : BitVec 1 := Scalar.cmpi .eq v93 c1_i32_55
  let v95 : BitVec 32 := Scalar.extui v94
  let c0_i32_56 : BitVec 32 := 0#32
  let v96 : BitVec 1 := Scalar.cmpi .ne v95 c0_i32_56
  v96

def k0_mult5 (i : grid0.Coords) : BitVec 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2788 : BitVec 32 := 1#32
  let v4300 : BitVec 32 := Scalar.subi v4 c1_i32_2788
  let c512_i32_2789 : BitVec 32 := 512#32
  let v4301 : BitVec 32 := Scalar.muli v4300 c512_i32_2789
  v4301
def k0_off265 (i : grid0.Coords) : Fin 2 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2788 : BitVec 32 := 1#32
  let v4300 : BitVec 32 := Scalar.subi v4 c1_i32_2788
  let c512_i32_2789 : BitVec 32 := 512#32
  let v4301 : BitVec 32 := Scalar.muli v4300 c512_i32_2789
  let v4302 : BitVec 32 := v4301
  let v4303 : Index := Scalar.indexCast v4302
  let c128_2790 : Index := 128#32
  ![v4303.toNat, 128]
def k0_off266 (i : grid0.Coords) : Fin 4 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v4377 : Index := Scalar.indexCast v4299
  let c0_2828 : Index := 0#32
  let c0_2829 : Index := 0#32
  let c0_2830 : Index := 0#32
  ![v4377.toNat, 0, 0, 0]
def k0_off267 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5135 : Index := Scalar.indexCast v4299
  let c0_3067 : Index := 0#32
  let c0_3068 : Index := 0#32
  let c0_3069 : Index := 0#32
  let c0_3070 : Index := 0#32
  ![v5135.toNat, 0, 0, 0, 0]
def k0_off268 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5139 : Index := Scalar.indexCast v4299
  let c0_3071 : Index := 0#32
  let c1_3072 : Index := 1#32
  let c0_3073 : Index := 0#32
  let c0_3074 : Index := 0#32
  ![v5139.toNat, 0, 1, 0, 0]
def k0_off269 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5143 : Index := Scalar.indexCast v4299
  let c0_3075 : Index := 0#32
  let c2_3076 : Index := 2#32
  let c0_3077 : Index := 0#32
  let c0_3078 : Index := 0#32
  ![v5143.toNat, 0, 2, 0, 0]
def k0_off270 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5147 : Index := Scalar.indexCast v4299
  let c0_3079 : Index := 0#32
  let c3_3080 : Index := 3#32
  let c0_3081 : Index := 0#32
  let c0_3082 : Index := 0#32
  ![v5147.toNat, 0, 3, 0, 0]
def k0_off271 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5151 : Index := Scalar.indexCast v4299
  let c0_3083 : Index := 0#32
  let c4_3084 : Index := 4#32
  let c0_3085 : Index := 0#32
  let c0_3086 : Index := 0#32
  ![v5151.toNat, 0, 4, 0, 0]
def k0_off272 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5155 : Index := Scalar.indexCast v4299
  let c0_3087 : Index := 0#32
  let c5_3088 : Index := 5#32
  let c0_3089 : Index := 0#32
  let c0_3090 : Index := 0#32
  ![v5155.toNat, 0, 5, 0, 0]
def k0_off273 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5159 : Index := Scalar.indexCast v4299
  let c0_3091 : Index := 0#32
  let c6_3092 : Index := 6#32
  let c0_3093 : Index := 0#32
  let c0_3094 : Index := 0#32
  ![v5159.toNat, 0, 6, 0, 0]
def k0_off274 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5163 : Index := Scalar.indexCast v4299
  let c0_3095 : Index := 0#32
  let c7_3096 : Index := 7#32
  let c0_3097 : Index := 0#32
  let c0_3098 : Index := 0#32
  ![v5163.toNat, 0, 7, 0, 0]
def k0_off275 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5167 : Index := Scalar.indexCast v4299
  let c0_3099 : Index := 0#32
  let c8_3100 : Index := 8#32
  let c0_3101 : Index := 0#32
  let c0_3102 : Index := 0#32
  ![v5167.toNat, 0, 8, 0, 0]
def k0_off276 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5171 : Index := Scalar.indexCast v4299
  let c0_3103 : Index := 0#32
  let c9_3104 : Index := 9#32
  let c0_3105 : Index := 0#32
  let c0_3106 : Index := 0#32
  ![v5171.toNat, 0, 9, 0, 0]
def k0_off277 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5175 : Index := Scalar.indexCast v4299
  let c0_3107 : Index := 0#32
  let c10_3108 : Index := 10#32
  let c0_3109 : Index := 0#32
  let c0_3110 : Index := 0#32
  ![v5175.toNat, 0, 10, 0, 0]
def k0_off278 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5179 : Index := Scalar.indexCast v4299
  let c0_3111 : Index := 0#32
  let c11_3112 : Index := 11#32
  let c0_3113 : Index := 0#32
  let c0_3114 : Index := 0#32
  ![v5179.toNat, 0, 11, 0, 0]
def k0_off279 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5183 : Index := Scalar.indexCast v4299
  let c0_3115 : Index := 0#32
  let c12_3116 : Index := 12#32
  let c0_3117 : Index := 0#32
  let c0_3118 : Index := 0#32
  ![v5183.toNat, 0, 12, 0, 0]
def k0_off280 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5187 : Index := Scalar.indexCast v4299
  let c0_3119 : Index := 0#32
  let c13_3120 : Index := 13#32
  let c0_3121 : Index := 0#32
  let c0_3122 : Index := 0#32
  ![v5187.toNat, 0, 13, 0, 0]
def k0_off281 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5191 : Index := Scalar.indexCast v4299
  let c0_3123 : Index := 0#32
  let c14_3124 : Index := 14#32
  let c0_3125 : Index := 0#32
  let c0_3126 : Index := 0#32
  ![v5191.toNat, 0, 14, 0, 0]
def k0_off282 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5195 : Index := Scalar.indexCast v4299
  let c0_3127 : Index := 0#32
  let c15_3128 : Index := 15#32
  let c0_3129 : Index := 0#32
  let c0_3130 : Index := 0#32
  ![v5195.toNat, 0, 15, 0, 0]
def k0_off283 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5199 : Index := Scalar.indexCast v4299
  let c0_3131 : Index := 0#32
  let c16_3132 : Index := 16#32
  let c0_3133 : Index := 0#32
  let c0_3134 : Index := 0#32
  ![v5199.toNat, 0, 16, 0, 0]
def k0_off284 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5203 : Index := Scalar.indexCast v4299
  let c0_3135 : Index := 0#32
  let c17_3136 : Index := 17#32
  let c0_3137 : Index := 0#32
  let c0_3138 : Index := 0#32
  ![v5203.toNat, 0, 17, 0, 0]
def k0_off285 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5207 : Index := Scalar.indexCast v4299
  let c0_3139 : Index := 0#32
  let c18_3140 : Index := 18#32
  let c0_3141 : Index := 0#32
  let c0_3142 : Index := 0#32
  ![v5207.toNat, 0, 18, 0, 0]
def k0_off286 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5211 : Index := Scalar.indexCast v4299
  let c0_3143 : Index := 0#32
  let c19_3144 : Index := 19#32
  let c0_3145 : Index := 0#32
  let c0_3146 : Index := 0#32
  ![v5211.toNat, 0, 19, 0, 0]
def k0_off287 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5215 : Index := Scalar.indexCast v4299
  let c0_3147 : Index := 0#32
  let c20_3148 : Index := 20#32
  let c0_3149 : Index := 0#32
  let c0_3150 : Index := 0#32
  ![v5215.toNat, 0, 20, 0, 0]
def k0_off288 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5219 : Index := Scalar.indexCast v4299
  let c0_3151 : Index := 0#32
  let c21_3152 : Index := 21#32
  let c0_3153 : Index := 0#32
  let c0_3154 : Index := 0#32
  ![v5219.toNat, 0, 21, 0, 0]
def k0_off289 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5223 : Index := Scalar.indexCast v4299
  let c0_3155 : Index := 0#32
  let c22_3156 : Index := 22#32
  let c0_3157 : Index := 0#32
  let c0_3158 : Index := 0#32
  ![v5223.toNat, 0, 22, 0, 0]
def k0_off290 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5227 : Index := Scalar.indexCast v4299
  let c0_3159 : Index := 0#32
  let c23_3160 : Index := 23#32
  let c0_3161 : Index := 0#32
  let c0_3162 : Index := 0#32
  ![v5227.toNat, 0, 23, 0, 0]
def k0_off291 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5231 : Index := Scalar.indexCast v4299
  let c0_3163 : Index := 0#32
  let c24_3164 : Index := 24#32
  let c0_3165 : Index := 0#32
  let c0_3166 : Index := 0#32
  ![v5231.toNat, 0, 24, 0, 0]
def k0_off292 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5235 : Index := Scalar.indexCast v4299
  let c0_3167 : Index := 0#32
  let c25_3168 : Index := 25#32
  let c0_3169 : Index := 0#32
  let c0_3170 : Index := 0#32
  ![v5235.toNat, 0, 25, 0, 0]
def k0_off293 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5239 : Index := Scalar.indexCast v4299
  let c0_3171 : Index := 0#32
  let c26_3172 : Index := 26#32
  let c0_3173 : Index := 0#32
  let c0_3174 : Index := 0#32
  ![v5239.toNat, 0, 26, 0, 0]
def k0_off294 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5243 : Index := Scalar.indexCast v4299
  let c0_3175 : Index := 0#32
  let c27_3176 : Index := 27#32
  let c0_3177 : Index := 0#32
  let c0_3178 : Index := 0#32
  ![v5243.toNat, 0, 27, 0, 0]
def k0_off295 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5247 : Index := Scalar.indexCast v4299
  let c0_3179 : Index := 0#32
  let c28_3180 : Index := 28#32
  let c0_3181 : Index := 0#32
  let c0_3182 : Index := 0#32
  ![v5247.toNat, 0, 28, 0, 0]
def k0_off296 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5251 : Index := Scalar.indexCast v4299
  let c0_3183 : Index := 0#32
  let c29_3184 : Index := 29#32
  let c0_3185 : Index := 0#32
  let c0_3186 : Index := 0#32
  ![v5251.toNat, 0, 29, 0, 0]
def k0_off297 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5255 : Index := Scalar.indexCast v4299
  let c0_3187 : Index := 0#32
  let c30_3188 : Index := 30#32
  let c0_3189 : Index := 0#32
  let c0_3190 : Index := 0#32
  ![v5255.toNat, 0, 30, 0, 0]
def k0_off298 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v5259 : Index := Scalar.indexCast v4299
  let c0_3191 : Index := 0#32
  let c31_3192 : Index := 31#32
  let c0_3193 : Index := 0#32
  let c0_3194 : Index := 0#32
  ![v5259.toNat, 0, 31, 0, 0]
def k0_off299 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6015 : Index := Scalar.indexCast v4299
  let c1_3435 : Index := 1#32
  let c0_3436 : Index := 0#32
  let c0_3437 : Index := 0#32
  let c0_3438 : Index := 0#32
  ![v6015.toNat, 1, 0, 0, 0]
def k0_off300 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6019 : Index := Scalar.indexCast v4299
  let c1_3439 : Index := 1#32
  let c1_3440 : Index := 1#32
  let c0_3441 : Index := 0#32
  let c0_3442 : Index := 0#32
  ![v6019.toNat, 1, 1, 0, 0]
def k0_off301 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6023 : Index := Scalar.indexCast v4299
  let c1_3443 : Index := 1#32
  let c2_3444 : Index := 2#32
  let c0_3445 : Index := 0#32
  let c0_3446 : Index := 0#32
  ![v6023.toNat, 1, 2, 0, 0]
def k0_off302 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6027 : Index := Scalar.indexCast v4299
  let c1_3447 : Index := 1#32
  let c3_3448 : Index := 3#32
  let c0_3449 : Index := 0#32
  let c0_3450 : Index := 0#32
  ![v6027.toNat, 1, 3, 0, 0]
def k0_off303 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6031 : Index := Scalar.indexCast v4299
  let c1_3451 : Index := 1#32
  let c4_3452 : Index := 4#32
  let c0_3453 : Index := 0#32
  let c0_3454 : Index := 0#32
  ![v6031.toNat, 1, 4, 0, 0]
def k0_off304 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6035 : Index := Scalar.indexCast v4299
  let c1_3455 : Index := 1#32
  let c5_3456 : Index := 5#32
  let c0_3457 : Index := 0#32
  let c0_3458 : Index := 0#32
  ![v6035.toNat, 1, 5, 0, 0]
def k0_off305 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6039 : Index := Scalar.indexCast v4299
  let c1_3459 : Index := 1#32
  let c6_3460 : Index := 6#32
  let c0_3461 : Index := 0#32
  let c0_3462 : Index := 0#32
  ![v6039.toNat, 1, 6, 0, 0]
def k0_off306 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6043 : Index := Scalar.indexCast v4299
  let c1_3463 : Index := 1#32
  let c7_3464 : Index := 7#32
  let c0_3465 : Index := 0#32
  let c0_3466 : Index := 0#32
  ![v6043.toNat, 1, 7, 0, 0]
def k0_off307 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6047 : Index := Scalar.indexCast v4299
  let c1_3467 : Index := 1#32
  let c8_3468 : Index := 8#32
  let c0_3469 : Index := 0#32
  let c0_3470 : Index := 0#32
  ![v6047.toNat, 1, 8, 0, 0]
def k0_off308 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6051 : Index := Scalar.indexCast v4299
  let c1_3471 : Index := 1#32
  let c9_3472 : Index := 9#32
  let c0_3473 : Index := 0#32
  let c0_3474 : Index := 0#32
  ![v6051.toNat, 1, 9, 0, 0]
def k0_off309 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6055 : Index := Scalar.indexCast v4299
  let c1_3475 : Index := 1#32
  let c10_3476 : Index := 10#32
  let c0_3477 : Index := 0#32
  let c0_3478 : Index := 0#32
  ![v6055.toNat, 1, 10, 0, 0]
def k0_off310 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6059 : Index := Scalar.indexCast v4299
  let c1_3479 : Index := 1#32
  let c11_3480 : Index := 11#32
  let c0_3481 : Index := 0#32
  let c0_3482 : Index := 0#32
  ![v6059.toNat, 1, 11, 0, 0]
def k0_off311 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6063 : Index := Scalar.indexCast v4299
  let c1_3483 : Index := 1#32
  let c12_3484 : Index := 12#32
  let c0_3485 : Index := 0#32
  let c0_3486 : Index := 0#32
  ![v6063.toNat, 1, 12, 0, 0]
def k0_off312 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6067 : Index := Scalar.indexCast v4299
  let c1_3487 : Index := 1#32
  let c13_3488 : Index := 13#32
  let c0_3489 : Index := 0#32
  let c0_3490 : Index := 0#32
  ![v6067.toNat, 1, 13, 0, 0]
def k0_off313 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6071 : Index := Scalar.indexCast v4299
  let c1_3491 : Index := 1#32
  let c14_3492 : Index := 14#32
  let c0_3493 : Index := 0#32
  let c0_3494 : Index := 0#32
  ![v6071.toNat, 1, 14, 0, 0]
def k0_off314 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6075 : Index := Scalar.indexCast v4299
  let c1_3495 : Index := 1#32
  let c15_3496 : Index := 15#32
  let c0_3497 : Index := 0#32
  let c0_3498 : Index := 0#32
  ![v6075.toNat, 1, 15, 0, 0]
def k0_off315 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6079 : Index := Scalar.indexCast v4299
  let c1_3499 : Index := 1#32
  let c16_3500 : Index := 16#32
  let c0_3501 : Index := 0#32
  let c0_3502 : Index := 0#32
  ![v6079.toNat, 1, 16, 0, 0]
def k0_off316 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6083 : Index := Scalar.indexCast v4299
  let c1_3503 : Index := 1#32
  let c17_3504 : Index := 17#32
  let c0_3505 : Index := 0#32
  let c0_3506 : Index := 0#32
  ![v6083.toNat, 1, 17, 0, 0]
def k0_off317 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6087 : Index := Scalar.indexCast v4299
  let c1_3507 : Index := 1#32
  let c18_3508 : Index := 18#32
  let c0_3509 : Index := 0#32
  let c0_3510 : Index := 0#32
  ![v6087.toNat, 1, 18, 0, 0]
def k0_off318 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6091 : Index := Scalar.indexCast v4299
  let c1_3511 : Index := 1#32
  let c19_3512 : Index := 19#32
  let c0_3513 : Index := 0#32
  let c0_3514 : Index := 0#32
  ![v6091.toNat, 1, 19, 0, 0]
def k0_off319 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6095 : Index := Scalar.indexCast v4299
  let c1_3515 : Index := 1#32
  let c20_3516 : Index := 20#32
  let c0_3517 : Index := 0#32
  let c0_3518 : Index := 0#32
  ![v6095.toNat, 1, 20, 0, 0]
def k0_off320 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6099 : Index := Scalar.indexCast v4299
  let c1_3519 : Index := 1#32
  let c21_3520 : Index := 21#32
  let c0_3521 : Index := 0#32
  let c0_3522 : Index := 0#32
  ![v6099.toNat, 1, 21, 0, 0]
def k0_off321 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6103 : Index := Scalar.indexCast v4299
  let c1_3523 : Index := 1#32
  let c22_3524 : Index := 22#32
  let c0_3525 : Index := 0#32
  let c0_3526 : Index := 0#32
  ![v6103.toNat, 1, 22, 0, 0]
def k0_off322 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6107 : Index := Scalar.indexCast v4299
  let c1_3527 : Index := 1#32
  let c23_3528 : Index := 23#32
  let c0_3529 : Index := 0#32
  let c0_3530 : Index := 0#32
  ![v6107.toNat, 1, 23, 0, 0]
def k0_off323 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6111 : Index := Scalar.indexCast v4299
  let c1_3531 : Index := 1#32
  let c24_3532 : Index := 24#32
  let c0_3533 : Index := 0#32
  let c0_3534 : Index := 0#32
  ![v6111.toNat, 1, 24, 0, 0]
def k0_off324 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6115 : Index := Scalar.indexCast v4299
  let c1_3535 : Index := 1#32
  let c25_3536 : Index := 25#32
  let c0_3537 : Index := 0#32
  let c0_3538 : Index := 0#32
  ![v6115.toNat, 1, 25, 0, 0]
def k0_off325 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6119 : Index := Scalar.indexCast v4299
  let c1_3539 : Index := 1#32
  let c26_3540 : Index := 26#32
  let c0_3541 : Index := 0#32
  let c0_3542 : Index := 0#32
  ![v6119.toNat, 1, 26, 0, 0]
def k0_off326 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6123 : Index := Scalar.indexCast v4299
  let c1_3543 : Index := 1#32
  let c27_3544 : Index := 27#32
  let c0_3545 : Index := 0#32
  let c0_3546 : Index := 0#32
  ![v6123.toNat, 1, 27, 0, 0]
def k0_off327 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6127 : Index := Scalar.indexCast v4299
  let c1_3547 : Index := 1#32
  let c28_3548 : Index := 28#32
  let c0_3549 : Index := 0#32
  let c0_3550 : Index := 0#32
  ![v6127.toNat, 1, 28, 0, 0]
def k0_off328 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6131 : Index := Scalar.indexCast v4299
  let c1_3551 : Index := 1#32
  let c29_3552 : Index := 29#32
  let c0_3553 : Index := 0#32
  let c0_3554 : Index := 0#32
  ![v6131.toNat, 1, 29, 0, 0]
def k0_off329 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6135 : Index := Scalar.indexCast v4299
  let c1_3555 : Index := 1#32
  let c30_3556 : Index := 30#32
  let c0_3557 : Index := 0#32
  let c0_3558 : Index := 0#32
  ![v6135.toNat, 1, 30, 0, 0]
def k0_off330 (i : grid0.Coords) : Fin 5 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v6139 : Index := Scalar.indexCast v4299
  let c1_3559 : Index := 1#32
  let c31_3560 : Index := 31#32
  let c0_3561 : Index := 0#32
  let c0_3562 : Index := 0#32
  ![v6139.toNat, 1, 31, 0, 0]
@[reducible] def k0_t3_loop (i : grid0.Coords) : Scf.Loop 32 :=
  let c0_i32_2790 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v4309 : BitVec 32 := Scalar.subi v4 c0_i32_2790
  let c1_i32_2791 : BitVec 32 := 1#32
  let v4311 : BitVec 32 := Scalar.divsi v4309 c1_i32_2791
  let v4312 : BitVec 32 := Scalar.muli v4311 c1_i32_2791
  let v4313 : BitVec 32 := Scalar.addi c0_i32_2790 v4312
  let c1_i32_2792 : BitVec 32 := 1#32
  ⟨c0_i32_2790, v4313, c1_i32_2792⟩
def k0_off331 (i : grid0.Coords) (k0_t3 : Fin (k0_t3_loop i).trips) : Fin 4 → Nat :=
  let c0_i32_2790 : BitVec 32 := 0#32
  let c1_i32_2792 : BitVec 32 := 1#32
  let arg17 : BitVec 32 := Scf.iv c0_i32_2790 c1_i32_2792 k0_t3
  let v4316 : Index := Scalar.indexCast arg17
  let c0_2794 : Index := 0#32
  let c0_2795 : Index := 0#32
  let c0_2796 : Index := 0#32
  ![v4316.toNat, 0, 0, 0]
@[reducible] def k0_t4_loop (i : grid0.Coords) : Scf.Loop 32 :=
  let c0_i32_2790 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v4309 : BitVec 32 := Scalar.subi v4 c0_i32_2790
  let c1_i32_2791 : BitVec 32 := 1#32
  let v4311 : BitVec 32 := Scalar.divsi v4309 c1_i32_2791
  let v4312 : BitVec 32 := Scalar.muli v4311 c1_i32_2791
  let v4313 : BitVec 32 := Scalar.addi c0_i32_2790 v4312
  let v4310 : BitVec 32 := Scalar.addi c0_i32_2790 v4309
  let c1_i32_2793 : BitVec 32 := 1#32
  ⟨v4313, v4310, c1_i32_2793⟩
def k0_off332 (i : grid0.Coords) (k0_t4 : Fin (k0_t4_loop i).trips) : Fin 4 → Nat :=
  let c0_i32_2790 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v4309 : BitVec 32 := Scalar.subi v4 c0_i32_2790
  let c1_i32_2791 : BitVec 32 := 1#32
  let v4311 : BitVec 32 := Scalar.divsi v4309 c1_i32_2791
  let v4312 : BitVec 32 := Scalar.muli v4311 c1_i32_2791
  let v4313 : BitVec 32 := Scalar.addi c0_i32_2790 v4312
  let c1_i32_2793 : BitVec 32 := 1#32
  let arg17 : BitVec 32 := Scf.iv v4313 c1_i32_2793 k0_t4
  let v4316 : Index := Scalar.indexCast arg17
  let c0_2794 : Index := 0#32
  let c0_2795 : Index := 0#32
  let c0_2796 : Index := 0#32
  ![v4316.toNat, 0, 0, 0]
@[reducible] def k0_t5_loop (i : grid0.Coords) : Scf.Loop 32 :=
  let c0_i32_2748 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2746 : BitVec 32 := 1#32
  let v4225 : BitVec 32 := Scalar.shrui v4 c1_i32_2746
  let v4226 : BitVec 32 := Scalar.subi v4225 c0_i32_2748
  let c1_i32_2749 : BitVec 32 := 1#32
  let v4228 : BitVec 32 := Scalar.divsi v4226 c1_i32_2749
  let v4229 : BitVec 32 := Scalar.muli v4228 c1_i32_2749
  let v4230 : BitVec 32 := Scalar.addi c0_i32_2748 v4229
  let c1_i32_2750 : BitVec 32 := 1#32
  ⟨c0_i32_2748, v4230, c1_i32_2750⟩
def k0_mult6 (i : grid0.Coords) (k0_t5 : Fin (k0_t5_loop i).trips) : BitVec 32 :=
  let c2_i32_2787 : BitVec 32 := 2#32
  let c0_i32_2748 : BitVec 32 := 0#32
  let c1_i32_2750 : BitVec 32 := 1#32
  let arg17 : BitVec 32 := Scf.iv c0_i32_2748 c1_i32_2750 k0_t5
  let v4299 : BitVec 32 := Scalar.muli c2_i32_2787 arg17
  let c512_i32_2788 : BitVec 32 := 512#32
  let v4300 : BitVec 32 := Scalar.muli v4299 c512_i32_2788
  v4300
def k0_off333 (i : grid0.Coords) (k0_t5 : Fin (k0_t5_loop i).trips) : Fin 2 → Nat :=
  let c2_i32_2787 : BitVec 32 := 2#32
  let c0_i32_2748 : BitVec 32 := 0#32
  let c1_i32_2750 : BitVec 32 := 1#32
  let arg17 : BitVec 32 := Scf.iv c0_i32_2748 c1_i32_2750 k0_t5
  let v4299 : BitVec 32 := Scalar.muli c2_i32_2787 arg17
  let c512_i32_2788 : BitVec 32 := 512#32
  let v4300 : BitVec 32 := Scalar.muli v4299 c512_i32_2788
  let v4301 : BitVec 32 := v4300
  let v4302 : Index := Scalar.indexCast v4301
  let c0_2789 : Index := 0#32
  ![v4302.toNat, 0]
def k0_mult7 (i : grid0.Coords) (k0_t5 : Fin (k0_t5_loop i).trips) : BitVec 32 :=
  let c2_i32_2814 : BitVec 32 := 2#32
  let c0_i32_2748 : BitVec 32 := 0#32
  let c1_i32_2750 : BitVec 32 := 1#32
  let arg17 : BitVec 32 := Scf.iv c0_i32_2748 c1_i32_2750 k0_t5
  let v4320 : BitVec 32 := Scalar.muli c2_i32_2814 arg17
  let c1_i32_2815 : BitVec 32 := 1#32
  let v4321 : BitVec 32 := Scalar.addi v4320 c1_i32_2815
  let c512_i32_2816 : BitVec 32 := 512#32
  let v4322 : BitVec 32 := Scalar.muli v4321 c512_i32_2816
  v4322
def k0_off334 (i : grid0.Coords) (k0_t5 : Fin (k0_t5_loop i).trips) : Fin 2 → Nat :=
  let c2_i32_2814 : BitVec 32 := 2#32
  let c0_i32_2748 : BitVec 32 := 0#32
  let c1_i32_2750 : BitVec 32 := 1#32
  let arg17 : BitVec 32 := Scf.iv c0_i32_2748 c1_i32_2750 k0_t5
  let v4320 : BitVec 32 := Scalar.muli c2_i32_2814 arg17
  let c1_i32_2815 : BitVec 32 := 1#32
  let v4321 : BitVec 32 := Scalar.addi v4320 c1_i32_2815
  let c512_i32_2816 : BitVec 32 := 512#32
  let v4322 : BitVec 32 := Scalar.muli v4321 c512_i32_2816
  let v4323 : BitVec 32 := v4322
  let v4324 : Index := Scalar.indexCast v4323
  let c0_2817 : Index := 0#32
  ![v4324.toNat, 0]
def k0_off335 (i : grid0.Coords) (k0_t5 : Fin (k0_t5_loop i).trips) : Fin 3 → Nat :=
  let c2_i32_2842 : BitVec 32 := 2#32
  let c0_i32_2748 : BitVec 32 := 0#32
  let c1_i32_2750 : BitVec 32 := 1#32
  let arg17 : BitVec 32 := Scf.iv c0_i32_2748 c1_i32_2750 k0_t5
  let v4342 : BitVec 32 := Scalar.muli c2_i32_2842 arg17
  let v4343 : Index := Scalar.indexCast v4342
  let c0_2843 : Index := 0#32
  let c0_2844 : Index := 0#32
  ![v4343.toNat, 0, 0]
def k0_off336 (i : grid0.Coords) (k0_t5 : Fin (k0_t5_loop i).trips) : Fin 4 → Nat :=
  let c2_i32_2842 : BitVec 32 := 2#32
  let c0_i32_2748 : BitVec 32 := 0#32
  let c1_i32_2750 : BitVec 32 := 1#32
  let arg17 : BitVec 32 := Scf.iv c0_i32_2748 c1_i32_2750 k0_t5
  let v4342 : BitVec 32 := Scalar.muli c2_i32_2842 arg17
  let v4346 : Index := Scalar.indexCast v4342
  let c0_2845 : Index := 0#32
  let c0_2846 : Index := 0#32
  let c0_2847 : Index := 0#32
  ![v4346.toNat, 0, 0, 0]
def k0_off337 (i : grid0.Coords) (k0_t5 : Fin (k0_t5_loop i).trips) : Fin 3 → Nat :=
  let c2_i32_2968 : BitVec 32 := 2#32
  let c0_i32_2748 : BitVec 32 := 0#32
  let c1_i32_2750 : BitVec 32 := 1#32
  let arg17 : BitVec 32 := Scf.iv c0_i32_2748 c1_i32_2750 k0_t5
  let v4551 : BitVec 32 := Scalar.muli c2_i32_2968 arg17
  let c1_i32_2969 : BitVec 32 := 1#32
  let v4552 : BitVec 32 := Scalar.addi v4551 c1_i32_2969
  let v4553 : Index := Scalar.indexCast v4552
  let c0_2970 : Index := 0#32
  let c0_2971 : Index := 0#32
  ![v4553.toNat, 0, 0]
def k0_off338 (i : grid0.Coords) (k0_t5 : Fin (k0_t5_loop i).trips) : Fin 4 → Nat :=
  let c2_i32_2968 : BitVec 32 := 2#32
  let c0_i32_2748 : BitVec 32 := 0#32
  let c1_i32_2750 : BitVec 32 := 1#32
  let arg17 : BitVec 32 := Scf.iv c0_i32_2748 c1_i32_2750 k0_t5
  let v4551 : BitVec 32 := Scalar.muli c2_i32_2968 arg17
  let c1_i32_2969 : BitVec 32 := 1#32
  let v4552 : BitVec 32 := Scalar.addi v4551 c1_i32_2969
  let v4556 : Index := Scalar.indexCast v4552
  let c0_2972 : Index := 0#32
  let c0_2973 : Index := 0#32
  let c0_2974 : Index := 0#32
  ![v4556.toNat, 0, 0, 0]
@[reducible] def k0_t6_loop (i : grid0.Coords) : Scf.Loop 32 :=
  let c0_i32_2748 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2746 : BitVec 32 := 1#32
  let v4225 : BitVec 32 := Scalar.shrui v4 c1_i32_2746
  let v4226 : BitVec 32 := Scalar.subi v4225 c0_i32_2748
  let c1_i32_2749 : BitVec 32 := 1#32
  let v4228 : BitVec 32 := Scalar.divsi v4226 c1_i32_2749
  let v4229 : BitVec 32 := Scalar.muli v4228 c1_i32_2749
  let v4230 : BitVec 32 := Scalar.addi c0_i32_2748 v4229
  let v4227 : BitVec 32 := Scalar.addi c0_i32_2748 v4226
  let c1_i32_2751 : BitVec 32 := 1#32
  ⟨v4230, v4227, c1_i32_2751⟩
def k0_mult8 (i : grid0.Coords) (k0_t6 : Fin (k0_t6_loop i).trips) : BitVec 32 :=
  let c2_i32_2787 : BitVec 32 := 2#32
  let c0_i32_2748 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2746 : BitVec 32 := 1#32
  let v4225 : BitVec 32 := Scalar.shrui v4 c1_i32_2746
  let v4226 : BitVec 32 := Scalar.subi v4225 c0_i32_2748
  let c1_i32_2749 : BitVec 32 := 1#32
  let v4228 : BitVec 32 := Scalar.divsi v4226 c1_i32_2749
  let v4229 : BitVec 32 := Scalar.muli v4228 c1_i32_2749
  let v4230 : BitVec 32 := Scalar.addi c0_i32_2748 v4229
  let c1_i32_2751 : BitVec 32 := 1#32
  let arg17 : BitVec 32 := Scf.iv v4230 c1_i32_2751 k0_t6
  let v4299 : BitVec 32 := Scalar.muli c2_i32_2787 arg17
  let c512_i32_2788 : BitVec 32 := 512#32
  let v4300 : BitVec 32 := Scalar.muli v4299 c512_i32_2788
  v4300
def k0_off339 (i : grid0.Coords) (k0_t6 : Fin (k0_t6_loop i).trips) : Fin 2 → Nat :=
  let c2_i32_2787 : BitVec 32 := 2#32
  let c0_i32_2748 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2746 : BitVec 32 := 1#32
  let v4225 : BitVec 32 := Scalar.shrui v4 c1_i32_2746
  let v4226 : BitVec 32 := Scalar.subi v4225 c0_i32_2748
  let c1_i32_2749 : BitVec 32 := 1#32
  let v4228 : BitVec 32 := Scalar.divsi v4226 c1_i32_2749
  let v4229 : BitVec 32 := Scalar.muli v4228 c1_i32_2749
  let v4230 : BitVec 32 := Scalar.addi c0_i32_2748 v4229
  let c1_i32_2751 : BitVec 32 := 1#32
  let arg17 : BitVec 32 := Scf.iv v4230 c1_i32_2751 k0_t6
  let v4299 : BitVec 32 := Scalar.muli c2_i32_2787 arg17
  let c512_i32_2788 : BitVec 32 := 512#32
  let v4300 : BitVec 32 := Scalar.muli v4299 c512_i32_2788
  let v4301 : BitVec 32 := v4300
  let v4302 : Index := Scalar.indexCast v4301
  let c0_2789 : Index := 0#32
  ![v4302.toNat, 0]
def k0_mult9 (i : grid0.Coords) (k0_t6 : Fin (k0_t6_loop i).trips) : BitVec 32 :=
  let c2_i32_2814 : BitVec 32 := 2#32
  let c0_i32_2748 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2746 : BitVec 32 := 1#32
  let v4225 : BitVec 32 := Scalar.shrui v4 c1_i32_2746
  let v4226 : BitVec 32 := Scalar.subi v4225 c0_i32_2748
  let c1_i32_2749 : BitVec 32 := 1#32
  let v4228 : BitVec 32 := Scalar.divsi v4226 c1_i32_2749
  let v4229 : BitVec 32 := Scalar.muli v4228 c1_i32_2749
  let v4230 : BitVec 32 := Scalar.addi c0_i32_2748 v4229
  let c1_i32_2751 : BitVec 32 := 1#32
  let arg17 : BitVec 32 := Scf.iv v4230 c1_i32_2751 k0_t6
  let v4320 : BitVec 32 := Scalar.muli c2_i32_2814 arg17
  let c1_i32_2815 : BitVec 32 := 1#32
  let v4321 : BitVec 32 := Scalar.addi v4320 c1_i32_2815
  let c512_i32_2816 : BitVec 32 := 512#32
  let v4322 : BitVec 32 := Scalar.muli v4321 c512_i32_2816
  v4322
def k0_off340 (i : grid0.Coords) (k0_t6 : Fin (k0_t6_loop i).trips) : Fin 2 → Nat :=
  let c2_i32_2814 : BitVec 32 := 2#32
  let c0_i32_2748 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2746 : BitVec 32 := 1#32
  let v4225 : BitVec 32 := Scalar.shrui v4 c1_i32_2746
  let v4226 : BitVec 32 := Scalar.subi v4225 c0_i32_2748
  let c1_i32_2749 : BitVec 32 := 1#32
  let v4228 : BitVec 32 := Scalar.divsi v4226 c1_i32_2749
  let v4229 : BitVec 32 := Scalar.muli v4228 c1_i32_2749
  let v4230 : BitVec 32 := Scalar.addi c0_i32_2748 v4229
  let c1_i32_2751 : BitVec 32 := 1#32
  let arg17 : BitVec 32 := Scf.iv v4230 c1_i32_2751 k0_t6
  let v4320 : BitVec 32 := Scalar.muli c2_i32_2814 arg17
  let c1_i32_2815 : BitVec 32 := 1#32
  let v4321 : BitVec 32 := Scalar.addi v4320 c1_i32_2815
  let c512_i32_2816 : BitVec 32 := 512#32
  let v4322 : BitVec 32 := Scalar.muli v4321 c512_i32_2816
  let v4323 : BitVec 32 := v4322
  let v4324 : Index := Scalar.indexCast v4323
  let c0_2817 : Index := 0#32
  ![v4324.toNat, 0]
def k0_off341 (i : grid0.Coords) (k0_t6 : Fin (k0_t6_loop i).trips) : Fin 3 → Nat :=
  let c2_i32_2842 : BitVec 32 := 2#32
  let c0_i32_2748 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2746 : BitVec 32 := 1#32
  let v4225 : BitVec 32 := Scalar.shrui v4 c1_i32_2746
  let v4226 : BitVec 32 := Scalar.subi v4225 c0_i32_2748
  let c1_i32_2749 : BitVec 32 := 1#32
  let v4228 : BitVec 32 := Scalar.divsi v4226 c1_i32_2749
  let v4229 : BitVec 32 := Scalar.muli v4228 c1_i32_2749
  let v4230 : BitVec 32 := Scalar.addi c0_i32_2748 v4229
  let c1_i32_2751 : BitVec 32 := 1#32
  let arg17 : BitVec 32 := Scf.iv v4230 c1_i32_2751 k0_t6
  let v4342 : BitVec 32 := Scalar.muli c2_i32_2842 arg17
  let v4343 : Index := Scalar.indexCast v4342
  let c0_2843 : Index := 0#32
  let c0_2844 : Index := 0#32
  ![v4343.toNat, 0, 0]
def k0_off342 (i : grid0.Coords) (k0_t6 : Fin (k0_t6_loop i).trips) : Fin 4 → Nat :=
  let c2_i32_2842 : BitVec 32 := 2#32
  let c0_i32_2748 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2746 : BitVec 32 := 1#32
  let v4225 : BitVec 32 := Scalar.shrui v4 c1_i32_2746
  let v4226 : BitVec 32 := Scalar.subi v4225 c0_i32_2748
  let c1_i32_2749 : BitVec 32 := 1#32
  let v4228 : BitVec 32 := Scalar.divsi v4226 c1_i32_2749
  let v4229 : BitVec 32 := Scalar.muli v4228 c1_i32_2749
  let v4230 : BitVec 32 := Scalar.addi c0_i32_2748 v4229
  let c1_i32_2751 : BitVec 32 := 1#32
  let arg17 : BitVec 32 := Scf.iv v4230 c1_i32_2751 k0_t6
  let v4342 : BitVec 32 := Scalar.muli c2_i32_2842 arg17
  let v4346 : Index := Scalar.indexCast v4342
  let c0_2845 : Index := 0#32
  let c0_2846 : Index := 0#32
  let c0_2847 : Index := 0#32
  ![v4346.toNat, 0, 0, 0]
def k0_off343 (i : grid0.Coords) (k0_t6 : Fin (k0_t6_loop i).trips) : Fin 3 → Nat :=
  let c2_i32_2968 : BitVec 32 := 2#32
  let c0_i32_2748 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2746 : BitVec 32 := 1#32
  let v4225 : BitVec 32 := Scalar.shrui v4 c1_i32_2746
  let v4226 : BitVec 32 := Scalar.subi v4225 c0_i32_2748
  let c1_i32_2749 : BitVec 32 := 1#32
  let v4228 : BitVec 32 := Scalar.divsi v4226 c1_i32_2749
  let v4229 : BitVec 32 := Scalar.muli v4228 c1_i32_2749
  let v4230 : BitVec 32 := Scalar.addi c0_i32_2748 v4229
  let c1_i32_2751 : BitVec 32 := 1#32
  let arg17 : BitVec 32 := Scf.iv v4230 c1_i32_2751 k0_t6
  let v4551 : BitVec 32 := Scalar.muli c2_i32_2968 arg17
  let c1_i32_2969 : BitVec 32 := 1#32
  let v4552 : BitVec 32 := Scalar.addi v4551 c1_i32_2969
  let v4553 : Index := Scalar.indexCast v4552
  let c0_2970 : Index := 0#32
  let c0_2971 : Index := 0#32
  ![v4553.toNat, 0, 0]
def k0_off344 (i : grid0.Coords) (k0_t6 : Fin (k0_t6_loop i).trips) : Fin 4 → Nat :=
  let c2_i32_2968 : BitVec 32 := 2#32
  let c0_i32_2748 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2746 : BitVec 32 := 1#32
  let v4225 : BitVec 32 := Scalar.shrui v4 c1_i32_2746
  let v4226 : BitVec 32 := Scalar.subi v4225 c0_i32_2748
  let c1_i32_2749 : BitVec 32 := 1#32
  let v4228 : BitVec 32 := Scalar.divsi v4226 c1_i32_2749
  let v4229 : BitVec 32 := Scalar.muli v4228 c1_i32_2749
  let v4230 : BitVec 32 := Scalar.addi c0_i32_2748 v4229
  let c1_i32_2751 : BitVec 32 := 1#32
  let arg17 : BitVec 32 := Scf.iv v4230 c1_i32_2751 k0_t6
  let v4551 : BitVec 32 := Scalar.muli c2_i32_2968 arg17
  let c1_i32_2969 : BitVec 32 := 1#32
  let v4552 : BitVec 32 := Scalar.addi v4551 c1_i32_2969
  let v4556 : Index := Scalar.indexCast v4552
  let c0_2972 : Index := 0#32
  let c0_2973 : Index := 0#32
  let c0_2974 : Index := 0#32
  ![v4556.toNat, 0, 0, 0]
def k0_cond4 (i : grid0.Coords) : BitVec 1 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2752 : BitVec 32 := 1#32
  let v4231 : BitVec 32 := Scalar.andi v4 c1_i32_2752
  let c1_i32_2753 : BitVec 32 := 1#32
  let v4232 : BitVec 1 := Scalar.cmpi .eq v4231 c1_i32_2753
  let v4233 : BitVec 32 := Scalar.extui v4232
  let c0_i32_2754 : BitVec 32 := 0#32
  let v4234 : BitVec 1 := Scalar.cmpi .ne v4233 c0_i32_2754
  v4234

def k0_mult10 (i : grid0.Coords) : BitVec 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2788 : BitVec 32 := 1#32
  let v4300 : BitVec 32 := Scalar.subi v4 c1_i32_2788
  let c512_i32_2789 : BitVec 32 := 512#32
  let v4301 : BitVec 32 := Scalar.muli v4300 c512_i32_2789
  v4301
def k0_off345 (i : grid0.Coords) : Fin 2 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2788 : BitVec 32 := 1#32
  let v4300 : BitVec 32 := Scalar.subi v4 c1_i32_2788
  let c512_i32_2789 : BitVec 32 := 512#32
  let v4301 : BitVec 32 := Scalar.muli v4300 c512_i32_2789
  let v4302 : BitVec 32 := v4301
  let v4303 : Index := Scalar.indexCast v4302
  let c0_2790 : Index := 0#32
  ![v4303.toNat, 0]
def k0_off346 (i : grid0.Coords) : Fin 3 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v4321 : Index := Scalar.indexCast v4299
  let c0_2815 : Index := 0#32
  let c0_2816 : Index := 0#32
  ![v4321.toNat, 0, 0]
def k0_off347 (i : grid0.Coords) : Fin 4 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let c1_i32_2787 : BitVec 32 := 1#32
  let v4299 : BitVec 32 := Scalar.subi v4 c1_i32_2787
  let v4324 : Index := Scalar.indexCast v4299
  let c0_2817 : Index := 0#32
  let c0_2818 : Index := 0#32
  let c0_2819 : Index := 0#32
  ![v4324.toNat, 0, 0, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Plain.lean ====
abbrev S65536x1280 : Shape := ⟨2, ![65536, 1280]⟩
abbrev S65536x640 : Shape := ⟨2, ![65536, 640]⟩
abbrev S128x64x512 : Shape := ⟨3, ![128, 64, 512]⟩
abbrev S2048x64 : Shape := ⟨2, ![2048, 64]⟩
abbrev S4096x128 : Shape := ⟨2, ![4096, 128]⟩
abbrev S65536x512 : Shape := ⟨2, ![65536, 512]⟩
abbrev S8x512x256 : Shape := ⟨3, ![8, 512, 256]⟩
abbrev S512x256 : Shape := ⟨2, ![512, 256]⟩
abbrev S256x128 : Shape := ⟨2, ![256, 128]⟩
abbrev S128x256 : Shape := ⟨2, ![128, 256]⟩
abbrev S512x64 : Shape := ⟨2, ![512, 64]⟩
abbrev S256x64 : Shape := ⟨2, ![256, 64]⟩
abbrev S1x256 : Shape := ⟨2, ![1, 256]⟩
abbrev S1x512x256 : Shape := ⟨3, ![1, 512, 256]⟩
abbrev S1x1x256 : Shape := ⟨3, ![1, 1, 256]⟩
abbrev S256 : Shape := ⟨1, ![256]⟩
abbrev S1 : Shape := ⟨1, ![1]⟩
abbrev S1x1x1 : Shape := ⟨3, ![1, 1, 1]⟩
abbrev S512x512 : Shape := ⟨2, ![512, 512]⟩
abbrev S80x256 : Shape := ⟨2, ![80, 256]⟩
abbrev S512x128 : Shape := ⟨2, ![512, 128]⟩
abbrev S1x64x512 : Shape := ⟨3, ![1, 64, 512]⟩
abbrev S64x512 : Shape := ⟨2, ![64, 512]⟩
abbrev S16x512 : Shape := ⟨2, ![16, 512]⟩
abbrev S80x512 : Shape := ⟨2, ![80, 512]⟩
abbrev S64x256 : Shape := ⟨2, ![64, 256]⟩
abbrev S256x512 : Shape := ⟨2, ![256, 512]⟩

abbrev nBuf : Space → Nat
  | .hbm => 6
  | .vmem => 7
  | .smem => 0
  | _ => 0

abbrev bufTy : (tb : Table) → Fin (tcTables nBuf tb) → BufTy
  | .hbm, ⟨0, _⟩ => ⟨S65536x1280, .bf16⟩
  | .hbm, ⟨1, _⟩ => ⟨S65536x640, .f32⟩
  | .hbm, ⟨2, _⟩ => ⟨S128x64x512, .bf16⟩
  | .hbm, ⟨3, _⟩ => ⟨S2048x64, .bf16⟩
  | .hbm, ⟨4, _⟩ => ⟨S4096x128, .bf16⟩
  | .hbm, ⟨5, _⟩ => ⟨S65536x512, .bf16⟩
  | .local _ .vmem, ⟨0, _⟩ => ⟨S65536x1280, .bf16⟩
  | .local _ .vmem, ⟨1, _⟩ => ⟨S65536x640, .f32⟩
  | .local _ .vmem, ⟨2, _⟩ => ⟨S128x64x512, .bf16⟩
  | .local _ .vmem, ⟨3, _⟩ => ⟨S2048x64, .bf16⟩
  | .local _ .vmem, ⟨4, _⟩ => ⟨S4096x128, .bf16⟩
  | .local _ .vmem, ⟨5, _⟩ => ⟨S65536x512, .bf16⟩
  | .local _ .vmem, ⟨6, _⟩ => ⟨S8x512x256, .i32⟩
  | _, _ => ⟨S65536x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c16_i32 : BitVec 32 := 16#32
  let v2 : BitVec 32 := Scalar.addi c0_i32 c16_i32
  let c1_i32 : BitVec 32 := 1#32
  ⟨c0_i32, v2, c1_i32⟩
@[reducible] def k0_t2_loop : Scf.Loop 32 :=
  let c0_i32_1 : BitVec 32 := 0#32
  let c16_i32_2 : BitVec 32 := 16#32
  let v3 : BitVec 32 := Scalar.addi c0_i32_1 c16_i32_2
  let c1_i32_3 : BitVec 32 := 1#32
  ⟨c0_i32_1, v3, c1_i32_3⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  v4
def k0_mult2 (k0_t1 : Fin k0_t1_loop.trips) (k0_t2 : Fin k0_t2_loop.trips) : BitVec 32 :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_1 : BitVec 32 := 0#32
  let c1_i32_3 : BitVec 32 := 1#32
  let arg8 : BitVec 32 := Scf.iv c0_i32_1 c1_i32_3 k0_t2
  let c256_i32 : BitVec 32 := 256#32
  let v6 : BitVec 32 := Scalar.muli arg8 c256_i32
  let v7 : BitVec 32 := Scalar.addi v5 v6
  v7
def k0_off1 (k0_t1 : Fin k0_t1_loop.trips) (k0_t2 : Fin k0_t2_loop.trips) : Fin 2 → Nat :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_1 : BitVec 32 := 0#32
  let c1_i32_3 : BitVec 32 := 1#32
  let arg8 : BitVec 32 := Scf.iv c0_i32_1 c1_i32_3 k0_t2
  let c256_i32 : BitVec 32 := 256#32
  let v6 : BitVec 32 := Scalar.muli arg8 c256_i32
  let v7 : BitVec 32 := Scalar.addi v5 v6
  let v8 : BitVec 32 := v7
  let v9 : Index := Scalar.indexCast v8
  let c512 : Index := 512#32
  ![v9.toNat, 512]
@[reducible] def k0_t3_loop : Scf.Loop 32 :=
  let c0_i32_5 : BitVec 32 := 0#32
  let c8_i32 : BitVec 32 := 8#32
  let v14 : BitVec 32 := Scalar.addi c0_i32_5 c8_i32
  let c1_i32_6 : BitVec 32 := 1#32
  ⟨c0_i32_5, v14, c1_i32_6⟩
def k0_mult3 (k0_t1 : Fin k0_t1_loop.trips) (k0_t3 : Fin k0_t3_loop.trips) : BitVec 32 :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_5 : BitVec 32 := 0#32
  let c1_i32_6 : BitVec 32 := 1#32
  let arg9 : BitVec 32 := Scf.iv c0_i32_5 c1_i32_6 k0_t3
  let c512_i32 : BitVec 32 := 512#32
  let v155 : BitVec 32 := Scalar.muli arg9 c512_i32
  let v156 : BitVec 32 := Scalar.addi v5 v155
  v156
def k0_off2 (k0_t1 : Fin k0_t1_loop.trips) (k0_t3 : Fin k0_t3_loop.trips) : Fin 2 → Nat :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_5 : BitVec 32 := 0#32
  let c1_i32_6 : BitVec 32 := 1#32
  let arg9 : BitVec 32 := Scf.iv c0_i32_5 c1_i32_6 k0_t3
  let c512_i32 : BitVec 32 := 512#32
  let v155 : BitVec 32 := Scalar.muli arg9 c512_i32
  let v156 : BitVec 32 := Scalar.addi v5 v155
  let v157 : BitVec 32 := v156
  let v158 : Index := Scalar.indexCast v157
  let c1152 : Index := 1152#32
  ![v158.toNat, 1152]
def k0_off3 (k0_t1 : Fin k0_t1_loop.trips) (k0_t2 : Fin k0_t2_loop.trips) : Fin 2 → Nat :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_1 : BitVec 32 := 0#32
  let c1_i32_3 : BitVec 32 := 1#32
  let arg8 : BitVec 32 := Scf.iv c0_i32_1 c1_i32_3 k0_t2
  let c256_i32 : BitVec 32 := 256#32
  let v6 : BitVec 32 := Scalar.muli arg8 c256_i32
  let v7 : BitVec 32 := Scalar.addi v5 v6
  let v8 : BitVec 32 := v7
  let v161 : Index := Scalar.indexCast v8
  let c512_89 : Index := 512#32
  ![v161.toNat, 512]
def k0_off4 (k0_t1 : Fin k0_t1_loop.trips) (k0_t2 : Fin k0_t2_loop.trips) : Fin 2 → Nat :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_1 : BitVec 32 := 0#32
  let c1_i32_3 : BitVec 32 := 1#32
  let arg8 : BitVec 32 := Scf.iv c0_i32_1 c1_i32_3 k0_t2
  let c256_i32 : BitVec 32 := 256#32
  let v6 : BitVec 32 := Scalar.muli arg8 c256_i32
  let v7 : BitVec 32 := Scalar.addi v5 v6
  let v8 : BitVec 32 := v7
  let v170 : Index := Scalar.indexCast v8
  let c576 : Index := 576#32
  ![v170.toNat, 576]
def k0_off5 (k0_t1 : Fin k0_t1_loop.trips) (k0_t2 : Fin k0_t2_loop.trips) : Fin 2 → Nat :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_1 : BitVec 32 := 0#32
  let c1_i32_3 : BitVec 32 := 1#32
  let arg8 : BitVec 32 := Scf.iv c0_i32_1 c1_i32_3 k0_t2
  let c256_i32 : BitVec 32 := 256#32
  let v6 : BitVec 32 := Scalar.muli arg8 c256_i32
  let v7 : BitVec 32 := Scalar.addi v5 v6
  let v8 : BitVec 32 := v7
  let v179 : Index := Scalar.indexCast v8
  let c640 : Index := 640#32
  ![v179.toNat, 640]
def k0_off6 (k0_t1 : Fin k0_t1_loop.trips) (k0_t2 : Fin k0_t2_loop.trips) : Fin 2 → Nat :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_1 : BitVec 32 := 0#32
  let c1_i32_3 : BitVec 32 := 1#32
  let arg8 : BitVec 32 := Scf.iv c0_i32_1 c1_i32_3 k0_t2
  let c256_i32 : BitVec 32 := 256#32
  let v6 : BitVec 32 := Scalar.muli arg8 c256_i32
  let v7 : BitVec 32 := Scalar.addi v5 v6
  let v8 : BitVec 32 := v7
  let v188 : Index := Scalar.indexCast v8
  let c704 : Index := 704#32
  ![v188.toNat, 704]
def k0_off7 (k0_t1 : Fin k0_t1_loop.trips) (k0_t2 : Fin k0_t2_loop.trips) : Fin 2 → Nat :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_1 : BitVec 32 := 0#32
  let c1_i32_3 : BitVec 32 := 1#32
  let arg8 : BitVec 32 := Scf.iv c0_i32_1 c1_i32_3 k0_t2
  let c256_i32 : BitVec 32 := 256#32
  let v6 : BitVec 32 := Scalar.muli arg8 c256_i32
  let v7 : BitVec 32 := Scalar.addi v5 v6
  let v8 : BitVec 32 := v7
  let v197 : Index := Scalar.indexCast v8
  let c768_98 : Index := 768#32
  ![v197.toNat, 768]
def k0_off8 (k0_t1 : Fin k0_t1_loop.trips) (k0_t2 : Fin k0_t2_loop.trips) : Fin 2 → Nat :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_1 : BitVec 32 := 0#32
  let c1_i32_3 : BitVec 32 := 1#32
  let arg8 : BitVec 32 := Scf.iv c0_i32_1 c1_i32_3 k0_t2
  let c256_i32 : BitVec 32 := 256#32
  let v6 : BitVec 32 := Scalar.muli arg8 c256_i32
  let v7 : BitVec 32 := Scalar.addi v5 v6
  let v8 : BitVec 32 := v7
  let v206 : Index := Scalar.indexCast v8
  let c832 : Index := 832#32
  ![v206.toNat, 832]
def k0_off9 (k0_t1 : Fin k0_t1_loop.trips) (k0_t2 : Fin k0_t2_loop.trips) : Fin 2 → Nat :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_1 : BitVec 32 := 0#32
  let c1_i32_3 : BitVec 32 := 1#32
  let arg8 : BitVec 32 := Scf.iv c0_i32_1 c1_i32_3 k0_t2
  let c256_i32 : BitVec 32 := 256#32
  let v6 : BitVec 32 := Scalar.muli arg8 c256_i32
  let v7 : BitVec 32 := Scalar.addi v5 v6
  let v8 : BitVec 32 := v7
  let v215 : Index := Scalar.indexCast v8
  let c896 : Index := 896#32
  ![v215.toNat, 896]
def k0_off10 (k0_t1 : Fin k0_t1_loop.trips) (k0_t2 : Fin k0_t2_loop.trips) : Fin 2 → Nat :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_1 : BitVec 32 := 0#32
  let c1_i32_3 : BitVec 32 := 1#32
  let arg8 : BitVec 32 := Scf.iv c0_i32_1 c1_i32_3 k0_t2
  let c256_i32 : BitVec 32 := 256#32
  let v6 : BitVec 32 := Scalar.muli arg8 c256_i32
  let v7 : BitVec 32 := Scalar.addi v5 v6
  let v8 : BitVec 32 := v7
  let v224 : Index := Scalar.indexCast v8
  let c960 : Index := 960#32
  ![v224.toNat, 960]
def k0_off11 (k0_t3 : Fin k0_t3_loop.trips) : Fin 3 → Nat :=
  let c0_i32_5 : BitVec 32 := 0#32
  let c1_i32_6 : BitVec 32 := 1#32
  let arg9 : BitVec 32 := Scf.iv c0_i32_5 c1_i32_6 k0_t3
  let v248 : Index := Scalar.indexCast arg9
  let c0_111 : Index := 0#32
  let c0_112 : Index := 0#32
  ![v248.toNat, 0, 0]
@[reducible] def k0_t4_loop : Scf.Loop 32 :=
  let c0_i32_8 : BitVec 32 := 0#32
  let c8_i32_9 : BitVec 32 := 8#32
  let v16 : BitVec 32 := Scalar.addi c0_i32_8 c8_i32_9
  let c1_i32_10 : BitVec 32 := 1#32
  ⟨c0_i32_8, v16, c1_i32_10⟩
@[reducible] def k0_t5_loop : Scf.Loop 32 :=
  let c0_i32_88 : BitVec 32 := 0#32
  let c512_i32 : BitVec 32 := 512#32
  let v155 : BitVec 32 := Scalar.addi c0_i32_88 c512_i32
  let c1_i32_89 : BitVec 32 := 1#32
  ⟨c0_i32_88, v155, c1_i32_89⟩
def k0_off12 (k0_t4 : Fin k0_t4_loop.trips) (k0_t5 : Fin k0_t5_loop.trips) : Fin 3 → Nat :=
  let c0_i32_8 : BitVec 32 := 0#32
  let c1_i32_10 : BitVec 32 := 1#32
  let arg9 : BitVec 32 := Scf.iv c0_i32_8 c1_i32_10 k0_t4
  let v157 : Index := Scalar.indexCast arg9
  let c0_i32_88 : BitVec 32 := 0#32
  let c1_i32_89 : BitVec 32 := 1#32
  let arg11 : BitVec 32 := Scf.iv c0_i32_88 c1_i32_89 k0_t5
  let v158 : Index := Scalar.indexCast arg11
  let c0_91 : Index := 0#32
  ![v157.toNat, v158.toNat, 0]
@[reducible] def k0_t6_loop : Scf.Loop 32 :=
  let c0_i32_93 : BitVec 32 := 0#32
  let c8_i32_94 : BitVec 32 := 8#32
  let v162 : BitVec 32 := Scalar.addi c0_i32_93 c8_i32_94
  let c1_i32_95 : BitVec 32 := 1#32
  ⟨c0_i32_93, v162, c1_i32_95⟩
def k0_off13 (k0_t6 : Fin k0_t6_loop.trips) : Fin 3 → Nat :=
  let c0_i32_93 : BitVec 32 := 0#32
  let c1_i32_95 : BitVec 32 := 1#32
  let arg13 : BitVec 32 := Scf.iv c0_i32_93 c1_i32_95 k0_t6
  let v168 : Index := Scalar.indexCast arg13
  let c0_98 : Index := 0#32
  let c0_99 : Index := 0#32
  ![v168.toNat, 0, 0]
@[reducible] def k0_t7_loop : Scf.Loop 32 :=
  let c0_i32_13 : BitVec 32 := 0#32
  let c8_i32_14 : BitVec 32 := 8#32
  let v19 : BitVec 32 := Scalar.addi c0_i32_13 c8_i32_14
  let c1_i32_15 : BitVec 32 := 1#32
  ⟨c0_i32_13, v19, c1_i32_15⟩
def k0_off14 (k0_t7 : Fin k0_t7_loop.trips) : Fin 3 → Nat :=
  let c0_i32_13 : BitVec 32 := 0#32
  let c1_i32_15 : BitVec 32 := 1#32
  let arg9 : BitVec 32 := Scf.iv c0_i32_13 c1_i32_15 k0_t7
  let v155 : Index := Scalar.indexCast arg9
  let c0_88 : Index := 0#32
  let c0_89 : Index := 0#32
  ![v155.toNat, 0, 0]
@[reducible] def k0_t8_loop : Scf.Loop 32 :=
  let c0_i32_19 : BitVec 32 := 0#32
  let c8_i32_20 : BitVec 32 := 8#32
  let v24 : BitVec 32 := Scalar.addi c0_i32_19 c8_i32_20
  let c1_i32_21 : BitVec 32 := 1#32
  ⟨c0_i32_19, v24, c1_i32_21⟩
def k0_off15 (k0_t8 : Fin k0_t8_loop.trips) : Fin 3 → Nat :=
  let c0_i32_19 : BitVec 32 := 0#32
  let c1_i32_21 : BitVec 32 := 1#32
  let arg9 : BitVec 32 := Scf.iv c0_i32_19 c1_i32_21 k0_t8
  let v155 : Index := Scalar.indexCast arg9
  let c0_88 : Index := 0#32
  let c0_89 : Index := 0#32
  ![v155.toNat, 0, 0]
@[reducible] def k0_t9_loop : Scf.Loop 32 :=
  let c0_i32_91 : BitVec 32 := 0#32
  let c8_i32_92 : BitVec 32 := 8#32
  let v163 : BitVec 32 := Scalar.addi c0_i32_91 c8_i32_92
  let c1_i32_93 : BitVec 32 := 1#32
  ⟨c0_i32_91, v163, c1_i32_93⟩
def k0_off16 (k0_t9 : Fin k0_t9_loop.trips) : Fin 3 → Nat :=
  let c0_i32_91 : BitVec 32 := 0#32
  let c1_i32_93 : BitVec 32 := 1#32
  let arg9 : BitVec 32 := Scf.iv c0_i32_91 c1_i32_93 k0_t9
  let v165 : Index := Scalar.indexCast arg9
  let c0_95 : Index := 0#32
  let c0_96 : Index := 0#32
  ![v165.toNat, 0, 0]
def k0_off17 (k0_t1 : Fin k0_t1_loop.trips) (k0_t2 : Fin k0_t2_loop.trips) : Fin 2 → Nat :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_1 : BitVec 32 := 0#32
  let c1_i32_3 : BitVec 32 := 1#32
  let arg8 : BitVec 32 := Scf.iv c0_i32_1 c1_i32_3 k0_t2
  let c256_i32 : BitVec 32 := 256#32
  let v6 : BitVec 32 := Scalar.muli arg8 c256_i32
  let v7 : BitVec 32 := Scalar.addi v5 v6
  let v8 : BitVec 32 := v7
  let v40 : Index := Scalar.indexCast v8
  let c0 : Index := 0#32
  ![v40.toNat, 0]
@[reducible] def k0_t10_loop : Scf.Loop 32 :=
  let c0_i32_32 : BitVec 32 := 0#32
  let c8_i32_33 : BitVec 32 := 8#32
  let v46 : BitVec 32 := Scalar.addi c0_i32_32 c8_i32_33
  let c1_i32_34 : BitVec 32 := 1#32
  ⟨c0_i32_32, v46, c1_i32_34⟩
def k0_mult4 (k0_t1 : Fin k0_t1_loop.trips) (k0_t10 : Fin k0_t10_loop.trips) : BitVec 32 :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_32 : BitVec 32 := 0#32
  let c1_i32_34 : BitVec 32 := 1#32
  let arg9 : BitVec 32 := Scf.iv c0_i32_32 c1_i32_34 k0_t10
  let c512_i32 : BitVec 32 := 512#32
  let v155 : BitVec 32 := Scalar.muli arg9 c512_i32
  let v156 : BitVec 32 := Scalar.addi v5 v155
  v156
def k0_off18 (k0_t1 : Fin k0_t1_loop.trips) (k0_t10 : Fin k0_t10_loop.trips) : Fin 2 → Nat :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_32 : BitVec 32 := 0#32
  let c1_i32_34 : BitVec 32 := 1#32
  let arg9 : BitVec 32 := Scf.iv c0_i32_32 c1_i32_34 k0_t10
  let c512_i32 : BitVec 32 := 512#32
  let v155 : BitVec 32 := Scalar.muli arg9 c512_i32
  let v156 : BitVec 32 := Scalar.addi v5 v155
  let v157 : BitVec 32 := v156
  let v158 : Index := Scalar.indexCast v157
  let c1024_88 : Index := 1024#32
  ![v158.toNat, 1024]
def k0_mult5 (k0_t10 : Fin k0_t10_loop.trips) : BitVec 32 :=
  let c0_i32_32 : BitVec 32 := 0#32
  let c1_i32_34 : BitVec 32 := 1#32
  let arg9 : BitVec 32 := Scf.iv c0_i32_32 c1_i32_34 k0_t10
  let c512_i32_89 : BitVec 32 := 512#32
  let v160 : BitVec 32 := Scalar.muli arg9 c512_i32_89
  v160
def k0_off19 (k0_t10 : Fin k0_t10_loop.trips) : Fin 2 → Nat :=
  let c0_i32_32 : BitVec 32 := 0#32
  let c1_i32_34 : BitVec 32 := 1#32
  let arg9 : BitVec 32 := Scf.iv c0_i32_32 c1_i32_34 k0_t10
  let c512_i32_89 : BitVec 32 := 512#32
  let v160 : BitVec 32 := Scalar.muli arg9 c512_i32_89
  let v161 : BitVec 32 := v160
  let v162 : Index := Scalar.indexCast v161
  let c0_90 : Index := 0#32
  ![v162.toNat, 0]
def k0_off20 (k0_t1 : Fin k0_t1_loop.trips) (k0_t10 : Fin k0_t10_loop.trips) : Fin 3 → Nat :=
  let c0_i32 : BitVec 32 := 0#32
  let c1_i32 : BitVec 32 := 1#32
  let arg7 : BitVec 32 := Scf.iv c0_i32 c1_i32 k0_t1
  let c8_i32_91 : BitVec 32 := 8#32
  let v165 : BitVec 32 := Scalar.muli arg7 c8_i32_91
  let c0_i32_32 : BitVec 32 := 0#32
  let c1_i32_34 : BitVec 32 := 1#32
  let arg9 : BitVec 32 := Scf.iv c0_i32_32 c1_i32_34 k0_t10
  let v166 : BitVec 32 := Scalar.addi v165 arg9
  let v167 : Index := Scalar.indexCast v166
  let c0_92 : Index := 0#32
  let c0_93 : Index := 0#32
  ![v167.toNat, 0, 0]
def k0_off21 (k0_t10 : Fin k0_t10_loop.trips) : Fin 3 → Nat :=
  let c0_i32_32 : BitVec 32 := 0#32
  let c1_i32_34 : BitVec 32 := 1#32
  let arg9 : BitVec 32 := Scf.iv c0_i32_32 c1_i32_34 k0_t10
  let v172 : Index := Scalar.indexCast arg9
  let c0_95 : Index := 0#32
  let c0_96 : Index := 0#32
  ![v172.toNat, 0, 0]
def k0_off22 (k0_t1 : Fin k0_t1_loop.trips) (k0_t2 : Fin k0_t2_loop.trips) : Fin 2 → Nat :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_1 : BitVec 32 := 0#32
  let c1_i32_3 : BitVec 32 := 1#32
  let arg8 : BitVec 32 := Scf.iv c0_i32_1 c1_i32_3 k0_t2
  let c256_i32 : BitVec 32 := 256#32
  let v6 : BitVec 32 := Scalar.muli arg8 c256_i32
  let v7 : BitVec 32 := Scalar.addi v5 v6
  let v8 : BitVec 32 := v7
  let v54 : Index := Scalar.indexCast v8
  let c64 : Index := 64#32
  ![v54.toNat, 64]
@[reducible] def k0_t11_loop : Scf.Loop 32 :=
  let c0_i32_39 : BitVec 32 := 0#32
  let c8_i32_40 : BitVec 32 := 8#32
  let v60 : BitVec 32 := Scalar.addi c0_i32_39 c8_i32_40
  let c1_i32_41 : BitVec 32 := 1#32
  ⟨c0_i32_39, v60, c1_i32_41⟩
def k0_mult6 (k0_t1 : Fin k0_t1_loop.trips) (k0_t11 : Fin k0_t11_loop.trips) : BitVec 32 :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_39 : BitVec 32 := 0#32
  let c1_i32_41 : BitVec 32 := 1#32
  let arg9 : BitVec 32 := Scf.iv c0_i32_39 c1_i32_41 k0_t11
  let c512_i32 : BitVec 32 := 512#32
  let v155 : BitVec 32 := Scalar.muli arg9 c512_i32
  let v156 : BitVec 32 := Scalar.addi v5 v155
  v156
def k0_off23 (k0_t1 : Fin k0_t1_loop.trips) (k0_t11 : Fin k0_t11_loop.trips) : Fin 2 → Nat :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_39 : BitVec 32 := 0#32
  let c1_i32_41 : BitVec 32 := 1#32
  let arg9 : BitVec 32 := Scf.iv c0_i32_39 c1_i32_41 k0_t11
  let c512_i32 : BitVec 32 := 512#32
  let v155 : BitVec 32 := Scalar.muli arg9 c512_i32
  let v156 : BitVec 32 := Scalar.addi v5 v155
  let v157 : BitVec 32 := v156
  let v158 : Index := Scalar.indexCast v157
  let c1024_88 : Index := 1024#32
  ![v158.toNat, 1024]
def k0_mult7 (k0_t11 : Fin k0_t11_loop.trips) : BitVec 32 :=
  let c0_i32_39 : BitVec 32 := 0#32
  let c1_i32_41 : BitVec 32 := 1#32
  let arg9 : BitVec 32 := Scf.iv c0_i32_39 c1_i32_41 k0_t11
  let c512_i32_89 : BitVec 32 := 512#32
  let v160 : BitVec 32 := Scalar.muli arg9 c512_i32_89
  v160
def k0_off24 (k0_t11 : Fin k0_t11_loop.trips) : Fin 2 → Nat :=
  let c0_i32_39 : BitVec 32 := 0#32
  let c1_i32_41 : BitVec 32 := 1#32
  let arg9 : BitVec 32 := Scf.iv c0_i32_39 c1_i32_41 k0_t11
  let c512_i32_89 : BitVec 32 := 512#32
  let v160 : BitVec 32 := Scalar.muli arg9 c512_i32_89
  let v161 : BitVec 32 := v160
  let v162 : Index := Scalar.indexCast v161
  let c0_90 : Index := 0#32
  ![v162.toNat, 0]
def k0_off25 (k0_t1 : Fin k0_t1_loop.trips) (k0_t11 : Fin k0_t11_loop.trips) : Fin 3 → Nat :=
  let c0_i32 : BitVec 32 := 0#32
  let c1_i32 : BitVec 32 := 1#32
  let arg7 : BitVec 32 := Scf.iv c0_i32 c1_i32 k0_t1
  let c8_i32_91 : BitVec 32 := 8#32
  let v165 : BitVec 32 := Scalar.muli arg7 c8_i32_91
  let c0_i32_39 : BitVec 32 := 0#32
  let c1_i32_41 : BitVec 32 := 1#32
  let arg9 : BitVec 32 := Scf.iv c0_i32_39 c1_i32_41 k0_t11
  let v166 : BitVec 32 := Scalar.addi v165 arg9
  let v167 : Index := Scalar.indexCast v166
  let c0_92 : Index := 0#32
  let c0_93 : Index := 0#32
  ![v167.toNat, 0, 0]
def k0_off26 (k0_t11 : Fin k0_t11_loop.trips) : Fin 3 → Nat :=
  let c0_i32_39 : BitVec 32 := 0#32
  let c1_i32_41 : BitVec 32 := 1#32
  let arg9 : BitVec 32 := Scf.iv c0_i32_39 c1_i32_41 k0_t11
  let v172 : Index := Scalar.indexCast arg9
  let c0_95 : Index := 0#32
  let c0_96 : Index := 0#32
  ![v172.toNat, 0, 0]
def k0_off27 (k0_t1 : Fin k0_t1_loop.trips) (k0_t2 : Fin k0_t2_loop.trips) : Fin 2 → Nat :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_1 : BitVec 32 := 0#32
  let c1_i32_3 : BitVec 32 := 1#32
  let arg8 : BitVec 32 := Scf.iv c0_i32_1 c1_i32_3 k0_t2
  let c256_i32 : BitVec 32 := 256#32
  let v6 : BitVec 32 := Scalar.muli arg8 c256_i32
  let v7 : BitVec 32 := Scalar.addi v5 v6
  let v8 : BitVec 32 := v7
  let v68 : Index := Scalar.indexCast v8
  let c128 : Index := 128#32
  ![v68.toNat, 128]
@[reducible] def k0_t12_loop : Scf.Loop 32 :=
  let c0_i32_47 : BitVec 32 := 0#32
  let c8_i32_48 : BitVec 32 := 8#32
  let v74 : BitVec 32 := Scalar.addi c0_i32_47 c8_i32_48
  let c1_i32_49 : BitVec 32 := 1#32
  ⟨c0_i32_47, v74, c1_i32_49⟩
def k0_mult8 (k0_t1 : Fin k0_t1_loop.trips) (k0_t12 : Fin k0_t12_loop.trips) : BitVec 32 :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_47 : BitVec 32 := 0#32
  let c1_i32_49 : BitVec 32 := 1#32
  let arg9 : BitVec 32 := Scf.iv c0_i32_47 c1_i32_49 k0_t12
  let c512_i32 : BitVec 32 := 512#32
  let v155 : BitVec 32 := Scalar.muli arg9 c512_i32
  let v156 : BitVec 32 := Scalar.addi v5 v155
  v156
def k0_off28 (k0_t1 : Fin k0_t1_loop.trips) (k0_t12 : Fin k0_t12_loop.trips) : Fin 2 → Nat :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_47 : BitVec 32 := 0#32
  let c1_i32_49 : BitVec 32 := 1#32
  let arg9 : BitVec 32 := Scf.iv c0_i32_47 c1_i32_49 k0_t12
  let c512_i32 : BitVec 32 := 512#32
  let v155 : BitVec 32 := Scalar.muli arg9 c512_i32
  let v156 : BitVec 32 := Scalar.addi v5 v155
  let v157 : BitVec 32 := v156
  let v158 : Index := Scalar.indexCast v157
  let c1024_88 : Index := 1024#32
  ![v158.toNat, 1024]
def k0_mult9 (k0_t12 : Fin k0_t12_loop.trips) : BitVec 32 :=
  let c0_i32_47 : BitVec 32 := 0#32
  let c1_i32_49 : BitVec 32 := 1#32
  let arg9 : BitVec 32 := Scf.iv c0_i32_47 c1_i32_49 k0_t12
  let c512_i32_89 : BitVec 32 := 512#32
  let v160 : BitVec 32 := Scalar.muli arg9 c512_i32_89
  v160
def k0_off29 (k0_t12 : Fin k0_t12_loop.trips) : Fin 2 → Nat :=
  let c0_i32_47 : BitVec 32 := 0#32
  let c1_i32_49 : BitVec 32 := 1#32
  let arg9 : BitVec 32 := Scf.iv c0_i32_47 c1_i32_49 k0_t12
  let c512_i32_89 : BitVec 32 := 512#32
  let v160 : BitVec 32 := Scalar.muli arg9 c512_i32_89
  let v161 : BitVec 32 := v160
  let v162 : Index := Scalar.indexCast v161
  let c0_90 : Index := 0#32
  ![v162.toNat, 0]
def k0_off30 (k0_t1 : Fin k0_t1_loop.trips) (k0_t12 : Fin k0_t12_loop.trips) : Fin 3 → Nat :=
  let c0_i32 : BitVec 32 := 0#32
  let c1_i32 : BitVec 32 := 1#32
  let arg7 : BitVec 32 := Scf.iv c0_i32 c1_i32 k0_t1
  let c8_i32_91 : BitVec 32 := 8#32
  let v165 : BitVec 32 := Scalar.muli arg7 c8_i32_91
  let c0_i32_47 : BitVec 32 := 0#32
  let c1_i32_49 : BitVec 32 := 1#32
  let arg9 : BitVec 32 := Scf.iv c0_i32_47 c1_i32_49 k0_t12
  let v166 : BitVec 32 := Scalar.addi v165 arg9
  let v167 : Index := Scalar.indexCast v166
  let c0_92 : Index := 0#32
  let c0_93 : Index := 0#32
  ![v167.toNat, 0, 0]
def k0_off31 (k0_t12 : Fin k0_t12_loop.trips) : Fin 3 → Nat :=
  let c0_i32_47 : BitVec 32 := 0#32
  let c1_i32_49 : BitVec 32 := 1#32
  let arg9 : BitVec 32 := Scf.iv c0_i32_47 c1_i32_49 k0_t12
  let v172 : Index := Scalar.indexCast arg9
  let c0_95 : Index := 0#32
  let c0_96 : Index := 0#32
  ![v172.toNat, 0, 0]
def k0_off32 (k0_t1 : Fin k0_t1_loop.trips) (k0_t2 : Fin k0_t2_loop.trips) : Fin 2 → Nat :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_1 : BitVec 32 := 0#32
  let c1_i32_3 : BitVec 32 := 1#32
  let arg8 : BitVec 32 := Scf.iv c0_i32_1 c1_i32_3 k0_t2
  let c256_i32 : BitVec 32 := 256#32
  let v6 : BitVec 32 := Scalar.muli arg8 c256_i32
  let v7 : BitVec 32 := Scalar.addi v5 v6
  let v8 : BitVec 32 := v7
  let v82 : Index := Scalar.indexCast v8
  let c192 : Index := 192#32
  ![v82.toNat, 192]
@[reducible] def k0_t13_loop : Scf.Loop 32 :=
  let c0_i32_54 : BitVec 32 := 0#32
  let c8_i32_55 : BitVec 32 := 8#32
  let v88 : BitVec 32 := Scalar.addi c0_i32_54 c8_i32_55
  let c1_i32_56 : BitVec 32 := 1#32
  ⟨c0_i32_54, v88, c1_i32_56⟩
def k0_mult10 (k0_t1 : Fin k0_t1_loop.trips) (k0_t13 : Fin k0_t13_loop.trips) : BitVec 32 :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_54 : BitVec 32 := 0#32
  let c1_i32_56 : BitVec 32 := 1#32
  let arg9 : BitVec 32 := Scf.iv c0_i32_54 c1_i32_56 k0_t13
  let c512_i32 : BitVec 32 := 512#32
  let v155 : BitVec 32 := Scalar.muli arg9 c512_i32
  let v156 : BitVec 32 := Scalar.addi v5 v155
  v156
def k0_off33 (k0_t1 : Fin k0_t1_loop.trips) (k0_t13 : Fin k0_t13_loop.trips) : Fin 2 → Nat :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_54 : BitVec 32 := 0#32
  let c1_i32_56 : BitVec 32 := 1#32
  let arg9 : BitVec 32 := Scf.iv c0_i32_54 c1_i32_56 k0_t13
  let c512_i32 : BitVec 32 := 512#32
  let v155 : BitVec 32 := Scalar.muli arg9 c512_i32
  let v156 : BitVec 32 := Scalar.addi v5 v155
  let v157 : BitVec 32 := v156
  let v158 : Index := Scalar.indexCast v157
  let c1024_88 : Index := 1024#32
  ![v158.toNat, 1024]
def k0_mult11 (k0_t13 : Fin k0_t13_loop.trips) : BitVec 32 :=
  let c0_i32_54 : BitVec 32 := 0#32
  let c1_i32_56 : BitVec 32 := 1#32
  let arg9 : BitVec 32 := Scf.iv c0_i32_54 c1_i32_56 k0_t13
  let c512_i32_89 : BitVec 32 := 512#32
  let v160 : BitVec 32 := Scalar.muli arg9 c512_i32_89
  v160
def k0_off34 (k0_t13 : Fin k0_t13_loop.trips) : Fin 2 → Nat :=
  let c0_i32_54 : BitVec 32 := 0#32
  let c1_i32_56 : BitVec 32 := 1#32
  let arg9 : BitVec 32 := Scf.iv c0_i32_54 c1_i32_56 k0_t13
  let c512_i32_89 : BitVec 32 := 512#32
  let v160 : BitVec 32 := Scalar.muli arg9 c512_i32_89
  let v161 : BitVec 32 := v160
  let v162 : Index := Scalar.indexCast v161
  let c0_90 : Index := 0#32
  ![v162.toNat, 0]
def k0_off35 (k0_t1 : Fin k0_t1_loop.trips) (k0_t13 : Fin k0_t13_loop.trips) : Fin 3 → Nat :=
  let c0_i32 : BitVec 32 := 0#32
  let c1_i32 : BitVec 32 := 1#32
  let arg7 : BitVec 32 := Scf.iv c0_i32 c1_i32 k0_t1
  let c8_i32_91 : BitVec 32 := 8#32
  let v165 : BitVec 32 := Scalar.muli arg7 c8_i32_91
  let c0_i32_54 : BitVec 32 := 0#32
  let c1_i32_56 : BitVec 32 := 1#32
  let arg9 : BitVec 32 := Scf.iv c0_i32_54 c1_i32_56 k0_t13
  let v166 : BitVec 32 := Scalar.addi v165 arg9
  let v167 : Index := Scalar.indexCast v166
  let c0_92 : Index := 0#32
  let c0_93 : Index := 0#32
  ![v167.toNat, 0, 0]
def k0_off36 (k0_t13 : Fin k0_t13_loop.trips) : Fin 3 → Nat :=
  let c0_i32_54 : BitVec 32 := 0#32
  let c1_i32_56 : BitVec 32 := 1#32
  let arg9 : BitVec 32 := Scf.iv c0_i32_54 c1_i32_56 k0_t13
  let v172 : Index := Scalar.indexCast arg9
  let c0_95 : Index := 0#32
  let c0_96 : Index := 0#32
  ![v172.toNat, 0, 0]
def k0_off37 (k0_t1 : Fin k0_t1_loop.trips) (k0_t2 : Fin k0_t2_loop.trips) : Fin 2 → Nat :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_1 : BitVec 32 := 0#32
  let c1_i32_3 : BitVec 32 := 1#32
  let arg8 : BitVec 32 := Scf.iv c0_i32_1 c1_i32_3 k0_t2
  let c256_i32 : BitVec 32 := 256#32
  let v6 : BitVec 32 := Scalar.muli arg8 c256_i32
  let v7 : BitVec 32 := Scalar.addi v5 v6
  let v8 : BitVec 32 := v7
  let v96 : Index := Scalar.indexCast v8
  let c256_58 : Index := 256#32
  ![v96.toNat, 256]
@[reducible] def k0_t14_loop : Scf.Loop 32 :=
  let c0_i32_62 : BitVec 32 := 0#32
  let c8_i32_63 : BitVec 32 := 8#32
  let v102 : BitVec 32 := Scalar.addi c0_i32_62 c8_i32_63
  let c1_i32_64 : BitVec 32 := 1#32
  ⟨c0_i32_62, v102, c1_i32_64⟩
def k0_mult12 (k0_t1 : Fin k0_t1_loop.trips) (k0_t14 : Fin k0_t14_loop.trips) : BitVec 32 :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_62 : BitVec 32 := 0#32
  let c1_i32_64 : BitVec 32 := 1#32
  let arg9 : BitVec 32 := Scf.iv c0_i32_62 c1_i32_64 k0_t14
  let c512_i32 : BitVec 32 := 512#32
  let v155 : BitVec 32 := Scalar.muli arg9 c512_i32
  let v156 : BitVec 32 := Scalar.addi v5 v155
  v156
def k0_off38 (k0_t1 : Fin k0_t1_loop.trips) (k0_t14 : Fin k0_t14_loop.trips) : Fin 2 → Nat :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_62 : BitVec 32 := 0#32
  let c1_i32_64 : BitVec 32 := 1#32
  let arg9 : BitVec 32 := Scf.iv c0_i32_62 c1_i32_64 k0_t14
  let c512_i32 : BitVec 32 := 512#32
  let v155 : BitVec 32 := Scalar.muli arg9 c512_i32
  let v156 : BitVec 32 := Scalar.addi v5 v155
  let v157 : BitVec 32 := v156
  let v158 : Index := Scalar.indexCast v157
  let c1024_88 : Index := 1024#32
  ![v158.toNat, 1024]
def k0_mult13 (k0_t14 : Fin k0_t14_loop.trips) : BitVec 32 :=
  let c0_i32_62 : BitVec 32 := 0#32
  let c1_i32_64 : BitVec 32 := 1#32
  let arg9 : BitVec 32 := Scf.iv c0_i32_62 c1_i32_64 k0_t14
  let c512_i32_89 : BitVec 32 := 512#32
  let v160 : BitVec 32 := Scalar.muli arg9 c512_i32_89
  v160
def k0_off39 (k0_t14 : Fin k0_t14_loop.trips) : Fin 2 → Nat :=
  let c0_i32_62 : BitVec 32 := 0#32
  let c1_i32_64 : BitVec 32 := 1#32
  let arg9 : BitVec 32 := Scf.iv c0_i32_62 c1_i32_64 k0_t14
  let c512_i32_89 : BitVec 32 := 512#32
  let v160 : BitVec 32 := Scalar.muli arg9 c512_i32_89
  let v161 : BitVec 32 := v160
  let v162 : Index := Scalar.indexCast v161
  let c0_90 : Index := 0#32
  ![v162.toNat, 0]
def k0_off40 (k0_t1 : Fin k0_t1_loop.trips) (k0_t14 : Fin k0_t14_loop.trips) : Fin 3 → Nat :=
  let c0_i32 : BitVec 32 := 0#32
  let c1_i32 : BitVec 32 := 1#32
  let arg7 : BitVec 32 := Scf.iv c0_i32 c1_i32 k0_t1
  let c8_i32_91 : BitVec 32 := 8#32
  let v165 : BitVec 32 := Scalar.muli arg7 c8_i32_91
  let c0_i32_62 : BitVec 32 := 0#32
  let c1_i32_64 : BitVec 32 := 1#32
  let arg9 : BitVec 32 := Scf.iv c0_i32_62 c1_i32_64 k0_t14
  let v166 : BitVec 32 := Scalar.addi v165 arg9
  let v167 : Index := Scalar.indexCast v166
  let c0_92 : Index := 0#32
  let c0_93 : Index := 0#32
  ![v167.toNat, 0, 0]
def k0_off41 (k0_t14 : Fin k0_t14_loop.trips) : Fin 3 → Nat :=
  let c0_i32_62 : BitVec 32 := 0#32
  let c1_i32_64 : BitVec 32 := 1#32
  let arg9 : BitVec 32 := Scf.iv c0_i32_62 c1_i32_64 k0_t14
  let v172 : Index := Scalar.indexCast arg9
  let c0_95 : Index := 0#32
  let c0_96 : Index := 0#32
  ![v172.toNat, 0, 0]
def k0_off42 (k0_t1 : Fin k0_t1_loop.trips) (k0_t2 : Fin k0_t2_loop.trips) : Fin 2 → Nat :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_1 : BitVec 32 := 0#32
  let c1_i32_3 : BitVec 32 := 1#32
  let arg8 : BitVec 32 := Scf.iv c0_i32_1 c1_i32_3 k0_t2
  let c256_i32 : BitVec 32 := 256#32
  let v6 : BitVec 32 := Scalar.muli arg8 c256_i32
  let v7 : BitVec 32 := Scalar.addi v5 v6
  let v8 : BitVec 32 := v7
  let v110 : Index := Scalar.indexCast v8
  let c320 : Index := 320#32
  ![v110.toNat, 320]
@[reducible] def k0_t15_loop : Scf.Loop 32 :=
  let c0_i32_69 : BitVec 32 := 0#32
  let c8_i32_70 : BitVec 32 := 8#32
  let v116 : BitVec 32 := Scalar.addi c0_i32_69 c8_i32_70
  let c1_i32_71 : BitVec 32 := 1#32
  ⟨c0_i32_69, v116, c1_i32_71⟩
def k0_mult14 (k0_t1 : Fin k0_t1_loop.trips) (k0_t15 : Fin k0_t15_loop.trips) : BitVec 32 :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_69 : BitVec 32 := 0#32
  let c1_i32_71 : BitVec 32 := 1#32
  let arg9 : BitVec 32 := Scf.iv c0_i32_69 c1_i32_71 k0_t15
  let c512_i32 : BitVec 32 := 512#32
  let v155 : BitVec 32 := Scalar.muli arg9 c512_i32
  let v156 : BitVec 32 := Scalar.addi v5 v155
  v156
def k0_off43 (k0_t1 : Fin k0_t1_loop.trips) (k0_t15 : Fin k0_t15_loop.trips) : Fin 2 → Nat :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_69 : BitVec 32 := 0#32
  let c1_i32_71 : BitVec 32 := 1#32
  let arg9 : BitVec 32 := Scf.iv c0_i32_69 c1_i32_71 k0_t15
  let c512_i32 : BitVec 32 := 512#32
  let v155 : BitVec 32 := Scalar.muli arg9 c512_i32
  let v156 : BitVec 32 := Scalar.addi v5 v155
  let v157 : BitVec 32 := v156
  let v158 : Index := Scalar.indexCast v157
  let c1024_88 : Index := 1024#32
  ![v158.toNat, 1024]
def k0_mult15 (k0_t15 : Fin k0_t15_loop.trips) : BitVec 32 :=
  let c0_i32_69 : BitVec 32 := 0#32
  let c1_i32_71 : BitVec 32 := 1#32
  let arg9 : BitVec 32 := Scf.iv c0_i32_69 c1_i32_71 k0_t15
  let c512_i32_89 : BitVec 32 := 512#32
  let v160 : BitVec 32 := Scalar.muli arg9 c512_i32_89
  v160
def k0_off44 (k0_t15 : Fin k0_t15_loop.trips) : Fin 2 → Nat :=
  let c0_i32_69 : BitVec 32 := 0#32
  let c1_i32_71 : BitVec 32 := 1#32
  let arg9 : BitVec 32 := Scf.iv c0_i32_69 c1_i32_71 k0_t15
  let c512_i32_89 : BitVec 32 := 512#32
  let v160 : BitVec 32 := Scalar.muli arg9 c512_i32_89
  let v161 : BitVec 32 := v160
  let v162 : Index := Scalar.indexCast v161
  let c0_90 : Index := 0#32
  ![v162.toNat, 0]
def k0_off45 (k0_t1 : Fin k0_t1_loop.trips) (k0_t15 : Fin k0_t15_loop.trips) : Fin 3 → Nat :=
  let c0_i32 : BitVec 32 := 0#32
  let c1_i32 : BitVec 32 := 1#32
  let arg7 : BitVec 32 := Scf.iv c0_i32 c1_i32 k0_t1
  let c8_i32_91 : BitVec 32 := 8#32
  let v165 : BitVec 32 := Scalar.muli arg7 c8_i32_91
  let c0_i32_69 : BitVec 32 := 0#32
  let c1_i32_71 : BitVec 32 := 1#32
  let arg9 : BitVec 32 := Scf.iv c0_i32_69 c1_i32_71 k0_t15
  let v166 : BitVec 32 := Scalar.addi v165 arg9
  let v167 : Index := Scalar.indexCast v166
  let c0_92 : Index := 0#32
  let c0_93 : Index := 0#32
  ![v167.toNat, 0, 0]
def k0_off46 (k0_t15 : Fin k0_t15_loop.trips) : Fin 3 → Nat :=
  let c0_i32_69 : BitVec 32 := 0#32
  let c1_i32_71 : BitVec 32 := 1#32
  let arg9 : BitVec 32 := Scf.iv c0_i32_69 c1_i32_71 k0_t15
  let v172 : Index := Scalar.indexCast arg9
  let c0_95 : Index := 0#32
  let c0_96 : Index := 0#32
  ![v172.toNat, 0, 0]
def k0_off47 (k0_t1 : Fin k0_t1_loop.trips) (k0_t2 : Fin k0_t2_loop.trips) : Fin 2 → Nat :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_1 : BitVec 32 := 0#32
  let c1_i32_3 : BitVec 32 := 1#32
  let arg8 : BitVec 32 := Scf.iv c0_i32_1 c1_i32_3 k0_t2
  let c256_i32 : BitVec 32 := 256#32
  let v6 : BitVec 32 := Scalar.muli arg8 c256_i32
  let v7 : BitVec 32 := Scalar.addi v5 v6
  let v8 : BitVec 32 := v7
  let v124 : Index := Scalar.indexCast v8
  let c384 : Index := 384#32
  ![v124.toNat, 384]
@[reducible] def k0_t16_loop : Scf.Loop 32 :=
  let c0_i32_76 : BitVec 32 := 0#32
  let c8_i32_77 : BitVec 32 := 8#32
  let v130 : BitVec 32 := Scalar.addi c0_i32_76 c8_i32_77
  let c1_i32_78 : BitVec 32 := 1#32
  ⟨c0_i32_76, v130, c1_i32_78⟩
def k0_mult16 (k0_t1 : Fin k0_t1_loop.trips) (k0_t16 : Fin k0_t16_loop.trips) : BitVec 32 :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_76 : BitVec 32 := 0#32
  let c1_i32_78 : BitVec 32 := 1#32
  let arg9 : BitVec 32 := Scf.iv c0_i32_76 c1_i32_78 k0_t16
  let c512_i32 : BitVec 32 := 512#32
  let v155 : BitVec 32 := Scalar.muli arg9 c512_i32
  let v156 : BitVec 32 := Scalar.addi v5 v155
  v156
def k0_off48 (k0_t1 : Fin k0_t1_loop.trips) (k0_t16 : Fin k0_t16_loop.trips) : Fin 2 → Nat :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_76 : BitVec 32 := 0#32
  let c1_i32_78 : BitVec 32 := 1#32
  let arg9 : BitVec 32 := Scf.iv c0_i32_76 c1_i32_78 k0_t16
  let c512_i32 : BitVec 32 := 512#32
  let v155 : BitVec 32 := Scalar.muli arg9 c512_i32
  let v156 : BitVec 32 := Scalar.addi v5 v155
  let v157 : BitVec 32 := v156
  let v158 : Index := Scalar.indexCast v157
  let c1024_88 : Index := 1024#32
  ![v158.toNat, 1024]
def k0_mult17 (k0_t16 : Fin k0_t16_loop.trips) : BitVec 32 :=
  let c0_i32_76 : BitVec 32 := 0#32
  let c1_i32_78 : BitVec 32 := 1#32
  let arg9 : BitVec 32 := Scf.iv c0_i32_76 c1_i32_78 k0_t16
  let c512_i32_89 : BitVec 32 := 512#32
  let v160 : BitVec 32 := Scalar.muli arg9 c512_i32_89
  v160
def k0_off49 (k0_t16 : Fin k0_t16_loop.trips) : Fin 2 → Nat :=
  let c0_i32_76 : BitVec 32 := 0#32
  let c1_i32_78 : BitVec 32 := 1#32
  let arg9 : BitVec 32 := Scf.iv c0_i32_76 c1_i32_78 k0_t16
  let c512_i32_89 : BitVec 32 := 512#32
  let v160 : BitVec 32 := Scalar.muli arg9 c512_i32_89
  let v161 : BitVec 32 := v160
  let v162 : Index := Scalar.indexCast v161
  let c0_90 : Index := 0#32
  ![v162.toNat, 0]
def k0_off50 (k0_t1 : Fin k0_t1_loop.trips) (k0_t16 : Fin k0_t16_loop.trips) : Fin 3 → Nat :=
  let c0_i32 : BitVec 32 := 0#32
  let c1_i32 : BitVec 32 := 1#32
  let arg7 : BitVec 32 := Scf.iv c0_i32 c1_i32 k0_t1
  let c8_i32_91 : BitVec 32 := 8#32
  let v165 : BitVec 32 := Scalar.muli arg7 c8_i32_91
  let c0_i32_76 : BitVec 32 := 0#32
  let c1_i32_78 : BitVec 32 := 1#32
  let arg9 : BitVec 32 := Scf.iv c0_i32_76 c1_i32_78 k0_t16
  let v166 : BitVec 32 := Scalar.addi v165 arg9
  let v167 : Index := Scalar.indexCast v166
  let c0_92 : Index := 0#32
  let c0_93 : Index := 0#32
  ![v167.toNat, 0, 0]
def k0_off51 (k0_t16 : Fin k0_t16_loop.trips) : Fin 3 → Nat :=
  let c0_i32_76 : BitVec 32 := 0#32
  let c1_i32_78 : BitVec 32 := 1#32
  let arg9 : BitVec 32 := Scf.iv c0_i32_76 c1_i32_78 k0_t16
  let v172 : Index := Scalar.indexCast arg9
  let c0_95 : Index := 0#32
  let c0_96 : Index := 0#32
  ![v172.toNat, 0, 0]
def k0_off52 (k0_t1 : Fin k0_t1_loop.trips) (k0_t2 : Fin k0_t2_loop.trips) : Fin 2 → Nat :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_1 : BitVec 32 := 0#32
  let c1_i32_3 : BitVec 32 := 1#32
  let arg8 : BitVec 32 := Scf.iv c0_i32_1 c1_i32_3 k0_t2
  let c256_i32 : BitVec 32 := 256#32
  let v6 : BitVec 32 := Scalar.muli arg8 c256_i32
  let v7 : BitVec 32 := Scalar.addi v5 v6
  let v8 : BitVec 32 := v7
  let v138 : Index := Scalar.indexCast v8
  let c448 : Index := 448#32
  ![v138.toNat, 448]
@[reducible] def k0_t17_loop : Scf.Loop 32 :=
  let c0_i32_83 : BitVec 32 := 0#32
  let c8_i32_84 : BitVec 32 := 8#32
  let v144 : BitVec 32 := Scalar.addi c0_i32_83 c8_i32_84
  let c1_i32_85 : BitVec 32 := 1#32
  ⟨c0_i32_83, v144, c1_i32_85⟩
def k0_mult18 (k0_t1 : Fin k0_t1_loop.trips) (k0_t17 : Fin k0_t17_loop.trips) : BitVec 32 :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_83 : BitVec 32 := 0#32
  let c1_i32_85 : BitVec 32 := 1#32
  let arg9 : BitVec 32 := Scf.iv c0_i32_83 c1_i32_85 k0_t17
  let c512_i32 : BitVec 32 := 512#32
  let v155 : BitVec 32 := Scalar.muli arg9 c512_i32
  let v156 : BitVec 32 := Scalar.addi v5 v155
  v156
def k0_off53 (k0_t1 : Fin k0_t1_loop.trips) (k0_t17 : Fin k0_t17_loop.trips) : Fin 2 → Nat :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_83 : BitVec 32 := 0#32
  let c1_i32_85 : BitVec 32 := 1#32
  let arg9 : BitVec 32 := Scf.iv c0_i32_83 c1_i32_85 k0_t17
  let c512_i32 : BitVec 32 := 512#32
  let v155 : BitVec 32 := Scalar.muli arg9 c512_i32
  let v156 : BitVec 32 := Scalar.addi v5 v155
  let v157 : BitVec 32 := v156
  let v158 : Index := Scalar.indexCast v157
  let c1024_88 : Index := 1024#32
  ![v158.toNat, 1024]
def k0_mult19 (k0_t17 : Fin k0_t17_loop.trips) : BitVec 32 :=
  let c0_i32_83 : BitVec 32 := 0#32
  let c1_i32_85 : BitVec 32 := 1#32
  let arg9 : BitVec 32 := Scf.iv c0_i32_83 c1_i32_85 k0_t17
  let c512_i32_89 : BitVec 32 := 512#32
  let v160 : BitVec 32 := Scalar.muli arg9 c512_i32_89
  v160
def k0_off54 (k0_t17 : Fin k0_t17_loop.trips) : Fin 2 → Nat :=
  let c0_i32_83 : BitVec 32 := 0#32
  let c1_i32_85 : BitVec 32 := 1#32
  let arg9 : BitVec 32 := Scf.iv c0_i32_83 c1_i32_85 k0_t17
  let c512_i32_89 : BitVec 32 := 512#32
  let v160 : BitVec 32 := Scalar.muli arg9 c512_i32_89
  let v161 : BitVec 32 := v160
  let v162 : Index := Scalar.indexCast v161
  let c0_90 : Index := 0#32
  ![v162.toNat, 0]
def k0_off55 (k0_t1 : Fin k0_t1_loop.trips) (k0_t17 : Fin k0_t17_loop.trips) : Fin 3 → Nat :=
  let c0_i32 : BitVec 32 := 0#32
  let c1_i32 : BitVec 32 := 1#32
  let arg7 : BitVec 32 := Scf.iv c0_i32 c1_i32 k0_t1
  let c8_i32_91 : BitVec 32 := 8#32
  let v165 : BitVec 32 := Scalar.muli arg7 c8_i32_91
  let c0_i32_83 : BitVec 32 := 0#32
  let c1_i32_85 : BitVec 32 := 1#32
  let arg9 : BitVec 32 := Scf.iv c0_i32_83 c1_i32_85 k0_t17
  let v166 : BitVec 32 := Scalar.addi v165 arg9
  let v167 : Index := Scalar.indexCast v166
  let c0_92 : Index := 0#32
  let c0_93 : Index := 0#32
  ![v167.toNat, 0, 0]
def k0_off56 (k0_t17 : Fin k0_t17_loop.trips) : Fin 3 → Nat :=
  let c0_i32_83 : BitVec 32 := 0#32
  let c1_i32_85 : BitVec 32 := 1#32
  let arg9 : BitVec 32 := Scf.iv c0_i32_83 c1_i32_85 k0_t17
  let v172 : Index := Scalar.indexCast arg9
  let c0_95 : Index := 0#32
  let c0_96 : Index := 0#32
  ![v172.toNat, 0, 0]
def k0_off57 (k0_t1 : Fin k0_t1_loop.trips) (k0_t2 : Fin k0_t2_loop.trips) : Fin 2 → Nat :=
  let c0_i32 : BitVec 32 := 0#32
  let c1_i32 : BitVec 32 := 1#32
  let arg7 : BitVec 32 := Scf.iv c0_i32 c1_i32 k0_t1
  let c4096_i32 : BitVec 32 := 4096#32
  let v4 : BitVec 32 := Scalar.muli arg7 c4096_i32
  let v5 : BitVec 32 := v4
  let c0_i32_1 : BitVec 32 := 0#32
  let c1_i32_3 : BitVec 32 := 1#32
  let arg8 : BitVec 32 := Scf.iv c0_i32_1 c1_i32_3 k0_t2
  let c256_i32 : BitVec 32 := 256#32
  let v6 : BitVec 32 := Scalar.muli arg8 c256_i32
  let v7 : BitVec 32 := Scalar.addi v5 v6
  let v8 : BitVec 32 := v7
  let v153 : Index := Scalar.indexCast v8
  let c0_87 : Index := 0#32
  ![v153.toNat, 0]
abbrev stage0_0 : Fin 1 → Memref sig .tc .vmem S65536x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S65536x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x64x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S65536x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Ffn.lean ====
abbrev S65536x1024 : Shape := ⟨2, ![65536, 1024]⟩
abbrev S1024x2816 : Shape := ⟨2, ![1024, 2816]⟩
abbrev S2816x1024 : Shape := ⟨2, ![2816, 1024]⟩
abbrev S16x6x1024 : Shape := ⟨3, ![16, 6, 1024]⟩
abbrev S1024 : Shape := ⟨1, ![1024]⟩
abbrev S1x1024 : Shape := ⟨2, ![1, 1024]⟩
abbrev S1024x1024 : Shape := ⟨2, ![1024, 1024]⟩
abbrev S1024x1408 : Shape := ⟨2, ![1024, 1408]⟩
abbrev S1408x1024 : Shape := ⟨2, ![1408, 1024]⟩
abbrev S1x6x1024 : Shape := ⟨3, ![1, 6, 1024]⟩
abbrev S1024x512 : Shape := ⟨2, ![1024, 512]⟩
abbrev S512x1024 : Shape := ⟨2, ![512, 1024]⟩
abbrev S1024x384 : Shape := ⟨2, ![1024, 384]⟩
abbrev S384x1024 : Shape := ⟨2, ![384, 1024]⟩
abbrev S1x1x1024 : Shape := ⟨3, ![1, 1, 1024]⟩
abbrev S1024x1 : Shape := ⟨2, ![1024, 1]⟩

abbrev nBuf : Space → Nat
  | .hbm => 14
  | .vmem => 17
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16x6x1024, .f32⟩
  | .hbm, ⟨6, _⟩ => ⟨S1024, .f32⟩
  | .hbm, ⟨7, _⟩ => ⟨S1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S1x1024, .f32⟩
  | .hbm, ⟨13, _⟩ => ⟨S65536x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1408x1024, .bf16⟩
  | .local _ .vmem, ⟨9, _⟩ => ⟨S1408x1024, .bf16⟩
  | .local _ .vmem, ⟨10, _⟩ => ⟨S1x6x1024, .f32⟩
  | .local _ .vmem, ⟨11, _⟩ => ⟨S1x6x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v76 : BitVec 1 := Scalar.cmpi .eq arg1 c1_i32
  let v77 : BitVec 32 := Scalar.extui v76
  let c0_i32_47 : BitVec 32 := 0#32
  let v78 : BitVec 1 := Scalar.cmpi .ne v77 c0_i32_47
  v78

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== SwigluIdeal.lean ====
abbrev S65536x1024 : Shape := ⟨2, ![65536, 1024]⟩
abbrev S1024x2816 : Shape := ⟨2, ![1024, 2816]⟩
abbrev S2816x1024 : Shape := ⟨2, ![2816, 1024]⟩
abbrev S16x6x1024 : Shape := ⟨3, ![16, 6, 1024]⟩
abbrev S1024 : Shape := ⟨1, ![1024]⟩
abbrev S65536x2816 : Shape := ⟨2, ![65536, 2816]⟩
abbrev S_ : Shape := ⟨0, ![]⟩
abbrev S16x1x1024 : Shape := ⟨3, ![16, 1, 1024]⟩
abbrev S16x1024 : Shape := ⟨2, ![16, 1024]⟩
abbrev S16x4096x1024 : Shape := ⟨3, ![16, 4096, 1024]⟩
abbrev S65536 : Shape := ⟨1, ![65536]⟩
abbrev S65536x1 : Shape := ⟨2, ![65536, 1]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16x6x1024, .f32⟩
  | .hbm, ⟨6, _⟩ => ⟨S1024, .f32⟩
  | .hbm, ⟨7, _⟩ => ⟨S1024, .f32⟩
  | .hbm, ⟨8, _⟩ => ⟨S65536x1024, .f32⟩
  | .hbm, ⟨9, _⟩ => ⟨S65536x2816, .f32⟩
  | .hbm, ⟨10, _⟩ => ⟨S65536x2816, .f32⟩
  | .hbm, ⟨11, _⟩ => ⟨S65536x2816, .f32⟩
  | .hbm, ⟨12, _⟩ => ⟨S_, .f32⟩
  | .hbm, ⟨13, _⟩ => ⟨S65536x2816, .f32⟩
  | .hbm, ⟨14, _⟩ => ⟨S65536x2816, .f32⟩
  | .hbm, ⟨15, _⟩ => ⟨S_, .f32⟩
  | .hbm, ⟨16, _⟩ => ⟨S65536x2816, .f32⟩
  | .hbm, ⟨17, _⟩ => ⟨S65536x2816, .f32⟩
  | .hbm, ⟨18, _⟩ => ⟨S65536x2816, .f32⟩
  | .hbm, ⟨19, _⟩ => ⟨S65536x2816, .f32⟩
  | .hbm, ⟨20, _⟩ => ⟨S65536x2816, .f32⟩
  | .hbm, ⟨21, _⟩ => ⟨S65536x1024, .f32⟩
  | .hbm, ⟨22, _⟩ => ⟨S_, .f32⟩
  | .hbm, ⟨23, _⟩ => ⟨S65536x1024, .f32⟩
  | .hbm, ⟨24, _⟩ => ⟨S65536x1024, .f32⟩
  | .hbm, ⟨25, _⟩ => ⟨S16x1x1024, .f32⟩
  | .hbm, ⟨26, _⟩ => ⟨S16x1024, .f32⟩
  | .hbm, ⟨27, _⟩ => ⟨S16x4096x1024, .f32⟩
  | .hbm, ⟨28, _⟩ => ⟨S65536x1024, .f32⟩
  | .hbm, ⟨29, _⟩ => ⟨S_, .f32⟩
  | .hbm, ⟨30, _⟩ => ⟨S65536x1024, .f32⟩
  | .hbm, ⟨31, _⟩ => ⟨S65536x1024, .f32⟩
  | .hbm, ⟨32, _⟩ => ⟨S65536x1024, .f32⟩
  | .hbm, ⟨33, _⟩ => ⟨S65536x1024, .f32⟩
  | .hbm, ⟨34, _⟩ => ⟨S_, .f32⟩
  | .hbm, ⟨35, _⟩ => ⟨S65536, .f32⟩
  | .hbm, ⟨36, _⟩ => ⟨S65536x1, .f32⟩
  | .hbm, ⟨37, _⟩ => ⟨S_, .f32⟩
  | .hbm, ⟨38, _⟩ => ⟨S65536x1, .f32⟩
  | .hbm, ⟨39, _⟩ => ⟨S65536x1, .f32⟩
  | .hbm, ⟨40, _⟩ => ⟨S65536x1024, .f32⟩
  | .hbm, ⟨41, _⟩ => ⟨S65536x1024, .f32⟩
  | .hbm, ⟨42, _⟩ => ⟨S65536x1024, .f32⟩
  | .hbm, ⟨43, _⟩ => ⟨S_, .f32⟩
  | .hbm, ⟨44, _⟩ => ⟨S65536, .f32⟩
  | .hbm, ⟨45, _⟩ => ⟨S65536x1, .f32⟩
  | .hbm, ⟨46, _⟩ => ⟨S_, .f32⟩
  | .hbm, ⟨47, _⟩ => ⟨S65536x1, .f32⟩
  | .hbm, ⟨48, _⟩ => ⟨S65536x1, .f32⟩
  | .hbm, ⟨49, _⟩ => ⟨S65536x1024, .f32⟩
  | .hbm, ⟨50, _⟩ => ⟨S65536x1024, .f32⟩
  | .hbm, ⟨51, _⟩ => ⟨S_, .f32⟩
  | .hbm, ⟨52, _⟩ => ⟨S65536x1, .f32⟩
  | .hbm, ⟨53, _⟩ => ⟨S65536x1, .f32⟩
  | .hbm, ⟨54, _⟩ => ⟨S65536x1, .f32⟩
  | .hbm, ⟨55, _⟩ => ⟨S65536x1024, .f32⟩
  | .hbm, ⟨56, _⟩ => ⟨S65536x1024, .f32⟩
  | .hbm, ⟨57, _⟩ => ⟨S1x1024, .f32⟩
  | .hbm, ⟨58, _⟩ => ⟨S65536x1024, .f32⟩
  | .hbm, ⟨59, _⟩ => ⟨S65536x1024, .f32⟩
  | .hbm, ⟨60, _⟩ => ⟨S1x1024, .f32⟩
  | .hbm, ⟨61, _⟩ => ⟨S65536x1024, .f32⟩
  | .hbm, ⟨62, _⟩ => ⟨S65536x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_1 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩

abbrev nD : Nat := 1
abbrev τ : Topo := Topo.v7x

variable {F : FTy → Type} [FloatOps F]
-- ==== Grouped.lean ====
abbrev S139264x1024 : Shape := ⟨2, ![139264, 1024]⟩
abbrev S136 : Shape := ⟨1, ![136]⟩
abbrev S1 : Shape := ⟨1, ![1]⟩
abbrev S8x1024x2816 : Shape := ⟨3, ![8, 1024, 2816]⟩
abbrev S8x2816x1024 : Shape := ⟨3, ![8, 2816, 1024]⟩
abbrev S1024x1024 : Shape := ⟨2, ![1024, 1024]⟩
abbrev S1x1024x1408 : Shape := ⟨3, ![1, 1024, 1408]⟩
abbrev S1x1408x1024 : Shape := ⟨3, ![1, 1408, 1024]⟩
abbrev S1x1024x512 : Shape := ⟨3, ![1, 1024, 512]⟩
abbrev S1024x512 : Shape := ⟨2, ![1024, 512]⟩
abbrev S1x512x1024 : Shape := ⟨3, ![1, 512, 1024]⟩
abbrev S512x1024 : Shape := ⟨2, ![512, 1024]⟩
abbrev S1x1024x384 : Shape := ⟨3, ![1, 1024, 384]⟩
abbrev S1024x384 : Shape := ⟨2, ![1024, 384]⟩
abbrev S1x384x1024 : Shape := ⟨3, ![1, 384, 1024]⟩
abbrev S384x1024 : Shape := ⟨2, ![384, 1024]⟩

abbrev nBuf : Space → Nat
  | .hbm => 8
  | .vmem => 11
  | .smem => 2
  | _ => 0

abbrev bufTy : (tb : Table) → Fin (tcTables nBuf tb) → BufTy
  | .hbm, ⟨0, _⟩ => ⟨S139264x1024, .f32⟩
  | .hbm, ⟨1, _⟩ => ⟨S8x1024x2816, .f32⟩
  | .hbm, ⟨2, _⟩ => ⟨S8x1024x2816, .f32⟩
  | .hbm, ⟨3, _⟩ => ⟨S8x2816x1024, .f32⟩
  | .hbm, ⟨4, _⟩ => ⟨S8x1024x2816, .bf16⟩
  | .hbm, ⟨5, _⟩ => ⟨S8x1024x2816, .bf16⟩
  | .hbm, ⟨6, _⟩ => ⟨S8x2816x1024, .bf16⟩
  | .hbm, ⟨7, _⟩ => ⟨S139264x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1408x1024, .bf16⟩
  | .local _ .vmem, ⟨7, _⟩ => ⟨S1x1408x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .smem, ⟨0, _⟩ => ⟨S136, .i32⟩
  | .local _ .smem, ⟨1, _⟩ => ⟨S1, .i32⟩
  | _, _ => ⟨S139264x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![136, 2], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c1_i32 : BitVec 32 := 1#32
  let v8 : BitVec 1 := Scalar.cmpi .eq arg1 c1_i32
  let v9 : BitVec 1 := Scalar.andi v1 v8
  let v10 : BitVec 32 := Scalar.extui v9
  let c0_i32_2 : BitVec 32 := 0#32
  let v11 : BitVec 1 := Scalar.cmpi .ne v10 c0_i32_2
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S136.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S136.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S136.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsIdeal.lean ====
abbrev S139264x1024 : Shape := ⟨2, ![139264, 1024]⟩
abbrev S136 : Shape := ⟨1, ![136]⟩
abbrev S1 : Shape := ⟨1, ![1]⟩
abbrev S8x1024x2816 : Shape := ⟨3, ![8, 1024, 2816]⟩
abbrev S8x2816x1024 : Shape := ⟨3, ![8, 2816, 1024]⟩
abbrev S136x1024 : Shape := ⟨2, ![136, 1024]⟩
abbrev S139264 : Shape := ⟨1, ![139264]⟩
abbrev S139264x1 : Shape := ⟨2, ![139264, 1]⟩
abbrev S_ : Shape := ⟨0, ![]⟩
abbrev S1x1024x2816 : Shape := ⟨3, ![1, 1024, 2816]⟩
abbrev S1024x2816 : Shape := ⟨2, ![1024, 2816]⟩
abbrev S139264x2816 : Shape := ⟨2, ![139264, 2816]⟩
abbrev S1x2816x1024 : Shape := ⟨3, ![1, 2816, 1024]⟩
abbrev S2816x1024 : Shape := ⟨2, ![2816, 1024]⟩

abbrev nBuf : Space → Nat
  | .hbm => 203
  | .vmem => 0
  | .smem => 0
  | _ => 0

abbrev hbmTy0_0 (i : Nat) : BufTy := match i % 128 with
  | 0 => ⟨S139264x1024, .f32⟩
  | 1 => ⟨S136, .i32⟩
  | 2 => ⟨S1, .i32⟩
  | 3 => ⟨S8x1024x2816, .f32⟩
  | 4 => ⟨S8x1024x2816, .f32⟩
  | 5 => ⟨S8x2816x1024, .f32⟩
  | 6 => ⟨S136x1024, .i32⟩
  | 7 => ⟨S139264, .i32⟩
  | 8 => ⟨S139264x1, .i32⟩
  | 9 => ⟨S_, .f32⟩
  | 10 => ⟨S139264x1024, .f32⟩
  | 11 => ⟨S1x1024x2816, .f32⟩
  | 12 => ⟨S1024x2816, .f32⟩
  | 13 => ⟨S139264x2816, .f32⟩
  | 14 => ⟨S139264x2816, .f32⟩
  | 15 => ⟨S139264x2816, .f32⟩
  | 16 => ⟨S_, .f32⟩
  | 17 => ⟨S139264x2816, .f32⟩
  | 18 => ⟨S139264x2816, .f32⟩
  | 19 => ⟨S_, .f32⟩
  | 20 => ⟨S139264x2816, .f32⟩
  | 21 => ⟨S139264x2816, .f32⟩
  | 22 => ⟨S139264x2816, .f32⟩
  | 23 => ⟨S1x1024x2816, .f32⟩
  | 24 => ⟨S1024x2816, .f32⟩
  | 25 => ⟨S139264x2816, .f32⟩
  | 26 => ⟨S139264x2816, .f32⟩
  | 27 => ⟨S1x2816x1024, .f32⟩
  | 28 => ⟨S2816x1024, .f32⟩
  | 29 => ⟨S139264x1024, .f32⟩
  | 30 => ⟨S_, .i32⟩
  | 31 => ⟨S139264x1, .i32⟩
  | 32 => ⟨S139264x1, .i1⟩
  | 33 => ⟨S139264x1024, .i1⟩
  | 34 => ⟨S139264x1024, .f32⟩
  | 35 => ⟨S1x1024x2816, .f32⟩
  | 36 => ⟨S1024x2816, .f32⟩
  | 37 => ⟨S139264x2816, .f32⟩
  | 38 => ⟨S139264x2816, .f32⟩
  | 39 => ⟨S139264x2816, .f32⟩
  | 40 => ⟨S_, .f32⟩
  | 41 => ⟨S139264x2816, .f32⟩
  | 42 => ⟨S139264x2816, .f32⟩
  | 43 => ⟨S_, .f32⟩
  | 44 => ⟨S139264x2816, .f32⟩
  | 45 => ⟨S139264x2816, .f32⟩
  | 46 => ⟨S139264x2816, .f32⟩
  | 47 => ⟨S1x1024x2816, .f32⟩
  | 48 => ⟨S1024x2816, .f32⟩
  | 49 => ⟨S139264x2816, .f32⟩
  | 50 => ⟨S139264x2816, .f32⟩
  | 51 => ⟨S1x2816x1024, .f32⟩
  | 52 => ⟨S2816x1024, .f32⟩
  | 53 => ⟨S139264x1024, .f32⟩
  | 54 => ⟨S_, .i32⟩
  | 55 => ⟨S139264x1, .i32⟩
  | 56 => ⟨S139264x1, .i1⟩
  | 57 => ⟨S139264x1024, .i1⟩
  | 58 => ⟨S139264x1024, .f32⟩
  | 59 => ⟨S1x1024x2816, .f32⟩
  | 60 => ⟨S1024x2816, .f32⟩
  | 61 => ⟨S139264x2816, .f32⟩
  | 62 => ⟨S139264x2816, .f32⟩
  | 63 => ⟨S139264x2816, .f32⟩
  | 64 => ⟨S_, .f32⟩
  | 65 => ⟨S139264x2816, .f32⟩
  | 66 => ⟨S139264x2816, .f32⟩
  | 67 => ⟨S_, .f32⟩
  | 68 => ⟨S139264x2816, .f32⟩
  | 69 => ⟨S139264x2816, .f32⟩
  | 70 => ⟨S139264x2816, .f32⟩
  | 71 => ⟨S1x1024x2816, .f32⟩
  | 72 => ⟨S1024x2816, .f32⟩
  | 73 => ⟨S139264x2816, .f32⟩
  | 74 => ⟨S139264x2816, .f32⟩
  | 75 => ⟨S1x2816x1024, .f32⟩
  | 76 => ⟨S2816x1024, .f32⟩
  | 77 => ⟨S139264x1024, .f32⟩
  | 78 => ⟨S_, .i32⟩
  | 79 => ⟨S139264x1, .i32⟩
  | 80 => ⟨S139264x1, .i1⟩
  | 81 => ⟨S139264x1024, .i1⟩
  | 82 => ⟨S139264x1024, .f32⟩
  | 83 => ⟨S1x1024x2816, .f32⟩
  | 84 => ⟨S1024x2816, .f32⟩
  | 85 => ⟨S139264x2816, .f32⟩
  | 86 => ⟨S139264x2816, .f32⟩
  | 87 => ⟨S139264x2816, .f32⟩
  | 88 => ⟨S_, .f32⟩
  | 89 => ⟨S139264x2816, .f32⟩
  | 90 => ⟨S139264x2816, .f32⟩
  | 91 => ⟨S_, .f32⟩
  | 92 => ⟨S139264x2816, .f32⟩
  | 93 => ⟨S139264x2816, .f32⟩
  | 94 => ⟨S139264x2816, .f32⟩
  | 95 => ⟨S1x1024x2816, .f32⟩
  | 96 => ⟨S1024x2816, .f32⟩
  | 97 => ⟨S139264x2816, .f32⟩
  | 98 => ⟨S139264x2816, .f32⟩
  | 99 => ⟨S1x2816x1024, .f32⟩
  | 100 => ⟨S2816x1024, .f32⟩
  | 101 => ⟨S139264x1024, .f32⟩
  | 102 => ⟨S_, .i32⟩
  | 103 => ⟨S139264x1, .i32⟩
  | 104 => ⟨S139264x1, .i1⟩
  | 105 => ⟨S139264x1024, .i1⟩
  | 106 => ⟨S139264x1024, .f32⟩
  | 107 => ⟨S1x1024x2816, .f32⟩
  | 108 => ⟨S1024x2816, .f32⟩
  | 109 => ⟨S139264x2816, .f32⟩
  | 110 => ⟨S139264x2816, .f32⟩
  | 111 => ⟨S139264x2816, .f32⟩
  | 112 => ⟨S_, .f32⟩
  | 113 => ⟨S139264x2816, .f32⟩
  | 114 => ⟨S139264x2816, .f32⟩
  | 115 => ⟨S_, .f32⟩
  | 116 => ⟨S139264x2816, .f32⟩
  | 117 => ⟨S139264x2816, .f32⟩
  | 118 => ⟨S139264x2816, .f32⟩
  | 119 => ⟨S1x1024x2816, .f32⟩
  | 120 => ⟨S1024x2816, .f32⟩
  | 121 => ⟨S139264x2816, .f32⟩
  | 122 => ⟨S139264x2816, .f32⟩
  | 123 => ⟨S1x2816x1024, .f32⟩
  | 124 => ⟨S2816x1024, .f32⟩
  | 125 => ⟨S139264x1024, .f32⟩
  | 126 => ⟨S_, .i32⟩
  | 127 => ⟨S139264x1, .i32⟩
  | _ => ⟨S139264x1024, .f32⟩

abbrev hbmTy0_1 (i : Nat) : BufTy := match i % 128 with
  | 0 => ⟨S139264x1, .i1⟩
  | 1 => ⟨S139264x1024, .i1⟩
  | 2 => ⟨S139264x1024, .f32⟩
  | 3 => ⟨S1x1024x2816, .f32⟩
  | 4 => ⟨S1024x2816, .f32⟩
  | 5 => ⟨S139264x2816, .f32⟩
  | 6 => ⟨S139264x2816, .f32⟩
  | 7 => ⟨S139264x2816, .f32⟩
  | 8 => ⟨S_, .f32⟩
  | 9 => ⟨S139264x2816, .f32⟩
  | 10 => ⟨S139264x2816, .f32⟩
  | 11 => ⟨S_, .f32⟩
  | 12 => ⟨S139264x2816, .f32⟩
  | 13 => ⟨S139264x2816, .f32⟩
  | 14 => ⟨S139264x2816, .f32⟩
  | 15 => ⟨S1x1024x2816, .f32⟩
  | 16 => ⟨S1024x2816, .f32⟩
  | 17 => ⟨S139264x2816, .f32⟩
  | 18 => ⟨S139264x2816, .f32⟩
  | 19 => ⟨S1x2816x1024, .f32⟩
  | 20 => ⟨S2816x1024, .f32⟩
  | 21 => ⟨S139264x1024, .f32⟩
  | 22 => ⟨S_, .i32⟩
  | 23 => ⟨S139264x1, .i32⟩
  | 24 => ⟨S139264x1, .i1⟩
  | 25 => ⟨S139264x1024, .i1⟩
  | 26 => ⟨S139264x1024, .f32⟩
  | 27 => ⟨S1x1024x2816, .f32⟩
  | 28 => ⟨S1024x2816, .f32⟩
  | 29 => ⟨S139264x2816, .f32⟩
  | 30 => ⟨S139264x2816, .f32⟩
  | 31 => ⟨S139264x2816, .f32⟩
  | 32 => ⟨S_, .f32⟩
  | 33 => ⟨S139264x2816, .f32⟩
  | 34 => ⟨S139264x2816, .f32⟩
  | 35 => ⟨S_, .f32⟩
  | 36 => ⟨S139264x2816, .f32⟩
  | 37 => ⟨S139264x2816, .f32⟩
  | 38 => ⟨S139264x2816, .f32⟩
  | 39 => ⟨S1x1024x2816, .f32⟩
  | 40 => ⟨S1024x2816, .f32⟩
  | 41 => ⟨S139264x2816, .f32⟩
  | 42 => ⟨S139264x2816, .f32⟩
  | 43 => ⟨S1x2816x1024, .f32⟩
  | 44 => ⟨S2816x1024, .f32⟩
  | 45 => ⟨S139264x1024, .f32⟩
  | 46 => ⟨S_, .i32⟩
  | 47 => ⟨S139264x1, .i32⟩
  | 48 => ⟨S139264x1, .i1⟩
  | 49 => ⟨S139264x1024, .i1⟩
  | 50 => ⟨S139264x1024, .f32⟩
  | 51 => ⟨S1x1024x2816, .f32⟩
  | 52 => ⟨S1024x2816, .f32⟩
  | 53 => ⟨S139264x2816, .f32⟩
  | 54 => ⟨S139264x2816, .f32⟩
  | 55 => ⟨S139264x2816, .f32⟩
  | 56 => ⟨S_, .f32⟩
  | 57 => ⟨S139264x2816, .f32⟩
  | 58 => ⟨S139264x2816, .f32⟩
  | 59 => ⟨S_, .f32⟩
  | 60 => ⟨S139264x2816, .f32⟩
  | 61 => ⟨S139264x2816, .f32⟩
  | 62 => ⟨S139264x2816, .f32⟩
  | 63 => ⟨S1x1024x2816, .f32⟩
  | 64 => ⟨S1024x2816, .f32⟩
  | 65 => ⟨S139264x2816, .f32⟩
  | 66 => ⟨S139264x2816, .f32⟩
  | 67 => ⟨S1x2816x1024, .f32⟩
  | 68 => ⟨S2816x1024, .f32⟩
  | 69 => ⟨S139264x1024, .f32⟩
  | 70 => ⟨S_, .i32⟩
  | 71 => ⟨S139264x1, .i32⟩
  | 72 => ⟨S139264x1, .i1⟩
  | 73 => ⟨S139264x1024, .i1⟩
  | 74 => ⟨S139264x1024, .f32⟩
  | _ => ⟨S139264x1024, .f32⟩

abbrev hbmTy (i : Nat) : BufTy := match i / 128 with
  | 0 => hbmTy0_0 i
  | 1 => hbmTy0_1 i
  | _ => ⟨S139264x1024, .f32⟩

abbrev bufTy : (tb : Table) → Fin (tcTables nBuf tb) → BufTy
  | .hbm, ⟨i, _⟩ => hbmTy i
  | _, _ => ⟨S139264x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_call1_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call2_v0 : Ref sig .tc := ⟨.hbm, 38, rfl⟩
abbrev main_call2_v1 : Ref sig .tc := ⟨.hbm, 39, rfl⟩
abbrev main_call2_cst : Ref sig .tc := ⟨.hbm, 40, rfl⟩
abbrev main_call2_v2 : Ref sig .tc := ⟨.hbm, 41, rfl⟩
abbrev main_call2_v3 : Ref sig .tc := ⟨.hbm, 42, rfl⟩
abbrev main_call2_cst_0 : Ref sig .tc := ⟨.hbm, 43, rfl⟩
abbrev main_call2_v4 : Ref sig .tc := ⟨.hbm, 44, rfl⟩
abbrev main_call2_v5 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_0 : Ref sig .tc := ⟨.hbm, 54, rfl⟩
abbrev main_v29 : Ref sig .tc := ⟨.hbm, 55, rfl⟩
abbrev main_v30 : Ref sig .tc := ⟨.hbm, 56, rfl⟩
abbrev main_call3_v0 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_call4_v0 : Ref sig .tc := ⟨.hbm, 62, rfl⟩
abbrev main_call4_v1 : Ref sig .tc := ⟨.hbm, 63, rfl⟩
abbrev main_call4_cst : Ref sig .tc := ⟨.hbm, 64, rfl⟩
abbrev main_call4_v2 : Ref sig .tc := ⟨.hbm, 65, rfl⟩
abbrev main_call4_v3 : Ref sig .tc := ⟨.hbm, 66, rfl⟩
abbrev main_call4_cst_0 : Ref sig .tc := ⟨.hbm, 67, rfl⟩
abbrev main_call4_v4 : Ref sig .tc := ⟨.hbm, 68, rfl⟩
abbrev main_call4_v5 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_c_1 : Ref sig .tc := ⟨.hbm, 78, rfl⟩
abbrev main_v43 : Ref sig .tc := ⟨.hbm, 79, rfl⟩
abbrev main_v44 : Ref sig .tc := ⟨.hbm, 80, rfl⟩
abbrev main_call5_v0 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_call6_v0 : Ref sig .tc := ⟨.hbm, 86, rfl⟩
abbrev main_call6_v1 : Ref sig .tc := ⟨.hbm, 87, rfl⟩
abbrev main_call6_cst : Ref sig .tc := ⟨.hbm, 88, rfl⟩
abbrev main_call6_v2 : Ref sig .tc := ⟨.hbm, 89, rfl⟩
abbrev main_call6_v3 : Ref sig .tc := ⟨.hbm, 90, rfl⟩
abbrev main_call6_cst_0 : Ref sig .tc := ⟨.hbm, 91, rfl⟩
abbrev main_call6_v4 : Ref sig .tc := ⟨.hbm, 92, rfl⟩
abbrev main_call6_v5 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_c_2 : Ref sig .tc := ⟨.hbm, 102, rfl⟩
abbrev main_v57 : Ref sig .tc := ⟨.hbm, 103, rfl⟩
abbrev main_v58 : Ref sig .tc := ⟨.hbm, 104, rfl⟩
abbrev main_call7_v0 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_call8_v0 : Ref sig .tc := ⟨.hbm, 110, rfl⟩
abbrev main_call8_v1 : Ref sig .tc := ⟨.hbm, 111, rfl⟩
abbrev main_call8_cst : Ref sig .tc := ⟨.hbm, 112, rfl⟩
abbrev main_call8_v2 : Ref sig .tc := ⟨.hbm, 113, rfl⟩
abbrev main_call8_v3 : Ref sig .tc := ⟨.hbm, 114, rfl⟩
abbrev main_call8_cst_0 : Ref sig .tc := ⟨.hbm, 115, rfl⟩
abbrev main_call8_v4 : Ref sig .tc := ⟨.hbm, 116, rfl⟩
abbrev main_call8_v5 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_c_3 : Ref sig .tc := ⟨.hbm, 126, rfl⟩
abbrev main_v71 : Ref sig .tc := ⟨.hbm, 127, rfl⟩
abbrev main_v72 : Ref sig .tc := ⟨.hbm, 128, rfl⟩
abbrev main_call9_v0 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_call10_v0 : Ref sig .tc := ⟨.hbm, 134, rfl⟩
abbrev main_call10_v1 : Ref sig .tc := ⟨.hbm, 135, rfl⟩
abbrev main_call10_cst : Ref sig .tc := ⟨.hbm, 136, rfl⟩
abbrev main_call10_v2 : Ref sig .tc := ⟨.hbm, 137, rfl⟩
abbrev main_call10_v3 : Ref sig .tc := ⟨.hbm, 138, rfl⟩
abbrev main_call10_cst_0 : Ref sig .tc := ⟨.hbm, 139, rfl⟩
abbrev main_call10_v4 : Ref sig .tc := ⟨.hbm, 140, rfl⟩
abbrev main_call10_v5 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_c_4 : Ref sig .tc := ⟨.hbm, 150, rfl⟩
abbrev main_v85 : Ref sig .tc := ⟨.hbm, 151, rfl⟩
abbrev main_v86 : Ref sig .tc := ⟨.hbm, 152, rfl⟩
abbrev main_call11_v0 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_call12_v0 : Ref sig .tc := ⟨.hbm, 158, rfl⟩
abbrev main_call12_v1 : Ref sig .tc := ⟨.hbm, 159, rfl⟩
abbrev main_call12_cst : Ref sig .tc := ⟨.hbm, 160, rfl⟩
abbrev main_call12_v2 : Ref sig .tc := ⟨.hbm, 161, rfl⟩
abbrev main_call12_v3 : Ref sig .tc := ⟨.hbm, 162, rfl⟩
abbrev main_call12_cst_0 : Ref sig .tc := ⟨.hbm, 163, rfl⟩
abbrev main_call12_v4 : Ref sig .tc := ⟨.hbm, 164, rfl⟩
abbrev main_call12_v5 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_c_5 : Ref sig .tc := ⟨.hbm, 174, rfl⟩
abbrev main_v99 : Ref sig .tc := ⟨.hbm, 175, rfl⟩
abbrev main_v100 : Ref sig .tc := ⟨.hbm, 176, rfl⟩
abbrev main_call13_v0 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_call14_v0 : Ref sig .tc := ⟨.hbm, 182, rfl⟩
abbrev main_call14_v1 : Ref sig .tc := ⟨.hbm, 183, rfl⟩
abbrev main_call14_cst : Ref sig .tc := ⟨.hbm, 184, rfl⟩
abbrev main_call14_v2 : Ref sig .tc := ⟨.hbm, 185, rfl⟩
abbrev main_call14_v3 : Ref sig .tc := ⟨.hbm, 186, rfl⟩
abbrev main_call14_cst_0 : Ref sig .tc := ⟨.hbm, 187, rfl⟩
abbrev main_call14_v4 : Ref sig .tc := ⟨.hbm, 188, rfl⟩
abbrev main_call14_v5 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_c_6 : Ref sig .tc := ⟨.hbm, 198, rfl⟩
abbrev main_v113 : Ref sig .tc := ⟨.hbm, 199, rfl⟩
abbrev main_v114 : Ref sig .tc := ⟨.hbm, 200, rfl⟩
abbrev main_call15_v0 : Ref sig .tc := ⟨.hbm, 201, rfl⟩
abbrev main_v115 : Ref sig .tc := ⟨.hbm, 202, rfl⟩

abbrev nD : Nat := 1
abbrev τ : Topo := Topo.v7x

variable {F : FTy → Type} [FloatOps F]
-- ==== Proj.lean ====
abbrev S65536x1024 : Shape := ⟨2, ![65536, 1024]⟩
abbrev S16x6x1024 : Shape := ⟨3, ![16, 6, 1024]⟩
abbrev S1024x2776 : Shape := ⟨2, ![1024, 2776]⟩
abbrev S1024x512 : Shape := ⟨2, ![1024, 512]⟩
abbrev S1024x64 : Shape := ⟨2, ![1024, 64]⟩
abbrev S1024x8 : Shape := ⟨2, ![1024, 8]⟩
abbrev S1024x256 : Shape := ⟨2, ![1024, 256]⟩
abbrev S1024x16 : Shape := ⟨2, ![1024, 16]⟩
abbrev S_ : Shape := ⟨0, ![]⟩
abbrev S1024x104 : Shape := ⟨2, ![1024, 104]⟩
abbrev S1024x2944 : Shape := ⟨2, ![1024, 2944]⟩
abbrev S64x1024 : Shape := ⟨2, ![64, 1024]⟩
abbrev S65536x1280 : Shape := ⟨2, ![65536, 1280]⟩
abbrev S65536x640 : Shape := ⟨2, ![65536, 640]⟩
abbrev S128x64x512 : Shape := ⟨3, ![128, 64, 512]⟩
abbrev S512x1024 : Shape := ⟨2, ![512, 1024]⟩
abbrev S1x6x1024 : Shape := ⟨3, ![1, 6, 1024]⟩
abbrev S512x1280 : Shape := ⟨2, ![512, 1280]⟩
abbrev S512x640 : Shape := ⟨2, ![512, 640]⟩
abbrev S1x64x512 : Shape := ⟨3, ![1, 64, 512]⟩
abbrev S1x1x1024 : Shape := ⟨3, ![1, 1, 1024]⟩
abbrev S1x1024 : Shape := ⟨2, ![1, 1024]⟩
abbrev S1024x1280 : Shape := ⟨2, ![1024, 1280]⟩
abbrev S1024x1024 : Shape := ⟨2, ![1024, 1024]⟩
abbrev S1024x640 : Shape := ⟨2, ![1024, 640]⟩
abbrev S64x512 : Shape := ⟨2, ![64, 512]⟩

abbrev nBuf : Space → Nat
  | .hbm => 31
  | .vmem => 14
  | .smem => 0
  | _ => 0

abbrev bufTy : (tb : Table) → Fin (tcTables nBuf tb) → BufTy
  | .hbm, ⟨0, _⟩ => ⟨S65536x1024, .f32⟩
  | .hbm, ⟨1, _⟩ => ⟨S16x6x1024, .f32⟩
  | .hbm, ⟨2, _⟩ => ⟨S1024x2776, .f32⟩
  | .hbm, ⟨3, _⟩ => ⟨S1024x512, .f32⟩
  | .hbm, ⟨4, _⟩ => ⟨S1024x64, .f32⟩
  | .hbm, ⟨5, _⟩ => ⟨S1024x64, .f32⟩
  | .hbm, ⟨6, _⟩ => ⟨S1024x512, .f32⟩
  | .hbm, ⟨7, _⟩ => ⟨S1024x64, .f32⟩
  | .hbm, ⟨8, _⟩ => ⟨S1024x8, .f32⟩
  | .hbm, ⟨9, _⟩ => ⟨S1024x256, .f32⟩
  | .hbm, ⟨10, _⟩ => ⟨S1024x256, .f32⟩
  | .hbm, ⟨11, _⟩ => ⟨S1024x512, .f32⟩
  | .hbm, ⟨12, _⟩ => ⟨S1024x512, .f32⟩
  | .hbm, ⟨13, _⟩ => ⟨S1024x16, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S1024x64, .f32⟩
  | .hbm, ⟨19, _⟩ => ⟨S_, .f32⟩
  | .hbm, ⟨20, _⟩ => ⟨S1024x64, .f32⟩
  | .hbm, ⟨21, _⟩ => ⟨S_, .f32⟩
  | .hbm, ⟨22, _⟩ => ⟨S1024x104, .f32⟩
  | .hbm, ⟨23, _⟩ => ⟨S1024x2944, .f32⟩
  | .hbm, ⟨24, _⟩ => ⟨S1024x2944, .bf16⟩
  | .hbm, ⟨25, _⟩ => ⟨S64x1024, .f32⟩
  | .hbm, ⟨26, _⟩ => ⟨S64x1024, .bf16⟩
  | .hbm, ⟨27, _⟩ => ⟨S65536x1280, .bf16⟩
  | .hbm, ⟨28, _⟩ => ⟨S65536x1024, .bf16⟩
  | .hbm, ⟨29, _⟩ => ⟨S65536x640, .f32⟩
  | .hbm, ⟨30, _⟩ => ⟨S128x64x512, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x2944, .bf16⟩
  | .local _ .vmem, ⟨5, _⟩ => ⟨S64x1024, .bf16⟩
  | .local _ .vmem, ⟨6, _⟩ => ⟨S512x1280, .bf16⟩
  | .local _ .vmem, ⟨7, _⟩ => ⟨S512x1280, .bf16⟩
  | .local _ .vmem, ⟨8, _⟩ => ⟨S512x1024, .bf16⟩
  | .local _ .vmem, ⟨9, _⟩ => ⟨S512x1024, .bf16⟩
  | .local _ .vmem, ⟨10, _⟩ => ⟨S512x640, .f32⟩
  | .local _ .vmem, ⟨11, _⟩ => ⟨S512x640, .f32⟩
  | .local _ .vmem, ⟨12, _⟩ => ⟨S1x64x512, .bf16⟩
  | .local _ .vmem, ⟨13, _⟩ => ⟨S1x64x512, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20_0 : Ref sig .tc := ⟨.hbm, 27, rfl⟩
abbrev main_v20_1 : Ref sig .tc := ⟨.hbm, 28, rfl⟩
abbrev main_v20_2 : Ref sig .tc := ⟨.hbm, 29, rfl⟩
abbrev main_v20_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjectionsIdeal.lean ====
abbrev S65536x1024 : Shape := ⟨2, ![65536, 1024]⟩
abbrev S16x6x1024 : Shape := ⟨3, ![16, 6, 1024]⟩
abbrev S1024x2776 : Shape := ⟨2, ![1024, 2776]⟩
abbrev S16x1x1024 : Shape := ⟨3, ![16, 1, 1024]⟩
abbrev S16x1024 : Shape := ⟨2, ![16, 1024]⟩
abbrev S16x4096x1024 : Shape := ⟨3, ![16, 4096, 1024]⟩
abbrev S_ : Shape := ⟨0, ![]⟩
abbrev S65536x2776 : Shape := ⟨2, ![65536, 2776]⟩
abbrev S65536x512 : Shape := ⟨2, ![65536, 512]⟩
abbrev S65536x64 : Shape := ⟨2, ![65536, 64]⟩
abbrev S65536x8 : Shape := ⟨2, ![65536, 8]⟩
abbrev S65536x256 : Shape := ⟨2, ![65536, 256]⟩
abbrev S65536x16 : Shape := ⟨2, ![65536, 16]⟩
abbrev S65536x1280 : Shape := ⟨2, ![65536, 1280]⟩
abbrev S65536x104 : Shape := ⟨2, ![65536, 104]⟩
abbrev S65536x640 : Shape := ⟨2, ![65536, 640]⟩
abbrev S128x512x64 : Shape := ⟨3, ![128, 512, 64]⟩
abbrev S128x64x512 : Shape := ⟨3, ![128, 64, 512]⟩

abbrev nBuf : Space → Nat
  | .hbm => 45
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S16x6x1024, .f32⟩
  | .hbm, ⟨2, _⟩ => ⟨S1024x2776, .f32⟩
  | .hbm, ⟨3, _⟩ => ⟨S16x1x1024, .f32⟩
  | .hbm, ⟨4, _⟩ => ⟨S16x1024, .f32⟩
  | .hbm, ⟨5, _⟩ => ⟨S16x4096x1024, .f32⟩
  | .hbm, ⟨6, _⟩ => ⟨S65536x1024, .f32⟩
  | .hbm, ⟨7, _⟩ => ⟨S_, .f32⟩
  | .hbm, ⟨8, _⟩ => ⟨S65536x1024, .f32⟩
  | .hbm, ⟨9, _⟩ => ⟨S65536x1024, .f32⟩
  | .hbm, ⟨10, _⟩ => ⟨S65536x1024, .f32⟩
  | .hbm, ⟨11, _⟩ => ⟨S16x1x1024, .f32⟩
  | .hbm, ⟨12, _⟩ => ⟨S16x1024, .f32⟩
  | .hbm, ⟨13, _⟩ => ⟨S16x4096x1024, .f32⟩
  | .hbm, ⟨14, _⟩ => ⟨S65536x1024, .f32⟩
  | .hbm, ⟨15, _⟩ => ⟨S65536x1024, .f32⟩
  | .hbm, ⟨16, _⟩ => ⟨S65536x2776, .f32⟩
  | .hbm, ⟨17, _⟩ => ⟨S65536x512, .f32⟩
  | .hbm, ⟨18, _⟩ => ⟨S65536x64, .f32⟩
  | .hbm, ⟨19, _⟩ => ⟨S65536x64, .f32⟩
  | .hbm, ⟨20, _⟩ => ⟨S65536x512, .f32⟩
  | .hbm, ⟨21, _⟩ => ⟨S65536x64, .f32⟩
  | .hbm, ⟨22, _⟩ => ⟨S65536x8, .f32⟩
  | .hbm, ⟨23, _⟩ => ⟨S65536x256, .f32⟩
  | .hbm, ⟨24, _⟩ => ⟨S65536x256, .f32⟩
  | .hbm, ⟨25, _⟩ => ⟨S65536x512, .f32⟩
  | .hbm, ⟨26, _⟩ => ⟨S65536x512, .f32⟩
  | .hbm, ⟨27, _⟩ => ⟨S65536x16, .f32⟩
  | .hbm, ⟨28, _⟩ => ⟨S_, .f32⟩
  | .hbm, ⟨29, _⟩ => ⟨S65536x512, .f32⟩
  | .hbm, ⟨30, _⟩ => ⟨S65536x512, .f32⟩
  | .hbm, ⟨31, _⟩ => ⟨S_, .f32⟩
  | .hbm, ⟨32, _⟩ => ⟨S65536x64, .f32⟩
  | .hbm, ⟨33, _⟩ => ⟨S_, .f32⟩
  | .hbm, ⟨34, _⟩ => ⟨S65536x64, .f32⟩
  | .hbm, ⟨35, _⟩ => ⟨S65536x1280, .f32⟩
  | .hbm, ⟨36, _⟩ => ⟨S65536x1024, .f32⟩
  | .hbm, ⟨37, _⟩ => ⟨S_, .f32⟩
  | .hbm, ⟨38, _⟩ => ⟨S65536x104, .f32⟩
  | .hbm, ⟨39, _⟩ => ⟨S65536x640, .f32⟩
  | .hbm, ⟨40, _⟩ => ⟨S128x512x64, .f32⟩
  | .hbm, ⟨41, _⟩ => ⟨S128x64x512, .f32⟩
  | .hbm, ⟨42, _⟩ => ⟨S65536x1280, .bf16⟩
  | .hbm, ⟨43, _⟩ => ⟨S65536x1024, .bf16⟩
  | .hbm, ⟨44, _⟩ => ⟨S128x64x512, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_v24 : Ref sig .tc := ⟨.hbm, 29, rfl⟩
abbrev main_v25 : Ref sig .tc := ⟨.hbm, 30, rfl⟩
abbrev main_cst_1 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩

abbrev nD : Nat := 1
abbrev τ : Topo := Topo.v7x

variable {F : FTy → Type} [FloatOps F]
-- ==== Outproj.lean ====
abbrev S65536x512 : Shape := ⟨2, ![65536, 512]⟩
abbrev S65536x1024 : Shape := ⟨2, ![65536, 1024]⟩
abbrev S1024x1024 : Shape := ⟨2, ![1024, 1024]⟩
abbrev S16x6x1024 : Shape := ⟨3, ![16, 6, 1024]⟩
abbrev S1024 : Shape := ⟨1, ![1024]⟩
abbrev S1x1024 : Shape := ⟨2, ![1, 1024]⟩
abbrev S512x512 : Shape := ⟨2, ![512, 512]⟩
abbrev S512x1024 : Shape := ⟨2, ![512, 1024]⟩
abbrev S1x6x1024 : Shape := ⟨3, ![1, 6, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S65536x1024, .f32⟩
  | .hbm, ⟨3, _⟩ => ⟨S1024x1024, .f32⟩
  | .hbm, ⟨4, _⟩ => ⟨S16x6x1024, .f32⟩
  | .hbm, ⟨5, _⟩ => ⟨S1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S65536x1024, .f32⟩
  | .hbm, ⟨11, _⟩ => ⟨S65536x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x6x1024, .f32⟩
  | .local _ .vmem, ⟨8, _⟩ => ⟨S1x6x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixedIdeal.lean ====
abbrev S65536x512 : Shape := ⟨2, ![65536, 512]⟩
abbrev S65536x1024 : Shape := ⟨2, ![65536, 1024]⟩
abbrev S1024x1024 : Shape := ⟨2, ![1024, 1024]⟩
abbrev S16x6x1024 : Shape := ⟨3, ![16, 6, 1024]⟩
abbrev S1024 : Shape := ⟨1, ![1024]⟩
abbrev S_ : Shape := ⟨0, ![]⟩
abbrev S16x1x1024 : Shape := ⟨3, ![16, 1, 1024]⟩
abbrev S16x1024 : Shape := ⟨2, ![16, 1024]⟩
abbrev S16x4096x1024 : Shape := ⟨3, ![16, 4096, 1024]⟩
abbrev S65536 : Shape := ⟨1, ![65536]⟩
abbrev S65536x1 : Shape := ⟨2, ![65536, 1]⟩
abbrev S1x1024 : Shape := ⟨2, ![1, 1024]⟩

abbrev nBuf : Space → Nat
  | .hbm => 66
  | .vmem => 0
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S65536x1024, .f32⟩
  | .hbm, ⟨3, _⟩ => ⟨S1024x1024, .f32⟩
  | .hbm, ⟨4, _⟩ => ⟨S16x6x1024, .f32⟩
  | .hbm, ⟨5, _⟩ => ⟨S1024, .f32⟩
  | .hbm, ⟨6, _⟩ => ⟨S1024, .f32⟩
  | .hbm, ⟨7, _⟩ => ⟨S65536x512, .f32⟩
  | .hbm, ⟨8, _⟩ => ⟨S65536x512, .f32⟩
  | .hbm, ⟨9, _⟩ => ⟨S65536x1024, .f32⟩
  | .hbm, ⟨10, _⟩ => ⟨S65536x1024, .f32⟩
  | .hbm, ⟨11, _⟩ => ⟨S_, .f32⟩
  | .hbm, ⟨12, _⟩ => ⟨S65536x1024, .f32⟩
  | .hbm, ⟨13, _⟩ => ⟨S65536x1024, .f32⟩
  | .hbm, ⟨14, _⟩ => ⟨S16x1x1024, .f32⟩
  | .hbm, ⟨15, _⟩ => ⟨S16x1024, .f32⟩
  | .hbm, ⟨16, _⟩ => ⟨S16x4096x1024, .f32⟩
  | .hbm, ⟨17, _⟩ => ⟨S65536x1024, .f32⟩
  | .hbm, ⟨18, _⟩ => ⟨S_, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536, .f32⟩
  | .hbm, ⟨25, _⟩ => ⟨S65536x1, .f32⟩
  | .hbm, ⟨26, _⟩ => ⟨S_, .f32⟩
  | .hbm, ⟨27, _⟩ => ⟨S65536x1, .f32⟩
  | .hbm, ⟨28, _⟩ => ⟨S65536x1, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S_, .f32⟩
  | .hbm, ⟨33, _⟩ => ⟨S65536, .f32⟩
  | .hbm, ⟨34, _⟩ => ⟨S65536x1, .f32⟩
  | .hbm, ⟨35, _⟩ => ⟨S_, .f32⟩
  | .hbm, ⟨36, _⟩ => ⟨S65536x1, .f32⟩
  | .hbm, ⟨37, _⟩ => ⟨S65536x1, .f32⟩
  | .hbm, ⟨38, _⟩ => ⟨S65536x1024, .f32⟩
  | .hbm, ⟨39, _⟩ => ⟨S65536x1024, .f32⟩
  | .hbm, ⟨40, _⟩ => ⟨S_, .f32⟩
  | .hbm, ⟨41, _⟩ => ⟨S65536x1, .f32⟩
  | .hbm, ⟨42, _⟩ => ⟨S65536x1, .f32⟩
  | .hbm, ⟨43, _⟩ => ⟨S65536x1, .f32⟩
  | .hbm, ⟨44, _⟩ => ⟨S65536x1024, .f32⟩
  | .hbm, ⟨45, _⟩ => ⟨S65536x1024, .f32⟩
  | .hbm, ⟨46, _⟩ => ⟨S1x1024, .f32⟩
  | .hbm, ⟨47, _⟩ => ⟨S65536x1024, .f32⟩
  | .hbm, ⟨48, _⟩ => ⟨S65536x1024, .f32⟩
  | .hbm, ⟨49, _⟩ => ⟨S1x1024, .f32⟩
  | .hbm, ⟨50, _⟩ => ⟨S65536x1024, .f32⟩
  | .hbm, ⟨51, _⟩ => ⟨S65536x1024, .f32⟩
  | .hbm, ⟨52, _⟩ => ⟨S16x1x1024, .f32⟩
  | .hbm, ⟨53, _⟩ => ⟨S16x1024, .f32⟩
  | .hbm, ⟨54, _⟩ => ⟨S16x4096x1024, .f32⟩
  | .hbm, ⟨55, _⟩ => ⟨S65536x1024, .f32⟩
  | .hbm, ⟨56, _⟩ => ⟨S_, .f32⟩
  | .hbm, ⟨57, _⟩ => ⟨S65536x1024, .f32⟩
  | .hbm, ⟨58, _⟩ => ⟨S65536x1024, .f32⟩
  | .hbm, ⟨59, _⟩ => ⟨S65536x1024, .f32⟩
  | .hbm, ⟨60, _⟩ => ⟨S16x1x1024, .f32⟩
  | .hbm, ⟨61, _⟩ => ⟨S16x1024, .f32⟩
  | .hbm, ⟨62, _⟩ => ⟨S16x4096x1024, .f32⟩
  | .hbm, ⟨63, _⟩ => ⟨S65536x1024, .f32⟩
  | .hbm, ⟨64, _⟩ => ⟨S65536x1024, .f32⟩
  | .hbm, ⟨65, _⟩ => ⟨S65536x1024, .bf16⟩
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== Routed.lean ====
abbrev S65536x512 : Shape := ⟨2, ![65536, 512]⟩
abbrev S65536x1024 : Shape := ⟨2, ![65536, 1024]⟩
abbrev S1024x1024 : Shape := ⟨2, ![1024, 1024]⟩
abbrev S16x6x1024 : Shape := ⟨3, ![16, 6, 1024]⟩
abbrev S1024 : Shape := ⟨1, ![1024]⟩
abbrev S1024x8 : Shape := ⟨2, ![1024, 8]⟩
abbrev S8x1024 : Shape := ⟨2, ![8, 1024]⟩
abbrev S1x1024 : Shape := ⟨2, ![1, 1024]⟩
abbrev S65536x128 : Shape := ⟨2, ![65536, 128]⟩
abbrev S512x512 : Shape := ⟨2, ![512, 512]⟩
abbrev S512x1024 : Shape := ⟨2, ![512, 1024]⟩
abbrev S1x6x1024 : Shape := ⟨3, ![1, 6, 1024]⟩
abbrev S512x128 : Shape := ⟨2, ![512, 128]⟩
abbrev S1x1x1024 : Shape := ⟨3, ![1, 1, 1024]⟩
abbrev S512 : Shape := ⟨1, ![512]⟩
abbrev S512x1 : Shape := ⟨2, ![512, 1]⟩
abbrev S1x128 : Shape := ⟨2, ![1, 128]⟩

abbrev nBuf : Space → Nat
  | .hbm => 15
  | .vmem => 18
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S65536x1024, .f32⟩
  | .hbm, ⟨3, _⟩ => ⟨S1024x1024, .f32⟩
  | .hbm, ⟨4, _⟩ => ⟨S16x6x1024, .f32⟩
  | .hbm, ⟨5, _⟩ => ⟨S1024, .f32⟩
  | .hbm, ⟨6, _⟩ => ⟨S1024, .f32⟩
  | .hbm, ⟨7, _⟩ => ⟨S1024x8, .f32⟩
  | .hbm, ⟨8, _⟩ => ⟨S1024x1024, .bf16⟩
  | .hbm, ⟨9, _⟩ => ⟨S8x1024, .f32⟩
  | .hbm, ⟨10, _⟩ => ⟨S1x1024, .f32⟩
  | .hbm, ⟨11, _⟩ => ⟨S1x1024, .f32⟩
  | .hbm, ⟨12, _⟩ => ⟨S65536x1024, .f32⟩
  | .hbm, ⟨13, _⟩ => ⟨S65536x1024, .f32⟩
  | .hbm, ⟨14, _⟩ => ⟨S65536x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x6x1024, .f32⟩
  | .local _ .vmem, ⟨8, _⟩ => ⟨S1x6x1024, .f32⟩
  | .local _ .vmem, ⟨9, _⟩ => ⟨S1x1024, .f32⟩
  | .local _ .vmem, ⟨10, _⟩ => ⟨S1x1024, .f32⟩
  | .local _ .vmem, ⟨11, _⟩ => ⟨S8x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x128, .f32⟩
  | .local _ .vmem, ⟨17, _⟩ => ⟨S512x128, .f32⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixedRoutedIdeal.lean ====
abbrev S65536x512 : Shape := ⟨2, ![65536, 512]⟩
abbrev S65536x1024 : Shape := ⟨2, ![65536, 1024]⟩
abbrev S1024x1024 : Shape := ⟨2, ![1024, 1024]⟩
abbrev S16x6x1024 : Shape := ⟨3, ![16, 6, 1024]⟩
abbrev S1024 : Shape := ⟨1, ![1024]⟩
abbrev S1024x8 : Shape := ⟨2, ![1024, 8]⟩
abbrev S_ : Shape := ⟨0, ![]⟩
abbrev S16x1x1024 : Shape := ⟨3, ![16, 1, 1024]⟩
abbrev S16x1024 : Shape := ⟨2, ![16, 1024]⟩
abbrev S16x4096x1024 : Shape := ⟨3, ![16, 4096, 1024]⟩
abbrev S65536 : Shape := ⟨1, ![65536]⟩
abbrev S65536x1 : Shape := ⟨2, ![65536, 1]⟩
abbrev S1x1024 : Shape := ⟨2, ![1, 1024]⟩
abbrev S65536x8 : Shape := ⟨2, ![65536, 8]⟩
abbrev S65536x120 : Shape := ⟨2, ![65536, 120]⟩
abbrev S65536x128 : Shape := ⟨2, ![65536, 128]⟩

abbrev nBuf : Space → Nat
  | .hbm => 70
  | .vmem => 0
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S65536x1024, .f32⟩
  | .hbm, ⟨3, _⟩ => ⟨S1024x1024, .f32⟩
  | .hbm, ⟨4, _⟩ => ⟨S16x6x1024, .f32⟩
  | .hbm, ⟨5, _⟩ => ⟨S1024, .f32⟩
  | .hbm, ⟨6, _⟩ => ⟨S1024, .f32⟩
  | .hbm, ⟨7, _⟩ => ⟨S1024x8, .f32⟩
  | .hbm, ⟨8, _⟩ => ⟨S65536x512, .f32⟩
  | .hbm, ⟨9, _⟩ => ⟨S65536x512, .f32⟩
  | .hbm, ⟨10, _⟩ => ⟨S65536x1024, .f32⟩
  | .hbm, ⟨11, _⟩ => ⟨S65536x1024, .f32⟩
  | .hbm, ⟨12, _⟩ => ⟨S_, .f32⟩
  | .hbm, ⟨13, _⟩ => ⟨S65536x1024, .f32⟩
  | .hbm, ⟨14, _⟩ => ⟨S65536x1024, .f32⟩
  | .hbm, ⟨15, _⟩ => ⟨S16x1x1024, .f32⟩
  | .hbm, ⟨16, _⟩ => ⟨S16x1024, .f32⟩
  | .hbm, ⟨17, _⟩ => ⟨S16x4096x1024, .f32⟩
  | .hbm, ⟨18, _⟩ => ⟨S65536x1024, .f32⟩
  | .hbm, ⟨19, _⟩ => ⟨S_, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S_, .f32⟩
  | .hbm, ⟨25, _⟩ => ⟨S65536, .f32⟩
  | .hbm, ⟨26, _⟩ => ⟨S65536x1, .f32⟩
  | .hbm, ⟨27, _⟩ => ⟨S_, .f32⟩
  | .hbm, ⟨28, _⟩ => ⟨S65536x1, .f32⟩
  | .hbm, ⟨29, _⟩ => ⟨S65536x1, .f32⟩
  | .hbm, ⟨30, _⟩ => ⟨S65536x1024, .f32⟩
  | .hbm, ⟨31, _⟩ => ⟨S65536x1024, .f32⟩
  | .hbm, ⟨32, _⟩ => ⟨S65536x1024, .f32⟩
  | .hbm, ⟨33, _⟩ => ⟨S_, .f32⟩
  | .hbm, ⟨34, _⟩ => ⟨S65536, .f32⟩
  | .hbm, ⟨35, _⟩ => ⟨S65536x1, .f32⟩
  | .hbm, ⟨36, _⟩ => ⟨S_, .f32⟩
  | .hbm, ⟨37, _⟩ => ⟨S65536x1, .f32⟩
  | .hbm, ⟨38, _⟩ => ⟨S65536x1, .f32⟩
  | .hbm, ⟨39, _⟩ => ⟨S65536x1024, .f32⟩
  | .hbm, ⟨40, _⟩ => ⟨S65536x1024, .f32⟩
  | .hbm, ⟨41, _⟩ => ⟨S_, .f32⟩
  | .hbm, ⟨42, _⟩ => ⟨S65536x1, .f32⟩
  | .hbm, ⟨43, _⟩ => ⟨S65536x1, .f32⟩
  | .hbm, ⟨44, _⟩ => ⟨S65536x1, .f32⟩
  | .hbm, ⟨45, _⟩ => ⟨S65536x1024, .f32⟩
  | .hbm, ⟨46, _⟩ => ⟨S65536x1024, .f32⟩
  | .hbm, ⟨47, _⟩ => ⟨S1x1024, .f32⟩
  | .hbm, ⟨48, _⟩ => ⟨S65536x1024, .f32⟩
  | .hbm, ⟨49, _⟩ => ⟨S65536x1024, .f32⟩
  | .hbm, ⟨50, _⟩ => ⟨S1x1024, .f32⟩
  | .hbm, ⟨51, _⟩ => ⟨S65536x1024, .f32⟩
  | .hbm, ⟨52, _⟩ => ⟨S65536x1024, .f32⟩
  | .hbm, ⟨53, _⟩ => ⟨S16x1x1024, .f32⟩
  | .hbm, ⟨54, _⟩ => ⟨S16x1024, .f32⟩
  | .hbm, ⟨55, _⟩ => ⟨S16x4096x1024, .f32⟩
  | .hbm, ⟨56, _⟩ => ⟨S65536x1024, .f32⟩
  | .hbm, ⟨57, _⟩ => ⟨S_, .f32⟩
  | .hbm, ⟨58, _⟩ => ⟨S65536x1024, .f32⟩
  | .hbm, ⟨59, _⟩ => ⟨S65536x1024, .f32⟩
  | .hbm, ⟨60, _⟩ => ⟨S65536x1024, .f32⟩
  | .hbm, ⟨61, _⟩ => ⟨S16x1x1024, .f32⟩
  | .hbm, ⟨62, _⟩ => ⟨S16x1024, .f32⟩
  | .hbm, ⟨63, _⟩ => ⟨S16x4096x1024, .f32⟩
  | .hbm, ⟨64, _⟩ => ⟨S65536x1024, .f32⟩
  | .hbm, ⟨65, _⟩ => ⟨S65536x1024, .f32⟩
  | .hbm, ⟨66, _⟩ => ⟨S65536x8, .f32⟩
  | .hbm, ⟨67, _⟩ => ⟨S_, .f32⟩
  | .hbm, ⟨68, _⟩ => ⟨S65536x120, .f32⟩
  | .hbm, ⟨69, _⟩ => ⟨S65536x128, .f32⟩
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== Modulation.lean ====
abbrev S16x1024 : Shape := ⟨2, ![16, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x16x6144 : Shape := ⟨3, ![4, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConditionedIdeal.lean ====
abbrev S16x1024 : Shape := ⟨2, ![16, 1024]⟩
abbrev S4x1024x6144 : Shape := ⟨3, ![4, 1024, 6144]⟩
abbrev S4x6144 : Shape := ⟨2, ![4, 6144]⟩
abbrev S_ : Shape := ⟨0, ![]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S1x16x6144 : Shape := ⟨3, ![1, 16, 6144]⟩
abbrev S4x16x6144 : Shape := ⟨3, ![4, 16, 6144]⟩

abbrev nBuf : Space → Nat
  | .hbm => 76
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x6144, .f32⟩
  | .hbm, ⟨13, _⟩ => ⟨S1024x6144, .f32⟩
  | .hbm, ⟨14, _⟩ => ⟨S16x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S16x6144, .f32⟩
  | .hbm, ⟨19, _⟩ => ⟨S16x6144, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S_, .f32⟩
  | .hbm, ⟨26, _⟩ => ⟨S16x1024, .f32⟩
  | .hbm, ⟨27, _⟩ => ⟨S16x1024, .f32⟩
  | .hbm, ⟨28, _⟩ => ⟨S16x1024, .f32⟩
  | .hbm, ⟨29, _⟩ => ⟨S1x1024x6144, .f32⟩
  | .hbm, ⟨30, _⟩ => ⟨S1024x6144, .f32⟩
  | .hbm, ⟨31, _⟩ => ⟨S16x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S16x6144, .f32⟩
  | .hbm, ⟨36, _⟩ => ⟨S16x6144, .f32⟩
  | .hbm, ⟨37, _⟩ => ⟨S16x1024, .f32⟩
  | .hbm, ⟨38, _⟩ => ⟨S16x1024, .f32⟩
  | .hbm, ⟨39, _⟩ => ⟨S_, .f32⟩
  | .hbm, ⟨40, _⟩ => ⟨S16x1024, .f32⟩
  | .hbm, ⟨41, _⟩ => ⟨S16x1024, .f32⟩
  | .hbm, ⟨42, _⟩ => ⟨S_, .f32⟩
  | .hbm, ⟨43, _⟩ => ⟨S16x1024, .f32⟩
  | .hbm, ⟨44, _⟩ => ⟨S16x1024, .f32⟩
  | .hbm, ⟨45, _⟩ => ⟨S16x1024, .f32⟩
  | .hbm, ⟨46, _⟩ => ⟨S1x1024x6144, .f32⟩
  | .hbm, ⟨47, _⟩ => ⟨S1024x6144, .f32⟩
  | .hbm, ⟨48, _⟩ => ⟨S16x6144, .f32⟩
  | .hbm, ⟨49, _⟩ => ⟨S1x6144, .f32⟩
  | .hbm, ⟨50, _⟩ => ⟨S6144, .f32⟩
  | .hbm, ⟨51, _⟩ => ⟨S1x6144, .f32⟩
  | .hbm, ⟨52, _⟩ => ⟨S16x6144, .f32⟩
  | .hbm, ⟨53, _⟩ => ⟨S16x6144, .f32⟩
  | .hbm, ⟨54, _⟩ => ⟨S16x1024, .f32⟩
  | .hbm, ⟨55, _⟩ => ⟨S16x1024, .f32⟩
  | .hbm, ⟨56, _⟩ => ⟨S_, .f32⟩
  | .hbm, ⟨57, _⟩ => ⟨S16x1024, .f32⟩
  | .hbm, ⟨58, _⟩ => ⟨S16x1024, .f32⟩
  | .hbm, ⟨59, _⟩ => ⟨S_, .f32⟩
  | .hbm, ⟨60, _⟩ => ⟨S16x1024, .f32⟩
  | .hbm, ⟨61, _⟩ => ⟨S16x1024, .f32⟩
  | .hbm, ⟨62, _⟩ => ⟨S16x1024, .f32⟩
  | .hbm, ⟨63, _⟩ => ⟨S1x1024x6144, .f32⟩
  | .hbm, ⟨64, _⟩ => ⟨S1024x6144, .f32⟩
  | .hbm, ⟨65, _⟩ => ⟨S16x6144, .f32⟩
  | .hbm, ⟨66, _⟩ => ⟨S1x6144, .f32⟩
  | .hbm, ⟨67, _⟩ => ⟨S6144, .f32⟩
  | .hbm, ⟨68, _⟩ => ⟨S1x6144, .f32⟩
  | .hbm, ⟨69, _⟩ => ⟨S16x6144, .f32⟩
  | .hbm, ⟨70, _⟩ => ⟨S16x6144, .f32⟩
  | .hbm, ⟨71, _⟩ => ⟨S1x16x6144, .f32⟩
  | .hbm, ⟨72, _⟩ => ⟨S1x16x6144, .f32⟩
  | .hbm, ⟨73, _⟩ => ⟨S1x16x6144, .f32⟩
  | .hbm, ⟨74, _⟩ => ⟨S1x16x6144, .f32⟩
  | .hbm, ⟨75, _⟩ => ⟨S4x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call2_v0 : Ref sig .tc := ⟨.hbm, 37, rfl⟩
abbrev main_call2_v1 : Ref sig .tc := ⟨.hbm, 38, rfl⟩
abbrev main_call2_cst : Ref sig .tc := ⟨.hbm, 39, rfl⟩
abbrev main_call2_v2 : Ref sig .tc := ⟨.hbm, 40, rfl⟩
abbrev main_call2_v3 : Ref sig .tc := ⟨.hbm, 41, rfl⟩
abbrev main_call2_cst_0 : Ref sig .tc := ⟨.hbm, 42, rfl⟩
abbrev main_call2_v4 : Ref sig .tc := ⟨.hbm, 43, rfl⟩
abbrev main_call2_v5 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_call3_v0 : Ref sig .tc := ⟨.hbm, 54, rfl⟩
abbrev main_call3_v1 : Ref sig .tc := ⟨.hbm, 55, rfl⟩
abbrev main_call3_cst : Ref sig .tc := ⟨.hbm, 56, rfl⟩
abbrev main_call3_v2 : Ref sig .tc := ⟨.hbm, 57, rfl⟩
abbrev main_call3_v3 : Ref sig .tc := ⟨.hbm, 58, rfl⟩
abbrev main_call3_cst_0 : Ref sig .tc := ⟨.hbm, 59, rfl⟩
abbrev main_call3_v4 : Ref sig .tc := ⟨.hbm, 60, rfl⟩
abbrev main_call3_v5 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩

abbrev nD : Nat := 1
abbrev τ : Topo := Topo.v7x

variable {F : FTy → Type} [FloatOps F]
-- ==== Proof.Core.lean ====
/-
  A program that only loads from and stores into buffers its core owns, read as a function on those
  buffers' contents. `wpS` says what such a program leaves as a plain predicate on contents; `wpS_sound`
  turns it into the logic's statement; `Safe` is the part of it that says only that the program runs.
-/
module

public import Idealize.ShloMosaic.Lib.Tactic
public import Idealize.ShloMosaic.Lib.Scf

@[expose] public section

noncomputable section

namespace Cert.Proof.Core

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

/-- The contents of every buffer the TensorCore of device `c` can name. -/
abbrev St (Val : EltTy → Type) (τ : Topo) (sig : RefSig) (c : Dev nD) : Type :=
  (b : Ref sig .tc) → Buf Val ((c.tc : Thread nD τ).loc b)

/-- One effect over contents `σ`, the buffers in `B` owned: a load continues at what is read, a store at the
    contents written; nothing else is allowed. -/
def stepS (c : Dev nD) (B : Finset (Ref sig .tc)) {β : Type} (e : TpuEff nD τ sig Val Λ .tc β)
    (σ : St Val τ sig c) (K : β → St Val τ sig c → Prop) : Prop :=
  match e, K with
  | .load m r _, K => m.view.ref ∈ B ∧ K (m.view.readAt Val r (σ m.view.ref)) σ
  | .store m r w M _ _, K =>
    m.view.ref ∈ B ∧ K ⟨⟩ (Function.update σ m.view.ref ((m.access r).write Val (σ m.view.ref) w M))
  | _, _ => False

/-- The program over contents `σ`: every effect allowed, and `Q` of the value returned and the contents left. -/
def wpS (c : Dev nD) (B : Finset (Ref sig .tc)) {α : Type} : Prog (TpuEff nD τ sig Val Λ .tc) α →
    St Val τ sig c → (α → St Val τ sig c → Prop) → Prop
  | .ret a, σ, Q => Q a σ
  | .op e k, σ, Q => stepS c B e σ fun x σ' => wpS c B (k x) σ' Q

variable {c : Dev nD} {B : Finset (Ref sig .tc)} {α β : Type}

/-- Sequencing. -/
theorem wpS_bind (p : Prog (TpuEff nD τ sig Val Λ .tc) α) (k : α → Prog (TpuEff nD τ sig Val Λ .tc) β)
    (σ : St Val τ sig c) (Q : β → St Val τ sig c → Prop) :
    wpS c B (p >>= k) σ Q = wpS c B p σ fun a σ' => wpS c B (k a) σ' Q := by
  induction p generalizing σ with
  | ret a => rfl
  | op e f ih => exact congrArg (stepS c B e σ) (funext fun x => funext fun σ' => ih x σ')

/-- An effect's clause is monotone in what follows it. -/
theorem stepS_mono (e : TpuEff nD τ sig Val Λ .tc β) (σ : St Val τ sig c) {K K' : β → St Val τ sig c → Prop}
    (h : ∀ x σ', K x σ' → K' x σ') : stepS c B e σ K → stepS c B e σ K' := by
  cases e <;> simp only [stepS, false_imp_iff]
  · exact fun ⟨h1, h2⟩ => ⟨h1, h _ _ h2⟩
  · exact fun ⟨h1, h2⟩ => ⟨h1, h _ _ h2⟩

/-- A program's clause is monotone in its post. -/
theorem wpS_mono (p : Prog (TpuEff nD τ sig Val Λ .tc) α) (σ : St Val τ sig c) {Q Q' : α → St Val τ sig c → Prop}
    (h : ∀ x σ', Q x σ' → Q' x σ') : wpS c B p σ Q → wpS c B p σ Q' := by
  induction p generalizing σ with
  | ret a => exact h a σ
  | op e f ih => exact stepS_mono e σ fun x σ' => ih x σ'

section Sound

variable {Name : Type} [DecidableEq Name] {U : Type} [URA U] {Lvl : Type} [Preorder Lvl]
local notation "𝕄" => MT nD τ sig Unit Val Name U Lvl

/-- Every buffer of `B` held whole at the contents `σ`. -/
def held (c : Dev nD) (B : Finset (Ref sig .tc)) (σ : St Val τ sig c) : sProp 𝕄 :=
  bigSep B fun b => ((c.tc : Thread nD τ).loc b) ↦{fullShare} σ b

/-- Holding the buffers, a program whose clause holds runs, and leaves them at contents its post allows. -/
theorem wpS_sound (defs : Defs nD τ sig Val Λ) (𝒱 : Variants) (E : Set Name) (p : Prog (TpuEff nD τ sig Val Λ .tc) α)
    (σ : St Val τ sig c) (Q : α → St Val τ sig c → Prop) (h : wpS c B p σ Q) :
    (held c B σ : sProp 𝕄) ⊢ wp frame (wpE defs 𝒱 (c.tc : Thread nD τ) none) E p
      fun a => iprop(∃ σ', ⌜Q a σ'⌝ ∗ held c B σ') := by
  induction p generalizing σ with
  | ret a =>
    rw [wp_ret]
    iintro H
    imodintro
    iexists σ
    isplitr
    · ipureintro; exact h
    · iexact H
  | op e f ih =>
    cases e <;> simp only [wpS, stepS] at h
    case load cs s e m r hl =>
      have h1 := ih _ σ h.2
      have h2 := wp_load (defs := defs) 𝒱 (c.tc : Thread nD τ) none (Γ := .empty) E (m := m) (r := r) (hl := hl)
        (Name := Name) (U := U) (Lvl := Lvl) (Ix := Unit)
        (k := f) (q := fullShare) (f := σ m.view.ref) (S := Finset.univ) (Finset.subset_univ _)
        (Q := fun a => iprop(∃ σ', ⌜Q a σ'⌝ ∗ held c B σ'))
      have h3 : (held c B σ : sProp 𝕄) = iprop((((c.tc : Thread nD τ).loc m.view.ref) ↦{fullShare} σ m.view.ref)
          ∗ bigSep (B.erase m.view.ref) fun b => ((c.tc : Thread nD τ).loc b) ↦{fullShare} σ b) := bigSep_erase h.1
      rw [h3] at h1 ⊢
      iintro ⟨H, HR⟩
      iapply h2 $$ H
      iintro H
      iapply h1
      isplitl [H]
      · iexact H
      · iexact HR
    case store cs s e m r w M hx hm =>
      have h1 := ih _ _ h.2
      have h2 := wp_store (defs := defs) 𝒱 (c.tc : Thread nD τ) none (Γ := .empty) E (m := m) (r := r) (w := w) (Mk := M) (hx := hx) (hm := hm)
        (Name := Name) (U := U) (Lvl := Lvl) (Ix := Unit)
        (k := f) (f := σ m.view.ref) (S := Finset.univ) (Finset.subset_univ _)
        (Q := fun a => iprop(∃ σ', ⌜Q a σ'⌝ ∗ held c B σ'))
      have h3 : (held c B σ : sProp 𝕄) = iprop((((c.tc : Thread nD τ).loc m.view.ref) ↦{fullShare} σ m.view.ref)
          ∗ bigSep (B.erase m.view.ref) fun b => ((c.tc : Thread nD τ).loc b) ↦{fullShare} σ b) := bigSep_erase h.1
      have h4 : (held c B (Function.update σ m.view.ref ((m.access r).write Val (σ m.view.ref) w M)) : sProp 𝕄)
          = iprop((((c.tc : Thread nD τ).loc m.view.ref) ↦{fullShare} ((m.access r).write Val (σ m.view.ref) w M))
          ∗ bigSep (B.erase m.view.ref) fun b => ((c.tc : Thread nD τ).loc b) ↦{fullShare} σ b) := by
        unfold held
        rw [bigSep_erase h.1, Function.update_self]
        congr 1
        refine bigSep_congr fun b hb => ?_
        rw [Function.update_of_ne (Finset.ne_of_mem_erase hb)]
      rw [h4] at h1
      rw [h3]
      iintro ⟨H, HR⟩
      iapply h2 $$ H
      iintro H
      iapply h1
      isplitl [H]
      · iexact H
      · iexact HR

end Sound

/-! ## Programs that run from any contents -/

/-- The program's every effect is a load from or a store into a buffer of `B`, whatever the contents. -/
def Safe (c : Dev nD) (B : Finset (Ref sig .tc)) (p : Prog (TpuEff nD τ sig Val Λ .tc) α) : Prop :=
  ∀ σ : St Val τ sig c, wpS c B p σ fun _ _ => True

theorem Safe.ret (a : α) : Safe (Λ := Λ) (τ := τ) (Val := Val) c B (.ret a) := fun _ => trivial
theorem Safe.pure (a : α) : Safe (Λ := Λ) (τ := τ) (Val := Val) c B (Pure.pure a) := fun _ => trivial

theorem Safe.bind {p : Prog (TpuEff nD τ sig Val Λ .tc) α} {k : α → Prog (TpuEff nD τ sig Val Λ .tc) β}
    (hp : Safe c B p) (hk : ∀ a, Safe c B (k a)) : Safe c B (p >>= k) := fun σ => by
  rw [wpS_bind]; exact wpS_mono p σ (fun a σ' _ => hk a σ') (hp σ)

theorem Safe.load {cs : CoreSpace} {s : Shape} {e : EltTy} {m : Memref sig .tc cs s e} {r : LoadRect s} {h : m.view.LoadsAt r}
    (hB : m.view.ref ∈ B) : Safe (Λ := Λ) (τ := τ) (Val := Val) c B (Prog.lift (.load m r h)) := fun _ => ⟨hB, trivial⟩

theorem Safe.store {cs : CoreSpace} {s : Shape} {e : EltTy} {m : Memref sig .tc cs s e} {r : Rect s} {w : r.shape.Idx → Val e}
    {M : Finset r.shape.Idx} {h : (m.access r).Stores M} {hm : M = Finset.univ ∨ ∀ a, r.stride a = 1}
    (hB : m.view.ref ∈ B) : Safe (Λ := Λ) (τ := τ) c B (Prog.lift (.store m r w M h hm)) := fun _ => ⟨hB, trivial⟩

theorem Safe.dite {P : Prop} [Decidable P] {p : P → Prog (TpuEff nD τ sig Val Λ .tc) α} {q : ¬P → Prog (TpuEff nD τ sig Val Λ .tc) α}
    (hp : ∀ h, Safe c B (p h)) (hq : ∀ h, Safe c B (q h)) : Safe c B (if h : P then p h else q h) := by
  split
  · exact hp _
  · exact hq _

theorem Safe.forFrom {n : Nat} {body : Fin n → α → Prog (TpuEff nD τ sig Val Λ .tc) α} (hb : ∀ k a, Safe c B (body k a)) :
    ∀ (l : List (Fin n)) (a : α), Safe c B (Scf.forFrom body l a)
  | [], a => Safe.ret a
  | k :: l, a => Safe.bind (hb k a) fun a' => Safe.forFrom hb l a'

theorem Safe.for {w : Nat} {l : Scf.Loop w} {hok : l.OK} {init : α} {body : Fin l.trips → α → Prog (TpuEff nD τ sig Val Λ .tc) α}
    (hb : ∀ k a, Safe c B (body k a)) : Safe c B (Scf.Loop.for l hok init body) := by
  unfold Scf.Loop.for; rw [Scf.for_eq]; exact Safe.forFrom hb _ _

end Cert.Proof.Core

end
-- ==== Proof.SafeKernel.lean ====
/-
  The kernel's body only loads from and stores into the buffers it is handed.
-/
module

public import proofs.«01_k».proof.Kernel
public import proofs.«01_k».proof.Proof.Core

@[expose] public section

noncomputable section

namespace Cert.Proof.SafeKernel

open Cert.Kernel Cert.Proof.Core
open Idealize.ShloMosaic Idealize.ShloMosaic.TcCoe

variable {F : FTy → Type} [BitOps F] [Facts]

set_option maxHeartbeats 40000000 in
set_option maxRecDepth 100000 in
/-- The kernel's body runs from any contents of its fifteen buffers. -/
theorem safe_body (c : Dev nD) (B : Finset (Ref sig .tc)) (i : grid0.Coords)
    (arg2 : Memref sig .tc .vmem S256x1024 .bf16) (harg2 : arg2.IsWhole) (arg3 : Memref sig .tc .vmem S4096x256 .bf16)
    (harg3 : arg3.IsWhole) (arg4 : Memref sig .tc .vmem S8x64x512 .bf16) (harg4 : arg4.IsWhole)
    (arg5 : Memref sig .tc .vmem S256x128 .f32) (harg5 : arg5.IsWhole) (arg6 : Memref sig .tc .vmem S2048x64 .bf16)
    (harg6 : arg6.IsWhole) (arg7 : Memref sig .tc .vmem S4096x128 .bf16) (harg7 : arg7.IsWhole)
    (arg8 : Memref sig .tc .vmem S256x512 .bf16) (harg8 : arg8.IsWhole) (arg9 : Memref sig .tc .vmem S4096x128 .bf16)
    (harg9 : arg9.IsWhole) (arg10 : Memref sig .tc .vmem S8x80x512 .bf16) (harg10 : arg10.IsWhole)
    (arg11 : Memref sig .tc .vmem S2048x128 .bf16) (harg11 : arg11.IsWhole) (arg12 : Memref sig .tc .vmem S2048x64 .bf16)
    (harg12 : arg12.IsWhole) (arg13 : Memref sig .tc .vmem S8x64x8x256 .i32) (harg13 : arg13.IsWhole)
    (arg14 : Memref sig .tc .vmem S8x2x32x8x256 .i32) (harg14 : arg14.IsWhole)
    (arg15 : Memref sig .tc .vmem S8x1x256 .f32) (harg15 : arg15.IsWhole)
    (arg16 : Memref sig .tc .vmem S8x80x256 .f32) (harg16 : arg16.IsWhole)
    (h2 : arg2.view.ref ∈ B) (h3 : arg3.view.ref ∈ B) (h4 : arg4.view.ref ∈ B) (h5 : arg5.view.ref ∈ B)
    (h6 : arg6.view.ref ∈ B) (h7 : arg7.view.ref ∈ B) (h8 : arg8.view.ref ∈ B) (h9 : arg9.view.ref ∈ B)
    (h10 : arg10.view.ref ∈ B) (h11 : arg11.view.ref ∈ B) (h12 : arg12.view.ref ∈ B) (h13 : arg13.view.ref ∈ B)
    (h14 : arg14.view.ref ∈ B) (h15 : arg15.view.ref ∈ B) (h16 : arg16.view.ref ∈ B) :
    Safe (τ := τ) (Val := Elt F) c B
      (cc0__dsa_kernel i arg2 harg2 arg3 harg3 arg4 harg4 arg5 harg5 arg6 harg6 arg7 harg7 arg8 harg8 arg9 harg9
        arg10 harg10 arg11 harg11 arg12 harg12 arg13 harg13 arg14 harg14 arg15 harg15 arg16 harg16) := by
  unfold cc0__dsa_kernel
  repeat' first
    | exact Safe.pure _
    | exact Safe.load (by assumption)
    | exact Safe.store (by assumption)
    | refine Safe.for fun _ _ => ?_
    | refine Safe.bind ?_ fun _ => ?_
    | refine Safe.dite (fun _ => ?_) (fun _ => ?_)

end Cert.Proof.SafeKernel

end
-- ==== Proof.Own.lean ====
/-
  Owning a list of whole buffers at some contents each, and running a safe program on them.
-/
module

public import proofs.«01_k».proof.Proof.Core
public import Idealize.ShloMosaic.Lib.Pipeline.Frame

@[expose] public section

noncomputable section

namespace Cert.Proof.Core

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
variable {Name : Type} [DecidableEq Name] {U : Type} [URA U] {Lvl : Type} [Preorder Lvl]
local notation "𝕄" => MT nD τ sig Unit Val Name U Lvl

/-- The buffer `b` of core `c` owned whole at some contents. -/
def anyAt (c : Dev nD) (b : Ref sig .tc) : sProp 𝕄 :=
  iprop(∃ f : Buf Val ((c.tc : Thread nD τ).loc b), ((c.tc : Thread nD τ).loc b) ↦{fullShare} f)

/-- A buffer owned at `f` is owned at something. -/
theorem anyAt_intro (c : Dev nD) (b : Ref sig .tc) (f : Buf Val ((c.tc : Thread nD τ).loc b)) :
    (((c.tc : Thread nD τ).loc b) ↦{fullShare} f : sProp 𝕄) ⊢ anyAt c b := by
  unfold anyAt; iintro H; iexists f; iexact H

/-- Owning a whole memref at something is owning its buffer at something. -/
theorem owns_any (c : Dev nD) {sp : Space} {s : Shape} {e : EltTy} (M : Memref sig .tc sp s e) (h : M.IsWhole) :
    (iprop(∃ X, owns (c.tc : Thread nD τ) M fullShare X) : sProp 𝕄) = anyAt c M.view.ref := by
  have hs : M.view.set = Finset.univ := by
    obtain ⟨b, rfl, rfl, rfl, hm⟩ := h; cases hm; simp only [Memref.view_whole, View.set_whole]
  unfold anyAt owns
  rw [hs]
  have h₁ : (iprop(∃ X f, ⌜M.view.read Val f = X⌝ ∗ (M.view.loc (c.tc : Thread nD τ) ↦{fullShare} f)) : sProp 𝕄)
      ⊢ iprop(∃ f : Buf Val ((c.tc : Thread nD τ).loc M.view.ref), ((c.tc : Thread nD τ).loc M.view.ref) ↦{fullShare} f) := by
    iintro ⟨%X, %f, -, H⟩
    iexists f; iexact H
  have h₂ : (iprop(∃ f : Buf Val ((c.tc : Thread nD τ).loc M.view.ref), ((c.tc : Thread nD τ).loc M.view.ref) ↦{fullShare} f) : sProp 𝕄)
      ⊢ iprop(∃ X f, ⌜M.view.read Val f = X⌝ ∗ (M.view.loc (c.tc : Thread nD τ) ↦{fullShare} f)) := by
    iintro ⟨%f, H⟩
    iexists (M.view.read Val f), f
    isplitr
    · ipureintro; rfl
    · iexact H
  exact BI.equiv_iff.mp ⟨h₁, h₂⟩

/-- A safe program runs on a list of buffers owned at something, and leaves them so. -/
theorem Safe.run {α : Type} [∀ e, Nonempty (Val e)] {c : Dev nD} (L : List (Ref sig .tc)) (hL : L.Nodup)
    {p : Prog (TpuEff nD τ sig Val Λ .tc) α} (h : Safe c L.toFinset p)
    (defs : Defs nD τ sig Val Λ) (𝒱 : Variants) (E : Set Name) :
    (bigSepL L (anyAt c) : sProp 𝕄) ⊢ wp frame (wpE defs 𝒱 (c.tc : Thread nD τ) none) E p
      fun _ => bigSepL L (anyAt c) := by
  rw [← bigSep_eq_bigSepL_of_eq L rfl hL]
  have h1 := bigSep_exists_pi (M := 𝕄) (Y := fun b : Ref sig .tc => Buf Val ((c.tc : Thread nD τ).loc b)) L.toFinset
    (fun b f => ((c.tc : Thread nD τ).loc b) ↦{fullShare} f)
  have h3 : ∀ σ : St Val τ sig c, (held c L.toFinset σ : sProp 𝕄) ⊢ wp frame (wpE defs 𝒱 (c.tc : Thread nD τ) none) E p
      fun _ => bigSep L.toFinset (anyAt c) := fun σ => by
    refine (wpS_sound (Name := Name) (U := U) (Lvl := Lvl) defs 𝒱 E p σ _ (h σ)).trans (wp_mono _ _ _ fun a => ?_)
    iintro ⟨%σ', -, H⟩
    have h4 : (held c L.toFinset σ' : sProp 𝕄) ⊢ bigSep L.toFinset (anyAt c) :=
      bigSep_mono fun b _ => anyAt_intro c b (σ' b)
    iapply h4; iexact H
  have h5 : (iprop(∃ σ : St Val τ sig c, held c L.toFinset σ) : sProp 𝕄) ⊢ wp frame (wpE defs 𝒱 (c.tc : Thread nD τ) none) E p
      fun _ => bigSep L.toFinset (anyAt c) := by
    iintro ⟨%σ, H⟩
    iapply h3 σ; iexact H
  exact h1.trans h5

end Cert.Proof.Core

end
-- ==== Proof.RunKernel.lean ====
/-
  The kernel's frame: its body runs at every grid point, and the run leaves the five arguments as launched.
-/
module

public import proofs.«01_k».proof.Proof.SafeKernel
public import proofs.«01_k».proof.Proof.Own
public import proofs.«01_k».proof.Proof.Gen.Kernel.Frame
public import Idealize.ShloMosaic.Lib.Pipeline.Frame

@[expose] public section

noncomputable section

namespace Cert.Proof.RunKernel

open Cert.Kernel Cert.Kernel.Gen Cert.Proof.Core
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- An entry of a list is in its set. -/
theorem mem_at {α : Type} [DecidableEq α] {L : List α} {x : α} (n : Nat) (h : L[n]? = some x) : x ∈ L.toFinset :=
  List.mem_toFinset.mpr (List.mem_of_getElem? h)

set_option maxHeartbeats 4000000 in
/-- The body, on any fifteen different whole buffers owned at something, runs and leaves them owned at something. -/
theorem run_body (c : Dev nD) (i : grid0.Coords)
    (arg2 : Memref sig .tc .vmem S256x1024 .bf16) (harg2 : arg2.IsWhole)
    (arg3 : Memref sig .tc .vmem S4096x256 .bf16) (harg3 : arg3.IsWhole)
    (arg4 : Memref sig .tc .vmem S8x64x512 .bf16) (harg4 : arg4.IsWhole)
    (arg5 : Memref sig .tc .vmem S256x128 .f32) (harg5 : arg5.IsWhole)
    (arg6 : Memref sig .tc .vmem S2048x64 .bf16) (harg6 : arg6.IsWhole)
    (arg7 : Memref sig .tc .vmem S4096x128 .bf16) (harg7 : arg7.IsWhole)
    (arg8 : Memref sig .tc .vmem S256x512 .bf16) (harg8 : arg8.IsWhole)
    (arg9 : Memref sig .tc .vmem S4096x128 .bf16) (harg9 : arg9.IsWhole)
    (arg10 : Memref sig .tc .vmem S8x80x512 .bf16) (harg10 : arg10.IsWhole)
    (arg11 : Memref sig .tc .vmem S2048x128 .bf16) (harg11 : arg11.IsWhole)
    (arg12 : Memref sig .tc .vmem S2048x64 .bf16) (harg12 : arg12.IsWhole)
    (arg13 : Memref sig .tc .vmem S8x64x8x256 .i32) (harg13 : arg13.IsWhole)
    (arg14 : Memref sig .tc .vmem S8x2x32x8x256 .i32) (harg14 : arg14.IsWhole)
    (arg15 : Memref sig .tc .vmem S8x1x256 .f32) (harg15 : arg15.IsWhole)
    (arg16 : Memref sig .tc .vmem S8x80x256 .f32) (harg16 : arg16.IsWhole)
    (hnd : [arg2.view.ref, arg3.view.ref, arg4.view.ref, arg5.view.ref, arg6.view.ref, arg7.view.ref, arg8.view.ref, arg9.view.ref, arg10.view.ref, arg11.view.ref, arg12.view.ref, arg13.view.ref, arg14.view.ref, arg15.view.ref, arg16.view.ref].Nodup) :
    (iprop((∃ X, owns (c.tc : Thread nD τ) arg2 fullShare X)
      ∗ (∃ X, owns (c.tc : Thread nD τ) arg3 fullShare X)
      ∗ (∃ X, owns (c.tc : Thread nD τ) arg4 fullShare X)
      ∗ (∃ X, owns (c.tc : Thread nD τ) arg5 fullShare X)
      ∗ (∃ X, owns (c.tc : Thread nD τ) arg6 fullShare X)
      ∗ (∃ X, owns (c.tc : Thread nD τ) arg7 fullShare X)
      ∗ (∃ X, owns (c.tc : Thread nD τ) arg8 fullShare X)
      ∗ (∃ X, owns (c.tc : Thread nD τ) arg9 fullShare X)
      ∗ (∃ X, owns (c.tc : Thread nD τ) arg10 fullShare X)
      ∗ (∃ X, owns (c.tc : Thread nD τ) arg11 fullShare X)
      ∗ (∃ X, owns (c.tc : Thread nD τ) arg12 fullShare X)
      ∗ (∃ X, owns (c.tc : Thread nD τ) arg13 fullShare X)
      ∗ (∃ X, owns (c.tc : Thread nD τ) arg14 fullShare X)
      ∗ (∃ X, owns (c.tc : Thread nD τ) arg15 fullShare X)
      ∗ (∃ X, owns (c.tc : Thread nD τ) arg16 fullShare X)) : sProp 𝕄)
      ⊢ wp frame (wpE (defs₀ (F := F)) Variants.none (c.tc : Thread nD τ) none) Set.univ
        (cc0__dsa_kernel i arg2 harg2 arg3 harg3 arg4 harg4 arg5 harg5 arg6 harg6 arg7 harg7 arg8 harg8 arg9 harg9 arg10 harg10 arg11 harg11 arg12 harg12 arg13 harg13 arg14 harg14 arg15 harg15 arg16 harg16)
        fun _ => iprop((∃ X, owns (c.tc : Thread nD τ) arg2 fullShare X)
          ∗ (∃ X, owns (c.tc : Thread nD τ) arg3 fullShare X)
          ∗ (∃ X, owns (c.tc : Thread nD τ) arg4 fullShare X)
          ∗ (∃ X, owns (c.tc : Thread nD τ) arg5 fullShare X)
          ∗ (∃ X, owns (c.tc : Thread nD τ) arg6 fullShare X)
          ∗ (∃ X, owns (c.tc : Thread nD τ) arg7 fullShare X)
          ∗ (∃ X, owns (c.tc : Thread nD τ) arg8 fullShare X)
          ∗ (∃ X, owns (c.tc : Thread nD τ) arg9 fullShare X)
          ∗ (∃ X, owns (c.tc : Thread nD τ) arg10 fullShare X)
          ∗ (∃ X, owns (c.tc : Thread nD τ) arg11 fullShare X)
          ∗ (∃ X, owns (c.tc : Thread nD τ) arg12 fullShare X)
          ∗ (∃ X, owns (c.tc : Thread nD τ) arg13 fullShare X)
          ∗ (∃ X, owns (c.tc : Thread nD τ) arg14 fullShare X)
          ∗ (∃ X, owns (c.tc : Thread nD τ) arg15 fullShare X)
          ∗ (∃ X, owns (c.tc : Thread nD τ) arg16 fullShare X)) := by
  rw [owns_any c arg2 harg2, owns_any c arg3 harg3, owns_any c arg4 harg4, owns_any c arg5 harg5, owns_any c arg6 harg6, owns_any c arg7 harg7, owns_any c arg8 harg8, owns_any c arg9 harg9, owns_any c arg10 harg10, owns_any c arg11 harg11, owns_any c arg12 harg12, owns_any c arg13 harg13, owns_any c arg14 harg14, owns_any c arg15 harg15, owns_any c arg16 harg16]
  exact Safe.run _ hnd (SafeKernel.safe_body c _ i _ harg2 _ harg3 _ harg4 _ harg5 _ harg6 _ harg7 _ harg8 _ harg9 _ harg10 _ harg11 _ harg12 _ harg13 _ harg14 _ harg15 _ harg16
    (mem_at 0 rfl) (mem_at 1 rfl) (mem_at 2 rfl) (mem_at 3 rfl) (mem_at 4 rfl) (mem_at 5 rfl) (mem_at 6 rfl) (mem_at 7 rfl) (mem_at 8 rfl) (mem_at 9 rfl) (mem_at 10 rfl) (mem_at 11 rfl) (mem_at 12 rfl) (mem_at 13 rfl) (mem_at 14 rfl)) _ _ _

/-- Nothing is said of what the body leaves in any staging buffer. -/
def forgets0 : Fin 7 → Bool := fun _ => true

/-- The proof data on core `c`: the arrays as launched, the scratch and the generator register at anything. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

/-- The staging buffers a point uses and the scratch buffers are fifteen different buffers. -/
theorem bufs_nodup : ∀ (s0 s1 s2 s3 : Fin 2) (s4 s5 : Fin 1) (s6 : Fin 2),
    [(stage0_0 s0).view.ref, (stage0_1 s1).view.ref, (stage0_2 s2).view.ref, (stage0_3 s3).view.ref,
      (stage0_4 s4).view.ref, (stage0_5 s5).view.ref, (stage0_6 s6).view.ref, (Memref.whole cc0_scratch0).view.ref,
      (Memref.whole cc0_scratch1).view.ref, (Memref.whole cc0_scratch2).view.ref, (Memref.whole cc0_scratch3).view.ref,
      (Memref.whole cc0_scratch4).view.ref, (Memref.whole cc0_scratch5).view.ref, (Memref.whole cc0_scratch6).view.ref,
      (Memref.whole cc0_scratch7).view.ref].Nodup := by decide +kernel

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- A scratch buffer at some contents, as the body's memref of it owned at something. -/
theorem scratch_any (c : Dev nD) (b : Ref sig .tc) :
    (iprop(∃ f : Buf (Elt F) ((c : Thread nD τ).loc b), ((c : Thread nD τ).loc b) ↦{fullShare} f) : sProp 𝕄)
      = iprop(∃ X, owns (c.tc : Thread nD τ) (Memref.whole b) fullShare X) :=
  (owns_any c _ (Memref.isWhole_whole b)).symm

set_option maxHeartbeats 1000000 in
/-- The body obligation with every window forgotten. -/
theorem body_obligation (c : Dev nD) :
    BodyObligation (dats (F := F) m 0 c) (defs₀ (F := F)) Variants.none () Set.univ forgets0 := fun t => by
  rw [defs₀_row]
  simp only [forgets0, bigSep_W0]
  have h := run_body (F := F) c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (bufs_nodup _ _ _ _ _ _ _)
  unfold Dat.owesAt Pipeline.owesWithin
  rw [show (dats m 0 c).Φ t.succ = Pipeline.ΦA spec0 c from rfl, show (dats m 0 c).Φ t.castSucc = Pipeline.ΦA spec0 c from rfl,
    show (dats m 0 c).owed t.castSucc = 0 from rfl, show (dats m 0 c).owed t.succ = 0 from rfl]
  unfold Pipeline.ΦA
  rw [scopedRest0_eq, scratch_any, scratch_any, scratch_any, scratch_any, scratch_any, scratch_any, scratch_any, scratch_any]
  iintro ⟨⟨⟨S0, S1, S2, S3, S4, S5, S6, S7⟩, Hg⟩, ⟨%W, %hW, HO⟩, H0, H1, H2, H3, H4, H5, H6⟩
  ihave Hw := h $$ [H0 H1 H2 H3 H4 H5 H6 S0 S1 S2 S3 S4 S5 S6 S7]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iapply wp_wand $$ Hw
  iintro %a ⟨H0, H1, H2, H3, H4, H5, H6, S0, S1, S2, S3, S4, S5, S6, S7⟩
  isplitl [S0 S1 S2 S3 S4 S5 S6 S7 Hg]
  · isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact Hg
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  iexact H6

set_option backward.isDefEq.respectTransparency.types false in
/-- From any memory with zero counters the kernel terminates and leaves its five arguments as launched and every
    counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)
    (hQ' := fun r h => ⟨fun c => ⟨h.1.arr_in c 0 rfl, h.1.arr_in c 3 rfl, h.1.arr_in c 2 rfl, h.1.arr_in c 4 rfl,
      h.1.arr_in c 5 rfl⟩, h.2⟩)

end Cert.Proof.RunKernel

end
-- ==== Proof.SafePlain.lean ====
/-
  The reference's body only loads from and stores into the buffers it is handed.
-/
module

public import proofs.«01_k».proof.Plain
public import proofs.«01_k».proof.Proof.Core

@[expose] public section

noncomputable section

namespace Cert.Proof.SafePlain

open Cert.Plain Cert.Proof.Core
open Idealize.ShloMosaic Idealize.ShloMosaic.TcCoe

variable {F : FTy → Type} [BitOps F] [Facts]

set_option maxHeartbeats 4000000 in
/-- The reference's body runs from any contents of its seven buffers. -/
theorem safe_body (c : Dev nD) (B : Finset (Ref sig .tc))
    (arg0 : Memref sig .tc .vmem S65536x1280 .bf16) (harg0 : arg0.IsWhole) (arg1 : Memref sig .tc .vmem S65536x640 .f32)
    (harg1 : arg1.IsWhole) (arg2 : Memref sig .tc .vmem S128x64x512 .bf16) (harg2 : arg2.IsWhole)
    (arg3 : Memref sig .tc .vmem S2048x64 .bf16) (harg3 : arg3.IsWhole) (arg4 : Memref sig .tc .vmem S4096x128 .bf16)
    (harg4 : arg4.IsWhole) (arg5 : Memref sig .tc .vmem S65536x512 .bf16) (harg5 : arg5.IsWhole)
    (arg6 : Memref sig .tc .vmem S8x512x256 .i32) (harg6 : arg6.IsWhole)
    (h0 : arg0.view.ref ∈ B) (h1 : arg1.view.ref ∈ B) (h2 : arg2.view.ref ∈ B) (h3 : arg3.view.ref ∈ B)
    (h4 : arg4.view.ref ∈ B) (h5 : arg5.view.ref ∈ B) (h6 : arg6.view.ref ∈ B) :
    Safe (τ := τ) (Val := Elt F) c B
      (cc0__plain_kernel arg0 harg0 arg1 harg1 arg2 harg2 arg3 harg3 arg4 harg4 arg5 harg5 arg6 harg6) := by
  unfold cc0__plain_kernel
  repeat' first
    | exact Safe.pure _
    | exact Safe.load (by assumption)
    | exact Safe.store (by assumption)
    | refine Safe.for fun _ _ => ?_
    | refine Safe.bind ?_ fun _ => ?_
    | refine Safe.dite (fun _ => ?_) (fun _ => ?_)

end Cert.Proof.SafePlain

end
-- ==== Proof.RunPlain.lean ====
/-
  The reference's frame: its one body runs, on the whole arrays, and leaves its five arguments as launched.
-/
module

public import proofs.«01_k».proof.Proof.SafePlain
public import proofs.«01_k».proof.Proof.Own
public import proofs.«01_k».proof.Proof.Gen.Plain.Frame
public import Idealize.ShloMosaic.Lib.Pipeline.Frame

@[expose] public section

noncomputable section

namespace Cert.Proof.RunPlain

open Cert.Plain Cert.Plain.Gen Cert.Proof.Core
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The body, on any seven different whole buffers owned at something, runs and leaves them owned at something. -/
theorem run_body (c : Dev nD)
    (arg0 : Memref sig .tc .vmem S65536x1280 .bf16) (harg0 : arg0.IsWhole) (arg1 : Memref sig .tc .vmem S65536x640 .f32)
    (harg1 : arg1.IsWhole) (arg2 : Memref sig .tc .vmem S128x64x512 .bf16) (harg2 : arg2.IsWhole)
    (arg3 : Memref sig .tc .vmem S2048x64 .bf16) (harg3 : arg3.IsWhole) (arg4 : Memref sig .tc .vmem S4096x128 .bf16)
    (harg4 : arg4.IsWhole) (arg5 : Memref sig .tc .vmem S65536x512 .bf16) (harg5 : arg5.IsWhole)
    (arg6 : Memref sig .tc .vmem S8x512x256 .i32) (harg6 : arg6.IsWhole)
    (hnd : [arg0.view.ref, arg1.view.ref, arg2.view.ref, arg3.view.ref, arg4.view.ref, arg5.view.ref, arg6.view.ref].Nodup) :
    (iprop((∃ X, owns (c.tc : Thread nD τ) arg0 fullShare X) ∗ (∃ X, owns (c.tc : Thread nD τ) arg1 fullShare X)
      ∗ (∃ X, owns (c.tc : Thread nD τ) arg2 fullShare X) ∗ (∃ X, owns (c.tc : Thread nD τ) arg3 fullShare X)
      ∗ (∃ X, owns (c.tc : Thread nD τ) arg4 fullShare X) ∗ (∃ X, owns (c.tc : Thread nD τ) arg5 fullShare X)
      ∗ (∃ X, owns (c.tc : Thread nD τ) arg6 fullShare X)) : sProp 𝕄)
      ⊢ wp frame (wpE (defs₀ (F := F)) Variants.none (c.tc : Thread nD τ) none) Set.univ
        (cc0__plain_kernel arg0 harg0 arg1 harg1 arg2 harg2 arg3 harg3 arg4 harg4 arg5 harg5 arg6 harg6)
        fun _ => iprop((∃ X, owns (c.tc : Thread nD τ) arg0 fullShare X) ∗ (∃ X, owns (c.tc : Thread nD τ) arg1 fullShare X)
          ∗ (∃ X, owns (c.tc : Thread nD τ) arg2 fullShare X) ∗ (∃ X, owns (c.tc : Thread nD τ) arg3 fullShare X)
          ∗ (∃ X, owns (c.tc : Thread nD τ) arg4 fullShare X) ∗ (∃ X, owns (c.tc : Thread nD τ) arg5 fullShare X)
          ∗ (∃ X, owns (c.tc : Thread nD τ) arg6 fullShare X)) := by
  rw [owns_any c arg0 harg0, owns_any c arg1 harg1, owns_any c arg2 harg2, owns_any c arg3 harg3, owns_any c arg4 harg4,
    owns_any c arg5 harg5, owns_any c arg6 harg6]
  exact Safe.run _ hnd (SafePlain.safe_body c _ _ harg0 _ harg1 _ harg2 _ harg3 _ harg4 _ harg5 _ harg6
    (by simp) (by simp) (by simp) (by simp) (by simp) (by simp) (by simp)) _ _ _

/-- Nothing is said of what the body leaves in any staging buffer. -/
def forgets0 : Fin 6 → Bool := fun _ => true

/-- The proof data on core `c`: the arrays as launched, the scratch and the generator register at anything. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- The staging buffers and the scratch are seven different buffers. -/
theorem bufs_nodup : [(stage0_0 0).view.ref, (stage0_1 0).view.ref, (stage0_2 0).view.ref, (stage0_3 0).view.ref,
    (stage0_4 0).view.ref, (stage0_5 0).view.ref, (Memref.whole cc0_scratch0).view.ref].Nodup := by decide

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation with every window forgotten. -/
theorem body_obligation (c : Dev nD) :
    BodyObligation (dats (F := F) m 0 c) (defs₀ (F := F)) Variants.none () Set.univ forgets0 := fun t => by
  rw [defs₀_row]
  simp only [forgets0, bigSep_W0]
  have h := run_body (F := F) c _ (hstage0_0 0) _ (hstage0_1 0) _ (hstage0_2 0) _ (hstage0_3 0) _ (hstage0_4 0) _ (hstage0_5 0)
    _ (Memref.isWhole_whole cc0_scratch0) bufs_nodup
  unfold Dat.owesAt Pipeline.owesWithin
  rw [show (dats m 0 c).Φ t.succ = Pipeline.ΦA spec0 c from rfl, show (dats m 0 c).Φ t.castSucc = Pipeline.ΦA spec0 c from rfl,
    show (dats m 0 c).owed t.castSucc = 0 from rfl, show (dats m 0 c).owed t.succ = 0 from rfl]
  unfold Pipeline.ΦA
  rw [scopedRest0_eq]
  have hS : (iprop(∃ f : Buf (Elt F) ((c : Thread nD τ).loc cc0_scratch0), ((c : Thread nD τ).loc cc0_scratch0) ↦{fullShare} f) : sProp 𝕄)
      = iprop(∃ X, owns (c.tc : Thread nD τ) (Memref.whole cc0_scratch0) fullShare X) :=
    (owns_any c _ (Memref.isWhole_whole cc0_scratch0)).symm
  rw [hS]
  iintro ⟨⟨HS, Hg⟩, ⟨%W, %hW, HO⟩, H0, H1, H2, H3, H4, H5⟩
  ihave Hw := h $$ [H0 H1 H2 H3 H4 H5 HS]
  · isplitl [H0]; · iexact H0
    isplitl [H1]; · iexact H1
    isplitl [H2]; · iexact H2
    isplitl [H3]; · iexact H3
    isplitl [H4]; · iexact H4
    isplitl [H5]; · iexact H5
    iexact HS
  iapply wp_wand $$ Hw
  iintro %a ⟨H0, H1, H2, H3, H4, H5, HS⟩
  isplitl [HS Hg]
  · isplitl [HS]; · iexact HS
    iexact Hg
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  iexact H5

set_option backward.isDefEq.respectTransparency.types false in
/-- From any memory with zero counters the reference terminates and leaves its five arguments as launched and every
    counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (hQ' := fun r h => ⟨fun c => ⟨h.1.arr_in c 0 rfl, h.1.arr_in c 1 rfl, h.1.arr_in c 2 rfl, h.1.arr_in c 3 rfl,
      h.1.arr_in c 4 rfl⟩, h.2⟩)

end Cert.Proof.RunPlain

end
-- ==== Proof.FfnBody.lean ====
/-
  What one grid point of the dense feed-forward kernel leaves behind, in terms of the blocks it was given.

  A point works through its 1408 hidden columns in three runs (512, 512, 384) and adds each run's contribution to the
  carried sum. `upd` is that chain of three additions, written over the payloads of the printed stores; `fin` is the
  residual sum and the normalization the second point of a row block stores.
-/
module

public import proofs.«01_k».proof.Proof.Gen.FfnIdeal.Value
public import Idealize.ShloMosaic.Lib.Tactic

@[expose] public section

set_option maxRecDepth 16384

noncomputable section

namespace Cert.FfnIdeal.Body

open Cert.FfnIdeal Cert.FfnIdeal.Gen Idealize.ShloMosaic Idealize.ShloMosaic.TcCoe Idealize.SL.Sem

variable {F : FTy → Type} [FloatOps F]

theorem off2 : (![0, 0] : Fin 2 → Nat) = fun _ => 0 := funext fun a => by fin_cases a <;> rfl

/-- Reading back the whole of a buffer whose last store covered it gives what that store wrote. -/
theorem readCov_last {Val : EltTy → Type} [∀ e, Nonempty (Val e)] {sg : RefSig} {κ : Kind} {sp : Space} {S : Shape} {e : EltTy}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- The carried sum after a point, over what it was before: three runs of hidden columns added in order. -/
def upd (x0 : Vec F S1024x1024 .bf16) (x2 x3 : Vec F S1024x1408 .bf16) (x4 : Vec F S1408x1024 .bf16)
    (acc : Vec F S1024x1024 .f32) : Vec F S1024x1024 .f32 :=
  k0_pay1 (k0_pay8 (View.ld x4 (Rect.unit (s := S1408x1024) ![1024, 0] S384x1024.size inb_S1408x1024_S384x1024_1024_0)))
    (k0_pay9 x0 (View.ld x3 (Rect.unit (s := S1024x1408) ![0, 1024] S1024x384.size inb_S1024x1408_S1024x384_0_1024)))
    (k0_pay10 x0 (View.ld x2 (Rect.unit (s := S1024x1408) ![0, 1024] S1024x384.size inb_S1024x1408_S1024x384_0_1024)))
    (k0_pay7 x0 (k0_pay5 (View.ld x2 (Rect.unit (s := S1024x1408) ![0, 512] S1024x512.size inb_S1024x1408_S1024x512_0_512)))
      (k0_pay6 (View.ld x3 (Rect.unit (s := S1024x1408) ![0, 512] S1024x512.size inb_S1024x1408_S1024x512_0_512)))
      (View.ld x4 (Rect.unit (s := S1408x1024) ![512, 0] S512x1024.size inb_S1408x1024_S512x1024_512_0))
      (k0_pay4 x0 (View.ld x2 (Rect.unit (s := S1024x1408) ![0, 0] S1024x512.size inb_S1024x1408_S1024x512_0_0))
        (View.ld x3 (Rect.unit (s := S1024x1408) ![0, 0] S1024x512.size inb_S1024x1408_S1024x512_0_0))
        (View.ld x4 (Rect.unit (s := S1408x1024) ![0, 0] S512x1024.size inb_S1408x1024_S512x1024_0_0)) acc))

/-- What the second point stores: the residual sum with the gated contribution `acc`, normalized along the row. -/
def fin (x1 : Vec F S1024x1024 .f32) (x5 : Vec F S1x6x1024 .f32) (x6 x7 : Vec F S1x1024 .f32)
    (acc : Vec F S1024x1024 .f32) : Vec F S1024x1024 .f32 :=
  k0_pay2 x1 acc (View.ld x5 (Rect.unit (s := S1x6x1024) ![0, 5, 0] S1x1x1024.size inb_S1x6x1024_S1x1x1024_0_5_0)) x6 x7

/-- The first point of a row block starts the carried sum from zero. -/
theorem sout_A (c : Dev nD) (i : grid0.Coords)
    (a2 : Memref sig .tc .vmem S1024x1024 .bf16) (h2 : a2.IsWhole) (a3 : Memref sig .tc .vmem S1024x1024 .f32) (h3 : a3.IsWhole)
    (a4 : Memref sig .tc .vmem S1024x1408 .bf16) (h4 : a4.IsWhole) (a5 : Memref sig .tc .vmem S1024x1408 .bf16) (h5 : a5.IsWhole)
    (a6 : Memref sig .tc .vmem S1408x1024 .bf16) (h6 : a6.IsWhole) (a7 : Memref sig .tc .vmem S1x6x1024 .f32) (h7 : a7.IsWhole)
    (a8 : Memref sig .tc .vmem S1x1024 .f32) (h8 : a8.IsWhole) (a9 : Memref sig .tc .vmem S1x1024 .f32) (h9 : a9.IsWhole)
    (a10 : Memref sig .tc .vmem S1024x1024 .f32) (h10 : a10.IsWhole) (a11 : Memref sig .tc .vmem S1024x1024 .f32) (h11 : a11.IsWhole)
    (hc0 : cond0_0 i) (hc1 : ¬cond0_1 i) (x0 : Vec F S1024x1024 .bf16) (x1 : Vec F S1024x1024 .f32) (x2 x3 : Vec F S1024x1408 .bf16)
    (x4 : Vec F S1408x1024 .bf16) (x5 : Vec F S1x6x1024 .f32) (x6 x7 : Vec F S1x1024 .f32) :
    sout0_A_0 c i a2 h2 a3 h3 a4 h4 a5 h5 a6 h6 a7 h7 a8 h8 a9 h9 a10 h10 a11 h11 hc0 hc1 x0 x1 x2 x3 x4 x5 x6 x7 = upd x0 x2 x3 x4 k0_pay3 := by
  unfold sout0_A_0
  rw [View.read_writes_eq_canon _ _ _ (scover0_A_0 c i a2 h2 a3 h3 a4 h4 a5 h5 a6 h6 a7 h7 a8 h8 a9 h9 a10 h10 a11 h11 hc0 hc1 x0 x1 x2 x3 x4 x5 x6 x7)]
  unfold kernelRun0_A
  dsimp only
  sl_unfold_words
  rw [View.canon_cons_unit_zero (S := S1024x1024) off2]
  simp only [View.readAt_eq_ld, h2.read_unread, h3.read_unread, h4.read_unread, h5.read_unread, h6.read_unread, h7.read_unread, h8.read_unread, h9.read_unread, h11.read_unread, View.ld_unit_zero (S := S1024x1024) off2, View.ld_unit_zero (S := S1x1024) off2]
  simp only [readCov_last (S := S1024x1024) _ off2]
  rfl

/-- The second point adds its columns to what the first left. -/
theorem sout_B (c : Dev nD) (i : grid0.Coords)
    (a2 : Memref sig .tc .vmem S1024x1024 .bf16) (h2 : a2.IsWhole) (a3 : Memref sig .tc .vmem S1024x1024 .f32) (h3 : a3.IsWhole)
    (a4 : Memref sig .tc .vmem S1024x1408 .bf16) (h4 : a4.IsWhole) (a5 : Memref sig .tc .vmem S1024x1408 .bf16) (h5 : a5.IsWhole)
    (a6 : Memref sig .tc .vmem S1408x1024 .bf16) (h6 : a6.IsWhole) (a7 : Memref sig .tc .vmem S1x6x1024 .f32) (h7 : a7.IsWhole)
    (a8 : Memref sig .tc .vmem S1x1024 .f32) (h8 : a8.IsWhole) (a9 : Memref sig .tc .vmem S1x1024 .f32) (h9 : a9.IsWhole)
    (a10 : Memref sig .tc .vmem S1024x1024 .f32) (h10 : a10.IsWhole) (a11 : Memref sig .tc .vmem S1024x1024 .f32) (h11 : a11.IsWhole)
    (hc0 : ¬cond0_0 i) (hc1 : cond0_1 i) (x0 : Vec F S1024x1024 .bf16) (x1 : Vec F S1024x1024 .f32) (x2 x3 : Vec F S1024x1408 .bf16)
    (x4 : Vec F S1408x1024 .bf16) (x5 : Vec F S1x6x1024 .f32) (x6 x7 : Vec F S1x1024 .f32)
    (xs0 : Vec F S1024x1024 .f32) :
    sout0_B_0 c i a2 h2 a3 h3 a4 h4 a5 h5 a6 h6 a7 h7 a8 h8 a9 h9 a10 h10 a11 h11 hc0 hc1 x0 x1 x2 x3 x4 x5 x6 x7 xs0 = upd x0 x2 x3 x4 xs0 := by
  unfold sout0_B_0
  rw [View.read_writes_eq_canon _ _ _ (scover0_B_0 c i a2 h2 a3 h3 a4 h4 a5 h5 a6 h6 a7 h7 a8 h8 a9 h9 a10 h10 a11 h11 hc0 hc1 x0 x1 x2 x3 x4 x5 x6 x7 xs0)]
  unfold kernelRun0_B
  dsimp only
  sl_unfold_words
  rw [View.canon_cons_unit_zero (S := S1024x1024) off2]
  simp only [View.readAt_eq_ld, h2.read_unread, h3.read_unread, h4.read_unread, h5.read_unread, h6.read_unread, h7.read_unread, h8.read_unread, h9.read_unread, h11.read_unread, View.ld_unit_zero (S := S1024x1024) off2, View.ld_unit_zero (S := S1x1024) off2]
  simp only [readCov_last (S := S1024x1024) _ off2]
  rfl

/-- And stores the normalized residual of the whole sum. -/
theorem out_B (c : Dev nD) (i : grid0.Coords)
    (a2 : Memref sig .tc .vmem S1024x1024 .bf16) (h2 : a2.IsWhole) (a3 : Memref sig .tc .vmem S1024x1024 .f32) (h3 : a3.IsWhole)
    (a4 : Memref sig .tc .vmem S1024x1408 .bf16) (h4 : a4.IsWhole) (a5 : Memref sig .tc .vmem S1024x1408 .bf16) (h5 : a5.IsWhole)
    (a6 : Memref sig .tc .vmem S1408x1024 .bf16) (h6 : a6.IsWhole) (a7 : Memref sig .tc .vmem S1x6x1024 .f32) (h7 : a7.IsWhole)
    (a8 : Memref sig .tc .vmem S1x1024 .f32) (h8 : a8.IsWhole) (a9 : Memref sig .tc .vmem S1x1024 .f32) (h9 : a9.IsWhole)
    (a10 : Memref sig .tc .vmem S1024x1024 .f32) (h10 : a10.IsWhole) (a11 : Memref sig .tc .vmem S1024x1024 .f32) (h11 : a11.IsWhole)
    (hc0 : ¬cond0_0 i) (hc1 : cond0_1 i) (x0 : Vec F S1024x1024 .bf16) (x1 : Vec F S1024x1024 .f32) (x2 x3 : Vec F S1024x1408 .bf16)
    (x4 : Vec F S1408x1024 .bf16) (x5 : Vec F S1x6x1024 .f32) (x6 x7 : Vec F S1x1024 .f32)
    (xs0 : Vec F S1024x1024 .f32) :
    out0_B_8 c i a2 h2 a3 h3 a4 h4 a5 h5 a6 h6 a7 h7 a8 h8 a9 h9 a10 h10 a11 h11 hc0 hc1 x0 x1 x2 x3 x4 x5 x6 x7 xs0 = fin x1 x5 x6 x7 (upd x0 x2 x3 x4 xs0) := by
  unfold out0_B_8
  rw [View.read_writes_eq_canon _ _ _ (cover0_B_8 c i a2 h2 a3 h3 a4 h4 a5 h5 a6 h6 a7 h7 a8 h8 a9 h9 a10 h10 a11 h11 hc0 hc1 x0 x1 x2 x3 x4 x5 x6 x7 xs0)]
  unfold kernelRun0_B
  dsimp only
  sl_unfold_words
  rw [View.canon_cons_unit_zero (S := S1024x1024) off2]
  simp only [View.readAt_eq_ld, h2.read_unread, h3.read_unread, h4.read_unread, h5.read_unread, h6.read_unread, h7.read_unread, h8.read_unread, h9.read_unread, h11.read_unread, View.ld_unit_zero (S := S1024x1024) off2, View.ld_unit_zero (S := S1x1024) off2]
  simp only [readCov_last (S := S1024x1024) _ off2]
  rfl

end Cert.FfnIdeal.Body

end
-- ==== Proof.FfnSpec.lean ====
/-
  The gated feed-forward layer over the extended reals, written for one row: a hidden unit, the contribution of all of
  them to an output column, the residual sum, and the normalization along the row.
-/
module

public import Idealize.ShloMosaic.Lib.Pointwise

@[expose] public section

noncomputable section

namespace Cert.FfnSpec

open Idealize.ShloMosaic

/-- `g · 1/(1 + exp (−g))`. -/
def silu (g : EReal) : EReal := g * Ideal.div 1 (1 + Ideal.exp (-g))

/-- Hidden unit `f` of a row `h`: the gate's activation times the up-projection. -/
def hidden {K N : ℕ} (h : Fin K → EReal) (wg wu : Fin K → Fin N → EReal) (f : Fin N) : EReal :=
  silu (∑ k, h k * wg k f) * ∑ k, h k * wu k f

/-- The row's contribution to one output column whose down-projection is `wd`. -/
def contrib {K N : ℕ} (h : Fin K → EReal) (wg wu : Fin K → Fin N → EReal) (wd : Fin N → EReal) : EReal :=
  ∑ f, hidden h wg wu f * wd f

/-- The scaled input plus the gated contribution; the scale is the nearest f32 to the fourth root of eight. -/
def resid (x gate y : EReal) : EReal := Ideal.ofBits FTy.f32 0x3FD744FD#32 * x + (1 + gate) * y

/-- The mean of a row of 1024. -/
def mean (z : Fin 1024 → EReal) : EReal := Ideal.div (∑ l, z l) (Ideal.ofBits FTy.f32 0x44800000#32)

/-- Layer normalization of a row at column `l`, with its gain and shift there. -/
def norm (z : Fin 1024 → EReal) (l : Fin 1024) (gain shift : EReal) : EReal :=
  (z l - mean z) * Ideal.rsqrt (mean (fun k => (z k - mean z) * (z k - mean z)) + Ideal.ofBits FTy.f32 0x3727C5AC#32) * gain + shift

/-- A sum over 1408 columns is the sum of the sums over its first 512, next 512 and last 384. -/
theorem sum_runs (f : Fin 1408 → EReal) : ∑ k, f k
    = (∑ k : Fin 512, f ⟨k.val, by omega⟩) + (∑ k : Fin 512, f ⟨512 + k.val, by omega⟩) + ∑ k : Fin 384, f ⟨1024 + k.val, by omega⟩ := by
  rw [Fin.sum_univ_two_halves 1024 384 rfl f, Fin.sum_univ_two_halves 512 512 rfl]

/-- The contributions of the two halves of the hidden units add up to the contribution of all. -/
theorem contrib_halves {K : ℕ} (h : Fin K → EReal) (wg wu : Fin K → Fin 2816 → EReal) (wd : Fin 2816 → EReal) :
    contrib h wg wu wd
      = contrib h (fun k (f : Fin 1408) => wg k ⟨f.val, by omega⟩) (fun k f => wu k ⟨f.val, by omega⟩) (fun f => wd ⟨f.val, by omega⟩)
      + contrib h (fun k (f : Fin 1408) => wg k ⟨1408 + f.val, by omega⟩) (fun k f => wu k ⟨1408 + f.val, by omega⟩) (fun f => wd ⟨1408 + f.val, by omega⟩) := by
  unfold contrib
  rw [Fin.sum_univ_two_halves 1408 1408 rfl]
  rfl

/-- One entry of the layer's result, from the whole arrays. -/
def out (h x : Fin 65536 → Fin 1024 → EReal) (wg wu : Fin 1024 → Fin 2816 → EReal) (wd : Fin 2816 → Fin 1024 → EReal)
    (gate : Fin 16 → Fin 1024 → EReal) (gain shift : Fin 1024 → EReal) (r : Fin 65536) (l : Fin 1024) : EReal :=
  norm (fun c => resid (x r c) (gate ⟨r.val / 4096, by omega⟩ c) (contrib (h r) wg wu fun f => wd f c)) l (gain l) (shift l)

end Cert.FfnSpec

end
-- ==== Proof.FfnPay.lean ====
/-
  The dense feed-forward kernel's payloads read at an index over the extended reals.
-/
module

public import proofs.«01_k».proof.Proof.FfnBody
public import proofs.«01_k».proof.Proof.FfnSpec

@[expose] public section

set_option maxRecDepth 16384

noncomputable section

namespace Cert.FfnIdeal.Body

open Cert.FfnIdeal Cert.FfnIdeal.Gen Idealize.ShloMosaic Idealize.ShloMosaic.TcCoe Idealize.SL.Sem

theorem ereal_zero_sub (g : EReal) : 0 - g = -g := by rw [sub_eq_add_neg, zero_add]

/-- A point adds its 1408 hidden units' contribution. -/
theorem upd_at (x0 : Vec Ideal S1024x1024 .bf16) (x2 x3 : Vec Ideal S1024x1408 .bf16) (x4 : Vec Ideal S1408x1024 .bf16)
    (acc : Vec Ideal S1024x1024 .f32) (r l : Fin 1024) :
    upd x0 x2 x3 x4 acc (ix2 r l) = acc (ix2 r l)
      + FfnSpec.contrib (fun k : Fin 1024 => x0 (ix2 r k)) (fun k (f : Fin 1408) => x2 (ix2 k f)) (fun k f => x3 (ix2 k f)) (fun f => x4 (ix2 f l)) := by
  unfold upd FfnSpec.contrib
  rw [FfnSpec.sum_runs]
  pointwise [k0_pay1, k0_pay8, k0_pay9, k0_pay10, k0_pay7, k0_pay5, k0_pay6, k0_pay4, View.ld]
  simp only [ereal_zero_sub]
  rw [add_assoc, add_assoc, ← add_assoc (Finset.sum _ _)]
  rfl

/-- The stored row is the normalized residual sum. -/
theorem fin_at (x1 : Vec Ideal S1024x1024 .f32) (x5 : Vec Ideal S1x6x1024 .f32) (x6 x7 : Vec Ideal S1x1024 .f32)
    (acc : Vec Ideal S1024x1024 .f32) (r l : Fin 1024) :
    fin x1 x5 x6 x7 acc (ix2 r l)
      = FfnSpec.norm (fun k => FfnSpec.resid (x1 (ix2 r k)) (x5 (ix3 (0 : Fin 1) (5 : Fin 6) k)) (acc (ix2 r k))) l (x6 (ix2 (0 : Fin 1) l)) (x7 (ix2 (0 : Fin 1) l)) := by
  unfold fin
  pointwise [k0_pay2, View.ld]
  rfl

/-- The carried sum starts at zero. -/
theorem zero_at (r l : Fin 1024) : k0_pay3 (F := Ideal) (ix2 r l) = 0 := by
  pointwise [k0_pay3]

end Cert.FfnIdeal.Body

end
-- ==== Proof.FfnValue.lean ====
/-
  The result array of the dense feed-forward call over the extended reals, entry by entry: each row block is written at
  its second grid point, when the carried sum holds the contributions of both halves of the hidden units.
-/
module

public import proofs.«01_k».proof.Proof.FfnPay
public import Idealize.ShloMosaic.Lib.StableHlo.Run

@[expose] public section

set_option maxRecDepth 16384

noncomputable section

namespace Cert.FfnIdeal.Body

open Cert.FfnIdeal Cert.FfnIdeal.Gen Idealize.ShloMosaic Idealize.ShloMosaic.TcCoe Idealize.SL.Sem

variable (m : (ℓ : Loc nD τ sig) → Buf (Elt Ideal) ℓ)

/-- The cast gate weights the region finds: over the extended reals, the argument. -/
theorem V_gate (c : Dev nD) : V m c main_v0 = m ((c : Thread nD τ).loc main_arg2) := by
  show StableHlo.after hostOps0 _ main_v0 = _
  simp only [hostOps0]
  after_results_simp <;> rfl

theorem V_up (c : Dev nD) : V m c main_v1 = m ((c : Thread nD τ).loc main_arg3) := by
  show StableHlo.after hostOps0 _ main_v1 = _
  simp only [hostOps0]
  after_results_simp <;> rfl

theorem V_down (c : Dev nD) : V m c main_v2 = m ((c : Thread nD τ).loc main_arg4) := by
  show StableHlo.after hostOps0 _ main_v2 = _
  simp only [hostOps0]
  after_results_simp <;> rfl

theorem V_gain (c : Dev nD) : V m c main_v3 = shapeCast S1x1024 (m ((c : Thread nD τ).loc main_arg6)) shapeCasts_S1024_S1x1024 := by
  show StableHlo.after hostOps0 _ main_v3 = _
  simp only [hostOps0]
  after_results_simp <;> rfl

theorem V_shift (c : Dev nD) : V m c main_v4 = shapeCast S1x1024 (m ((c : Thread nD τ).loc main_arg7)) shapeCasts_S1024_S1x1024 := by
  show StableHlo.after hostOps0 _ main_v4 = _
  simp only [hostOps0]
  after_results_simp <;> rfl

/-- Where each window's block sits at a point. -/
theorem index_at : ∀ t : Fin cfg0.N, win0_0.index t = ![t.val / 2, 0] ∧ win0_1.index t = ![t.val / 2, 0]
    ∧ win0_2.index t = ![0, t.val % 2] ∧ win0_3.index t = ![0, t.val % 2] ∧ win0_4.index t = ![t.val % 2, 0]
    ∧ win0_5.index t = ![t.val / 8, 0, 0] ∧ win0_6.index t = ![0, 0] ∧ win0_7.index t = ![0, 0] :=
  (by decide +kernel : ∀ t : Fin grid0.N, _)

theorem lt128 (t : Fin cfg0.N) : t.val < 128 := lt_of_lt_of_eq t.isLt N_0

/-- A window's block read at a place is its array read where the block sits: the shared first step of the lemmas below. -/
theorem blk_h (c : Dev nD) (t : Fin cfg0.N) (r k : Fin 1024) :
    (iblk m c 0 t : Vec Ideal S1024x1024 .bf16) (ix2 r k)
      = m ((c : Thread nD τ).loc main_arg0) (ix2 (⟨t.val / 2 * 1024 + r.val, by have := lt128 t; omega⟩ : Fin 65536) k) := by
  have e := (index_at t).1
  unfold iblk
  rw [View.read_apply]
  show V m c main_arg0 _ = _
  rw [V_main_arg0]
  congr 1
  funext a
  apply Fin.ext
  match a with
  | ⟨0, _⟩ => show win0_0.index t 0 * 1024 + 1 * r.val = t.val / 2 * 1024 + r.val; rw [e]; simp
  | ⟨1, _⟩ => show win0_0.index t 1 * 1024 + 1 * k.val = k.val; rw [e]; simp

theorem blk_x (c : Dev nD) (t : Fin cfg0.N) (r k : Fin 1024) :
    (iblk m c 1 t : Vec Ideal S1024x1024 .f32) (ix2 r k)
      = m ((c : Thread nD τ).loc main_arg1) (ix2 (⟨t.val / 2 * 1024 + r.val, by have := lt128 t; omega⟩ : Fin 65536) k) := by
  have e := (index_at t).2.1
  unfold iblk
  rw [View.read_apply]
  show V m c main_arg1 _ = _
  rw [V_main_arg1]
  congr 1
  funext a
  apply Fin.ext
  match a with
  | ⟨0, _⟩ => show win0_1.index t 0 * 1024 + 1 * r.val = t.val / 2 * 1024 + r.val; rw [e]; simp
  | ⟨1, _⟩ => show win0_1.index t 1 * 1024 + 1 * k.val = k.val; rw [e]; simp

theorem blk_gate (c : Dev nD) (t : Fin cfg0.N) (k : Fin 1024) (f : Fin 1408) :
    (iblk m c 2 t : Vec Ideal S1024x1408 .bf16) (ix2 k f)
      = m ((c : Thread nD τ).loc main_arg2) (ix2 k (⟨t.val % 2 * 1408 + f.val, by omega⟩ : Fin 2816)) := by
  have e := (index_at t).2.2.1
  unfold iblk
  rw [View.read_apply]
  show V m c main_v0 _ = _
  rw [V_gate]
  show m ((c : Thread nD τ).loc main_arg2) _ = _
  congr 1
  funext a
  apply Fin.ext
  match a with
  | ⟨0, _⟩ => show win0_2.index t 0 * 1024 + 1 * k.val = k.val; rw [e]; simp
  | ⟨1, _⟩ => show win0_2.index t 1 * 1408 + 1 * f.val = t.val % 2 * 1408 + f.val; rw [e]; simp

theorem blk_up (c : Dev nD) (t : Fin cfg0.N) (k : Fin 1024) (f : Fin 1408) :
    (iblk m c 3 t : Vec Ideal S1024x1408 .bf16) (ix2 k f)
      = m ((c : Thread nD τ).loc main_arg3) (ix2 k (⟨t.val % 2 * 1408 + f.val, by omega⟩ : Fin 2816)) := by
  have e := (index_at t).2.2.2.1
  unfold iblk
  rw [View.read_apply]
  show V m c main_v1 _ = _
  rw [V_up]
  show m ((c : Thread nD τ).loc main_arg3) _ = _
  congr 1
  funext a
  apply Fin.ext
  match a with
  | ⟨0, _⟩ => show win0_3.index t 0 * 1024 + 1 * k.val = k.val; rw [e]; simp
  | ⟨1, _⟩ => show win0_3.index t 1 * 1408 + 1 * f.val = t.val % 2 * 1408 + f.val; rw [e]; simp

theorem blk_down (c : Dev nD) (t : Fin cfg0.N) (f : Fin 1408) (l : Fin 1024) :
    (iblk m c 4 t : Vec Ideal S1408x1024 .bf16) (ix2 f l)
      = m ((c : Thread nD τ).loc main_arg4) (ix2 (⟨t.val % 2 * 1408 + f.val, by omega⟩ : Fin 2816) l) := by
  have e := (index_at t).2.2.2.2.1
  unfold iblk
  rw [View.read_apply]
  show V m c main_v2 _ = _
  rw [V_down]
  show m ((c : Thread nD τ).loc main_arg4) _ = _
  congr 1
  funext a
  apply Fin.ext
  match a with
  | ⟨0, _⟩ => show win0_4.index t 0 * 1408 + 1 * f.val = t.val % 2 * 1408 + f.val; rw [e]; simp
  | ⟨1, _⟩ => show win0_4.index t 1 * 1024 + 1 * l.val = l.val; rw [e]; simp

/-- The gate row of a point is its batch's: eight points to a batch. -/
theorem blk_mod (c : Dev nD) (t : Fin cfg0.N) (l : Fin 1024) :
    (iblk m c 5 t : Vec Ideal S1x6x1024 .f32) (ix3 (0 : Fin 1) (5 : Fin 6) l)
      = m ((c : Thread nD τ).loc main_arg5) (ix3 (⟨t.val / 8, by have := lt128 t; omega⟩ : Fin 16) (5 : Fin 6) l) := by
  have e := (index_at t).2.2.2.2.2.1
  unfold iblk
  rw [View.read_apply]
  show V m c main_arg5 _ = _
  rw [V_main_arg5]
  congr 1
  funext a
  apply Fin.ext
  match a with
  | ⟨0, _⟩ => show win0_5.index t 0 * 1 + 1 * 0 = t.val / 8; rw [e]; simp
  | ⟨1, _⟩ => show win0_5.index t 1 * 6 + 1 * 5 = 5; rw [e]; simp
  | ⟨2, _⟩ => show win0_5.index t 2 * 1024 + 1 * l.val = l.val; rw [e]; simp

theorem blk_gain (c : Dev nD) (t : Fin cfg0.N) (l : Fin 1024) :
    (iblk m c 6 t : Vec Ideal S1x1024 .f32) (ix2 (0 : Fin 1) l) = m ((c : Thread nD τ).loc main_arg6) (ix1 l) := by
  have e := (index_at t).2.2.2.2.2.2.1
  unfold iblk
  rw [View.read_apply]
  show V m c main_v3 _ = _
  rw [V_gain]
  have hi : ∀ y : S1x1024.Idx, y = ix2 (0 : Fin 1) l → shapeCast S1x1024 (m ((c : Thread nD τ).loc main_arg6)) shapeCasts_S1024_S1x1024 y
      = m ((c : Thread nD τ).loc main_arg6) (ix1 l) := by
    rintro y rfl
    pointwise []
  refine hi _ ?_
  funext a
  apply Fin.ext
  match a with
  | ⟨0, _⟩ => show win0_6.index t 0 * 1 + 1 * 0 = 0; rw [e]; simp
  | ⟨1, _⟩ => show win0_6.index t 1 * 1024 + 1 * l.val = l.val; rw [e]; simp

theorem blk_shift (c : Dev nD) (t : Fin cfg0.N) (l : Fin 1024) :
    (iblk m c 7 t : Vec Ideal S1x1024 .f32) (ix2 (0 : Fin 1) l) = m ((c : Thread nD τ).loc main_arg7) (ix1 l) := by
  have e := (index_at t).2.2.2.2.2.2.2
  unfold iblk
  rw [View.read_apply]
  show V m c main_v4 _ = _
  rw [V_shift]
  have hi : ∀ y : S1x1024.Idx, y = ix2 (0 : Fin 1) l → shapeCast S1x1024 (m ((c : Thread nD τ).loc main_arg7)) shapeCasts_S1024_S1x1024 y
      = m ((c : Thread nD τ).loc main_arg7) (ix1 l) := by
    rintro y rfl
    pointwise []
  refine hi _ ?_
  funext a
  apply Fin.ext
  match a with
  | ⟨0, _⟩ => show win0_7.index t 0 * 1 + 1 * 0 = 0; rw [e]; simp
  | ⟨1, _⟩ => show win0_7.index t 1 * 1024 + 1 * l.val = l.val; rw [e]; simp

/-- What the second point of a row block leaves in the output's buffer: the first point's half, then its own, then the
    normalized residual. -/
theorem outs_second (c : Dev nD) (t u : Fin cfg0.N) (hu : u.val + 1 = t.val) (h1 : t.val % 2 = 1) :
    (outsAt0 m c t.val t.isLt).1 = fin (iblk m c 1 t) (iblk m c 5 t) (iblk m c 6 t) (iblk m c 7 t)
      (upd (iblk m c 0 t) (iblk m c 2 t) (iblk m c 3 t) (iblk m c 4 t)
        (upd (iblk m c 0 u) (iblk m c 2 u) (iblk m c 3 u) (iblk m c 4 u) (k0_pay3 (F := Ideal)))) := by
  have hp : ∀ h, outsAt0 m c (t.val - 1) h = outsAt0 m c u.val u.isLt := by
    have : t.val - 1 = u.val := by omega
    rw [this]; intro h; rfl
  rw [outsAt0_B m c t (by omega) h1]
  dsimp only
  rw [out_B, hp, outsAt0_A m c u (by omega) (by omega)]
  dsimp only
  rw [sout_A]

/-- The result array, entry by entry. -/
theorem result_at (c : Dev nD) (r : Fin 65536) (l : Fin 1024) :
    Value.G8 m c (ix2 r l) = FfnSpec.out (fun r k => m ((c : Thread nD τ).loc main_arg0) (ix2 r k))
      (fun r k => m ((c : Thread nD τ).loc main_arg1) (ix2 r k)) (fun k f => m ((c : Thread nD τ).loc main_arg2) (ix2 k f))
      (fun k f => m ((c : Thread nD τ).loc main_arg3) (ix2 k f)) (fun f l => m ((c : Thread nD τ).loc main_arg4) (ix2 f l))
      (fun b l => m ((c : Thread nD τ).loc main_arg5) (ix3 b (5 : Fin 6) l)) (fun l => m ((c : Thread nD τ).loc main_arg6) (ix1 l))
      (fun l => m ((c : Thread nD τ).loc main_arg7) (ix1 l)) r l := by
  have hN : cfg0.N = 128 := N_0
  have hr := r.isLt
  have hp : Value.pt8Of (ix2 r l) = 2 * (r.val / 1024) + 1 := by
    show 2 * (1 * (r.val / 1024 - 0) + 1 * (l.val / 1024 - 0)) + 1 = _
    have := l.isLt; omega
  have hlt : 2 * (r.val / 1024) + 1 < cfg0.N := by omega
  have hl : Value.loc8Of (ix2 r l) = ix2 (⟨r.val % 1024, by omega⟩ : Fin 1024) l := by
    funext a; apply Fin.ext
    match a with
    | ⟨0, _⟩ => rfl
    | ⟨1, _⟩ => show l.val % 1024 = l.val; have := l.isLt; omega
  unfold Value.G8
  rw [dif_pos (by rw [hp]; exact hlt), hl, Value.fold0_congr m c _ _ _ (by omega) hp, ← Value.outsAt0_sweep m c _ hlt]
  rw [outs_second m c ⟨2 * (r.val / 1024) + 1, hlt⟩ ⟨2 * (r.val / 1024), by omega⟩ rfl (by dsimp only; omega)]
  rw [fin_at]
  unfold FfnSpec.out
  have e1 : (2 * (r.val / 1024) + 1) % 2 = 1 := by omega
  have e0 : (2 * (r.val / 1024)) % 2 = 0 := by omega
  have d1 : (2 * (r.val / 1024) + 1) / 2 * 1024 + r.val % 1024 = r.val := by omega
  have d0 : (2 * (r.val / 1024)) / 2 * 1024 + r.val % 1024 = r.val := by omega
  have d8 : (2 * (r.val / 1024) + 1) / 8 = r.val / 4096 := by omega
  simp only [upd_at, zero_at, blk_h, blk_x, blk_gate, blk_up, blk_down, blk_mod, blk_gain, blk_shift, e1, e0, d1, d0, d8, zero_add, Nat.zero_mul, Nat.one_mul]
  simp only [FfnSpec.contrib_halves]

end Cert.FfnIdeal.Body

end
-- ==== Proof.FfnRef.lean ====
/-
  The reference's composed term read at an entry over the extended reals: the gated feed-forward layer of `FfnSpec`.
-/
module

public import proofs.«01_k».proof.Proof.Gen.SwigluIdeal.Run
public import proofs.«01_k».proof.Proof.FfnSpec

@[expose] public section

set_option maxRecDepth 16384

noncomputable section

namespace Cert.SwigluIdeal.Read

open Cert.SwigluIdeal Idealize.ShloMosaic Idealize.ShloMosaic.TcCoe Idealize.SL.Sem

variable (m : (ℓ : Loc nD τ sig) → Buf (Elt Ideal) ℓ)

theorem res_at (c : Dev nD) (r : Fin 65536) (l : Fin 1024) :
    Value.res_out0 m c (ix2 r l) = FfnSpec.out (fun r k => m ((c : Thread nD τ).loc main_arg0) (ix2 r k))
      (fun r k => m ((c : Thread nD τ).loc main_arg1) (ix2 r k)) (fun k f => m ((c : Thread nD τ).loc main_arg2) (ix2 k f))
      (fun k f => m ((c : Thread nD τ).loc main_arg3) (ix2 k f)) (fun f l => m ((c : Thread nD τ).loc main_arg4) (ix2 f l))
      (fun b l => m ((c : Thread nD τ).loc main_arg5) (ix3 b (5 : Fin 6) l)) (fun l => m ((c : Thread nD τ).loc main_arg6) (ix1 l))
      (fun l => m ((c : Thread nD τ).loc main_arg7) (ix1 l)) r l := by
  show Value.res_main_v39 m c (ix2 r l) = _
  unfold Value.res_main_v39
  pointwise []
  rfl

end Cert.SwigluIdeal.Read

end
-- ==== Proof.FfnClaims.lean ====
/-
  The claims on the dense feed-forward call: the frames of the call as printed, of its reading over the extended reals and
  of the reference, and the equality of the two results.
-/
module

public import proofs.«01_k».proof.Defs
public import proofs.«01_k».proof.Proof.Gen.Ffn.Frame
public import proofs.«01_k».proof.Proof.FfnValue
public import proofs.«01_k».proof.Proof.FfnRef
public import Idealize.ShloMosaic.Lib.Quiescent

@[expose] public section

noncomputable section

namespace Cert.Proof.FfnClaims

open Idealize.ShloMosaic Idealize.ShloMosaic.TcCoe Idealize.SL.Sem

theorem frame_call : Cert.quiescent_Ffn := fun m ρ _ => Cert.Ffn.Gen.frame m ρ

theorem frame_ideal : Cert.quiescent_FfnIdeal := fun m ρ _ => Cert.FfnIdeal.Gen.frame m ρ

/-- The reference is a straight run of host operations and declares no semaphore. -/
theorem frame_reference : Cert.quiescent_SwigluIdeal := fun m ρ _ =>
  (θ_run Cert.SwigluIdeal.defs _ _).mono (fun r h => ⟨fun c => (h c).2, sem_eq_zero_of_no_sems (by decide) r.2⟩)
    (Cert.SwigluIdeal.Value.run m ρ)

/-- The two result arrays agree when the arguments do. -/
theorem results_agree (m : (ℓ : Loc Cert.FfnIdeal.nD Cert.FfnIdeal.τ Cert.FfnIdeal.sig) → Buf (Elt Ideal) ℓ)
    (m' : (ℓ : Loc Cert.SwigluIdeal.nD Cert.SwigluIdeal.τ Cert.SwigluIdeal.sig) → Buf (Elt Ideal) ℓ) (c : Dev Cert.FfnIdeal.nD)
    (h0 : m' ((c.tc : Thread Cert.SwigluIdeal.nD Cert.SwigluIdeal.τ).loc Cert.SwigluIdeal.main_arg0) = m ((c.tc : Thread Cert.FfnIdeal.nD Cert.FfnIdeal.τ).loc Cert.FfnIdeal.main_arg0))
    (h1 : m' ((c.tc : Thread Cert.SwigluIdeal.nD Cert.SwigluIdeal.τ).loc Cert.SwigluIdeal.main_arg1) = m ((c.tc : Thread Cert.FfnIdeal.nD Cert.FfnIdeal.τ).loc Cert.FfnIdeal.main_arg1))
    (h2 : m' ((c.tc : Thread Cert.SwigluIdeal.nD Cert.SwigluIdeal.τ).loc Cert.SwigluIdeal.main_arg2) = m ((c.tc : Thread Cert.FfnIdeal.nD Cert.FfnIdeal.τ).loc Cert.FfnIdeal.main_arg2))
    (h3 : m' ((c.tc : Thread Cert.SwigluIdeal.nD Cert.SwigluIdeal.τ).loc Cert.SwigluIdeal.main_arg3) = m ((c.tc : Thread Cert.FfnIdeal.nD Cert.FfnIdeal.τ).loc Cert.FfnIdeal.main_arg3))
    (h4 : m' ((c.tc : Thread Cert.SwigluIdeal.nD Cert.SwigluIdeal.τ).loc Cert.SwigluIdeal.main_arg4) = m ((c.tc : Thread Cert.FfnIdeal.nD Cert.FfnIdeal.τ).loc Cert.FfnIdeal.main_arg4))
    (h5 : m' ((c.tc : Thread Cert.SwigluIdeal.nD Cert.SwigluIdeal.τ).loc Cert.SwigluIdeal.main_arg5) = m ((c.tc : Thread Cert.FfnIdeal.nD Cert.FfnIdeal.τ).loc Cert.FfnIdeal.main_arg5))
    (h6 : m' ((c.tc : Thread Cert.SwigluIdeal.nD Cert.SwigluIdeal.τ).loc Cert.SwigluIdeal.main_arg6) = m ((c.tc : Thread Cert.FfnIdeal.nD Cert.FfnIdeal.τ).loc Cert.FfnIdeal.main_arg6))
    (h7 : m' ((c.tc : Thread Cert.SwigluIdeal.nD Cert.SwigluIdeal.τ).loc Cert.SwigluIdeal.main_arg7) = m ((c.tc : Thread Cert.FfnIdeal.nD Cert.FfnIdeal.τ).loc Cert.FfnIdeal.main_arg7)) :
    Cert.SwigluIdeal.Value.res_out0 m' c = Cert.FfnIdeal.Value.G8 m c := by
  funext i
  have ei : i = ix2 (i 0) (i 1) := by
    funext a; match a with
    | ⟨0, _⟩ => rfl
    | ⟨1, _⟩ => rfl
  rw [ei]
  refine (Cert.SwigluIdeal.Read.res_at m' c (i 0) (i 1)).trans ?_
  refine Eq.trans ?_ (Cert.FfnIdeal.Body.result_at m c (i 0) (i 1)).symm
  rw [h0, h1, h2, h3, h4, h5, h6, h7]

theorem equal_results : Cert.algebraic_FfnIdeal_SwigluIdeal := by
  intro m g m' g' _ he
  refine ⟨fun c => Cert.FfnIdeal.Value.G8 m c, Cert.FfnIdeal.Value.run m g, ?_⟩
  refine (θ_run Cert.SwigluIdeal.defs _ _).mono (fun r h c => ⟨(h c).1.trans ?_, (h c).2⟩) (Cert.SwigluIdeal.Value.run m' g')
  obtain ⟨h0, h1, h2, h3, h4, h5, h6, h7⟩ := he c
  exact results_agree m m' c h0 h1 h2 h3 h4 h5 h6 h7

end Cert.Proof.FfnClaims

end
-- ==== Proof.GroupedBody.lean ====
/-
  What one grid point of the grouped expert kernel does to the buffers it is handed.

  A point of an unused tile reads the count of used tiles and stops. The first point of a used tile starts the carried
  sum from zero and adds the first half of the expert's hidden columns; the second point adds the other half and stores
  the sum. `upd` is the chain of three additions a half makes.
-/
module

public import proofs.«01_k».proof.Proof.Gen.GroupedIdeal.Launch
public import proofs.«01_k».proof.Proof.Gen.GroupedIdeal.Skeleton
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.GroupedIdeal.Body

open Cert.GroupedIdeal Cert.GroupedIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem off2 : (![0, 0] : Fin 2 → Nat) = fun _ => 0 := funext fun a => by fin_cases a <;> rfl

/-- Reading back the whole of a buffer whose last store covered it gives what that store wrote. -/
theorem readCov_last {Val : EltTy → Type} [∀ e, Nonempty (Val e)] {sg : RefSig} {κ : Kind} {sp : Space} {S : Shape} {e : EltTy}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-! ## The conditions, over the count of used tiles -/

/-- The point is the first half of a used tile. -/
abbrev First (i : grid0.Coords) (n : BitVec 32) : Prop :=
  Scalar.cmpi .ne (Scalar.extui (Scalar.andi (Scalar.cmpi .slt (BitVec.ofNat 32 (i 0).val) n)
    (Scalar.cmpi .eq (BitVec.ofNat 32 (i 1).val) 0#32)) : BitVec 32) 0#32 = 1#1
/-- The tile is used. -/
abbrev Used (i : grid0.Coords) (n : BitVec 32) : Prop :=
  Scalar.cmpi .ne (Scalar.extui (Scalar.cmpi .slt (BitVec.ofNat 32 (i 0).val) n) : BitVec 32) 0#32 = 1#1
/-- The point is the second half of a used tile. -/
abbrev Second (i : grid0.Coords) (n : BitVec 32) : Prop := k0_cond3 i n = 1#1

/-- The count of used tiles, as the body reads it from its table. -/
abbrev word (c : Dev nD) (x : Buf (Elt F) ((Memref.whole main_arg2).view.loc (c : Thread nD τ))) : BitVec 32 :=
  (Memref.whole main_arg2).view.readAt (Elt F) (Rect.unit (s := S1) ![0] S1.size inb_S1_S1_0).toLoadRect x
    (Shape.Idx.first (numel1_S1.symm ▸ Nat.one_pos))

/-! ## What a half adds -/

/-- The carried sum after a half, over what it was before: three runs of hidden columns added in order. -/
def upd (x : Vec F S1024x1024 .f32) (wg wu : Vec F S1x1024x1408 .bf16) (wd : Vec F S1x1408x1024 .bf16)
    (acc : Vec F S1024x1024 .f32) : Vec F S1024x1024 .f32 :=
  k0_pay2 (k0_pay8 (View.ld wd (Rect.unit (s := S1x1408x1024) ![0, 1024, 0] S1x384x1024.size inb_S1x1408x1024_S1x384x1024_0_1024_0)))
    (k0_pay9 (k0_pay3 x) (View.ld wg (Rect.unit (s := S1x1024x1408) ![0, 0, 1024] S1x1024x384.size inb_S1x1024x1408_S1x1024x384_0_0_1024)))
    (k0_pay10 (k0_pay3 x) (View.ld wu (Rect.unit (s := S1x1024x1408) ![0, 0, 1024] S1x1024x384.size inb_S1x1024x1408_S1x1024x384_0_0_1024)))
    (k0_pay11 (k0_pay3 x) (View.ld wg (Rect.unit (s := S1x1024x1408) ![0, 0, 1024] S1x1024x384.size inb_S1x1024x1408_S1x1024x384_0_0_1024)))
    (k0_pay12 (F := F))
    (k0_pay7 (k0_pay3 x)
      (k0_pay5 (View.ld wg (Rect.unit (s := S1x1024x1408) ![0, 0, 512] S1x1024x512.size inb_S1x1024x1408_S1x1024x512_0_0_512)))
      (k0_pay6 (View.ld wu (Rect.unit (s := S1x1024x1408) ![0, 0, 512] S1x1024x512.size inb_S1x1024x1408_S1x1024x512_0_0_512)))
      (View.ld wd (Rect.unit (s := S1x1408x1024) ![0, 512, 0] S1x512x1024.size inb_S1x1408x1024_S1x512x1024_0_512_0))
      (k0_pay4 x (View.ld wg (Rect.unit (s := S1x1024x1408) ![0, 0, 0] S1x1024x512.size inb_S1x1024x1408_S1x1024x512_0_0_0))
        (View.ld wu (Rect.unit (s := S1x1024x1408) ![0, 0, 0] S1x1024x512.size inb_S1x1024x1408_S1x1024x512_0_0_0))
        (View.ld wd (Rect.unit (s := S1x1408x1024) ![0, 0, 0] S1x512x1024.size inb_S1x1408x1024_S1x512x1024_0_0_0)) acc))

section Runs

variable (c : Dev nD) (i : grid0.Coords) (a2 : Memref sig .tc .smem S136 .i32) (h2 : a2.IsWhole)
    (a4 : Memref sig .tc .vmem S1024x1024 .f32) (h4 : a4.IsWhole) (a5 : Memref sig .tc .vmem S1x1024x1408 .bf16) (h5 : a5.IsWhole)
    (a6 : Memref sig .tc .vmem S1x1024x1408 .bf16) (h6 : a6.IsWhole) (a7 : Memref sig .tc .vmem S1x1408x1024 .bf16) (h7 : a7.IsWhole)
    (a8 : Memref sig .tc .vmem S1024x1024 .f32) (h8 : a8.IsWhole) (a9 : Memref sig .tc .vmem S1024x1024 .f32) (h9 : a9.IsWhole)
    (tb : Buf (Elt F) ((Memref.whole main_arg2).view.loc (c : Thread nD τ)))

/-- The body at the point, on these buffers. -/
abbrev bodyOn : Prog (TpuEff nD τ sig (Elt F) Λ₀ .tc) PUnit :=
  cc0__ffn_grouped_kernel i a2 h2 (Memref.whole main_arg2) (Memref.isWhole_whole _) a4 h4 a5 h5 a6 h6 a7 h7 a8 h8 a9 h9

/-- A point of an unused tile reads the count and leaves everything. -/
theorem run_unused (hA : ¬First i (word c tb)) (hB : ¬Used i (word c tb)) (hC : ¬Second i (word c tb)) (E : Set ℕ) (K : PUnit → sProp 𝕄) :
    iprop(((Memref.whole main_arg2).view.loc (c : Thread nD τ) ↦{fullShare.right} tb)
        ∗ (((Memref.whole main_arg2).view.loc (c : Thread nD τ) ↦{fullShare.right} tb) -∗ K ⟨⟩))
      ⊢ wp frame (wpE (defs₀ (F := F)) Variants.none c none) E (bodyOn i a2 h2 a4 h4 a5 h5 a6 h6 a7 h7 a8 h8 a9 h9) K := by
  unfold bodyOn
  simp only [cc0__ffn_grouped_kernel_eq_skeleton]; unfold cc0__ffn_grouped_kernel_skel
  iintro ⟨HT, Hk⟩
  sl_exec (disch := first | sl_exact hA | sl_exact hB | sl_exact hC)
  sl_step
  sl_exec (disch := first | sl_exact hA | sl_exact hB | sl_exact hC)
  sl_step
  iapply Hk
  iexact HT

set_option maxHeartbeats 1000000 in
/-- The first half of a used tile: what its stores leave in the carried sum, as pieces, and that it runs. -/
def runFirst (hA : First i (word c tb)) (hB : Used i (word c tb)) (hC : ¬Second i (word c tb))
    (x : Vec F S1024x1024 .f32) (wg wu : Vec F S1x1024x1408 .bf16) (wd : Vec F S1x1408x1024 .bf16) :
    { LS : List (View.Piece (Elt F) S1024x1024 .f32) // ∀ (E : Set ℕ) (K : PUnit → sProp 𝕄),
      iprop(((Memref.whole main_arg2).view.loc (c : Thread nD τ) ↦{fullShare.right} tb)
        ∗ owns (c : Thread nD τ) a4 fullShare x ∗ owns (c : Thread nD τ) a5 fullShare wg ∗ owns (c : Thread nD τ) a6 fullShare wu
        ∗ owns (c : Thread nD τ) a7 fullShare wd ∗ (∃ d, owns (c : Thread nD τ) a9 fullShare d)
        ∗ (iprop(((Memref.whole main_arg2).view.loc (c : Thread nD τ) ↦{fullShare.right} tb)
            ∗ owns (c : Thread nD τ) a4 fullShare x ∗ owns (c : Thread nD τ) a5 fullShare wg ∗ owns (c : Thread nD τ) a6 fullShare wu
            ∗ owns (c : Thread nD τ) a7 fullShare wd
            ∗ (∃ f, a9.view.loc (c : Thread nD τ) ↦[a9.view.set]{fullShare} a9.view.writes (Elt F) f LS)) -∗ K ⟨⟩))
      ⊢ wp frame (wpE (defs₀ (F := F)) Variants.none c none) E (bodyOn i a2 h2 a4 h4 a5 h5 a6 h6 a7 h7 a8 h8 a9 h9) K } := by
  refine ⟨?_, fun E K => ?run⟩
  case run =>
    unfold bodyOn
    simp only [cc0__ffn_grouped_kernel_eq_skeleton]; unfold cc0__ffn_grouped_kernel_skel
    simp only [k0_part1_eq_skeleton, k0_part2_eq_skeleton]
    unfold owns
    iintro ⟨HT, ⟨%f0, %hf0, H0⟩, ⟨%f1, %hf1, H1⟩, ⟨%f2, %hf2, H2⟩, ⟨%f3, %hf3, H3⟩, ⟨%ds0, %fs0, -, HS0⟩, Hk⟩
    obtain rfl := h4.eq_unread hf0; obtain rfl := h5.eq_unread hf1; obtain rfl := h6.eq_unread hf2; obtain rfl := h7.eq_unread hf3
    sl_exec (disch := first | sl_exact hA | sl_exact hB | sl_exact hC)
    sl_step
    sl_exec (disch := first | sl_exact hA | sl_exact hB | sl_exact hC)
    sl_step
    iapply Hk
    isplitl [HT]; · iexact HT
    isplitl [H0]
    · iexists _; isplitr; · ipureintro; exact h4.read_unread _
      iexact H0
    isplitl [H1]
    · iexists _; isplitr; · ipureintro; exact h5.read_unread _
      iexact H1
    isplitl [H2]
    · iexists _; isplitr; · ipureintro; exact h6.read_unread _
      iexact H2
    isplitl [H3]
    · iexists _; isplitr; · ipureintro; exact h7.read_unread _
      iexact H3
    iexists _; iexact HS0

set_option maxHeartbeats 1000000 in
/-- The second half of a used tile: what its stores leave in the result's buffer and in the carried sum, as pieces. -/
def runSecond (hA : ¬First i (word c tb)) (hB : Used i (word c tb)) (hC : Second i (word c tb))
    (x : Vec F S1024x1024 .f32) (wg wu : Vec F S1x1024x1408 .bf16) (wd : Vec F S1x1408x1024 .bf16) (xs : Vec F S1024x1024 .f32) :
    Σ' (LO : List (View.Piece (Elt F) S1024x1024 .f32)), { LS : List (View.Piece (Elt F) S1024x1024 .f32) // ∀ (E : Set ℕ) (K : PUnit → sProp 𝕄),
      iprop(((Memref.whole main_arg2).view.loc (c : Thread nD τ) ↦{fullShare.right} tb)
        ∗ owns (c : Thread nD τ) a4 fullShare x ∗ owns (c : Thread nD τ) a5 fullShare wg ∗ owns (c : Thread nD τ) a6 fullShare wu
        ∗ owns (c : Thread nD τ) a7 fullShare wd ∗ (∃ d, owns (c : Thread nD τ) a8 fullShare d) ∗ owns (c : Thread nD τ) a9 fullShare xs
        ∗ (iprop(((Memref.whole main_arg2).view.loc (c : Thread nD τ) ↦{fullShare.right} tb)
            ∗ owns (c : Thread nD τ) a4 fullShare x ∗ owns (c : Thread nD τ) a5 fullShare wg ∗ owns (c : Thread nD τ) a6 fullShare wu
            ∗ owns (c : Thread nD τ) a7 fullShare wd
            ∗ (∃ f, a8.view.loc (c : Thread nD τ) ↦[a8.view.set]{fullShare} a8.view.writes (Elt F) f LO)
            ∗ (∃ f, a9.view.loc (c : Thread nD τ) ↦[a9.view.set]{fullShare} a9.view.writes (Elt F) f LS)) -∗ K ⟨⟩))
      ⊢ wp frame (wpE (defs₀ (F := F)) Variants.none c none) E (bodyOn i a2 h2 a4 h4 a5 h5 a6 h6 a7 h7 a8 h8 a9 h9) K } := by
  refine ⟨?_, ?_, fun E K => ?run⟩
  case run =>
    unfold bodyOn
    simp only [cc0__ffn_grouped_kernel_eq_skeleton]; unfold cc0__ffn_grouped_kernel_skel
    simp only [k0_part1_eq_skeleton, k0_part2_eq_skeleton]
    unfold owns
    iintro ⟨HT, ⟨%f0, %hf0, H0⟩, ⟨%f1, %hf1, H1⟩, ⟨%f2, %hf2, H2⟩, ⟨%f3, %hf3, H3⟩, ⟨%d8, %f8, -, H8⟩, ⟨%fs0, %hfs0, HS0⟩, Hk⟩
    obtain rfl := h4.eq_unread hf0; obtain rfl := h5.eq_unread hf1; obtain rfl := h6.eq_unread hf2; obtain rfl := h7.eq_unread hf3
    obtain rfl := h9.eq_unread hfs0
    sl_exec (disch := first | sl_exact hA | sl_exact hB | sl_exact hC)
    sl_step
    sl_exec (disch := first | sl_exact hA | sl_exact hB | sl_exact hC)
    sl_step
    iapply Hk
    isplitl [HT]; · iexact HT
    isplitl [H0]
    · iexists _; isplitr; · ipureintro; exact h4.read_unread _
      iexact H0
    isplitl [H1]
    · iexists _; isplitr; · ipureintro; exact h5.read_unread _
      iexact H1
    isplitl [H2]
    · iexists _; isplitr; · ipureintro; exact h6.read_unread _
      iexact H2
    isplitl [H3]
    · iexists _; isplitr; · ipureintro; exact h7.read_unread _
      iexact H3
    isplitl [H8]
    · iexists _; iexact H8
    iexists _; iexact HS0

/-- A whole buffer with pieces written that cover it holds what the pieces say. -/
theorem owns_of_writes (a : Memref sig .tc .vmem S1024x1024 .f32) (L : List (View.Piece (Elt F) S1024x1024 .f32))
    (cov : ∀ y, ∃ pc ∈ L, y ∈ pc.1.set) :
    (iprop(∃ f, a.view.loc (c : Thread nD τ) ↦[a.view.set]{fullShare} a.view.writes (Elt F) f L) : sProp 𝕄)
      ⊢ owns (c : Thread nD τ) a fullShare (View.canon L) := by
  unfold owns
  iintro ⟨%f, H⟩
  iexists (a.view.writes (Elt F) f L)
  isplitr
  · ipureintro; exact View.read_writes_eq_canon _ _ _ cov
  iexact H

theorem first_covers (hA : First i (word c tb)) (hB : Used i (word c tb)) (hC : ¬Second i (word c tb))
    (x : Vec F S1024x1024 .f32) (wg wu : Vec F S1x1024x1408 .bf16) (wd : Vec F S1x1408x1024 .bf16) (y : S1024x1024.Idx) :
    ∃ pc ∈ (runFirst c i a2 h2 a4 h4 a5 h5 a6 h6 a7 h7 a8 h8 a9 h9 tb hA hB hC x wg wu wd).1, y ∈ pc.1.set :=
  View.cover_of_tiledL _ S1024x1024.size (by sl_kernel_rfl) y

theorem first_sum (hA : First i (word c tb)) (hB : Used i (word c tb)) (hC : ¬Second i (word c tb))
    (x : Vec F S1024x1024 .f32) (wg wu : Vec F S1x1024x1408 .bf16) (wd : Vec F S1x1408x1024 .bf16) :
    View.canon (runFirst c i a2 h2 a4 h4 a5 h5 a6 h6 a7 h7 a8 h8 a9 h9 tb hA hB hC x wg wu wd).1 = upd x wg wu wd k0_pay1 := by
  unfold runFirst
  dsimp only
  sl_unfold_words
  rw [View.canon_cons_unit_zero (S := S1024x1024) off2]
  simp only [View.readAt_eq_ld, h4.read_unread, h5.read_unread, h6.read_unread, h7.read_unread, View.ld_unit_zero (S := S1024x1024) off2]
  simp only [readCov_last (S := S1024x1024) _ off2]
  rfl

theorem second_covers_out (hA : ¬First i (word c tb)) (hB : Used i (word c tb)) (hC : Second i (word c tb))
    (x : Vec F S1024x1024 .f32) (wg wu : Vec F S1x1024x1408 .bf16) (wd : Vec F S1x1408x1024 .bf16) (xs : Vec F S1024x1024 .f32) (y : S1024x1024.Idx) :
    ∃ pc ∈ (runSecond c i a2 h2 a4 h4 a5 h5 a6 h6 a7 h7 a8 h8 a9 h9 tb hA hB hC x wg wu wd xs).1, y ∈ pc.1.set :=
  View.cover_of_tiledL _ S1024x1024.size (by sl_kernel_rfl) y

theorem second_covers (hA : ¬First i (word c tb)) (hB : Used i (word c tb)) (hC : Second i (word c tb))
    (x : Vec F S1024x1024 .f32) (wg wu : Vec F S1x1024x1408 .bf16) (wd : Vec F S1x1408x1024 .bf16) (xs : Vec F S1024x1024 .f32) (y : S1024x1024.Idx) :
    ∃ pc ∈ (runSecond c i a2 h2 a4 h4 a5 h5 a6 h6 a7 h7 a8 h8 a9 h9 tb hA hB hC x wg wu wd xs).2.1, y ∈ pc.1.set :=
  View.cover_of_tiledL _ S1024x1024.size (by sl_kernel_rfl) y

theorem second_out (hA : ¬First i (word c tb)) (hB : Used i (word c tb)) (hC : Second i (word c tb))
    (x : Vec F S1024x1024 .f32) (wg wu : Vec F S1x1024x1408 .bf16) (wd : Vec F S1x1408x1024 .bf16) (xs : Vec F S1024x1024 .f32) :
    View.canon (runSecond c i a2 h2 a4 h4 a5 h5 a6 h6 a7 h7 a8 h8 a9 h9 tb hA hB hC x wg wu wd xs).1 = upd x wg wu wd xs := by
  unfold runSecond
  dsimp only
  sl_unfold_words
  rw [View.canon_cons_unit_zero (S := S1024x1024) off2]
  simp only [View.readAt_eq_ld, h4.read_unread, h5.read_unread, h6.read_unread, h7.read_unread, h9.read_unread, View.ld_unit_zero (S := S1024x1024) off2]
  simp only [readCov_last (S := S1024x1024) _ off2]
  rfl

/-- The first half of a used tile leaves in the carried sum what it adds to zero. -/
theorem run_first (hA : First i (word c tb)) (hB : Used i (word c tb)) (hC : ¬Second i (word c tb))
    (x : Vec F S1024x1024 .f32) (wg wu : Vec F S1x1024x1408 .bf16) (wd : Vec F S1x1408x1024 .bf16) (E : Set ℕ) (K : PUnit → sProp 𝕄) :
      iprop(((Memref.whole main_arg2).view.loc (c : Thread nD τ) ↦{fullShare.right} tb)
        ∗ owns (c : Thread nD τ) a4 fullShare x ∗ owns (c : Thread nD τ) a5 fullShare wg ∗ owns (c : Thread nD τ) a6 fullShare wu
        ∗ owns (c : Thread nD τ) a7 fullShare wd ∗ (∃ d, owns (c : Thread nD τ) a9 fullShare d)
        ∗ (iprop(((Memref.whole main_arg2).view.loc (c : Thread nD τ) ↦{fullShare.right} tb)
            ∗ owns (c : Thread nD τ) a4 fullShare x ∗ owns (c : Thread nD τ) a5 fullShare wg ∗ owns (c : Thread nD τ) a6 fullShare wu
            ∗ owns (c : Thread nD τ) a7 fullShare wd
            ∗ owns (c : Thread nD τ) a9 fullShare (upd x wg wu wd k0_pay1)) -∗ K ⟨⟩))
      ⊢ wp frame (wpE (defs₀ (F := F)) Variants.none c none) E (bodyOn i a2 h2 a4 h4 a5 h5 a6 h6 a7 h7 a8 h8 a9 h9) K := by
  have hl := owns_of_writes c a9 _ (first_covers c i a2 h2 a4 h4 a5 h5 a6 h6 a7 h7 a8 h8 a9 h9 tb hA hB hC x wg wu wd)
  rw [first_sum] at hl
  iintro ⟨HT, H0, H1, H2, H3, HS, Hk⟩
  iapply (runFirst c i a2 h2 a4 h4 a5 h5 a6 h6 a7 h7 a8 h8 a9 h9 tb hA hB hC x wg wu wd).2 E K
  isplitl [HT]; · iexact HT
  isplitl [H0]; · iexact H0
  isplitl [H1]; · iexact H1
  isplitl [H2]; · iexact H2
  isplitl [H3]; · iexact H3
  isplitl [HS]; · iexact HS
  iintro ⟨HT, H0, H1, H2, H3, HS⟩
  iapply Hk
  isplitl [HT]; · iexact HT
  isplitl [H0]; · iexact H0
  isplitl [H1]; · iexact H1
  isplitl [H2]; · iexact H2
  isplitl [H3]; · iexact H3
  iapply hl
  iexact HS

/-- The second half of a used tile stores the whole sum. -/
theorem run_second (hA : ¬First i (word c tb)) (hB : Used i (word c tb)) (hC : Second i (word c tb))
    (x : Vec F S1024x1024 .f32) (wg wu : Vec F S1x1024x1408 .bf16) (wd : Vec F S1x1408x1024 .bf16) (xs : Vec F S1024x1024 .f32)
    (E : Set ℕ) (K : PUnit → sProp 𝕄) :
      iprop(((Memref.whole main_arg2).view.loc (c : Thread nD τ) ↦{fullShare.right} tb)
        ∗ owns (c : Thread nD τ) a4 fullShare x ∗ owns (c : Thread nD τ) a5 fullShare wg ∗ owns (c : Thread nD τ) a6 fullShare wu
        ∗ owns (c : Thread nD τ) a7 fullShare wd ∗ (∃ d, owns (c : Thread nD τ) a8 fullShare d) ∗ owns (c : Thread nD τ) a9 fullShare xs
        ∗ (iprop(((Memref.whole main_arg2).view.loc (c : Thread nD τ) ↦{fullShare.right} tb)
            ∗ owns (c : Thread nD τ) a4 fullShare x ∗ owns (c : Thread nD τ) a5 fullShare wg ∗ owns (c : Thread nD τ) a6 fullShare wu
            ∗ owns (c : Thread nD τ) a7 fullShare wd
            ∗ owns (c : Thread nD τ) a8 fullShare (upd x wg wu wd xs)
            ∗ (∃ d, owns (c : Thread nD τ) a9 fullShare d)) -∗ K ⟨⟩))
      ⊢ wp frame (wpE (defs₀ (F := F)) Variants.none c none) E (bodyOn i a2 h2 a4 h4 a5 h5 a6 h6 a7 h7 a8 h8 a9 h9) K := by
  have hl := owns_of_writes c a8 _ (second_covers_out c i a2 h2 a4 h4 a5 h5 a6 h6 a7 h7 a8 h8 a9 h9 tb hA hB hC x wg wu wd xs)
  rw [second_out] at hl
  have hs := owns_of_writes c a9 _ (second_covers c i a2 h2 a4 h4 a5 h5 a6 h6 a7 h7 a8 h8 a9 h9 tb hA hB hC x wg wu wd xs)
  iintro ⟨HT, H0, H1, H2, H3, H8, HS, Hk⟩
  iapply (runSecond c i a2 h2 a4 h4 a5 h5 a6 h6 a7 h7 a8 h8 a9 h9 tb hA hB hC x wg wu wd xs).2.2 E K
  isplitl [HT]; · iexact HT
  isplitl [H0]; · iexact H0
  isplitl [H1]; · iexact H1
  isplitl [H2]; · iexact H2
  isplitl [H3]; · iexact H3
  isplitl [H8]; · iexact H8
  isplitl [HS]; · iexact HS
  iintro ⟨HT, H0, H1, H2, H3, H8, HS⟩
  iapply Hk
  isplitl [HT]; · iexact HT
  isplitl [H0]; · iexact H0
  isplitl [H1]; · iexact H1
  isplitl [H2]; · iexact H2
  isplitl [H3]; · iexact H3
  isplitl [H8]
  · iapply hl; iexact H8
  iexists _
  iapply hs
  iexact HS

end Runs

end Cert.GroupedIdeal.Body

end
-- ==== Proof.GroupedData.lean ====
/-
  The grouped expert kernel's run, set up: the arrays when the region starts, the two tables, the blocks the points
  find, and what is known of the carried sum and of the result's buffer after each point.
-/
module

public import proofs.«01_k».proof.Proof.GroupedBody
public import Idealize.ShloMosaic.Lib.Pipeline.DatRel

@[expose] public section

set_option maxRecDepth 16384

noncomputable section

namespace Cert.GroupedIdeal.Run

open Cert.GroupedIdeal Cert.GroupedIdeal.Gen Cert.GroupedIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region starts -/

/-- What a buffer of core `c` holds after the three changes of format before the region. -/
abbrev V (c : Dev nD) (b : Ref sig .tc) : Buf (Elt F) ((c : Thread nD τ).loc b) := StableHlo.after hostOps0 (fun b => m (c, b)) b

theorem fresh : (hostOps0 : List (HloOp τ sig (Elt F))).Forall fun op => op.fresh = ∅ := by
  simp only [List.Forall]; repeat' constructor

set_option maxHeartbeats 800000 in
/-- The program is those changes of format and then the region. -/
theorem main_to_region (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub fresh main_chain

theorem V_of_kept (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2⟩))

/-! ## The tables -/

/-- The two tables: the tiles' experts, and the count of used tiles. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Every block the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The count of used tiles, as the body on core `c` reads it. -/
abbrev count (c : Dev nD) : BitVec 32 := word (F := F) c (tbl m 1)

/-- The tables as the body holds them: half of each. -/
theorem tables_eq (c : Dev nD) : (Pipeline.ΦT pre0 (tbl m) c : sProp 𝕄)
    = iprop(((Memref.whole main_arg1).view.loc (c : Thread nD τ) ↦{fullShare.right} (tbl m 0))
        ∗ ((Memref.whole main_arg2).view.loc (c : Thread nD τ) ↦{fullShare.right} (tbl m 1))) := by
  unfold Pipeline.ΦT Pipeline.prefHeld
  rw [show (Finset.univ : Finset (Fin 2)) = insert (0 : Fin 2) {(1 : Fin 2)} from by decide, bigSep_insert (by decide), bigSep_singleton]
  rfl

/-! ## The points -/

theorem coord0 : ∀ t : Fin grid0.N, (grid0.coords t 0).val = t.val / 2 := by decide +kernel
theorem coord1 : ∀ t : Fin grid0.N, (grid0.coords t 1).val = t.val % 2 := by decide +kernel

theorem first_iff (i : grid0.Coords) (n : BitVec 32) : First i n ↔ Used i n ∧ (i 1).val = 0 := by
  have h : (i 1).val = 0 ∨ (i 1).val = 1 := by have := (i 1).isLt; change (i 1).val < 2 at this; omega
  unfold First Used
  generalize Scalar.cmpi .slt (BitVec.ofNat 32 (i 0).val) n = b
  rcases h with h | h <;> rw [h] <;> revert b <;> decide

theorem second_iff (i : grid0.Coords) (n : BitVec 32) : Second i n ↔ Used i n ∧ (i 1).val = 1 := by
  have h : (i 1).val = 0 ∨ (i 1).val = 1 := by have := (i 1).isLt; change (i 1).val < 2 at this; omega
  unfold Second Used k0_cond3
  dsimp only
  generalize Scalar.cmpi .slt (BitVec.ofNat 32 (i 0).val) n = b
  rcases h with h | h <;> rw [h] <;> revert b <;> decide

theorem used_congr {i j : grid0.Coords} (h : (i 0).val = (j 0).val) (n : BitVec 32) : Used i n ↔ Used j n := by
  unfold Used; rw [h]

/-! ## The proof data -/

section Data

variable (hO : Ok m)

/-- The block of window `w` at point `t`, as the region finds it. -/
def iblk (c : Dev nD) (w : Fin (cfgM m hO).W) (t : Fin (cfgM m hO).N) : ((cfgM m hO).win w).block.Idx → Elt F ((cfgM m hO).win w).elt :=
  (((cfgM m hO).win w).blk t).view.read (Elt F) (V m c (Pipeline.arrRef spec0 w))

/-- What point `t` makes of the carried sum `acc`. -/
def step (c : Dev nD) (t : Fin (cfgM m hO).N) (acc : Vec F S1024x1024 .f32) : Vec F S1024x1024 .f32 :=
  upd (iblk m hO c 0 t) (iblk m hO c 1 t) (iblk m hO c 2 t) (iblk m hO c 3 t) acc

/-- After `n` points the carried sum is, if the last of them was the first half of a used tile, what that half adds to zero. -/
def Carried (c : Dev nD) (n : ℕ) (X : Vec F S1024x1024 .f32) : Prop :=
  ∀ k : Fin (cfgM m hO).N, n = k.val + 1 → First (grid0.coords k) (count m c) → X = step m hO c k k0_pay1

/-- At the second half of a used tile the result's buffer is left holding the two halves' sum. -/
def Rl (c : Dev nD) : (w : Fin (cfgM m hO).W) → Fin (cfgM m hO).N → (((cfgM m hO).win w).block.Idx → Elt F ((cfgM m hO).win w).elt) → Prop
  | 0 => fun _ _ => True
  | 1 => fun _ _ => True
  | 2 => fun _ _ => True
  | 3 => fun _ _ => True
  | 4 => fun t X => Second (grid0.coords t) (count m c) → ∀ k : Fin (cfgM m hO).N, t.val = k.val + 1 → X = step m hO c t (step m hO c k k0_pay1)
  | ⟨_ + 5, h⟩ => absurd h (Nat.not_lt.2 (Nat.le_add_left _ _))

/-- The result's window is the one of which only that is said. -/
def fgt : Fin (cfgM m hO).W → Bool
  | 0 => false
  | 1 => false
  | 2 => false
  | 3 => false
  | 4 => true
  | ⟨_ + 5, h⟩ => absurd h (Nat.not_lt.2 (Nat.le_add_left _ _))

def afterOf (c : Dev nD) : (w : Fin (cfgM m hO).W) → (t : Fin (cfgM m hO).N) → ((cfgM m hO).win w).block.Idx → Elt F ((cfgM m hO).win w).elt
  | 0 => fun t => iblk m hO c 0 t
  | 1 => fun t => iblk m hO c 1 t
  | 2 => fun t => iblk m hO c 2 t
  | 3 => fun t => iblk m hO c 3 t
  | 4 => fun t => Pipeline.Dat.unnamed (cfg := cfgM m hO) 4 t
  | ⟨_ + 5, h⟩ => absurd h (Nat.not_lt.2 (Nat.le_add_left _ _))

/-- What the points hand on: the carried sum, the generator's register, the tables. -/
def Inv (c : Dev nD) (n : ℕ) : sProp 𝕄 :=
  iprop((∃ X, ⌜Carried m hO c n X⌝ ∗ owns (c : Thread nD τ) (Memref.whole cc0_scratch0) fullShare X)
    ∗ (∃ r, prngReg c r) ∗ Pipeline.ΦT pre0 (tbl m) c)

/-- The proof data. -/
def dat (c : Dev nD) : Dat τ (Elt F) Unit ℕ (UR sig nD τ) ℕ (cfgM m hO) c where
  A w := V m c (Pipeline.arrRef spec0 w)
  after := afterOf m hO c
  Φ t := Inv m hO c t.val
  q _ := fullShare
  owed _ := 0

theorem A_eq (c : Dev nD) (w : Fin (cfgM m hO).W) : (dat m hO c).A w = V m c (Pipeline.arrRef spec0 w) := by dsimp only [dat]

theorem before0 (c : Dev nD) (t : Fin (cfgM m hO).N) (d) : (dat m hO c).before 0 t d = iblk m hO c 0 t :=
  ((dat m hO c).before_in_eq_fetched 0 rfl (fun _ => rfl) (fun _ _ _ => rfl) (fun t => by
    show afterOf m hO c 0 t = _; unfold Dat.blockOf; rw [A_eq]; rfl) t d).trans
    (by unfold Dat.fetched Dat.blockOf iblk; rw [A_eq]; rfl)
theorem before1 (c : Dev nD) (t : Fin (cfgM m hO).N) (d) : (dat m hO c).before 1 t d = iblk m hO c 1 t :=
  ((dat m hO c).before_in_eq_fetched 1 rfl (fun _ => rfl) (fun _ _ _ => rfl) (fun t => by
    show afterOf m hO c 1 t = _; unfold Dat.blockOf; rw [A_eq]; rfl) t d).trans
    (by unfold Dat.fetched Dat.blockOf iblk; rw [A_eq]; rfl)
theorem before2 (c : Dev nD) (t : Fin (cfgM m hO).N) (d) : (dat m hO c).before 2 t d = iblk m hO c 2 t :=
  ((dat m hO c).before_in_eq_fetched 2 rfl (fun _ => rfl) (fun _ _ _ => rfl) (fun t => by
    show afterOf m hO c 2 t = _; unfold Dat.blockOf; rw [A_eq]; rfl) t d).trans
    (by unfold Dat.fetched Dat.blockOf iblk; rw [A_eq]; rfl)
theorem before3 (c : Dev nD) (t : Fin (cfgM m hO).N) (d) : (dat m hO c).before 3 t d = iblk m hO c 3 t :=
  ((dat m hO c).before_in_eq_fetched 3 rfl (fun _ => rfl) (fun _ _ _ => rfl) (fun t => by
    show afterOf m hO c 3 t = _; unfold Dat.blockOf; rw [A_eq]; rfl) t d).trans
    (by unfold Dat.fetched Dat.blockOf iblk; rw [A_eq]; rfl)

end Data

end Cert.GroupedIdeal.Run

end
-- ==== Proof.GroupedOk.lean ====
/-
  The grouped expert kernel's tables: when every tile names one of the eight experts, every block the tables name lies
  inside its array, and where those blocks are.
-/
module

public import proofs.«01_k».proof.Proof.GroupedData
public import Idealize.ShloMosaic.Lib.Affine
public import Idealize.ShloMosaic.Lib.Pointwise

@[expose] public section

set_option maxRecDepth 16384

noncomputable section

namespace Cert.GroupedIdeal.Run

open Cert.GroupedIdeal Cert.GroupedIdeal.Gen Cert.GroupedIdeal.Body
open Idealize.ShloMosaic Idealize.ShloMosaic.TcCoe Idealize.SL.Sem

variable {F : FTy → Type} [FloatOps F]

variable (m : (ℓ : Loc nD τ sig) → Buf (Elt F) ℓ)

/-- The expert a tile names. -/
def expert (c : Dev nD) (j : Fin 136) : BitVec 32 := m ((c : Thread nD τ).loc main_arg1) (ix1 j)

/-- Every tile names one of the eight experts. -/
def Named : Prop := ∀ c j, (expert m c j).toNat < 8

/-- The expert of a tile, as an index. -/
def named (hn : Named m) (c : Dev nD) (j : Fin 136) : Fin 8 := ⟨(expert m c j).toNat, hn c j⟩

theorem read_expert (c : Dev nD) (i : grid0.Coords) :
    (tbl m).at 0 (Rect.unit (s := S136) ![(Scalar.indexCast (BitVec.ofNat 32 (i 0).val) : Index).toNat] S1.size (k0_off1_inb i)) numel1_S1
      = expert m c (i 0) := by
  obtain rfl : c = 0 := Subsingleton.elim _ _
  show V m 0 main_arg1 _ = _
  rw [V_of_kept m 0 main_arg1 (by decide) (by decide) (by decide)]
  unfold expert
  congr 1
  funext a
  apply Fin.ext
  match a with
  | ⟨0, _⟩ =>
    have h : (i 0).val < 136 := (i 0).isLt
    show (BitVec.ofNat 32 (i 0).val).toNat + 1 * 0 = (i 0).val
    rw [BitVec.toNat_ofNat]; omega

theorem read_count (c : Dev nD) : (tbl m).at 1 (Rect.unit (s := S1) ![0] S1.size inb_S1_S1_0) numel1_S1 = count m c := by
  obtain rfl : c = 0 := Subsingleton.elim _ _
  rfl

/-- Which half a point's weight blocks are: its own in a used tile, the second otherwise. -/
def half (c : Dev nD) (i : grid0.Coords) : BitVec 32 :=
  Scalar.select (Scalar.cmpi .slt (BitVec.ofNat 32 (i 0).val) (count m c)) (BitVec.ofNat 32 (i 1).val) 1#32

theorem half_lt (c : Dev nD) (i : grid0.Coords) : (half m c i).toNat < 2 := by
  have h : (i 1).val < 2 := (i 1).isLt
  unfold half Scalar.select
  split
  · rw [BitVec.toNat_ofNat]; omega
  · decide

theorem half_used (c : Dev nD) (i : grid0.Coords) (hu : Used i (count m c)) : (half m c i).toNat = (i 1).val := by
  have h : (i 1).val < 2 := (i 1).isLt
  have hb : ∀ b : BitVec 1, Scalar.cmpi .ne (Scalar.extui b : BitVec 32) 0#32 = 1#1 → b = 1#1 := by decide
  unfold half
  rw [hb _ hu]
  show (BitVec.ofNat 32 (i 1).val).toNat = _
  rw [BitVec.toNat_ofNat]; omega

theorem place1 (c : Dev nD) (i : grid0.Coords) :
    cc0_transform_1 k0_off1_inb numel1_S1 inb_S1_S1_0 (tbl m) i = ![(expert m c (i 0)).toNat, 0, (half m c i).toNat] := by
  unfold cc0_transform_1 half
  dsimp only
  rw [read_expert m c i, read_count m c]; rfl
theorem place2 (c : Dev nD) (i : grid0.Coords) :
    cc0_transform_2 k0_off1_inb numel1_S1 inb_S1_S1_0 (tbl m) i = ![(expert m c (i 0)).toNat, 0, (half m c i).toNat] := by
  unfold cc0_transform_2 half
  dsimp only
  rw [read_expert m c i, read_count m c]; rfl
theorem place3 (c : Dev nD) (i : grid0.Coords) :
    cc0_transform_3 k0_off1_inb numel1_S1 inb_S1_S1_0 (tbl m) i = ![(expert m c (i 0)).toNat, (half m c i).toNat, 0] := by
  unfold cc0_transform_3 half
  dsimp only
  rw [read_expert m c i, read_count m c]; rfl

/-- When every tile names one of the experts, every block the tables name lies inside its array. -/
theorem ok_of_named (hn : Named m) : Ok m := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩ <;>
    have h8 := hn 0 (i 0) <;> have h2 := half_lt m 0 i
  · rw [place1 m 0]
    match a with
    | ⟨0, _⟩ => show ((expert m 0 (i 0)).toNat + 1) * 1 ≤ 8; omega
    | ⟨1, _⟩ => show (0 + 1) * 1024 ≤ 1024; omega
    | ⟨2, _⟩ => show ((half m 0 i).toNat + 1) * 1408 ≤ 2816; omega
  · rw [place2 m 0]
    match a with
    | ⟨0, _⟩ => show ((expert m 0 (i 0)).toNat + 1) * 1 ≤ 8; omega
    | ⟨1, _⟩ => show (0 + 1) * 1024 ≤ 1024; omega
    | ⟨2, _⟩ => show ((half m 0 i).toNat + 1) * 1408 ≤ 2816; omega
  · rw [place3 m 0]
    match a with
    | ⟨0, _⟩ => show ((expert m 0 (i 0)).toNat + 1) * 1 ≤ 8; omega
    | ⟨1, _⟩ => show ((half m 0 i).toNat + 1) * 1408 ≤ 2816; omega
    | ⟨2, _⟩ => show (0 + 1) * 1024 ≤ 1024; omega

end Cert.GroupedIdeal.Run

end
-- ==== Proof.GroupedRun.lean ====
/-
  The grouped expert kernel's run: the body at every grid point, and the launch.
-/
module

public import proofs.«01_k».proof.Proof.GroupedData
public import Idealize.ShloMosaic.Lib.Pipeline.ArrRel
public import Idealize.ShloMosaic.Lib.Claim

@[expose] public section

set_option maxRecDepth 16384

noncomputable section

namespace Cert.GroupedIdeal.Run

open Cert.GroupedIdeal Cert.GroupedIdeal.Gen Cert.GroupedIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok m)

/-- The staging buffer of window `w` at point `t`, owned at `X`. -/
abbrev at0 (c : Dev nD) (t : Fin (cfgM m hO).N) (X : Vec F S1024x1024 .f32) : sProp 𝕄 :=
  owns (c : Thread nD τ) (spec0_0.stage ((cfgM m hO).slots t 0)) fullShare X
abbrev at1 (c : Dev nD) (t : Fin (cfgM m hO).N) (X : Vec F S1x1024x1408 .bf16) : sProp 𝕄 :=
  owns (c : Thread nD τ) (spec0_1.stage ((cfgM m hO).slots t 1)) fullShare X
abbrev at2 (c : Dev nD) (t : Fin (cfgM m hO).N) (X : Vec F S1x1024x1408 .bf16) : sProp 𝕄 :=
  owns (c : Thread nD τ) (spec0_2.stage ((cfgM m hO).slots t 2)) fullShare X
abbrev at3 (c : Dev nD) (t : Fin (cfgM m hO).N) (X : Vec F S1x1408x1024 .bf16) : sProp 𝕄 :=
  owns (c : Thread nD τ) (spec0_3.stage ((cfgM m hO).slots t 3)) fullShare X
abbrev at4 (c : Dev nD) (t : Fin (cfgM m hO).N) (X : Vec F S1024x1024 .f32) : sProp 𝕄 :=
  owns (c : Thread nD τ) (spec0_4.stage ((cfgM m hO).slots t 4)) fullShare X

/-- The body at point `t`, on the staging buffers of the point. -/
abbrev bodyAt (t : Fin (cfgM m hO).N) : Prog (TpuEff nD τ sig (Elt F) Λ₀ .tc) PUnit :=
  bodyOn (grid0.coords t) (Memref.whole main_arg1) (Memref.isWhole_whole _)
    (spec0_0.stage ((cfgM m hO).slots t 0)) (hstage0_0 (((cfgM m hO).slots t 0).cast nbuf0_0))
    (spec0_1.stage ((cfgM m hO).slots t 1)) (hstage0_1 (((cfgM m hO).slots t 1).cast nbuf0_1))
    (spec0_2.stage ((cfgM m hO).slots t 2)) (hstage0_2 (((cfgM m hO).slots t 2).cast nbuf0_2))
    (spec0_3.stage ((cfgM m hO).slots t 3)) (hstage0_3 (((cfgM m hO).slots t 3).cast nbuf0_3))
    (spec0_4.stage ((cfgM m hO).slots t 4)) (hstage0_4 (((cfgM m hO).slots t 4).cast nbuf0_4))
    (Memref.whole cc0_scratch0) (Memref.isWhole_whole _)

theorem row (t : Fin (cfgM m hO).N) :
    defs₀ (F := F) .tc (cfgM m hO).body ((cfgM m hO).bodyArgs t ((cfgM m hO).slots t)) = bodyAt m hO t := by
  unfold defs₀; rw [Defs.onTc_tc]

/-- Before the point: what the earlier points handed on, the blocks, and the result's buffer at anything. -/
def Before (c : Dev nD) (t : Fin (cfgM m hO).N) : sProp 𝕄 :=
  iprop(Inv m hO c t.val ∗ (dat m hO c).owesAt () t.castSucc
    ∗ (∃ d, at0 m hO c t ((dat m hO c).before 0 t d)) ∗ (∃ d, at1 m hO c t ((dat m hO c).before 1 t d))
    ∗ (∃ d, at2 m hO c t ((dat m hO c).before 2 t d)) ∗ (∃ d, at3 m hO c t ((dat m hO c).before 3 t d))
    ∗ (∃ Y, ⌜((dat m hO c).toRRel (fgt m hO) (Rl m hO c)).Finds 4 t Y⌝ ∗ at4 m hO c t Y))

/-- After it: what it hands on, the blocks again, and the result's buffer at what is said of it. -/
def After (c : Dev nD) (t : Fin (cfgM m hO).N) : sProp 𝕄 :=
  iprop(Inv m hO c (t.val + 1) ∗ (dat m hO c).owesAt () t.castSucc
    ∗ at0 m hO c t (iblk m hO c 0 t) ∗ at1 m hO c t (iblk m hO c 1 t)
    ∗ at2 m hO c t (iblk m hO c 2 t) ∗ at3 m hO c t (iblk m hO c 3 t)
    ∗ (∃ X, ⌜Rl m hO c 4 t X⌝ ∗ at4 m hO c t X))

theorem body (c : Dev nD) (t : Fin (cfgM m hO).N) :
    Before m hO c t ⊢ wp frame (wpE (defs₀ (F := F)) Variants.none c none) Set.univ (bodyAt m hO t) (fun _ => After m hO c t) := by
  unfold Before After Inv
  simp only [before0, before1, before2, before3]
  rw [tables_eq]
  by_cases hU : Used (grid0.coords t) (count m c)
  · by_cases h1 : (grid0.coords t 1).val = 0
    · have hA : First (grid0.coords t) (count m c) := (first_iff _ _).mpr ⟨hU, h1⟩
      have hC : ¬Second (grid0.coords t) (count m c) := fun h => by have := ((second_iff _ _).mp h).2; omega
      iintro ⟨⟨⟨%X, %hX, HS⟩, Hg, HT1, HT2⟩, HO, ⟨%d0, H0⟩, ⟨%d1, H1⟩, ⟨%d2, H2⟩, ⟨%d3, H3⟩, ⟨%Y, %hY, H4⟩⟩
      iapply run_first c (grid0.coords t) _ _ _ _ _ _ _ _ _ _ _ _ _ _ (tbl m 1) hA hU hC
      isplitl [HT2]; · iexact HT2
      isplitl [H0]; · iexact H0
      isplitl [H1]; · iexact H1
      isplitl [H2]; · iexact H2
      isplitl [H3]; · iexact H3
      isplitl [HS]; · iexists X; iexact HS
      iintro ⟨HT2, H0, H1, H2, H3, HS⟩
      isplitl [HS Hg HT1 HT2]
      · isplitl [HS]
        · iexists (step m hO c t k0_pay1); isplitr
          · ipureintro; intro k hk hF
            obtain rfl : t = k := Fin.ext (by omega)
            rfl
          iexact HS
        isplitl [Hg]; · iexact Hg
        isplitl [HT1]; · iexact HT1
        iexact HT2
      isplitl [HO]; · iexact HO
      isplitl [H0]; · iexact H0
      isplitl [H1]; · iexact H1
      isplitl [H2]; · iexact H2
      isplitl [H3]; · iexact H3
      iexists Y; isplitr
      · ipureintro; exact fun h => absurd h hC
      iexact H4
    · have h1 : (grid0.coords t 1).val = 1 := by have := (grid0.coords t 1).isLt; change (grid0.coords t 1).val < 2 at this; omega
      have hA : ¬First (grid0.coords t) (count m c) := fun h => by have := ((first_iff _ _).mp h).2; omega
      have hC : Second (grid0.coords t) (count m c) := (second_iff _ _).mpr ⟨hU, h1⟩
      iintro ⟨⟨⟨%X, %hX, HS⟩, Hg, HT1, HT2⟩, HO, ⟨%d0, H0⟩, ⟨%d1, H1⟩, ⟨%d2, H2⟩, ⟨%d3, H3⟩, ⟨%Y, %hY, H4⟩⟩
      iapply run_second c (grid0.coords t) _ _ _ _ _ _ _ _ _ _ _ _ _ _ (tbl m 1) hA hU hC
      isplitl [HT2]; · iexact HT2
      isplitl [H0]; · iexact H0
      isplitl [H1]; · iexact H1
      isplitl [H2]; · iexact H2
      isplitl [H3]; · iexact H3
      isplitl [H4]; · iexists Y; iexact H4
      isplitl [HS]; · iexact HS
      iintro ⟨HT2, H0, H1, H2, H3, H4, ⟨%Z, HS⟩⟩
      isplitl [HS Hg HT1 HT2]
      · isplitl [HS]
        · iexists Z; isplitr
          · ipureintro; intro k hk hF
            obtain rfl : t = k := Fin.ext (by omega)
            exact absurd hF hA
          iexact HS
        isplitl [Hg]; · iexact Hg
        isplitl [HT1]; · iexact HT1
        iexact HT2
      isplitl [HO]; · iexact HO
      isplitl [H0]; · iexact H0
      isplitl [H1]; · iexact H1
      isplitl [H2]; · iexact H2
      isplitl [H3]; · iexact H3
      iexists (step m hO c t X); isplitr
      · ipureintro; intro _ k hk
        have e0 := coord0 t; have e1 := coord1 t; have f0 := coord0 k; have f1 := coord1 k
        have hF : First (grid0.coords k) (count m c) :=
          (first_iff _ _).mpr ⟨(used_congr (by omega) _).mp hU, by omega⟩
        rw [hX k hk hF]
      iexact H4
  · have hA : ¬First (grid0.coords t) (count m c) := fun h => hU ((first_iff _ _).mp h).1
    have hC : ¬Second (grid0.coords t) (count m c) := fun h => hU ((second_iff _ _).mp h).1
    iintro ⟨⟨⟨%X, %hX, HS⟩, Hg, HT1, HT2⟩, HO, ⟨%d0, H0⟩, ⟨%d1, H1⟩, ⟨%d2, H2⟩, ⟨%d3, H3⟩, ⟨%Y, %hY, H4⟩⟩
    iapply run_unused c (grid0.coords t) _ _ _ _ _ _ _ _ _ _ _ _ _ _ (tbl m 1) hA hU hC
    isplitl [HT2]; · iexact HT2
    iintro HT2
    isplitl [HS Hg HT1 HT2]
    · isplitl [HS]
      · iexists X; isplitr
        · ipureintro; intro k hk hF
          obtain rfl : t = k := Fin.ext (by omega)
          exact absurd hF hA
        iexact HS
      isplitl [Hg]; · iexact Hg
      isplitl [HT1]; · iexact HT1
      iexact HT2
    isplitl [HO]; · iexact HO
    isplitl [H0]; · iexact H0
    isplitl [H1]; · iexact H1
    isplitl [H2]; · iexact H2
    isplitl [H3]; · iexact H3
    iexists Y; isplitr
    · ipureintro; exact fun h => absurd h hC
    iexact H4

theorem body_obligation (c : Dev nD) :
    Pipeline.BodyObligationRel (dat m hO c) (defs₀ (F := F)) Variants.none () Set.univ (fgt m hO) (Rl m hO c) := fun t => by
  rw [row]
  have h := body m hO c t
  unfold Before After at h
  have e := bigSep_W0 (M := 𝕄)
  rw [show (Finset.univ : Finset (Fin (cfgM m hO).W)) = (Finset.univ : Finset (Fin 5)) from rfl]
  rw [e, e]
  exact h

/-- The data as the run takes them: of the result's window only what `Rl` says. -/
abbrev rdat (c : Dev nD) := (dat m hO c).toRRel (fgt m hO) (Rl m hO c)

theorem enter (c : Dev nD) : (iprop(Pipeline.ΦA spec0 c ∗ Pipeline.ΦT pre0 (tbl m) c) : sProp 𝕄) ⊢ (rdat m hO c).Φ 0 := by
  show _ ⊢ Inv m hO c 0
  unfold Pipeline.ΦA Inv
  rw [scopedRest0_eq]
  iintro ⟨⟨⟨%f, HS⟩, Hg⟩, HT⟩
  isplitl [HS]
  · iexists ((Memref.whole cc0_scratch0).view.read (Elt F) f); isplitr
    · ipureintro; intro k hk; omega
    unfold owns; iexists f; isplitr
    · ipureintro; rfl
    rw [show (Memref.whole cc0_scratch0).view.set = Finset.univ from by simp only [Memref.view_whole, View.set_whole]]
    iexact HS
  isplitl [Hg]; · iexact Hg
  iexact HT

theorem leave (c : Dev nD) : (rdat m hO c).Φ (Fin.last (cfgM m hO).N) ⊢ (Pipeline.ΦA spec0 c : sProp 𝕄) := by
  show Inv m hO c _ ⊢ _
  unfold Pipeline.ΦA Inv
  rw [scopedRest0_eq]
  iintro ⟨⟨%X, %hX, HS⟩, Hg, HT⟩
  isplitl [HS]
  · unfold owns; icases HS with ⟨%f, %hf, HS⟩
    rw [show (Memref.whole cc0_scratch0).view.set = Finset.univ from by simp only [Memref.view_whole, View.set_whole]]
    iexists f; iexact HS
  iexact Hg

set_option backward.isDefEq.respectTransparency.types false in
/-- From any memory with zero counters, the tables naming blocks inside their arrays: the program ends, the windows'
    arrays are what the points' data allow, every other buffer is as the region found it, and every counter is zero. -/
theorem run_main : θ_run defs (onTc (τ := τ) (main (F := F))) ⟨m, fun _ => 0, ρ⟩
    (fun r => Pipeline.RDat.FramePost (cfgM m hO) (rdat m hO) (V m) r ∧ r.2.sem = fun _ => 0) :=
  Pipeline.RDat.θ_run_frameP_track (Q' := _) pcfgs (fun _ => adm m hO) (0 : Fin 1) launch0 defs₀ Variants.none (rdat m hO) m ρ main
    (hbody := fun c => (body_obligation m hO c).toRRel) (hshare := fun c => (dat m hO c).share_full fun _ => rfl)
    (howed := fun _ _ => rfl) (V := V m) (hmain := main_to_region m Variants.none) (hA := A_eq m hO) (hpf := V_pre m)
    (hin := enter m hO) (hout := leave m hO)

/-- The arguments end as launched. -/
theorem kept : ∀ r : PUnit × MemSt nD τ sig (Elt F), Pipeline.RDat.FramePost (cfgM m hO) (rdat m hO) (V m) r → ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := fun r h c =>
  have k := fun (b : Ref sig .tc) (hb : b ∈ Pipeline.restRefs sig spec0) (h0 h1 h2) => ((h c).2 b hb).trans (V_of_kept m c b h0 h1 h2)
  ⟨(h.arr_in c 0 rfl).trans (V_of_kept m c main_arg0 (by decide) (by decide) (by decide)),
    k main_arg1 (Pipeline.mem_restRefs_of _ (by decide) (by decide)) (by decide) (by decide) (by decide),
    k main_arg2 (Pipeline.mem_restRefs_of _ (by decide) (by decide)) (by decide) (by decide) (by decide),
    k main_arg3 (Pipeline.mem_restRefs_of _ (by decide) (by decide)) (by decide) (by decide) (by decide),
    k main_arg4 (Pipeline.mem_restRefs_of _ (by decide) (by decide)) (by decide) (by decide) (by decide),
    k main_arg5 (Pipeline.mem_restRefs_of _ (by decide) (by decide)) (by decide) (by decide) (by decide)⟩

end Cert.GroupedIdeal.Run

end
-- ==== Proof.GroupedFrame.lean ====
/-
  The grouped expert call as printed and the same call printed to be read over the extended reals are one program: what
  is proved of the second at any reading of the floats is said of the first.
-/
module

public import proofs.«01_k».proof.Defs
public import proofs.«01_k».proof.Proof.Gen.Grouped.Launch
public import proofs.«01_k».proof.Proof.GroupedOk
public import proofs.«01_k».proof.Proof.GroupedRun

@[expose] public section

set_option maxRecDepth 65536

noncomputable section

namespace Cert.Proof.GroupedFrame

open Idealize.ShloMosaic Idealize.ShloMosaic.TcCoe Idealize.SL.Sem

instance named_facts : Cert.Pre_experts_named.Facts where
  bcast_S_S136 := by decide

variable {F : FTy → Type} [FloatOps F]

/-! ## The two printings -/

theorem same_main : @Cert.Grouped.main F _ Cert.Grouped.Gen.facts = @Cert.GroupedIdeal.main F _ Cert.GroupedIdeal.Gen.facts := rfl

theorem same_bodies : @Cert.Grouped.defs₀ F _ Cert.Grouped.Gen.facts = @Cert.GroupedIdeal.defs₀ F _ Cert.GroupedIdeal.Gen.facts := by
  unfold Cert.Grouped.defs₀ Cert.GroupedIdeal.defs₀
  congr 1
  funext l x
  match l with
  | 0 => rfl

theorem same_defs : @Cert.Grouped.defs F _ Cert.Grouped.Gen.facts = @Cert.GroupedIdeal.defs F _ Cert.GroupedIdeal.Gen.facts := by
  unfold Cert.Grouped.defs Cert.GroupedIdeal.defs
  exact congrArg (Pipeline.defs (Cert.GroupedIdeal.pcfgs (F := F))) same_bodies

/-! ## The precondition -/

/-- A word at least zero and below eight, as a signed number, is below eight. -/
theorem below_eight (v : BitVec 32) (h : Scalar.andi (Scalar.cmpi .sge v 0#32) (Scalar.cmpi .slt v 8#32) = 1#1) : v.toNat < 8 := by
  have h' : BitVec.ofBool ((0#32).sle v) &&& BitVec.ofBool (v.slt 8#32) = 1#1 := h
  have h1 : (0#32).sle v = true ∧ v.slt 8#32 = true := by
    revert h'; cases (0#32).sle v <;> cases v.slt 8#32 <;> decide
  obtain ⟨a, b⟩ := h1
  rw [BitVec.sle_iff_toInt_le] at a
  rw [BitVec.slt_iff_toInt_lt] at b
  have e0 : (0#32).toInt = 0 := by decide
  have e8 : (8#32).toInt = 8 := by decide
  rw [e0] at a
  rw [e8] at b
  rw [BitVec.toInt_eq_toNat_cond] at a b
  split at a <;> omega

theorem named_at (x : FVec F Cert.Pre_experts_named.S139264x1024 .f32) (e : IVec Cert.Pre_experts_named.S136 32)
    (n : IVec Cert.Pre_experts_named.S1 32) (g u : FVec F Cert.Pre_experts_named.S8x1024x2816 .f32)
    (d : FVec F Cert.Pre_experts_named.S8x2816x1024 .f32) (h : Cert.Pre_experts_named.fn x e n g u d = fun _ => 1#1) (j : Fin 136) :
    (e (ix1 j)).toNat < 8 := by
  have hj := congrFun h (ix1 j)
  unfold Cert.Pre_experts_named.fn at hj
  exact below_eight _ hj

/-! ## The frames -/

/-- The call runs to the end, keeps its arguments and leaves every counter zero, at any reading of the floats. -/
theorem frame_named (m : (ℓ : Loc Cert.GroupedIdeal.nD Cert.GroupedIdeal.τ Cert.GroupedIdeal.sig) → Buf (Elt F) ℓ)
    (ρ : Dev Cert.GroupedIdeal.nD → PrngReg) (hn : Cert.GroupedIdeal.Run.Named m) :
    θ_run (Cert.GroupedIdeal.defs (F := F)) (onTc (τ := Cert.GroupedIdeal.τ) (Cert.GroupedIdeal.main (F := F))) ⟨m, fun _ => 0, ρ⟩ (fun r =>
      (∀ c : Dev Cert.GroupedIdeal.nD,
        r.2.mem ((c.tc : Thread Cert.GroupedIdeal.nD Cert.GroupedIdeal.τ).loc Cert.GroupedIdeal.main_arg0) = m ((c.tc : Thread Cert.GroupedIdeal.nD Cert.GroupedIdeal.τ).loc Cert.GroupedIdeal.main_arg0)
        ∧ r.2.mem ((c.tc : Thread Cert.GroupedIdeal.nD Cert.GroupedIdeal.τ).loc Cert.GroupedIdeal.main_arg1) = m ((c.tc : Thread Cert.GroupedIdeal.nD Cert.GroupedIdeal.τ).loc Cert.GroupedIdeal.main_arg1)
        ∧ r.2.mem ((c.tc : Thread Cert.GroupedIdeal.nD Cert.GroupedIdeal.τ).loc Cert.GroupedIdeal.main_arg2) = m ((c.tc : Thread Cert.GroupedIdeal.nD Cert.GroupedIdeal.τ).loc Cert.GroupedIdeal.main_arg2)
        ∧ r.2.mem ((c.tc : Thread Cert.GroupedIdeal.nD Cert.GroupedIdeal.τ).loc Cert.GroupedIdeal.main_arg3) = m ((c.tc : Thread Cert.GroupedIdeal.nD Cert.GroupedIdeal.τ).loc Cert.GroupedIdeal.main_arg3)
        ∧ r.2.mem ((c.tc : Thread Cert.GroupedIdeal.nD Cert.GroupedIdeal.τ).loc Cert.GroupedIdeal.main_arg4) = m ((c.tc : Thread Cert.GroupedIdeal.nD Cert.GroupedIdeal.τ).loc Cert.GroupedIdeal.main_arg4)
        ∧ r.2.mem ((c.tc : Thread Cert.GroupedIdeal.nD Cert.GroupedIdeal.τ).loc Cert.GroupedIdeal.main_arg5) = m ((c.tc : Thread Cert.GroupedIdeal.nD Cert.GroupedIdeal.τ).loc Cert.GroupedIdeal.main_arg5))
      ∧ r.2.sem = fun _ => 0) :=
  have hO := Cert.GroupedIdeal.Run.ok_of_named m hn
  (θ_run (Cert.GroupedIdeal.defs (F := F)) _ _).mono (fun r h => ⟨Cert.GroupedIdeal.Run.kept m hO r h.1, h.2⟩)
    (Cert.GroupedIdeal.Run.run_main m ρ hO)

theorem frame_ideal : Cert.quiescent_GroupedIdeal := fun m ρ hp =>
  frame_named m ρ fun c j => named_at _ _ _ _ _ _ (hp c) j

theorem frame_call : Cert.quiescent_Grouped := fun m ρ hp => by
  rw [same_defs, same_main]
  exact frame_named (F := Bits) m ρ fun c j => named_at _ _ _ _ _ _ (hp c) j

end Cert.Proof.GroupedFrame

end
-- ==== Proof.GroupedPay.lean ====
/-
  The grouped expert kernel's payloads read at an index over the extended reals.
-/
module

public import proofs.«01_k».proof.Proof.GroupedBody
public import proofs.«01_k».proof.Proof.FfnSpec

@[expose] public section

set_option maxRecDepth 16384

noncomputable section

namespace Cert.GroupedIdeal.Body

open Cert.GroupedIdeal Cert.GroupedIdeal.Gen Idealize.ShloMosaic Idealize.ShloMosaic.TcCoe Idealize.SL.Sem

theorem zero_minus (g : EReal) : 0 - g = -g := by rw [sub_eq_add_neg, zero_add]

/-- A point adds its 1408 hidden units' contribution. -/
theorem upd_at (x : Vec Ideal S1024x1024 .f32) (wg wu : Vec Ideal S1x1024x1408 .bf16) (wd : Vec Ideal S1x1408x1024 .bf16)
    (acc : Vec Ideal S1024x1024 .f32) (r l : Fin 1024) :
    upd x wg wu wd acc (ix2 r l) = acc (ix2 r l)
      + FfnSpec.contrib (fun k : Fin 1024 => x (ix2 r k)) (fun k (f : Fin 1408) => wg (ix3 (0 : Fin 1) k f))
          (fun k f => wu (ix3 (0 : Fin 1) k f)) (fun f => wd (ix3 (0 : Fin 1) f l)) := by
  unfold upd FfnSpec.contrib
  rw [FfnSpec.sum_runs]
  pointwise [k0_pay2, k0_pay3, k0_pay4, k0_pay5, k0_pay6, k0_pay7, k0_pay8, k0_pay9, k0_pay10, k0_pay11, k0_pay12, View.ld]
  simp only [zero_minus]
  rw [add_assoc, add_assoc, ← add_assoc (Finset.sum _ _)]
  rfl

/-- The carried sum starts at zero. -/
theorem zero_at (r l : Fin 1024) : k0_pay1 (F := Ideal) (ix2 r l) = 0 := by
  pointwise [k0_pay1]

/-- Two points over the same row, the first taking the first half of the hidden units and the second the other: all of
    them together. -/
theorem two_halves (x x' : Vec Ideal S1024x1024 .f32) (wg wu wg' wu' : Vec Ideal S1x1024x1408 .bf16) (wd wd' : Vec Ideal S1x1408x1024 .bf16)
    (h : Fin 1024 → EReal) (G U : Fin 1024 → Fin 2816 → EReal) (D : Fin 2816 → EReal) (r l : Fin 1024)
    (hx : ∀ k, x (ix2 r k) = h k) (hg : ∀ k (f : Fin 1408), wg (ix3 (0 : Fin 1) k f) = G k ⟨1408 + f.val, by omega⟩)
    (hu : ∀ k (f : Fin 1408), wu (ix3 (0 : Fin 1) k f) = U k ⟨1408 + f.val, by omega⟩)
    (hd : ∀ f : Fin 1408, wd (ix3 (0 : Fin 1) f l) = D ⟨1408 + f.val, by omega⟩)
    (hx' : ∀ k, x' (ix2 r k) = h k) (hg' : ∀ k (f : Fin 1408), wg' (ix3 (0 : Fin 1) k f) = G k ⟨f.val, by omega⟩)
    (hu' : ∀ k (f : Fin 1408), wu' (ix3 (0 : Fin 1) k f) = U k ⟨f.val, by omega⟩)
    (hd' : ∀ f : Fin 1408, wd' (ix3 (0 : Fin 1) f l) = D ⟨f.val, by omega⟩) :
    upd x wg wu wd (upd x' wg' wu' wd' (k0_pay1 (F := Ideal))) (ix2 r l) = FfnSpec.contrib h G U D := by
  rw [upd_at, upd_at, zero_at, FfnSpec.contrib_halves]
  simp only [hx, hg, hu, hd, hx', hg', hu', hd', zero_add]

end Cert.GroupedIdeal.Body

end
-- ==== Proof.GroupedValue.lean ====
/-
  The rows of used tiles in the grouped expert call's result over the extended reals: each is written at its tile's
  second grid point, when the carried sum holds both halves of the hidden units of the tile's expert.
-/
module

public import proofs.«01_k».proof.Proof.GroupedPay
public import proofs.«01_k».proof.Proof.GroupedOk
public import proofs.«01_k».proof.Proof.GroupedRun

@[expose] public section

set_option maxRecDepth 16384

noncomputable section

namespace Cert.GroupedIdeal.Run

open Cert.GroupedIdeal Cert.GroupedIdeal.Gen Cert.GroupedIdeal.Body
open Idealize.ShloMosaic Idealize.ShloMosaic.TcCoe Idealize.SL.Sem
open Idealize.ShloMosaic.Pipeline (Window)

variable (m : (ℓ : Loc nD τ sig) → Buf (Elt Ideal) ℓ)

theorem V_gate (c : Dev nD) : V m c main_v0 = m ((c : Thread nD τ).loc main_arg3) := by
  show StableHlo.after hostOps0 _ main_v0 = _
  simp only [hostOps0]
  after_results_simp <;> rfl

theorem V_up (c : Dev nD) : V m c main_v1 = m ((c : Thread nD τ).loc main_arg4) := by
  show StableHlo.after hostOps0 _ main_v1 = _
  simp only [hostOps0]
  after_results_simp <;> rfl

theorem V_down (c : Dev nD) : V m c main_v2 = m ((c : Thread nD τ).loc main_arg5) := by
  show StableHlo.after hostOps0 _ main_v2 = _
  simp only [hostOps0]
  after_results_simp <;> rfl

/-- The tile of a point. -/
def tile (t : Fin grid0.N) : Fin 136 := ⟨t.val / 2, by have := coord0 t; have := (grid0.coords t 0).isLt; change _ < 136 at this; omega⟩

theorem tile_eq (t : Fin grid0.N) : grid0.coords t 0 = tile t := Fin.ext (coord0 t)

/-- A row of a point's tile, among all the rows. -/
def rowOf (t : Fin grid0.N) (r : Fin 1024) : Fin 139264 := ⟨(tile t).val * 1024 + r.val, by have := (tile t).isLt; omega⟩

theorem place_rows : ∀ t : Fin grid0.N, cc0_transform_0 (grid0.coords t) = ![t.val / 2, 0] := by decide +kernel
theorem place_out : ∀ t : Fin grid0.N, cc0_transform_4 (grid0.coords t) = ![t.val / 2, 0] := by decide +kernel

/-- The result's block is written back at each tile's second point. -/
theorem flush_out : ∀ t : Fin grid0.N, Window.flushOf grid0 true cc0_transform_4 t = decide (t.val % 2 = 1) := by decide +kernel

section Blocks

variable (hO : Ok m) (hn : Named m) (c : Dev nD) (t : Fin grid0.N)

theorem blk_rows (r k : Fin 1024) : (iblk m hO c 0 t : Vec Ideal S1024x1024 .f32) (ix2 r k)
    = m ((c : Thread nD τ).loc main_arg0) (ix2 (rowOf t r) k) := by
  have e := place_rows t
  unfold iblk
  show V m c main_arg0 _ = _
  rw [V_of_kept m c main_arg0 (by decide) (by decide) (by decide)]
  congr 1
  funext a
  apply Fin.ext
  match a with
  | ⟨0, _⟩ => show cc0_transform_0 (grid0.coords t) 0 * 1024 + 1 * r.val = t.val / 2 * 1024 + r.val; rw [e]; simp
  | ⟨1, _⟩ => show cc0_transform_0 (grid0.coords t) 1 * 1024 + 1 * k.val = k.val; rw [e]; simp

variable (hu : Used (grid0.coords t) (count m c))
include hu

theorem blk_gate (k : Fin 1024) (f : Fin 1408) : (iblk m hO c 1 t : Vec Ideal S1x1024x1408 .bf16) (ix3 (0 : Fin 1) k f)
    = m ((c : Thread nD τ).loc main_arg3) (ix3 (named m hn c (tile t)) k (⟨t.val % 2 * 1408 + f.val, by omega⟩ : Fin 2816)) := by
  have e : cc0_transform_1 k0_off1_inb numel1_S1 inb_S1_S1_0 (tbl m) (grid0.coords t) = ![(expert m c (tile t)).toNat, 0, t.val % 2] := by
    rw [← coord1 t, ← half_used m c _ hu, ← tile_eq t]; exact place1 m c (grid0.coords t)
  have hemb : ∀ a : Fin 3, ((((cfgM m hO).win 1).blk t).view.emb (ix3 (0 : Fin 1) k f : S1x1024x1408.Idx) a).val
      = cc0_transform_1 k0_off1_inb numel1_S1 inb_S1_S1_0 (tbl m) (grid0.coords t) a * S1x1024x1408.size a + 1 * ((ix3 (0 : Fin 1) k f : S1x1024x1408.Idx) a).val := fun _ => rfl
  unfold iblk
  show V m c main_v0 _ = _
  rw [V_gate]
  show m ((c : Thread nD τ).loc main_arg3) _ = _
  congr 1
  funext a
  apply Fin.ext
  match a with
  | ⟨0, _⟩ => refine (hemb 0).trans ?_; show cc0_transform_1 k0_off1_inb numel1_S1 inb_S1_S1_0 (tbl m) (grid0.coords t) 0 * 1 + 1 * 0 = (expert m c (tile t)).toNat; rw [e]; simp
  | ⟨1, _⟩ => refine (hemb 1).trans ?_; show cc0_transform_1 k0_off1_inb numel1_S1 inb_S1_S1_0 (tbl m) (grid0.coords t) 1 * 1024 + 1 * k.val = k.val; rw [e]; simp
  | ⟨2, _⟩ => refine (hemb 2).trans ?_; show cc0_transform_1 k0_off1_inb numel1_S1 inb_S1_S1_0 (tbl m) (grid0.coords t) 2 * 1408 + 1 * f.val = t.val % 2 * 1408 + f.val; rw [e]; simp

theorem blk_up (k : Fin 1024) (f : Fin 1408) : (iblk m hO c 2 t : Vec Ideal S1x1024x1408 .bf16) (ix3 (0 : Fin 1) k f)
    = m ((c : Thread nD τ).loc main_arg4) (ix3 (named m hn c (tile t)) k (⟨t.val % 2 * 1408 + f.val, by omega⟩ : Fin 2816)) := by
  have e : cc0_transform_2 k0_off1_inb numel1_S1 inb_S1_S1_0 (tbl m) (grid0.coords t) = ![(expert m c (tile t)).toNat, 0, t.val % 2] := by
    rw [← coord1 t, ← half_used m c _ hu, ← tile_eq t]; exact place2 m c (grid0.coords t)
  have hemb : ∀ a : Fin 3, ((((cfgM m hO).win 2).blk t).view.emb (ix3 (0 : Fin 1) k f : S1x1024x1408.Idx) a).val
      = cc0_transform_2 k0_off1_inb numel1_S1 inb_S1_S1_0 (tbl m) (grid0.coords t) a * S1x1024x1408.size a + 1 * ((ix3 (0 : Fin 1) k f : S1x1024x1408.Idx) a).val := fun _ => rfl
  unfold iblk
  show V m c main_v1 _ = _
  rw [V_up]
  show m ((c : Thread nD τ).loc main_arg4) _ = _
  congr 1
  funext a
  apply Fin.ext
  match a with
  | ⟨0, _⟩ => refine (hemb 0).trans ?_; show cc0_transform_2 k0_off1_inb numel1_S1 inb_S1_S1_0 (tbl m) (grid0.coords t) 0 * 1 + 1 * 0 = (expert m c (tile t)).toNat; rw [e]; simp
  | ⟨1, _⟩ => refine (hemb 1).trans ?_; show cc0_transform_2 k0_off1_inb numel1_S1 inb_S1_S1_0 (tbl m) (grid0.coords t) 1 * 1024 + 1 * k.val = k.val; rw [e]; simp
  | ⟨2, _⟩ => refine (hemb 2).trans ?_; show cc0_transform_2 k0_off1_inb numel1_S1 inb_S1_S1_0 (tbl m) (grid0.coords t) 2 * 1408 + 1 * f.val = t.val % 2 * 1408 + f.val; rw [e]; simp

theorem blk_down (f : Fin 1408) (l : Fin 1024) : (iblk m hO c 3 t : Vec Ideal S1x1408x1024 .bf16) (ix3 (0 : Fin 1) f l)
    = m ((c : Thread nD τ).loc main_arg5) (ix3 (named m hn c (tile t)) (⟨t.val % 2 * 1408 + f.val, by omega⟩ : Fin 2816) l) := by
  have e : cc0_transform_3 k0_off1_inb numel1_S1 inb_S1_S1_0 (tbl m) (grid0.coords t) = ![(expert m c (tile t)).toNat, t.val % 2, 0] := by
    rw [← coord1 t, ← half_used m c _ hu, ← tile_eq t]; exact place3 m c (grid0.coords t)
  have hemb : ∀ a : Fin 3, ((((cfgM m hO).win 3).blk t).view.emb (ix3 (0 : Fin 1) f l : S1x1408x1024.Idx) a).val
      = cc0_transform_3 k0_off1_inb numel1_S1 inb_S1_S1_0 (tbl m) (grid0.coords t) a * S1x1408x1024.size a + 1 * ((ix3 (0 : Fin 1) f l : S1x1408x1024.Idx) a).val := fun _ => rfl
  unfold iblk
  show V m c main_v2 _ = _
  rw [V_down]
  show m ((c : Thread nD τ).loc main_arg5) _ = _
  congr 1
  funext a
  apply Fin.ext
  match a with
  | ⟨0, _⟩ => refine (hemb 0).trans ?_; show cc0_transform_3 k0_off1_inb numel1_S1 inb_S1_S1_0 (tbl m) (grid0.coords t) 0 * 1 + 1 * 0 = (expert m c (tile t)).toNat; rw [e]; simp
  | ⟨1, _⟩ => refine (hemb 1).trans ?_; show cc0_transform_3 k0_off1_inb numel1_S1 inb_S1_S1_0 (tbl m) (grid0.coords t) 1 * 1408 + 1 * f.val = t.val % 2 * 1408 + f.val; rw [e]; simp
  | ⟨2, _⟩ => refine (hemb 2).trans ?_; show cc0_transform_3 k0_off1_inb numel1_S1 inb_S1_S1_0 (tbl m) (grid0.coords t) 2 * 1024 + 1 * l.val = l.val; rw [e]; simp

end Blocks

/-- One entry of the result: the row through the gated layer of its tile's expert. -/
def entry (hn : Named m) (c : Dev nD) (r : Fin 139264) (l : Fin 1024) : EReal :=
  FfnSpec.contrib (fun k : Fin 1024 => m ((c : Thread nD τ).loc main_arg0) (ix2 r k))
    (fun k (f : Fin 2816) => m ((c : Thread nD τ).loc main_arg3) (ix3 (named m hn c ⟨r.val / 1024, by omega⟩) k f))
    (fun k f => m ((c : Thread nD τ).loc main_arg4) (ix3 (named m hn c ⟨r.val / 1024, by omega⟩) k f))
    (fun f => m ((c : Thread nD τ).loc main_arg5) (ix3 (named m hn c ⟨r.val / 1024, by omega⟩) f l))

/-- Two points of a used tile build its rows' entries. -/
theorem steps_at (hO : Ok m) (hn : Named m) (c : Dev nD) (t u : Fin grid0.N) (hut : t.val = u.val + 1) (h1 : t.val % 2 = 1)
    (hu : Used (grid0.coords t) (count m c)) (r l : Fin 1024) :
    step m hO c t (step m hO c u (k0_pay1 (F := Ideal))) (ix2 r l)
      = entry m hn c (rowOf t r) l := by
  have ht : tile u = tile t := Fin.ext (by show u.val / 2 = t.val / 2; omega)
  have hu' : Used (grid0.coords u) (count m c) := (used_congr (by rw [coord0, coord0]; omega) _).1 hu
  have hr : rowOf u r = rowOf t r := Fin.ext (by show (tile u).val * 1024 + r.val = (tile t).val * 1024 + r.val; rw [ht])
  have hd : ∀ h, (⟨(rowOf t r).val / 1024, h⟩ : Fin 136) = tile t := fun _ => Fin.ext (by
    show ((tile t).val * 1024 + r.val) / 1024 = (tile t).val; omega)
  have e0 : u.val % 2 = 0 := by omega
  have at1 : ∀ (f : Fin 1408) h, (⟨t.val % 2 * 1408 + f.val, h⟩ : Fin 2816) = ⟨1408 + f.val, by omega⟩ := fun f _ => Fin.ext (by
    show t.val % 2 * 1408 + f.val = 1408 + f.val; omega)
  have at0 : ∀ (f : Fin 1408) h, (⟨u.val % 2 * 1408 + f.val, h⟩ : Fin 2816) = ⟨f.val, by omega⟩ := fun f _ => Fin.ext (by
    show u.val % 2 * 1408 + f.val = f.val; omega)
  unfold step entry
  simp only [hd]
  refine two_halves _ _ _ _ _ _ _ _ _ _ _ _ r l (fun k => blk_rows m hO c t r k) (fun k f => ?_) (fun k f => ?_) (fun f => ?_)
    (fun k => ?_) (fun k f => ?_) (fun k f => ?_) (fun f => ?_)
  · exact (blk_gate m hO hn c t hu k f).trans (by rw [at1])
  · exact (blk_up m hO hn c t hu k f).trans (by rw [at1])
  · exact (blk_down m hO hn c t hu f l).trans (by rw [at1])
  · exact (blk_rows m hO c u r k).trans (by rw [hr])
  · exact (blk_gate m hO hn c u hu' k f).trans (by rw [at0, ht])
  · exact (blk_up m hO hn c u hu' k f).trans (by rw [at0, ht])
  · exact (blk_down m hO hn c u hu' f l).trans (by rw [at0, ht])

/-- THE RESULT: a row of a used tile ends as the gated layer of the tile's expert makes it. -/
theorem result_at (hO : Ok m) (hn : Named m) (r : PUnit × MemSt nD τ sig (Elt Ideal))
    (h : Pipeline.RDat.FramePost (cfgM m hO) (rdat m hO) (V m) r) (c : Dev nD) (p : Fin 139264) (l : Fin 1024)
    (hp : ∀ t : Fin grid0.N, t.val / 2 = p.val / 1024 → Used (grid0.coords t) (count m c)) :
    r.2.mem ((c : Thread nD τ).loc main_v3) (ix2 p l) = entry m hn c p l := by
  obtain ⟨after, hL, hA⟩ := h.exists_exact c
  have hN : grid0.N = 272 := N_0
  have hp0 := p.isLt
  have hf4 : ∀ t : Fin grid0.N, ((cfgM m hO).win 4).flush t = decide (t.val % 2 = 1) := fun t =>
    (Window.flush_eq_flushOf _ t).trans (flush_out t)
  rw [show r.2.mem ((c : Thread nD τ).loc main_v3) = _ from hA 4]
  refine (((rdat m hO c).withAfter after).arrAt_forall_of_flushed 4
    (fun (i : S139264x1024.Idx) v => i = ix2 p l → v = entry m hn c p l) ?_ (cfgM m hO).N
    (⟨2 * (p.val / 1024) + 1, by show _ < grid0.N; omega⟩ : Fin grid0.N) (ix2 p l) (Fin.isLt _) ?_ ?_ rfl)
  · intro t hf (y : S1024x1024.Idx) he
    have h1 : t.val % 2 = 1 := of_decide_eq_true ((hf4 t).symm.trans hf)
    have hy : y = ix2 (y 0) (y 1) := by
      funext a; match a with
      | ⟨0, _⟩ => rfl
      | ⟨1, _⟩ => rfl
    have hr0 : (y 0).val < 1024 := (y 0).isLt
    have h0 : cc0_transform_4 (grid0.coords t) 0 * 1024 + 1 * (y 0).val = p.val := congrArg (fun i : S139264x1024.Idx => (i 0).val) he
    have hl : cc0_transform_4 (grid0.coords t) 1 * 1024 + 1 * (y 1).val = l.val := congrArg (fun i : S139264x1024.Idx => (i 1).val) he
    rw [place_out] at h0 hl
    simp at h0 hl
    have hu := hp t (by omega)
    have hs : Second (grid0.coords t) (count m c) := (second_iff _ _).2 ⟨hu, by rw [coord1, h1]⟩
    have hR : Rl m hO c 4 t (after 4 t) := (dat m hO c).toRRel_leaves (w := 4) rfl (hL 4 t hf)
    have hX := hR hs ⟨t.val - 1, lt_of_le_of_lt (Nat.sub_le _ _) t.isLt⟩ (by show t.val = t.val - 1 + 1; omega)
    have hy2 : ((cfgM m hO).win 4).xinj ((cfgM m hO).grid.coords t) y = (ix2 (y 0) (y 1) : S1024x1024.Idx) := by
      funext a; apply Fin.ext; match a with
      | ⟨0, _⟩ => rfl
      | ⟨1, _⟩ => rfl
    have hrow : rowOf t (y 0) = p := Fin.ext (by show t.val / 2 * 1024 + (y 0).val = p.val; exact h0)
    have hcol : y 1 = l := Fin.ext hl
    refine (congrFun hX _).trans ?_
    rw [hy2]
    refine (steps_at m hO hn c t ⟨t.val - 1, lt_of_le_of_lt (Nat.sub_le _ _) t.isLt⟩ (by show t.val = t.val - 1 + 1; omega) h1 hu (y 0) (y 1)).trans ?_
    rw [hrow, hcol]
  · rw [hf4]; exact decide_eq_true (by show (2 * (p.val / 1024) + 1) % 2 = 1; omega)
  · have hq : (⟨2 * (p.val / 1024) + 1, by omega⟩ : Fin grid0.N).val / 2 = p.val / 1024 := by show (2 * (p.val / 1024) + 1) / 2 = _; omega
    generalize hg : (⟨2 * (p.val / 1024) + 1, by omega⟩ : Fin grid0.N) = t at hq
    have hemb : ∀ a : Fin 2, ((((cfgM m hO).win 4).blk t).view.emb (ix2 (⟨p.val % 1024, by omega⟩ : Fin 1024) l : S1024x1024.Idx) a).val
      = cc0_transform_4 (grid0.coords t) a * S1024x1024.size a + 1 * ((ix2 (⟨p.val % 1024, by omega⟩ : Fin 1024) l : S1024x1024.Idx) a).val := fun _ => rfl
    have hi : (ix2 p l : S139264x1024.Idx) = (((cfgM m hO).win 4).blk t).view.emb (ix2 (⟨p.val % 1024, by omega⟩ : Fin 1024) l : S1024x1024.Idx) := by
      funext a; apply Fin.ext; refine Eq.trans ?_ (hemb a).symm
      rw [place_out]
      match a with
      | ⟨0, _⟩ => show p.val = t.val / 2 * 1024 + 1 * (p.val % 1024); omega
      | ⟨1, _⟩ => show l.val = 0 * 1024 + 1 * l.val; omega
    rw [hi]; exact (((cfgM m hO).win 4).blk t).view.emb_mem_set _

end Cert.GroupedIdeal.Run

end
-- ==== Proof.ExpertsRef.lean ====
/-
  The expert reference's result over the extended reals: each row through the gated layer of the expert its tile names.
-/
module

public import proofs.«01_k».proof.Proof.Gen.ExpertsIdeal.Run
public import proofs.«01_k».proof.Proof.FfnSpec

@[expose] public section

set_option maxRecDepth 16384

noncomputable section

namespace Cert.ExpertsIdeal.Read

open Cert.ExpertsIdeal Cert.ExpertsIdeal.Gen Idealize.ShloMosaic Idealize.ShloMosaic.TcCoe Idealize.SL.Sem

/-- The gated layer of expert `e`, applied to every row. -/
def layer (x : FVec Ideal S139264x1024 .f32) (g u : FVec Ideal S8x1024x2816 .f32) (d : FVec Ideal S8x2816x1024 .f32) (e : ℕ)
    (hg : S8x1024x2816.Slices ![e, 0, 0] S1x1024x2816) (hd : S8x2816x1024.Slices ![e, 0, 0] S1x2816x1024) : FVec Ideal S139264x1024 .f32 :=
  let a : FVec Ideal S139264x2816 .f32 := Host.dotGeneral dot_S139264x1024_S1024x2816_S139264x2816_1_0_0_1_n_n none x
    (shapeCast S1024x2816 (extractStridedSlice S1x1024x2816 ![e, 0, 0] g hg) shapeCasts_S1x1024x2816_S1024x2816)
  Host.dotGeneral dot_S139264x2816_S2816x1024_S139264x1024_1_0_0_1_n_n none
    (mulf (mulf a (Host.divf (broadcastInDim S139264x2816 ![] bcast_S_S139264x2816 (constant S_ .f32 0x3F800000#32))
        (addf (broadcastInDim S139264x2816 ![] bcast_S_S139264x2816 (constant S_ .f32 0x3F800000#32)) (Host.exp (Host.negf a)))))
      (Host.dotGeneral dot_S139264x1024_S1024x2816_S139264x2816_1_0_0_1_n_n none x
        (shapeCast S1024x2816 (extractStridedSlice S1x1024x2816 ![e, 0, 0] u hg) shapeCasts_S1x1024x2816_S1024x2816)))
    (shapeCast S2816x1024 (extractStridedSlice S1x2816x1024 ![e, 0, 0] d hd) shapeCasts_S1x2816x1024_S2816x1024)

theorem layer_at (x : FVec Ideal S139264x1024 .f32) (g u : FVec Ideal S8x1024x2816 .f32) (d : FVec Ideal S8x2816x1024 .f32) (e : ℕ)
    (hg : S8x1024x2816.Slices ![e, 0, 0] S1x1024x2816) (hd : S8x2816x1024.Slices ![e, 0, 0] S1x2816x1024) (he : e < 8)
    (r : Fin 139264) (l : Fin 1024) :
    layer x g u d e hg hd (ix2 r l) = FfnSpec.contrib (fun k : Fin 1024 => x (ix2 r k)) (fun k (f : Fin 2816) => g (ix3 (⟨e, he⟩ : Fin 8) k f))
      (fun k f => u (ix3 (⟨e, he⟩ : Fin 8) k f)) (fun f => d (ix3 (⟨e, he⟩ : Fin 8) f l)) := by
  unfold layer
  pointwise []
  rfl

/-- `a` on the rows whose tile names expert `e`, `b` on the others. -/
def pick (w : IVec S139264x1 32) (e : BitVec 32) (a b : FVec Ideal S139264x1024 .f32) : FVec Ideal S139264x1024 .f32 :=
  select (broadcastInDim S139264x1024 ![0, 1] bcast_S139264x1_S139264x1024_0_1
    (cmpi .eq w (broadcastInDim S139264x1 ![] bcast_S_S139264x1 (constantI S_ 32 e)))) a b

theorem pick_at (w : IVec S139264x1 32) (e : BitVec 32) (a b : FVec Ideal S139264x1024 .f32) (r : Fin 139264) (l : Fin 1024) :
    pick w e a b (ix2 r l) = if w (ix2 r (0 : Fin 1)) = e then a (ix2 r l) else b (ix2 r l) := by
  unfold pick
  pointwise []
  show (if Scalar.cmpi .eq (w (ix2 r (0 : Fin 1))) e = 1#1 then _ else _) = _
  by_cases h : w (ix2 r (0 : Fin 1)) = e <;> simp [h, Scalar.cmpi, IntOp.cmpi, beq_eq_false_iff_ne.2]

variable (m : (ℓ : Loc nD τ sig) → Buf (Elt Ideal) ℓ)

theorem word_at (c : Dev nD) (r : Fin 139264) :
    Value.res_main_v2 (StableHlo.launchContents m c) (ix2 r (0 : Fin 1)) = m ((c : Thread nD τ).loc main_arg1) (ix1 (⟨r.val / 1024, by omega⟩ : Fin 136)) := by
  unfold Value.res_main_v2
  pointwise []

/-- A choice among eight by a word below eight. -/
theorem choose (v : BitVec 32) (hv : v.toNat < 8) (f : Fin 8 → EReal) (z : EReal) :
    (if v = 7#32 then f 7 else if v = 6#32 then f 6 else if v = 5#32 then f 5 else if v = 4#32 then f 4
      else if v = 3#32 then f 3 else if v = 2#32 then f 2 else if v = 1#32 then f 1 else if v = 0#32 then f 0 else z) = f ⟨v.toNat, hv⟩ := by
  have hn : v = BitVec.ofNat 32 v.toNat := by simp
  generalize v.toNat = n at hn hv
  subst hn
  interval_cases n <;> rfl

/-- The reference's result: for each row the layer of the expert its tile names. -/
def chain (c : Dev nD) : FVec Ideal S139264x1024 .f32 :=
  let w := Value.res_main_v2 (StableHlo.launchContents m c)
  let L := layer (m ((c : Thread nD τ).loc main_arg0)) (m ((c : Thread nD τ).loc main_arg3)) (m ((c : Thread nD τ).loc main_arg4)) (m ((c : Thread nD τ).loc main_arg5))
  pick w 7#32 (L 7 slices_S8x1024x2816_S1x1024x2816_7_0_0 slices_S8x2816x1024_S1x2816x1024_7_0_0)
   (pick w 6#32 (L 6 slices_S8x1024x2816_S1x1024x2816_6_0_0 slices_S8x2816x1024_S1x2816x1024_6_0_0)
    (pick w 5#32 (L 5 slices_S8x1024x2816_S1x1024x2816_5_0_0 slices_S8x2816x1024_S1x2816x1024_5_0_0)
     (pick w 4#32 (L 4 slices_S8x1024x2816_S1x1024x2816_4_0_0 slices_S8x2816x1024_S1x2816x1024_4_0_0)
      (pick w 3#32 (L 3 slices_S8x1024x2816_S1x1024x2816_3_0_0 slices_S8x2816x1024_S1x2816x1024_3_0_0)
       (pick w 2#32 (L 2 slices_S8x1024x2816_S1x1024x2816_2_0_0 slices_S8x2816x1024_S1x2816x1024_2_0_0)
        (pick w 1#32 (L 1 slices_S8x1024x2816_S1x1024x2816_1_0_0 slices_S8x2816x1024_S1x2816x1024_1_0_0)
         (pick w 0#32 (L 0 slices_S8x1024x2816_S1x1024x2816_0_0_0 slices_S8x2816x1024_S1x2816x1024_0_0_0)
          (broadcastInDim S139264x1024 ![] bcast_S_S139264x1024 (constant S_ .f32 0x00000000#32)))))))))

theorem run (ρ : Dev nD → PrngReg) : θ_run defs (onTc (τ := τ) (main (F := Ideal))) ⟨m, fun _ => 0, ρ⟩ fun r => ∀ c : Dev nD,
      r.2.mem ((c.tc : Thread nD τ).loc main_v115) = chain m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run m ρ

theorem chain_at (c : Dev nD) (r : Fin 139264) (l : Fin 1024) (v : BitVec 32)
    (hv : m ((c : Thread nD τ).loc main_arg1) (ix1 (⟨r.val / 1024, by omega⟩ : Fin 136)) = v) (h8 : v.toNat < 8) :
    chain m c (ix2 r l) = FfnSpec.contrib (fun k : Fin 1024 => m ((c : Thread nD τ).loc main_arg0) (ix2 r k))
      (fun k (f : Fin 2816) => m ((c : Thread nD τ).loc main_arg3) (ix3 (⟨v.toNat, h8⟩ : Fin 8) k f))
      (fun k f => m ((c : Thread nD τ).loc main_arg4) (ix3 (⟨v.toNat, h8⟩ : Fin 8) k f)) (fun f => m ((c : Thread nD τ).loc main_arg5) (ix3 (⟨v.toNat, h8⟩ : Fin 8) f l)) := by
  have hc := choose v h8
    (fun e => FfnSpec.contrib (fun k : Fin 1024 => m ((c : Thread nD τ).loc main_arg0) (ix2 r k))
      (fun k (f : Fin 2816) => m ((c : Thread nD τ).loc main_arg3) (ix3 e k f))
      (fun k f => m ((c : Thread nD τ).loc main_arg4) (ix3 e k f)) (fun f => m ((c : Thread nD τ).loc main_arg5) (ix3 e f l)))
    (broadcastInDim S139264x1024 ![] bcast_S_S139264x1024 (constant (F := Ideal) S_ .f32 0x00000000#32) (ix2 r l))
  refine Eq.trans ?_ hc
  unfold chain
  dsimp only
  rw [pick_at, pick_at, pick_at, pick_at, pick_at, pick_at, pick_at, pick_at, word_at, hv]
  simp only [layer_at _ _ _ _ _ _ _ (show 7 < 8 by decide), layer_at _ _ _ _ _ _ _ (show 6 < 8 by decide), layer_at _ _ _ _ _ _ _ (show 5 < 8 by decide),
    layer_at _ _ _ _ _ _ _ (show 4 < 8 by decide), layer_at _ _ _ _ _ _ _ (show 3 < 8 by decide), layer_at _ _ _ _ _ _ _ (show 2 < 8 by decide),
    layer_at _ _ _ _ _ _ _ (show 1 < 8 by decide), layer_at _ _ _ _ _ _ _ (show 0 < 8 by decide)]
  rfl

end Cert.ExpertsIdeal.Read

end
-- ==== Proof.GroupedClaims.lean ====
/-
  The equality of the grouped expert call's rows of used tiles with the reference's, and the reference's frame.
-/
module

public import proofs.«01_k».proof.Defs
public import proofs.«01_k».proof.Proof.GroupedFrame
public import proofs.«01_k».proof.Proof.GroupedValue
public import proofs.«01_k».proof.Proof.ExpertsRef
public import Idealize.ShloMosaic.Lib.Quiescent
public import Idealize.ShloMosaic.Lib.Pointwise

@[expose] public section

set_option maxRecDepth 16384

noncomputable section

namespace Cert.Proof.GroupedClaims

open Idealize.ShloMosaic Idealize.ShloMosaic.TcCoe Idealize.SL.Sem

instance rows_facts : Cert.On_rows_used.Facts where
  shapeCasts_S136x1024x1024_S139264x1024 := by decide
  shapeCasts_S1_S_ := by decide
  bcast_S_S139264x1024 := by decide

/-- The reference is a straight run of host operations and declares no semaphore. -/
theorem frame_reference : Cert.quiescent_ExpertsIdeal := fun m ρ _ =>
  (θ_run Cert.ExpertsIdeal.defs _ _).mono (fun r h => ⟨fun c => (h c).2, sem_eq_zero_of_no_sems (by decide) r.2⟩)
    (Cert.ExpertsIdeal.Read.run m ρ)

theorem frame_reference_named : Cert.quiescent_ExpertsIdeal_pre_experts_named := fun m ρ _ => frame_reference m ρ trivial

/-- The mask says a row's tile is below the count. -/
theorem mask_at (x : FVec Ideal Cert.On_rows_used.S139264x1024 .f32) (e : IVec Cert.On_rows_used.S136 32)
    (n : IVec Cert.On_rows_used.S1 32) (g u : FVec Ideal Cert.On_rows_used.S8x1024x2816 .f32)
    (d : FVec Ideal Cert.On_rows_used.S8x2816x1024 .f32) (p : Fin 139264) (l : Fin 1024) :
    Cert.On_rows_used.fn x e n g u d (ix2 p l) = Scalar.cmpi .slt (BitVec.ofNat 32 (p.val / 1024)) (n (ix1 (0 : Fin 1))) := by
  unfold Cert.On_rows_used.fn
  pointwise []
  rfl

theorem used_of_slt (i : Cert.GroupedIdeal.grid0.Coords) (n : BitVec 32) (h : Scalar.cmpi .slt (BitVec.ofNat 32 (i 0).val) n = 1#1) :
    Cert.GroupedIdeal.Body.Used i n := by
  unfold Cert.GroupedIdeal.Body.Used
  rw [h]; decide

theorem count_eq (m : (ℓ : Loc Cert.GroupedIdeal.nD Cert.GroupedIdeal.τ Cert.GroupedIdeal.sig) → Buf (Elt Ideal) ℓ) (c : Dev Cert.GroupedIdeal.nD) :
    Cert.GroupedIdeal.Run.count m c = m ((c.tc : Thread Cert.GroupedIdeal.nD Cert.GroupedIdeal.τ).loc Cert.GroupedIdeal.main_arg2) (ix1 (0 : Fin 1)) := by
  obtain rfl : c = 0 := Subsingleton.elim _ _
  show Cert.GroupedIdeal.Run.V m 0 Cert.GroupedIdeal.main_arg2 _ = _
  rw [Cert.GroupedIdeal.Run.V_of_kept m 0 Cert.GroupedIdeal.main_arg2 (by decide) (by decide) (by decide)]
  congr 1
  funext a
  match a with
  | ⟨0, _⟩ => exact Subsingleton.elim (α := Fin 1) _ _

theorem rows_of (i : (⟨2, ![139264, 1024]⟩ : Shape).Idx) : ∃ (p : Fin 139264) (l : Fin 1024), i = ix2 p l :=
  ⟨i 0, i 1, by
    funext a; match a with
    | ⟨0, _⟩ => rfl
    | ⟨1, _⟩ => rfl⟩

/-- A row of a tile below the count is a row of a used tile. -/
theorem used_of_mask (m : (ℓ : Loc Cert.GroupedIdeal.nD Cert.GroupedIdeal.τ Cert.GroupedIdeal.sig) → Buf (Elt Ideal) ℓ) (c : Dev Cert.GroupedIdeal.nD)
    (p : ℕ) (h : Scalar.cmpi .slt (BitVec.ofNat 32 (p / 1024)) (m ((c.tc : Thread Cert.GroupedIdeal.nD Cert.GroupedIdeal.τ).loc Cert.GroupedIdeal.main_arg2) (ix1 (0 : Fin 1))) = 1#1)
    (t : Fin Cert.GroupedIdeal.grid0.N) (ht : t.val / 2 = p / 1024) :
    Cert.GroupedIdeal.Body.Used (Cert.GroupedIdeal.grid0.coords t) (Cert.GroupedIdeal.Run.count m c) := by
  refine used_of_slt _ _ ?_
  rw [count_eq, Cert.GroupedIdeal.Run.coord0 t, ht]
  exact h

theorem equal_rows : Cert.algebraic_GroupedIdeal_ExpertsIdeal_on_rows_used := by
  intro m g m' g' hp he
  have hn : Cert.GroupedIdeal.Run.Named m := fun c j => GroupedFrame.named_at _ _ _ _ _ _ (hp c) j
  have hO := Cert.GroupedIdeal.Run.ok_of_named m hn
  refine ⟨fun c i => Cert.GroupedIdeal.Run.entry m hn c (i 0) (i 1), ?_, ?_⟩
  · refine (θ_run Cert.GroupedIdeal.defs _ _).mono (fun r h c => ⟨fun i hi => ?_, Cert.GroupedIdeal.Run.kept m hO r h.1 c⟩)
      (Cert.GroupedIdeal.Run.run_main m g hO)
    obtain ⟨p, l, rfl⟩ := rows_of i
    exact Cert.GroupedIdeal.Run.result_at m hO hn r h.1 c p l (used_of_mask m c p.val ((mask_at _ _ _ _ _ _ p l).symm.trans hi))
  · refine (θ_run Cert.ExpertsIdeal.defs _ _).mono (fun r h c => ⟨fun i _ => ?_, (h c).2⟩) (Cert.ExpertsIdeal.Read.run m' g')
    obtain ⟨h0, h1, h2, h3, h4, h5⟩ := he c
    obtain ⟨p, l, rfl⟩ := rows_of i
    refine (congrFun (h c).1 _).trans ((Cert.ExpertsIdeal.Read.chain_at m' c p l
      (Cert.GroupedIdeal.Run.expert m c (⟨p.val / 1024, by omega⟩ : Fin 136)) ?_ (hn c _)).trans ?_)
    · rw [h1]; rfl
    · rw [h0, h3, h4, h5]; rfl

end Cert.Proof.GroupedClaims

end
-- ==== Proof.ProjSpec.lean ====
/-
  The input projections over the extended reals, written for one row: the modulated row, the packed projection weights
  column by column, and the fact that scaling a column of weights scales the projection.
-/
module

public import Idealize.ShloMosaic.Lib.Pointwise

@[expose] public section

set_option maxRecDepth 16384

noncomputable section

namespace Cert.ProjSpec

open Idealize.ShloMosaic

/-- The softmax scale on the local queries: an eighth of the binary logarithm of e, as an f32. -/
def scale : EReal := Ideal.ofBits .f32 0x3E38AA3B#32

/-- Its value, read off the bits. -/
theorem scale_real : scale = ((12102203 / 67108864 : ℝ) : EReal) := by
  unfold scale
  simp [Ideal.ofBits, Ideal.ieee, -EReal.coe_mul]; norm_num

theorem scale_nonneg : 0 ≤ scale := by
  rw [scale_real]; exact EReal.coe_nonneg.mpr (by norm_num)

theorem scale_ne_top : scale ≠ ⊤ := by
  rw [scale_real]; exact EReal.coe_ne_top _

/-- Scaling a sum scales each term: the scale is not negative and not infinite. -/
theorem sum_scale {ι : Type} (S : Finset ι) (f : ι → EReal) : (∑ k ∈ S, f k) * scale = ∑ k ∈ S, f k * scale := by
  classical
  induction S using Finset.induction_on with
  | empty => simp
  | insert a S ha ih =>
    rw [Finset.sum_insert ha, Finset.sum_insert ha, EReal.right_distrib_of_nonneg_of_ne_top scale_nonneg scale_ne_top, ih]

/-- A row of the input after its adaptive scale and shift. -/
def modulated (x sc sh : EReal) : EReal := x * (1 + sc) + sh

/-- Column `n` of a row of the projection weights. -/
def pick (w : Fin 2776 → EReal) (n : ℕ) : EReal := if h : n < 2776 then w ⟨n, h⟩ else 0

/-- The projection of a row on column `n`. -/
def onto (h : Fin 1024 → EReal) (w : Fin 1024 → Fin 2776 → EReal) (n : ℕ) : EReal := ∑ k, h k * pick (w k) n

/-- The layout the attention reads, of a row's columns `f`: local queries scaled, index queries, the shared key, the index
    key, then grid queries, keys and values, the gates, the index weights and the steps; zeros fill the lanes. -/
def lay (f : ℕ → EReal) (j : ℕ) : EReal :=
  if j < 512 then f j * scale
  else if j < 1024 then f (j + 128)
  else if j < 1088 then f (j - 512)
  else if j < 1152 then 0
  else if j < 1216 then f j
  else if j < 1280 then 0
  else if j < 1536 then f (j - 56)
  else if j < 1792 then f (j - 56)
  else if j < 2304 then f (j - 56)
  else if j < 2816 then f (j - 56)
  else if j < 2824 then f (j - 1600)
  else if j < 2840 then f (j - 64)
  else 0

/-- A choice that does not depend on the summed index comes out of the sum. -/
theorem sum_choice (c : Prop) [Decidable c] (h a b : Fin 1024 → EReal) :
    ∑ k, h k * (if c then a k else b k) = if c then ∑ k, h k * a k else ∑ k, h k * b k := by
  by_cases hc : c
  · simp only [if_pos hc]
  · simp only [if_neg hc]

/-- Projecting on weights laid out lays out the projections. -/
theorem lay_sum (h : Fin 1024 → EReal) (f : Fin 1024 → ℕ → EReal) (j : ℕ) :
    ∑ k, h k * lay (f k) j = lay (fun n => ∑ k, h k * f k n) j := by
  unfold lay
  simp only [sum_choice, sum_scale, mul_assoc, mul_zero, Finset.sum_const_zero]

/-- Two choices agree when they ask the same and answer the same. -/
theorem same_choice {p q : Prop} [Decidable p] [Decidable q] {a b x y : EReal} (hpq : p ↔ q) (h1 : p → a = b)
    (h2 : ¬p → x = y) : (if p then a else x) = if q then b else y := by
  by_cases hp : p
  · rw [if_pos hp, if_pos (hpq.1 hp), h1 hp]
  · rw [if_neg hp, if_neg (fun h => hp (hpq.2 h)), h2 hp]

/-- The projection read at a column in range. -/
theorem onto_at (h : Fin 1024 → EReal) (w : Fin 1024 → Fin 2776 → EReal) (n : ℕ) (hn : n < 2776) :
    ∑ k, h k * w k ⟨n, hn⟩ = onto h w n := by
  unfold onto pick; simp only [hn, dite_true]

theorem pick_at (w : Fin 2776 → EReal) (n : ℕ) (hn : n < 2776) : w ⟨n, hn⟩ = pick w n := by
  unfold pick; simp only [hn, dite_true]

/-- The layout as the thirteen pieces of the packed weights. -/
theorem lay_pieces (f : ℕ → EReal) (j : ℕ) (hj : j < 2944) :
    (if j < 512 then f j * scale
      else if j - 512 < 512 then f (640 + (j - 512))
      else if j - 512 - 512 < 64 then f (512 + (j - 512 - 512))
      else if j - 512 - 512 - 64 < 64 then 0
      else if j - 512 - 512 - 64 - 64 < 64 then f (1152 + (j - 512 - 512 - 64 - 64))
      else if j - 512 - 512 - 64 - 64 - 64 < 64 then 0
      else if j - 512 - 512 - 64 - 64 - 64 - 64 < 256 then f (1224 + (j - 512 - 512 - 64 - 64 - 64 - 64))
      else if j - 512 - 512 - 64 - 64 - 64 - 64 - 256 < 256 then f (1480 + (j - 512 - 512 - 64 - 64 - 64 - 64 - 256))
      else if j - 512 - 512 - 64 - 64 - 64 - 64 - 256 - 256 < 512 then f (1736 + (j - 512 - 512 - 64 - 64 - 64 - 64 - 256 - 256))
      else if j - 512 - 512 - 64 - 64 - 64 - 64 - 256 - 256 - 512 < 512 then f (2248 + (j - 512 - 512 - 64 - 64 - 64 - 64 - 256 - 256 - 512))
      else if j - 512 - 512 - 64 - 64 - 64 - 64 - 256 - 256 - 512 - 512 < 8 then f (1216 + (j - 512 - 512 - 64 - 64 - 64 - 64 - 256 - 256 - 512 - 512))
      else if j - 512 - 512 - 64 - 64 - 64 - 64 - 256 - 256 - 512 - 512 - 8 < 16 then f (2760 + (j - 512 - 512 - 64 - 64 - 64 - 64 - 256 - 256 - 512 - 512 - 8))
      else 0) = lay f j := by
  unfold lay
  repeat' refine same_choice (by omega) (fun _ => ?_) (fun _ => ?_)
  all_goals first | rfl | (congr 1; omega)

/-- The attention's first operand: the layout's columns below 1280. -/
theorem lay_first (f : ℕ → EReal) (j : ℕ) (hj : j < 1280) :
    (if j < 512 then f j * scale
      else if j - 512 < 512 then f (640 + (j - 512))
      else if j - 512 - 512 < 64 then f (512 + (j - 512 - 512))
      else if j - 512 - 512 - 64 < 64 then 0
      else if j - 512 - 512 - 64 - 64 < 64 then f (1152 + (j - 512 - 512 - 64 - 64))
      else 0) = lay f j := by
  unfold lay
  refine same_choice (by omega) (fun _ => rfl) (fun _ => ?_)
  refine same_choice (by omega) (fun _ => by congr 1; omega) (fun _ => ?_)
  refine same_choice (by omega) (fun _ => by congr 1; omega) (fun _ => ?_)
  refine same_choice (by omega) (fun _ => rfl) (fun _ => ?_)
  refine same_choice (by omega) (fun _ => by congr 1; omega) (fun _ => ?_)
  rw [if_pos (show j < 1280 from hj)]

/-- From column 1280 on, the layout is its later pieces. -/
theorem lay_after (f : ℕ → EReal) (n : ℕ) (hn : 1280 ≤ n) :
    lay f n = if n < 1536 then f (n - 56)
      else if n < 1792 then f (n - 56)
      else if n < 2304 then f (n - 56)
      else if n < 2816 then f (n - 56)
      else if n < 2824 then f (n - 1600)
      else if n < 2840 then f (n - 64)
      else 0 := by
  unfold lay
  rw [if_neg (show ¬ n < 512 by omega), if_neg (show ¬ n < 1024 by omega), if_neg (show ¬ n < 1088 by omega),
    if_neg (show ¬ n < 1152 by omega), if_neg (show ¬ n < 1216 by omega), if_neg (show ¬ n < 1280 by omega)]

/-- The grid attention's operand: the next 1024 columns. -/
theorem lay_second (f : ℕ → EReal) (j : ℕ) (hj : j < 1024) :
    (if j < 256 then f (1224 + j)
      else if j - 256 < 256 then f (1480 + (j - 256))
      else f (1736 + (j - 256 - 256))) = lay f (1280 + j) := by
  rw [lay_after f (1280 + j) (by omega)]
  refine same_choice (by omega) (fun _ => by congr 1; omega) (fun _ => ?_)
  refine same_choice (by omega) (fun _ => by congr 1; omega) (fun _ => ?_)
  rw [if_pos (show 1280 + j < 2304 by omega)]
  congr 1; omega

/-- The gates, index weights and steps: the last 640 columns. -/
theorem lay_third (f : ℕ → EReal) (j : ℕ) (hj : j < 640) :
    (if j < 512 then f (2248 + j)
      else if j - 512 < 8 then f (1216 + (j - 512))
      else if j - 512 - 8 < 16 then f (2760 + (j - 512 - 8))
      else 0) = lay f (2304 + j) := by
  rw [lay_after f (2304 + j) (by omega), if_neg (show ¬ 2304 + j < 1536 by omega), if_neg (show ¬ 2304 + j < 1792 by omega),
    if_neg (show ¬ 2304 + j < 2304 by omega)]
  refine same_choice (by omega) (fun _ => by congr 1; omega) (fun _ => ?_)
  refine same_choice (by omega) (fun _ => by congr 1; omega) (fun _ => ?_)
  exact same_choice (by omega) (fun _ => by congr 1; omega) (fun _ => rfl)

end Cert.ProjSpec

end
-- ==== Proof.ProjHost.lean ====
/-
  What the projection kernel reads of the host's arrays, over the extended reals: the packed weights and the transposed
  value weights, and each block of the four inputs at an index.
-/
module

public import proofs.«01_k».proof.Proof.Gen.ProjIdeal.Value
public import proofs.«01_k».proof.Proof.ProjSpec
public import Idealize.ShloMosaic.Lib.StableHlo.Run

@[expose] public section

set_option maxRecDepth 16384

noncomputable section

namespace Cert.ProjIdeal.Body

open Cert.ProjIdeal Cert.ProjIdeal.Gen Idealize.ShloMosaic Idealize.ShloMosaic.TcCoe Idealize.SL.Sem

variable (m : (ℓ : Loc nD τ sig) → Buf (Elt Ideal) ℓ)

/-- The packed weights the region finds. -/
theorem V_packed (c : Dev nD) : V m c main_v17 = truncf .bf16 (concatenate S1024x2944 1
    [⟨S1024x512, (mulf (extractStridedSlice S1024x512 ![0, 0] (m ((c : Thread nD τ).loc main_arg2)) slices_S1024x2776_S1024x512_0_0) (broadcastInDim S1024x512 ![] bcast_S_S1024x512 (constant (F := Ideal) S_ .f32 0x3E38AA3B#32)) : (⟨S1024x512, .f32⟩ : BufTy).Contents (Elt Ideal))⟩,
     ⟨S1024x512, (extractStridedSlice S1024x512 ![0, 640] (m ((c : Thread nD τ).loc main_arg2)) slices_S1024x2776_S1024x512_0_640 : (⟨S1024x512, .f32⟩ : BufTy).Contents (Elt Ideal))⟩,
     ⟨S1024x64, (extractStridedSlice S1024x64 ![0, 512] (m ((c : Thread nD τ).loc main_arg2)) slices_S1024x2776_S1024x64_0_512 : (⟨S1024x64, .f32⟩ : BufTy).Contents (Elt Ideal))⟩,
     ⟨S1024x64, (broadcastInDim S1024x64 ![] bcast_S_S1024x64 (constant (F := Ideal) S_ .f32 0x00000000#32) : (⟨S1024x64, .f32⟩ : BufTy).Contents (Elt Ideal))⟩,
     ⟨S1024x64, (extractStridedSlice S1024x64 ![0, 1152] (m ((c : Thread nD τ).loc main_arg2)) slices_S1024x2776_S1024x64_0_1152 : (⟨S1024x64, .f32⟩ : BufTy).Contents (Elt Ideal))⟩,
     ⟨S1024x64, (broadcastInDim S1024x64 ![] bcast_S_S1024x64 (constant (F := Ideal) S_ .f32 0x00000000#32) : (⟨S1024x64, .f32⟩ : BufTy).Contents (Elt Ideal))⟩,
     ⟨S1024x256, (extractStridedSlice S1024x256 ![0, 1224] (m ((c : Thread nD τ).loc main_arg2)) slices_S1024x2776_S1024x256_0_1224 : (⟨S1024x256, .f32⟩ : BufTy).Contents (Elt Ideal))⟩,
     ⟨S1024x256, (extractStridedSlice S1024x256 ![0, 1480] (m ((c : Thread nD τ).loc main_arg2)) slices_S1024x2776_S1024x256_0_1480 : (⟨S1024x256, .f32⟩ : BufTy).Contents (Elt Ideal))⟩,
     ⟨S1024x512, (extractStridedSlice S1024x512 ![0, 1736] (m ((c : Thread nD τ).loc main_arg2)) slices_S1024x2776_S1024x512_0_1736 : (⟨S1024x512, .f32⟩ : BufTy).Contents (Elt Ideal))⟩,
     ⟨S1024x512, (extractStridedSlice S1024x512 ![0, 2248] (m ((c : Thread nD τ).loc main_arg2)) slices_S1024x2776_S1024x512_0_2248 : (⟨S1024x512, .f32⟩ : BufTy).Contents (Elt Ideal))⟩,
     ⟨S1024x8, (extractStridedSlice S1024x8 ![0, 1216] (m ((c : Thread nD τ).loc main_arg2)) slices_S1024x2776_S1024x8_0_1216 : (⟨S1024x8, .f32⟩ : BufTy).Contents (Elt Ideal))⟩,
     ⟨S1024x16, (extractStridedSlice S1024x16 ![0, 2760] (m ((c : Thread nD τ).loc main_arg2)) slices_S1024x2776_S1024x16_0_2760 : (⟨S1024x16, .f32⟩ : BufTy).Contents (Elt Ideal))⟩,
     ⟨S1024x104, (broadcastInDim S1024x104 ![] bcast_S_S1024x104 (constant (F := Ideal) S_ .f32 0x00000000#32) : (⟨S1024x104, .f32⟩ : BufTy).Contents (Elt Ideal))⟩]
    concatenates_S1024x512_S1024x512_S1024x64_S1024x64_S1024x64_S1024x64_S1024x256_S1024x256_S1024x512_S1024x512_S1024x8_S1024x16_S1024x104_S1024x2944_d1) bitsLt_bf16_f32 := by
  show StableHlo.after hostOps0 _ main_v17 = _
  simp only [hostOps0]
  after_results_simp <;> (try dsimp only [Matrix.cons_val]) <;> (try after_results_simp) <;> rfl

/-- The projection weights. -/
def weights (c : Dev nD) (k : Fin 1024) (n : Fin 2776) : EReal := m ((c : Thread nD τ).loc main_arg2) (ix2 k n)

theorem pick_row (c : Dev nD) (k : Fin 1024) (n : ℕ) (hn : n < 2776) :
    (m ((c : Thread nD τ).loc main_arg2) (ix2 k (⟨n, hn⟩ : Fin 2776)) : EReal)
      = ProjSpec.pick (weights m c k) n :=
  ProjSpec.pick_at (weights m c k) n hn

/-- Row `k`, column `j` of the packed weights: the layout of row `k` of the argument. -/
theorem packed_at (c : Dev nD) (k : Fin 1024) (j : Fin 2944) :
    V m c main_v17 (ix2 k j) = ProjSpec.lay (ProjSpec.pick (weights m c k)) j.val := by
  rw [V_packed]
  pointwise []
  simp only [pick_row, dite_eq_ite]
  exact ProjSpec.lay_pieces (ProjSpec.pick (weights m c k)) j.val j.isLt

/-- The transposed value weights the region finds. -/
theorem V_values (c : Dev nD) : V m c main_v19 = (truncf .bf16 (transpose S64x1024 [1, 0] (extractStridedSlice S1024x64 ![0, 576] (m ((c : Thread nD τ).loc main_arg2)) slices_S1024x2776_S1024x64_0_576 : FVec Ideal S1024x64 .f32) transposes_S1024x64_S64x1024_1_0 : FVec Ideal S64x1024 .f32) bitsLt_bf16_f32 : FVec Ideal S64x1024 .bf16) := by
  show StableHlo.after hostOps0 _ main_v19 = _
  simp only [hostOps0]
  after_results_simp <;> rfl

theorem values_at (c : Dev nD) (d : Fin 64) (k : Fin 1024) :
    V m c main_v19 (ix2 d k) = ProjSpec.pick (weights m c k) (576 + d.val) := by
  rw [V_values]
  pointwise []
  exact pick_row m c k (576 + d.val) (by omega)

theorem lt128 (t : Fin cfg0.N) : t.val < 128 := lt_of_lt_of_eq t.isLt N_0

/-- Where each window's block sits at a point. -/
theorem index_at : ∀ t : Fin cfg0.N, win0_0.index t = ![t.val, 0] ∧ win0_1.index t = ![t.val / 8, 0, 0]
    ∧ win0_2.index t = ![0, 0] ∧ win0_3.index t = ![0, 0] ∧ win0_4.index t = ![t.val, 0] ∧ win0_5.index t = ![t.val, 0]
    ∧ win0_6.index t = ![t.val, 0] ∧ win0_7.index t = ![t.val, 0, 0] :=
  (by decide +kernel : ∀ t : Fin grid0.N, _)

theorem blk_x (c : Dev nD) (t : Fin cfg0.N) (r : Fin 512) (k : Fin 1024) :
    (iblk m c 0 t : Vec Ideal S512x1024 .f32) (ix2 r k)
      = m ((c : Thread nD τ).loc main_arg0) (ix2 (⟨t.val * 512 + r.val, by have := lt128 t; omega⟩ : Fin 65536) k) := by
  have e := (index_at t).1
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [e]; simp
  | ⟨1, _⟩ => show win0_0.index t 1 * 1024 + 1 * k.val = k.val; rw [e]; simp

/-- The modulation rows of a point are its batch's: eight points to a batch. -/
theorem blk_mod (c : Dev nD) (t : Fin cfg0.N) (u : Fin 6) (k : Fin 1024) :
    (iblk m c 1 t : Vec Ideal S1x6x1024 .f32) (ix3 (0 : Fin 1) u k)
      = m ((c : Thread nD τ).loc main_arg1) (ix3 (⟨t.val / 8, by have := lt128 t; omega⟩ : Fin 16) u k) := by
  have e := (index_at t).2.1
  unfold iblk
  rw [View.read_apply]
  show V m c main_arg1 _ = _
  rw [V_main_arg1]
  congr 1
  funext a
  apply Fin.ext
  match a with
  | ⟨0, _⟩ => show win0_1.index t 0 * 1 + 1 * 0 = t.val / 8; rw [e]; simp
  | ⟨1, _⟩ => show win0_1.index t 1 * 6 + 1 * u.val = u.val; rw [e]; simp
  | ⟨2, _⟩ => show win0_1.index t 2 * 1024 + 1 * k.val = k.val; rw [e]; simp

theorem blk_w (c : Dev nD) (t : Fin cfg0.N) (k : Fin 1024) (j : Fin 2944) :
    (iblk m c 2 t : Vec Ideal S1024x2944 .bf16) (ix2 k j)
      = ProjSpec.lay (ProjSpec.pick (weights m c k)) j.val := by
  have e := (index_at t).2.2.1
  unfold iblk
  rw [View.read_apply]
  refine Eq.trans ?_ (packed_at m c k j)
  show V m c main_v17 _ = _
  congr 1
  funext a
  apply Fin.ext
  match a with
  | ⟨0, _⟩ => show win0_2.index t 0 * 1024 + 1 * k.val = k.val; rw [e]; simp
  | ⟨1, _⟩ => show win0_2.index t 1 * 2944 + 1 * j.val = j.val; rw [e]; simp

theorem blk_wv (c : Dev nD) (t : Fin cfg0.N) (d : Fin 64) (k : Fin 1024) :
    (iblk m c 3 t : Vec Ideal S64x1024 .bf16) (ix2 d k)
      = ProjSpec.pick (weights m c k) (576 + d.val) := by
  have e := (index_at t).2.2.2.1
  unfold iblk
  rw [View.read_apply]
  refine Eq.trans ?_ (values_at m c d k)
  show V m c main_v19 _ = _
  congr 1
  funext a
  apply Fin.ext
  match a with
  | ⟨0, _⟩ => show win0_3.index t 0 * 64 + 1 * d.val = d.val; rw [e]; simp
  | ⟨1, _⟩ => show win0_3.index t 1 * 1024 + 1 * k.val = k.val; rw [e]; simp

end Cert.ProjIdeal.Body

end
-- ==== Proof.ProjValue.lean ====
/-
  The four arrays the projection kernel leaves, entry by entry over the extended reals.
-/
module

public import proofs.«01_k».proof.Proof.ProjHost

@[expose] public section

set_option maxRecDepth 16384

noncomputable section

namespace Cert.ProjIdeal.Body

open Cert.ProjIdeal Cert.ProjIdeal.Gen Idealize.ShloMosaic Idealize.ShloMosaic.TcCoe Idealize.SL.Sem

variable (m : (ℓ : Loc nD τ sig) → Buf (Elt Ideal) ℓ)

theorem off2 : (![0, 0] : Fin 2 → ℕ) = fun _ => 0 := by funext a; match a with | ⟨0, _⟩ => rfl | ⟨1, _⟩ => rfl
theorem off3 : (![0, 0, 0] : Fin 3 → ℕ) = fun _ => 0 := by funext a; match a with | ⟨0, _⟩ => rfl | ⟨1, _⟩ => rfl | ⟨2, _⟩ => rfl

/-- Row `r` of a point's modulated block. -/
def brow (x0 : Vec Ideal S512x1024 .f32) (x1 : Vec Ideal S1x6x1024 .f32) (r : Fin 512) (k : Fin 1024) : EReal :=
  ProjSpec.modulated (x0 (ix2 r k)) (x1 (ix3 (0 : Fin 1) (1 : Fin 6) k)) (x1 (ix3 (0 : Fin 1) (0 : Fin 6) k))

section
variable (x0 : Vec Ideal S512x1024 .f32) (x1 : Vec Ideal S1x6x1024 .f32) (x2 : Vec Ideal S1024x2944 .bf16) (x3 : Vec Ideal S64x1024 .bf16)

/-- What a point leaves in each output's buffer: the rows times the weights' columns. -/
theorem out4_at (r : Fin 512) (j : Fin 1280) :
    out0_4 x0 x1 x2 x3 (ix2 r j) = ∑ k, brow x0 x1 r k * x2 (ix2 k (⟨j.val, by omega⟩ : Fin 2944)) := by
  unfold out0_4
  rw [View.canon_unit_zero off2]
  pointwise [k0_pay3, k0_pay2, View.ld]
  rfl

theorem out5_at (r : Fin 512) (j : Fin 1024) :
    out0_5 x0 x1 x2 x3 (ix2 r j) = ∑ k, brow x0 x1 r k * x2 (ix2 k (⟨1280 + j.val, by omega⟩ : Fin 2944)) := by
  unfold out0_5
  rw [View.canon_unit_zero off2]
  pointwise [k0_pay4, k0_pay2, View.ld]
  rfl

theorem out6_at (r : Fin 512) (j : Fin 640) :
    out0_6 x0 x1 x2 x3 (ix2 r j) = ∑ k, brow x0 x1 r k * x2 (ix2 k (⟨2304 + j.val, by omega⟩ : Fin 2944)) := by
  unfold out0_6
  rw [View.canon_unit_zero off2]
  pointwise [k0_pay5, k0_pay2, View.ld]
  rfl

theorem out7_at (d : Fin 64) (q : Fin 512) :
    out0_7 x0 x1 x2 x3 (ix3 (0 : Fin 1) d q) = ∑ k, x3 (ix2 d k) * brow x0 x1 q k := by
  unfold out0_7
  rw [View.canon_unit_zero off3]
  pointwise [k0_pay1, k0_pay6, k0_pay2, View.ld]
  rfl
end

/-- Row `p` of the modulated input. -/
def row (c : Dev nD) (p : Fin 65536) (k : Fin 1024) : EReal :=
  ProjSpec.modulated (m ((c : Thread nD τ).loc main_arg0) (ix2 p k))
    (m ((c : Thread nD τ).loc main_arg1) (ix3 (⟨p.val / 4096, by omega⟩ : Fin 16) (1 : Fin 6) k))
    (m ((c : Thread nD τ).loc main_arg1) (ix3 (⟨p.val / 4096, by omega⟩ : Fin 16) (0 : Fin 6) k))

/-- A point's row is the input's row where the block sits. -/
theorem brow_at (c : Dev nD) (t : Fin cfg0.N) (r : Fin 512) (k : Fin 1024) :
    brow (iblk m c 0 t) (iblk m c 1 t) r k = row m c (⟨t.val * 512 + r.val, by have := lt128 t; omega⟩ : Fin 65536) k := by
  unfold brow row
  have d8 : (t.val * 512 + r.val) / 4096 = t.val / 8 := by omega
  rw [blk_x, blk_mod, blk_mod]
  simp only [d8]

/-- A column of the packed weights gives the layout of the projections. -/
theorem packed_dot (c : Dev nD) (t : Fin cfg0.N) (r : Fin 512) (j : Fin 2944) :
    (∑ k, brow (iblk m c 0 t) (iblk m c 1 t) r k * (iblk m c 2 t : Vec Ideal S1024x2944 .bf16) (ix2 k j) : EReal)
      = ProjSpec.lay (ProjSpec.onto (row m c (⟨t.val * 512 + r.val, by have := lt128 t; omega⟩ : Fin 65536)) (weights m c)) j.val := by
  simp only [brow_at, blk_w]
  exact ProjSpec.lay_sum _ (fun k => ProjSpec.pick (weights m c k)) j.val

/-- A row of the transposed value weights gives a value column's projections. -/
theorem values_dot (c : Dev nD) (t : Fin cfg0.N) (d : Fin 64) (q : Fin 512) :
    (∑ k, @HMul.hMul EReal EReal EReal _ ((iblk m c 3 t : Vec Ideal S64x1024 .bf16) (ix2 d k)) (brow (iblk m c 0 t) (iblk m c 1 t) q k) : EReal)
      = ProjSpec.onto (row m c (⟨t.val * 512 + q.val, by have := lt128 t; omega⟩ : Fin 65536)) (weights m c) (576 + d.val) := by
  unfold ProjSpec.onto
  refine Finset.sum_congr rfl fun k _ => ?_
  rw [mul_comm]
  exact congr (congrArg _ (brow_at m c t q k)) (blk_wv m c t d k)

/-- Where a row sits: its block and its place in it. -/
theorem place (p : Fin 65536) : ∃ (t : Fin cfg0.N) (r : Fin 512), p = (⟨t.val * 512 + r.val, by have := lt128 t; omega⟩ : Fin 65536) :=
  ⟨⟨p.val / 512, by have : cfg0.N = 128 := N_0; omega⟩, ⟨p.val % 512, by omega⟩, by apply Fin.ext; show p.val = p.val / 512 * 512 + p.val % 512; omega⟩

theorem final4 (c : Dev nD) (p : Fin 65536) (j : Fin 1280) :
    (dats m 0 c).arrAt 4 cfg0.N (ix2 p j) = ProjSpec.lay (ProjSpec.onto (row m c p) (weights m c)) j.val := by
  obtain ⟨t, r, rfl⟩ := place p
  refine Eq.trans ?_ ((out4_at (iblk m c 0 t) (iblk m c 1 t) (iblk m c 2 t) (iblk m c 3 t) r j).trans (packed_dot m c t r _))
  have e := (index_at t).2.2.2.2.1
  refine Eq.trans ?_ (congrFun ((Value.blocks4 m c t (flush0_4 t)).trans (Value.flushed4 m c t)) (ix2 r j))
  rw [View.read_apply]
  congr 1
  funext a
  apply Fin.ext
  match a with
  | ⟨0, _⟩ => show t.val * 512 + r.val = win0_4.index t 0 * 512 + 1 * r.val; rw [e]; simp
  | ⟨1, _⟩ => show j.val = win0_4.index t 1 * 1280 + 1 * j.val; rw [e]; simp

theorem final5 (c : Dev nD) (p : Fin 65536) (j : Fin 1024) :
    (dats m 0 c).arrAt 5 cfg0.N (ix2 p j) = ProjSpec.lay (ProjSpec.onto (row m c p) (weights m c)) (1280 + j.val) := by
  obtain ⟨t, r, rfl⟩ := place p
  refine Eq.trans ?_ ((out5_at (iblk m c 0 t) (iblk m c 1 t) (iblk m c 2 t) (iblk m c 3 t) r j).trans (packed_dot m c t r _))
  have e := (index_at t).2.2.2.2.2.1
  refine Eq.trans ?_ (congrFun ((Value.blocks5 m c t (flush0_5 t)).trans (Value.flushed5 m c t)) (ix2 r j))
  rw [View.read_apply]
  congr 1
  funext a
  apply Fin.ext
  match a with
  | ⟨0, _⟩ => show t.val * 512 + r.val = win0_5.index t 0 * 512 + 1 * r.val; rw [e]; simp
  | ⟨1, _⟩ => show j.val = win0_5.index t 1 * 1024 + 1 * j.val; rw [e]; simp

theorem final6 (c : Dev nD) (p : Fin 65536) (j : Fin 640) :
    (dats m 0 c).arrAt 6 cfg0.N (ix2 p j) = ProjSpec.lay (ProjSpec.onto (row m c p) (weights m c)) (2304 + j.val) := by
  obtain ⟨t, r, rfl⟩ := place p
  refine Eq.trans ?_ ((out6_at (iblk m c 0 t) (iblk m c 1 t) (iblk m c 2 t) (iblk m c 3 t) r j).trans (packed_dot m c t r _))
  have e := (index_at t).2.2.2.2.2.2.1
  refine Eq.trans ?_ (congrFun ((Value.blocks6 m c t (flush0_6 t)).trans (Value.flushed6 m c t)) (ix2 r j))
  rw [View.read_apply]
  congr 1
  funext a
  apply Fin.ext
  match a with
  | ⟨0, _⟩ => show t.val * 512 + r.val = win0_6.index t 0 * 512 + 1 * r.val; rw [e]; simp
  | ⟨1, _⟩ => show j.val = win0_6.index t 1 * 640 + 1 * j.val; rw [e]; simp

/-- The transposed values: block `b` holds the value columns of its 512 rows. -/
theorem final7 (c : Dev nD) (b : Fin 128) (d : Fin 64) (q : Fin 512) :
    (dats m 0 c).arrAt 7 cfg0.N (ix3 b d q)
      = ProjSpec.onto (row m c (⟨b.val * 512 + q.val, by omega⟩ : Fin 65536)) (weights m c) (576 + d.val) := by
  obtain ⟨t, ht⟩ : ∃ t : Fin cfg0.N, t.val = b.val := ⟨⟨b.val, by have : cfg0.N = 128 := N_0; omega⟩, rfl⟩
  have e := (index_at t).2.2.2.2.2.2.2
  have hv := values_dot m c t d q
  simp only [ht] at hv
  refine Eq.trans ?_ ((out7_at (iblk m c 0 t) (iblk m c 1 t) (iblk m c 2 t) (iblk m c 3 t) d q).trans hv)
  refine Eq.trans ?_ (congrFun ((Value.blocks7 m c t (flush0_7 t)).trans (Value.flushed7 m c t)) (ix3 (0 : Fin 1) d q))
  rw [View.read_apply]
  congr 1
  funext a
  apply Fin.ext
  match a with
  | ⟨0, _⟩ => show b.val = win0_7.index t 0 * 1 + 1 * 0; rw [e]; simp [ht]
  | ⟨1, _⟩ => show d.val = win0_7.index t 1 * 64 + 1 * d.val; rw [e]; simp
  | ⟨2, _⟩ => show q.val = win0_7.index t 2 * 512 + 1 * q.val; rw [e]; simp

end Cert.ProjIdeal.Body

end
-- ==== Proof.ProjRef.lean ====
/-
  The reference's four results read at an entry over the extended reals: the projections of the modulated row, laid out.
-/
module

public import proofs.«01_k».proof.Proof.Gen.ProjectionsIdeal.Run
public import proofs.«01_k».proof.Proof.ProjSpec

@[expose] public section

set_option maxRecDepth 16384

noncomputable section

namespace Cert.ProjectionsIdeal.Read

open Cert.ProjectionsIdeal Idealize.ShloMosaic Idealize.ShloMosaic.TcCoe Idealize.SL.Sem

variable (m : (ℓ : Loc nD τ sig) → Buf (Elt Ideal) ℓ)

/-- Row `r` of the modulated input. -/
def row (c : Dev nD) (r : Fin 65536) (k : Fin 1024) : EReal :=
  ProjSpec.modulated (m ((c : Thread nD τ).loc main_arg0) (ix2 r k))
    (m ((c : Thread nD τ).loc main_arg1) (ix3 (⟨r.val / 4096, by omega⟩ : Fin 16) (1 : Fin 6) k))
    (m ((c : Thread nD τ).loc main_arg1) (ix3 (⟨r.val / 4096, by omega⟩ : Fin 16) (0 : Fin 6) k))

/-- The projection weights. -/
def weights (c : Dev nD) (k : Fin 1024) (n : Fin 2776) : EReal := m ((c : Thread nD τ).loc main_arg2) (ix2 k n)

/-- The three arguments as arrays of extended reals. -/
abbrev inp (c : Dev nD) : S65536x1024.Idx → EReal := m ((c : Thread nD τ).loc main_arg0)
abbrev mods (c : Dev nD) : S16x6x1024.Idx → EReal := m ((c : Thread nD τ).loc main_arg1)
abbrev wts (c : Dev nD) : S1024x2776.Idx → EReal := m ((c : Thread nD τ).loc main_arg2)

/-- A row of the product at a column. -/
theorem dot_at (c : Dev nD) (r : Fin 65536) (n : ℕ) (hn : n < 2776) :
    ∑ x : Fin 1024, (inp m c (ix2 r x) * (1 + mods m c (ix3 (⟨r.val / 4096, by omega⟩ : Fin 16) (1 : Fin 6) x))
      + mods m c (ix3 (⟨r.val / 4096, by omega⟩ : Fin 16) (0 : Fin 6) x)) * wts m c (ix2 x (⟨n, hn⟩ : Fin 2776))
      = ProjSpec.onto (row m c r) (weights m c) n :=
  ProjSpec.onto_at (row m c r) (weights m c) n hn

theorem first_at (c : Dev nD) (r : Fin 65536) (l : Fin 1280) :
    Value.res_main_v34 m c (ix2 r l) = ProjSpec.lay (ProjSpec.onto (row m c r) (weights m c)) l.val := by
  unfold Value.res_main_v34
  pointwise []
  simp only [dot_at, dite_eq_ite]
  exact ProjSpec.lay_first (ProjSpec.onto (row m c r) (weights m c)) l.val l.isLt

/-- The reference's run with its four results read entry by entry. -/
theorem run_entries (ρ : Dev nD → PrngReg) :
    θ_run defs (onTc (τ := τ) (main (F := Ideal))) ⟨m, fun _ => 0, ρ⟩ fun r => ∀ c : Dev nD,
      (∀ (p : Fin 65536) (l : Fin 1280), r.2.mem ((c.tc : Thread nD τ).loc main_v34) (ix2 p l)
        = ProjSpec.lay (ProjSpec.onto (row m c p) (weights m c)) l.val)
      ∧ (∀ (p : Fin 65536) (l : Fin 1024), r.2.mem ((c.tc : Thread nD τ).loc main_v35) (ix2 p l)
        = ProjSpec.lay (ProjSpec.onto (row m c p) (weights m c)) (1280 + l.val))
      ∧ (∀ (p : Fin 65536) (l : Fin 640), r.2.mem ((c.tc : Thread nD τ).loc main_v31) (ix2 p l)
        = ProjSpec.lay (ProjSpec.onto (row m c p) (weights m c)) (2304 + l.val))
      ∧ (∀ (b : Fin 128) (d : Fin 64) (q : Fin 512), r.2.mem ((c.tc : Thread nD τ).loc main_v36) (ix3 b d q)
        = ProjSpec.onto (row m c (⟨b.val * 512 + q.val, by omega⟩ : Fin 65536)) (weights m c) (576 + d.val))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨fun p l => ?_, fun p l => ?_, fun p l => ?_, fun b d q => ?_, (h c).2.2.2.2⟩) (Value.run m ρ)
  · exact (congrFun (h c).1 (ix2 p l)).trans (first_at m c p l)
  · refine (congrFun (h c).2.1 (ix2 p l)).trans ?_
    pointwise []
    simp only [dot_at, dite_eq_ite]
    exact ProjSpec.lay_second (ProjSpec.onto (row m c p) (weights m c)) l.val l.isLt
  · refine (congrFun (h c).2.2.1 (ix2 p l)).trans ?_
    pointwise []
    simp only [dot_at, dite_eq_ite]
    exact ProjSpec.lay_third (ProjSpec.onto (row m c p) (weights m c)) l.val l.isLt
  · refine (congrFun (h c).2.2.2.1 (ix3 b d q)).trans ?_
    pointwise []
    exact dot_at m c (⟨b.val * 512 + q.val, by omega⟩ : Fin 65536) (576 + d.val) (by omega)

end Cert.ProjectionsIdeal.Read

end
-- ==== Proof.ProjClaims.lean ====
/-
  The claims on the input projection call: the frames of the call as printed, of its reading over the extended reals and of
  the reference, and the equality of the four results.
-/
module

public import proofs.«01_k».proof.Defs
public import proofs.«01_k».proof.Proof.Gen.Proj.Frame
public import proofs.«01_k».proof.Proof.ProjValue
public import proofs.«01_k».proof.Proof.ProjRef
public import Idealize.ShloMosaic.Lib.Quiescent

@[expose] public section

noncomputable section

namespace Cert.Proof.ProjClaims

open Idealize.ShloMosaic Idealize.ShloMosaic.TcCoe Idealize.SL.Sem

theorem frame_call : Cert.quiescent_Proj := fun m ρ _ => Cert.Proj.Gen.frame m ρ

theorem frame_ideal : Cert.quiescent_ProjIdeal := fun m ρ _ => Cert.ProjIdeal.Gen.frame m ρ

/-- The reference is a straight run of host operations and declares no semaphore. -/
theorem frame_reference : Cert.quiescent_ProjectionsIdeal := fun m ρ _ =>
  (θ_run Cert.ProjectionsIdeal.defs _ _).mono (fun r h => ⟨fun c => (h c).2.2.2.2, sem_eq_zero_of_no_sems (by decide) r.2⟩)
    (Cert.ProjectionsIdeal.Value.run m ρ)

/-- An index of a matrix is its row and its column. -/
theorem pair {n k : ℕ} (i : (⟨2, ![n, k]⟩ : Shape).Idx) : ∃ (p : Fin n) (l : Fin k), i = ix2 p l :=
  ⟨i 0, i 1, by funext a; match a with | ⟨0, _⟩ => rfl | ⟨1, _⟩ => rfl⟩

theorem triple {n k l : ℕ} (i : (⟨3, ![n, k, l]⟩ : Shape).Idx) : ∃ (b : Fin n) (d : Fin k) (q : Fin l), i = ix3 b d q :=
  ⟨i 0, i 1, i 2, by funext a; match a with | ⟨0, _⟩ => rfl | ⟨1, _⟩ => rfl | ⟨2, _⟩ => rfl⟩

theorem equal_projections : Cert.algebraic_ProjIdeal_ProjectionsIdeal := by
  intro m g m' g' _ he
  refine ⟨fun c => (Cert.ProjIdeal.Gen.dats m 0 c).arrAt 4 Cert.ProjIdeal.cfg0.N, fun c => (Cert.ProjIdeal.Gen.dats m 0 c).arrAt 5 Cert.ProjIdeal.cfg0.N,
    fun c => (Cert.ProjIdeal.Gen.dats m 0 c).arrAt 6 Cert.ProjIdeal.cfg0.N, fun c => (Cert.ProjIdeal.Gen.dats m 0 c).arrAt 7 Cert.ProjIdeal.cfg0.N,
    Cert.ProjIdeal.Value.run_blocks m g, ?_⟩
  refine (θ_run Cert.ProjectionsIdeal.defs _ _).mono (fun r h c => ?_) (Cert.ProjectionsIdeal.Read.run_entries m' g')
  obtain ⟨h0, h1, h2⟩ := he c
  obtain ⟨e1, e2, e3, e4, ha⟩ := h c
  have hrow : ∀ p, Cert.ProjectionsIdeal.Read.row m' c p = Cert.ProjIdeal.Body.row m c p := by
    intro p; unfold Cert.ProjectionsIdeal.Read.row Cert.ProjIdeal.Body.row; funext k; rw [h0, h1]
  have hw : Cert.ProjectionsIdeal.Read.weights m' c = Cert.ProjIdeal.Body.weights m c := by
    unfold Cert.ProjectionsIdeal.Read.weights Cert.ProjIdeal.Body.weights; funext k n; rw [h2]
  simp only [hrow, hw] at e1 e2 e3 e4
  refine ⟨?_, ?_, ?_, ?_, ha⟩
  · funext i
    obtain ⟨p, l, rfl⟩ := pair (n := 65536) (k := 1280) i
    exact (e1 p l).trans (Cert.ProjIdeal.Body.final4 m c p l).symm
  · funext i
    obtain ⟨p, l, rfl⟩ := pair (n := 65536) (k := 1024) i
    exact (e2 p l).trans (Cert.ProjIdeal.Body.final5 m c p l).symm
  · funext i
    obtain ⟨p, l, rfl⟩ := pair (n := 65536) (k := 640) i
    exact (e3 p l).trans (Cert.ProjIdeal.Body.final6 m c p l).symm
  · funext i
    obtain ⟨b, d, q, rfl⟩ := triple (n := 128) (k := 64) (l := 512) i
    exact (e4 b d q).trans (Cert.ProjIdeal.Body.final7 m c b d q).symm

end Cert.Proof.ProjClaims

end
-- ==== Proof.MixSpec.lean ====
/-
  The output projection's sub-layer over the extended reals, written for one row: both heads' outputs through one weight,
  the residual and its normalization, the modulation for the feed-forward, and the router's logits.
-/
module

public import proofs.«01_k».proof.Proof.FfnSpec
public import proofs.«01_k».proof.Proof.ProjSpec

@[expose] public section

set_option maxRecDepth 16384

noncomputable section

namespace Cert.MixSpec

open Idealize.ShloMosaic

/-- One column of the heads' outputs through the weight: the sparse head's half, then the linear head's. -/
def mix (ya ob : Fin 512 → EReal) (w : Fin 1024 → EReal) : EReal :=
  (∑ k, ya k * w (⟨k.val, by omega⟩ : Fin 1024)) + ∑ k, ob k * w (⟨512 + k.val, by omega⟩ : Fin 1024)

/-- The row after the residual and the normalization. -/
def after (ya ob : Fin 512 → EReal) (x : Fin 1024 → EReal) (w : Fin 1024 → Fin 1024 → EReal) (gate gain shift : Fin 1024 → EReal)
    (l : Fin 1024) : EReal :=
  FfnSpec.norm (fun c => FfnSpec.resid (x c) (gate c) (mix ya ob fun k => w k c)) l (gain l) (shift l)

/-- The router's logits of a row `h`, in 128 lanes of which eight are used. -/
def logits (h : Fin 1024 → EReal) (wr : Fin 1024 → Fin 8 → EReal) (j : Fin 128) : EReal :=
  if e : j.val < 8 then ∑ k, h k * wr k ⟨j.val, e⟩ else 0

/-- The comparison of a lane with an expert's number. -/
theorem lane_eq : ∀ (j : Fin 128) (i : Fin 8),
    IntOp.cmpi .eq (BitVec.ofNat 32 j.val) (BitVec.ofNat 32 i.val) = if j.val = i.val then 1#1 else 0#1 := by decide +kernel

/-- A column put in its own lane. -/
theorem lane_col (j : Fin 128) (i : Fin 8) (c : EReal) :
    Scalar.select (IntOp.cmpi .eq (BitVec.ofNat 32 j.val) (BitVec.ofNat 32 i.val)) c 0 = if j.val = i.val then c else 0 := by
  rw [lane_eq]
  by_cases e : j.val = i.val
  · rw [if_pos e, if_pos e]; rfl
  · rw [if_neg e, if_neg e]; rfl

/-- Eight columns, each put in its own lane and added up. -/
theorem lanes (j : Fin 128) (c : Fin 8 → EReal) :
    (if j.val = 0 then c 0 else 0) + (if j.val = 1 then c 1 else 0) + (if j.val = 2 then c 2 else 0)
      + (if j.val = 3 then c 3 else 0) + (if j.val = 4 then c 4 else 0) + (if j.val = 5 then c 5 else 0)
      + (if j.val = 6 then c 6 else 0) + (if j.val = 7 then c 7 else 0)
      = if e : j.val < 8 then c ⟨j.val, e⟩ else 0 := by
  obtain ⟨j, hj⟩ := j
  by_cases e : j < 8
  · rw [dif_pos e]
    interval_cases j <;> simp
  · rw [dif_neg e]
    have h : ∀ i, i < 8 → j ≠ i := fun i hi h => e (h ▸ hi)
    simp [h]

end Cert.MixSpec

end
-- ==== Proof.MixPay.lean ====
/-
  What a point of the dense layers' output projection leaves in its two results' buffers, read at an index.
-/
module

public import proofs.«01_k».proof.Proof.Gen.OutprojIdeal.Value
public import proofs.«01_k».proof.Proof.MixSpec

@[expose] public section

set_option maxRecDepth 16384

noncomputable section

namespace Cert.OutprojIdeal.Body

open Cert.OutprojIdeal Cert.OutprojIdeal.Gen Idealize.ShloMosaic Idealize.ShloMosaic.TcCoe Idealize.SL.Sem

theorem off2 : (![0, 0] : Fin 2 → ℕ) = fun _ => 0 := by funext a; match a with | ⟨0, _⟩ => rfl | ⟨1, _⟩ => rfl

variable (x0 x1 : Vec Ideal S512x512 .bf16) (x2 : Vec Ideal S512x1024 .f32) (x3 : Vec Ideal S1024x1024 .bf16)
  (x4 : Vec Ideal S1x6x1024 .f32) (x5 x6 : Vec Ideal S1x1024 .f32)

/-- Row `r` of a point's block after the residual and the normalization. -/
def brow (r : Fin 512) : Fin 1024 → EReal :=
  MixSpec.after (fun k => x0 (ix2 r k)) (fun k => x1 (ix2 r k)) (fun k => x2 (ix2 r k)) (fun k l => x3 (ix2 k l))
    (fun l => x4 (ix3 (0 : Fin 1) (2 : Fin 6) l)) (fun l => x5 (ix2 (0 : Fin 1) l)) (fun l => x6 (ix2 (0 : Fin 1) l))

theorem outA_at (r : Fin 512) (l : Fin 1024) : out0_7 x0 x1 x2 x3 x4 x5 x6 (ix2 r l) = brow x0 x1 x2 x3 x4 x5 x6 r l := by
  unfold out0_7
  rw [View.canon_unit_zero off2]
  pointwise [k0_pay1, k0_pay7, k0_pay8, k0_pay9, k0_pay10, k0_pay3, k0_pay4, k0_pay5, k0_pay6, View.ld]
  rfl

theorem outB_at (r : Fin 512) (l : Fin 1024) :
    out0_8 x0 x1 x2 x3 x4 x5 x6 (ix2 r l) = ProjSpec.modulated (brow x0 x1 x2 x3 x4 x5 x6 r l)
      (x4 (ix3 (0 : Fin 1) (4 : Fin 6) l)) (x4 (ix3 (0 : Fin 1) (3 : Fin 6) l)) := by
  unfold out0_8
  rw [View.canon_unit_zero off2]
  pointwise [k0_pay2, k0_pay1, k0_pay7, k0_pay8, k0_pay9, k0_pay10, k0_pay3, k0_pay4, k0_pay5, k0_pay6, View.ld]
  rfl

end Cert.OutprojIdeal.Body

end
-- ==== Proof.MixValue.lean ====
/-
  The two arrays the dense layers' output projection leaves, entry by entry over the extended reals: what each block reads of
  the host's arrays, and where a row of the result sits.
-/
module

public import proofs.«01_k».proof.Proof.MixPay
public import Idealize.ShloMosaic.Lib.StableHlo.Run

@[expose] public section

set_option maxRecDepth 16384

noncomputable section

namespace Cert.OutprojIdeal.Body

open Cert.OutprojIdeal Cert.OutprojIdeal.Gen Idealize.ShloMosaic Idealize.ShloMosaic.TcCoe Idealize.SL.Sem

variable (m : (ℓ : Loc nD τ sig) → Buf (Elt Ideal) ℓ)

theorem V_weight (c : Dev nD) : V m c main_v0 = (truncf .bf16 (m ((c : Thread nD τ).loc main_arg3)) bitsLt_bf16_f32 : FVec Ideal S1024x1024 .bf16) := by
  show StableHlo.after hostOps0 _ main_v0 = _
  simp only [hostOps0]
  after_results_simp <;> rfl

theorem V_gain (c : Dev nD) : V m c main_v1 = shapeCast S1x1024 (m ((c : Thread nD τ).loc main_arg5)) shapeCasts_S1024_S1x1024 := by
  show StableHlo.after hostOps0 _ main_v1 = _
  simp only [hostOps0]
  after_results_simp <;> rfl

theorem V_shift (c : Dev nD) : V m c main_v2 = shapeCast S1x1024 (m ((c : Thread nD τ).loc main_arg6)) shapeCasts_S1024_S1x1024 := by
  show StableHlo.after hostOps0 _ main_v2 = _
  simp only [hostOps0]
  after_results_simp <;> rfl

theorem lt128 (t : Fin cfg0.N) : t.val < 128 := lt_of_lt_of_eq t.isLt N_0

/-- Where each window's block sits at a point. -/
theorem index_at : ∀ t : Fin cfg0.N, win0_0.index t = ![t.val, 0] ∧ win0_1.index t = ![t.val, 0] ∧ win0_2.index t = ![t.val, 0]
    ∧ win0_3.index t = ![0, 0] ∧ win0_4.index t = ![t.val / 8, 0, 0] ∧ win0_5.index t = ![0, 0] ∧ win0_6.index t = ![0, 0]
    ∧ win0_7.index t = ![t.val, 0] ∧ win0_8.index t = ![t.val, 0] :=
  (by decide +kernel : ∀ t : Fin grid0.N, _)

theorem blk_ya (c : Dev nD) (t : Fin cfg0.N) (r k : Fin 512) :
    (iblk m c 0 t : Vec Ideal S512x512 .bf16) (ix2 r k)
      = m ((c : Thread nD τ).loc main_arg0) (ix2 (⟨t.val * 512 + r.val, by have := lt128 t; omega⟩ : Fin 65536) k) := by
  have e := (index_at t).1
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [e]; simp
  | ⟨1, _⟩ => show win0_0.index t 1 * 512 + 1 * k.val = k.val; rw [e]; simp

theorem blk_ob (c : Dev nD) (t : Fin cfg0.N) (r k : Fin 512) :
    (iblk m c 1 t : Vec Ideal S512x512 .bf16) (ix2 r k)
      = m ((c : Thread nD τ).loc main_arg1) (ix2 (⟨t.val * 512 + r.val, by have := lt128 t; omega⟩ : Fin 65536) k) := by
  have e := (index_at t).2.1
  unfold iblk
  rw [View.read_apply]
  show V m c main_arg1 _ = _
  rw [V_main_arg1]
  congr 1
  funext a
  apply Fin.ext
  match a with
  | ⟨0, _⟩ => show win0_1.index t 0 * 512 + 1 * r.val = t.val * 512 + r.val; rw [e]; simp
  | ⟨1, _⟩ => show win0_1.index t 1 * 512 + 1 * k.val = k.val; rw [e]; simp

theorem blk_x (c : Dev nD) (t : Fin cfg0.N) (r : Fin 512) (k : Fin 1024) :
    (iblk m c 2 t : Vec Ideal S512x1024 .f32) (ix2 r k)
      = m ((c : Thread nD τ).loc main_arg2) (ix2 (⟨t.val * 512 + r.val, by have := lt128 t; omega⟩ : Fin 65536) k) := by
  have e := (index_at t).2.2.1
  unfold iblk
  rw [View.read_apply]
  show V m c main_arg2 _ = _
  rw [V_main_arg2]
  congr 1
  funext a
  apply Fin.ext
  match a with
  | ⟨0, _⟩ => show win0_2.index t 0 * 512 + 1 * r.val = t.val * 512 + r.val; rw [e]; simp
  | ⟨1, _⟩ => show win0_2.index t 1 * 1024 + 1 * k.val = k.val; rw [e]; simp

theorem blk_w (c : Dev nD) (t : Fin cfg0.N) (k l : Fin 1024) :
    (iblk m c 3 t : Vec Ideal S1024x1024 .bf16) (ix2 k l) = m ((c : Thread nD τ).loc main_arg3) (ix2 k l) := by
  have e := (index_at t).2.2.2.1
  unfold iblk
  rw [View.read_apply]
  show V m c main_v0 _ = _
  rw [V_weight]
  show m ((c : Thread nD τ).loc main_arg3) _ = _
  congr 1
  funext a
  apply Fin.ext
  match a with
  | ⟨0, _⟩ => show win0_3.index t 0 * 1024 + 1 * k.val = k.val; rw [e]; simp
  | ⟨1, _⟩ => show win0_3.index t 1 * 1024 + 1 * l.val = l.val; rw [e]; simp

/-- The modulation rows of a point are its batch's: eight points to a batch. -/
theorem blk_mod (c : Dev nD) (t : Fin cfg0.N) (u : Fin 6) (k : Fin 1024) :
    (iblk m c 4 t : Vec Ideal S1x6x1024 .f32) (ix3 (0 : Fin 1) u k)
      = m ((c : Thread nD τ).loc main_arg4) (ix3 (⟨t.val / 8, by have := lt128 t; omega⟩ : Fin 16) u k) := by
  have e := (index_at t).2.2.2.2.1
  unfold iblk
  rw [View.read_apply]
  show V m c main_arg4 _ = _
  rw [V_main_arg4]
  congr 1
  funext a
  apply Fin.ext
  match a with
  | ⟨0, _⟩ => show win0_4.index t 0 * 1 + 1 * 0 = t.val / 8; rw [e]; simp
  | ⟨1, _⟩ => show win0_4.index t 1 * 6 + 1 * u.val = u.val; rw [e]; simp
  | ⟨2, _⟩ => show win0_4.index t 2 * 1024 + 1 * k.val = k.val; rw [e]; simp

theorem blk_gain (c : Dev nD) (t : Fin cfg0.N) (l : Fin 1024) :
    (iblk m c 5 t : Vec Ideal S1x1024 .f32) (ix2 (0 : Fin 1) l) = m ((c : Thread nD τ).loc main_arg5) (ix1 l) := by
  have e := (index_at t).2.2.2.2.2.1
  unfold iblk
  rw [View.read_apply]
  show V m c main_v1 _ = _
  rw [V_gain]
  have hi : ∀ y : S1x1024.Idx, y = ix2 (0 : Fin 1) l → shapeCast S1x1024 (m ((c : Thread nD τ).loc main_arg5)) shapeCasts_S1024_S1x1024 y
      = m ((c : Thread nD τ).loc main_arg5) (ix1 l) := by
    rintro y rfl
    pointwise []
  refine hi _ ?_
  funext a
  apply Fin.ext
  match a with
  | ⟨0, _⟩ => show win0_5.index t 0 * 1 + 1 * 0 = 0; rw [e]; simp
  | ⟨1, _⟩ => show win0_5.index t 1 * 1024 + 1 * l.val = l.val; rw [e]; simp

theorem blk_shift (c : Dev nD) (t : Fin cfg0.N) (l : Fin 1024) :
    (iblk m c 6 t : Vec Ideal S1x1024 .f32) (ix2 (0 : Fin 1) l) = m ((c : Thread nD τ).loc main_arg6) (ix1 l) := by
  have e := (index_at t).2.2.2.2.2.2.1
  unfold iblk
  rw [View.read_apply]
  show V m c main_v2 _ = _
  rw [V_shift]
  have hi : ∀ y : S1x1024.Idx, y = ix2 (0 : Fin 1) l → shapeCast S1x1024 (m ((c : Thread nD τ).loc main_arg6)) shapeCasts_S1024_S1x1024 y
      = m ((c : Thread nD τ).loc main_arg6) (ix1 l) := by
    rintro y rfl
    pointwise []
  refine hi _ ?_
  funext a
  apply Fin.ext
  match a with
  | ⟨0, _⟩ => show win0_6.index t 0 * 1 + 1 * 0 = 0; rw [e]; simp
  | ⟨1, _⟩ => show win0_6.index t 1 * 1024 + 1 * l.val = l.val; rw [e]; simp

/-- The first result's row. -/
def row (c : Dev nD) (r : Fin 65536) : Fin 1024 → EReal :=
  MixSpec.after (fun k => m ((c : Thread nD τ).loc main_arg0) (ix2 r k)) (fun k => m ((c : Thread nD τ).loc main_arg1) (ix2 r k))
    (fun k => m ((c : Thread nD τ).loc main_arg2) (ix2 r k)) (fun k l => m ((c : Thread nD τ).loc main_arg3) (ix2 k l))
    (fun l => m ((c : Thread nD τ).loc main_arg4) (ix3 (⟨r.val / 4096, by omega⟩ : Fin 16) (2 : Fin 6) l))
    (fun l => m ((c : Thread nD τ).loc main_arg5) (ix1 l)) (fun l => m ((c : Thread nD τ).loc main_arg6) (ix1 l))

/-- The second result's row. -/
def next (c : Dev nD) (r : Fin 65536) (l : Fin 1024) : EReal :=
  ProjSpec.modulated (row m c r l) (m ((c : Thread nD τ).loc main_arg4) (ix3 (⟨r.val / 4096, by omega⟩ : Fin 16) (4 : Fin 6) l))
    (m ((c : Thread nD τ).loc main_arg4) (ix3 (⟨r.val / 4096, by omega⟩ : Fin 16) (3 : Fin 6) l))

/-- A point's row is the arrays' row where the block sits. -/
theorem brow_at (c : Dev nD) (t : Fin cfg0.N) (r : Fin 512) :
    brow (iblk m c 0 t) (iblk m c 1 t) (iblk m c 2 t) (iblk m c 3 t) (iblk m c 4 t) (iblk m c 5 t) (iblk m c 6 t) r
      = row m c (⟨t.val * 512 + r.val, by have := lt128 t; omega⟩ : Fin 65536) := by
  unfold brow row
  have d8 : (t.val * 512 + r.val) / 4096 = t.val / 8 := by omega
  simp only [blk_ya, blk_ob, blk_x, blk_w, blk_mod, blk_gain, blk_shift, d8]

theorem bnext_at (c : Dev nD) (t : Fin cfg0.N) (r : Fin 512) (l : Fin 1024) :
    ProjSpec.modulated (brow (iblk m c 0 t) (iblk m c 1 t) (iblk m c 2 t) (iblk m c 3 t) (iblk m c 4 t) (iblk m c 5 t) (iblk m c 6 t) r l)
      ((iblk m c 4 t : Vec Ideal S1x6x1024 .f32) (ix3 (0 : Fin 1) (4 : Fin 6) l))
      ((iblk m c 4 t : Vec Ideal S1x6x1024 .f32) (ix3 (0 : Fin 1) (3 : Fin 6) l))
      = next m c (⟨t.val * 512 + r.val, by have := lt128 t; omega⟩ : Fin 65536) l := by
  unfold next
  have d8 : (t.val * 512 + r.val) / 4096 = t.val / 8 := by omega
  rw [brow_at, blk_mod, blk_mod]
  simp only [d8]

/-- Where a row sits: its block and its place in it. -/
theorem place (p : Fin 65536) : ∃ (t : Fin cfg0.N) (r : Fin 512), p = (⟨t.val * 512 + r.val, by have := lt128 t; omega⟩ : Fin 65536) :=
  ⟨⟨p.val / 512, by have : cfg0.N = 128 := N_0; omega⟩, ⟨p.val % 512, by omega⟩, by apply Fin.ext; show p.val = p.val / 512 * 512 + p.val % 512; omega⟩

theorem finalA (c : Dev nD) (p : Fin 65536) (l : Fin 1024) : (dats m 0 c).arrAt 7 cfg0.N (ix2 p l) = row m c p l := by
  obtain ⟨t, r, rfl⟩ := place p
  refine Eq.trans ?_ ((outA_at (iblk m c 0 t) (iblk m c 1 t) (iblk m c 2 t) (iblk m c 3 t) (iblk m c 4 t) (iblk m c 5 t)
    (iblk m c 6 t) r l).trans (congrFun (brow_at m c t r) l))
  have e := (index_at t).2.2.2.2.2.2.2.1
  refine Eq.trans ?_ (congrFun ((Value.blocks7 m c t (flush0_7 t)).trans (Value.flushed7 m c t)) (ix2 r l))
  rw [View.read_apply]
  congr 1
  funext a
  apply Fin.ext
  match a with
  | ⟨0, _⟩ => show t.val * 512 + r.val = win0_7.index t 0 * 512 + 1 * r.val; rw [e]; simp
  | ⟨1, _⟩ => show l.val = win0_7.index t 1 * 1024 + 1 * l.val; rw [e]; simp

theorem finalB (c : Dev nD) (p : Fin 65536) (l : Fin 1024) : (dats m 0 c).arrAt 8 cfg0.N (ix2 p l) = next m c p l := by
  obtain ⟨t, r, rfl⟩ := place p
  refine Eq.trans ?_ ((outB_at (iblk m c 0 t) (iblk m c 1 t) (iblk m c 2 t) (iblk m c 3 t) (iblk m c 4 t) (iblk m c 5 t)
    (iblk m c 6 t) r l).trans (bnext_at m c t r l))
  have e := (index_at t).2.2.2.2.2.2.2.2
  refine Eq.trans ?_ (congrFun ((Value.blocks8 m c t (flush0_8 t)).trans (Value.flushed8 m c t)) (ix2 r l))
  rw [View.read_apply]
  congr 1
  funext a
  apply Fin.ext
  match a with
  | ⟨0, _⟩ => show t.val * 512 + r.val = win0_8.index t 0 * 512 + 1 * r.val; rw [e]; simp
  | ⟨1, _⟩ => show l.val = win0_8.index t 1 * 1024 + 1 * l.val; rw [e]; simp

end Cert.OutprojIdeal.Body

end
-- ==== Proof.MixRef.lean ====
/-
  The results of the output projection's references read at an entry over the extended reals.
-/
module

public import proofs.«01_k».proof.Proof.Gen.MixedIdeal.Run
public import proofs.«01_k».proof.Proof.MixSpec

@[expose] public section

set_option maxRecDepth 16384

noncomputable section

namespace Cert.MixedIdeal.Read

open Cert.MixedIdeal Idealize.ShloMosaic Idealize.ShloMosaic.TcCoe Idealize.SL.Sem

variable (m : (ℓ : Loc nD τ sig) → Buf (Elt Ideal) ℓ)

/-- The first result's row. -/
def row (c : Dev nD) (r : Fin 65536) : Fin 1024 → EReal :=
  MixSpec.after (fun k => m ((c : Thread nD τ).loc main_arg0) (ix2 r k)) (fun k => m ((c : Thread nD τ).loc main_arg1) (ix2 r k))
    (fun k => m ((c : Thread nD τ).loc main_arg2) (ix2 r k)) (fun k l => m ((c : Thread nD τ).loc main_arg3) (ix2 k l))
    (fun l => m ((c : Thread nD τ).loc main_arg4) (ix3 (⟨r.val / 4096, by omega⟩ : Fin 16) (2 : Fin 6) l))
    (fun l => m ((c : Thread nD τ).loc main_arg5) (ix1 l)) (fun l => m ((c : Thread nD τ).loc main_arg6) (ix1 l))

/-- The second result's row. -/
def next (c : Dev nD) (r : Fin 65536) (l : Fin 1024) : EReal :=
  ProjSpec.modulated (row m c r l) (m ((c : Thread nD τ).loc main_arg4) (ix3 (⟨r.val / 4096, by omega⟩ : Fin 16) (4 : Fin 6) l))
    (m ((c : Thread nD τ).loc main_arg4) (ix3 (⟨r.val / 4096, by omega⟩ : Fin 16) (3 : Fin 6) l))

theorem first_at (c : Dev nD) (r : Fin 65536) (l : Fin 1024) : Value.res_main_v37 m c (ix2 r l) = row m c r l := by
  unfold Value.res_main_v37
  pointwise []
  rfl

theorem second_at (c : Dev nD) (r : Fin 65536) (l : Fin 1024) : Value.res_main_v50 m c (ix2 r l) = next m c r l := by
  unfold Value.res_main_v50
  pointwise []
  rfl

end Cert.MixedIdeal.Read

end
-- ==== Proof.MixRoutedPay.lean ====
/-
  What a point of the routed layers' output projection leaves in its three results' buffers, read at an index.
-/
module

public import proofs.«01_k».proof.Proof.Gen.RoutedIdeal.Value
public import proofs.«01_k».proof.Proof.MixSpec

@[expose] public section

set_option maxRecDepth 16384

noncomputable section

namespace Cert.RoutedIdeal.Body

open Cert.RoutedIdeal Cert.RoutedIdeal.Gen Idealize.ShloMosaic Idealize.ShloMosaic.TcCoe Idealize.SL.Sem

theorem off2 : (![0, 0] : Fin 2 → ℕ) = fun _ => 0 := by funext a; match a with | ⟨0, _⟩ => rfl | ⟨1, _⟩ => rfl

variable (x0 x1 : Vec Ideal S512x512 .bf16) (x2 : Vec Ideal S512x1024 .f32) (x3 : Vec Ideal S1024x1024 .bf16)
  (x4 : Vec Ideal S1x6x1024 .f32) (x5 x6 : Vec Ideal S1x1024 .f32) (x7 : Vec Ideal S8x1024 .f32)

/-- Row `r` of a point's block after the residual and the normalization. -/
def brow (r : Fin 512) : Fin 1024 → EReal :=
  MixSpec.after (fun k => x0 (ix2 r k)) (fun k => x1 (ix2 r k)) (fun k => x2 (ix2 r k)) (fun k l => x3 (ix2 k l))
    (fun l => x4 (ix3 (0 : Fin 1) (2 : Fin 6) l)) (fun l => x5 (ix2 (0 : Fin 1) l)) (fun l => x6 (ix2 (0 : Fin 1) l))

/-- Row `r` modulated for the feed-forward. -/
def bnext (r : Fin 512) (l : Fin 1024) : EReal :=
  ProjSpec.modulated (brow x0 x1 x2 x3 x4 x5 x6 r l) (x4 (ix3 (0 : Fin 1) (4 : Fin 6) l)) (x4 (ix3 (0 : Fin 1) (3 : Fin 6) l))

theorem outA_at (r : Fin 512) (l : Fin 1024) : out0_8 x0 x1 x2 x3 x4 x5 x6 x7 (ix2 r l) = brow x0 x1 x2 x3 x4 x5 x6 r l := by
  unfold out0_8
  rw [View.canon_unit_zero off2]
  pointwise [k0_pay6, k0_pay17, k0_pay18, k0_pay19, k0_pay20, k0_pay2, k0_pay3, k0_pay4, k0_pay5, View.ld]
  rfl

/-- The modulated block as a vector. -/
theorem pay7_at (r : Fin 512) (l : Fin 1024) :
    k0_pay7 (k0_pay17 x0 x1 x2 x3 x4 x5 x6 x7) (k0_pay18 x0 x1 x2 x3 x4 x5 x6 x7) (k0_pay19 x0 x1 x2 x3 x4 x5 x6 x7)
      (k0_pay20 x0 x1 x2 x3 x4 x5 x6 x7) (View.ld x4 r0_6) (View.ld x4 r0_7) (ix2 r l) = bnext x0 x1 x2 x3 x4 x5 x6 r l := by
  pointwise [k0_pay7, k0_pay6, k0_pay17, k0_pay18, k0_pay19, k0_pay20, k0_pay2, k0_pay3, k0_pay4, k0_pay5, View.ld]
  rfl

theorem outB_at (r : Fin 512) (l : Fin 1024) :
    out0_9 x0 x1 x2 x3 x4 x5 x6 x7 (ix2 r l) = bnext x0 x1 x2 x3 x4 x5 x6 r l := by
  unfold out0_9
  rw [View.canon_unit_zero off2]
  exact pay7_at x0 x1 x2 x3 x4 x5 x6 x7 r l

theorem outC_at (r : Fin 512) (j : Fin 128) :
    out0_10 x0 x1 x2 x3 x4 x5 x6 x7 (ix2 r j) = MixSpec.logits (bnext x0 x1 x2 x3 x4 x5 x6 r) (fun k e => x7 (ix2 e k)) j := by
  have H := pay7_at x0 x1 x2 x3 x4 x5 x6 x7 r
  unfold out0_10
  rw [View.canon_unit_zero off2]
  unfold k0_pay22 k0_pay8
  generalize k0_pay7 (k0_pay17 x0 x1 x2 x3 x4 x5 x6 x7) (k0_pay18 x0 x1 x2 x3 x4 x5 x6 x7) (k0_pay19 x0 x1 x2 x3 x4 x5 x6 x7)
    (k0_pay20 x0 x1 x2 x3 x4 x5 x6 x7) (View.ld x4 r0_6) (View.ld x4 r0_7) = h at *
  pointwise [k0_pay1, k0_pay9, k0_pay10, k0_pay11, k0_pay12, k0_pay13, k0_pay14, k0_pay15, k0_pay16, k0_pay21, View.ld]
  simp only [H]
  unfold MixSpec.logits
  rw [← MixSpec.lanes j fun e => ∑ k, bnext x0 x1 x2 x3 x4 x5 x6 r k * x7 (ix2 e k)]
  exact congrArg₂ _ (congrArg₂ _ (congrArg₂ _ (congrArg₂ _ (congrArg₂ _ (congrArg₂ _ (congrArg₂ _ (MixSpec.lane_col j 0 _)
    (MixSpec.lane_col j 1 _)) (MixSpec.lane_col j 2 _)) (MixSpec.lane_col j 3 _)) (MixSpec.lane_col j 4 _))
    (MixSpec.lane_col j 5 _)) (MixSpec.lane_col j 6 _)) (MixSpec.lane_col j 7 _)

end Cert.RoutedIdeal.Body

end
-- ==== Proof.MixRoutedValue.lean ====
/-
  The three arrays the routed layers' output projection leaves, entry by entry over the extended reals: what each block reads of
  the host's arrays, and where a row of the result sits.
-/
module

public import proofs.«01_k».proof.Proof.MixRoutedPay
public import Idealize.ShloMosaic.Lib.StableHlo.Run

@[expose] public section

set_option maxRecDepth 16384

noncomputable section

namespace Cert.RoutedIdeal.Body

open Cert.RoutedIdeal Cert.RoutedIdeal.Gen Idealize.ShloMosaic Idealize.ShloMosaic.TcCoe Idealize.SL.Sem

variable (m : (ℓ : Loc nD τ sig) → Buf (Elt Ideal) ℓ)

theorem V_weight (c : Dev nD) : V m c main_v0 = (truncf .bf16 (m ((c : Thread nD τ).loc main_arg3)) bitsLt_bf16_f32 : FVec Ideal S1024x1024 .bf16) := by
  show StableHlo.after hostOps0 _ main_v0 = _
  simp only [hostOps0]
  after_results_simp <;> rfl

theorem V_gain (c : Dev nD) : V m c main_v2 = shapeCast S1x1024 (m ((c : Thread nD τ).loc main_arg5)) shapeCasts_S1024_S1x1024 := by
  show StableHlo.after hostOps0 _ main_v2 = _
  simp only [hostOps0]
  after_results_simp <;> rfl

theorem V_shift (c : Dev nD) : V m c main_v3 = shapeCast S1x1024 (m ((c : Thread nD τ).loc main_arg6)) shapeCasts_S1024_S1x1024 := by
  show StableHlo.after hostOps0 _ main_v3 = _
  simp only [hostOps0]
  after_results_simp <;> rfl

theorem V_router (c : Dev nD) : V m c main_v1 = transpose S8x1024 [1, 0] (m ((c : Thread nD τ).loc main_arg7)) transposes_S1024x8_S8x1024_1_0 := by
  show StableHlo.after hostOps0 _ main_v1 = _
  simp only [hostOps0]
  after_results_simp <;> rfl

theorem lt128 (t : Fin cfg0.N) : t.val < 128 := lt_of_lt_of_eq t.isLt N_0

/-- Where each window's block sits at a point. -/
theorem index_at : ∀ t : Fin cfg0.N, win0_0.index t = ![t.val, 0] ∧ win0_1.index t = ![t.val, 0] ∧ win0_2.index t = ![t.val, 0]
    ∧ win0_3.index t = ![0, 0] ∧ win0_4.index t = ![t.val / 8, 0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0] :=
  (by decide +kernel : ∀ t : Fin grid0.N, _)

theorem blk_ya (c : Dev nD) (t : Fin cfg0.N) (r k : Fin 512) :
    (iblk m c 0 t : Vec Ideal S512x512 .bf16) (ix2 r k)
      = m ((c : Thread nD τ).loc main_arg0) (ix2 (⟨t.val * 512 + r.val, by have := lt128 t; omega⟩ : Fin 65536) k) := by
  have e := (index_at t).1
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [e]; simp
  | ⟨1, _⟩ => show win0_0.index t 1 * 512 + 1 * k.val = k.val; rw [e]; simp

theorem blk_ob (c : Dev nD) (t : Fin cfg0.N) (r k : Fin 512) :
    (iblk m c 1 t : Vec Ideal S512x512 .bf16) (ix2 r k)
      = m ((c : Thread nD τ).loc main_arg1) (ix2 (⟨t.val * 512 + r.val, by have := lt128 t; omega⟩ : Fin 65536) k) := by
  have e := (index_at t).2.1
  unfold iblk
  rw [View.read_apply]
  show V m c main_arg1 _ = _
  rw [V_main_arg1]
  congr 1
  funext a
  apply Fin.ext
  match a with
  | ⟨0, _⟩ => show win0_1.index t 0 * 512 + 1 * r.val = t.val * 512 + r.val; rw [e]; simp
  | ⟨1, _⟩ => show win0_1.index t 1 * 512 + 1 * k.val = k.val; rw [e]; simp

theorem blk_x (c : Dev nD) (t : Fin cfg0.N) (r : Fin 512) (k : Fin 1024) :
    (iblk m c 2 t : Vec Ideal S512x1024 .f32) (ix2 r k)
      = m ((c : Thread nD τ).loc main_arg2) (ix2 (⟨t.val * 512 + r.val, by have := lt128 t; omega⟩ : Fin 65536) k) := by
  have e := (index_at t).2.2.1
  unfold iblk
  rw [View.read_apply]
  show V m c main_arg2 _ = _
  rw [V_main_arg2]
  congr 1
  funext a
  apply Fin.ext
  match a with
  | ⟨0, _⟩ => show win0_2.index t 0 * 512 + 1 * r.val = t.val * 512 + r.val; rw [e]; simp
  | ⟨1, _⟩ => show win0_2.index t 1 * 1024 + 1 * k.val = k.val; rw [e]; simp

theorem blk_w (c : Dev nD) (t : Fin cfg0.N) (k l : Fin 1024) :
    (iblk m c 3 t : Vec Ideal S1024x1024 .bf16) (ix2 k l) = m ((c : Thread nD τ).loc main_arg3) (ix2 k l) := by
  have e := (index_at t).2.2.2.1
  unfold iblk
  rw [View.read_apply]
  show V m c main_v0 _ = _
  rw [V_weight]
  show m ((c : Thread nD τ).loc main_arg3) _ = _
  congr 1
  funext a
  apply Fin.ext
  match a with
  | ⟨0, _⟩ => show win0_3.index t 0 * 1024 + 1 * k.val = k.val; rw [e]; simp
  | ⟨1, _⟩ => show win0_3.index t 1 * 1024 + 1 * l.val = l.val; rw [e]; simp

/-- The modulation rows of a point are its batch's: eight points to a batch. -/
theorem blk_mod (c : Dev nD) (t : Fin cfg0.N) (u : Fin 6) (k : Fin 1024) :
    (iblk m c 4 t : Vec Ideal S1x6x1024 .f32) (ix3 (0 : Fin 1) u k)
      = m ((c : Thread nD τ).loc main_arg4) (ix3 (⟨t.val / 8, by have := lt128 t; omega⟩ : Fin 16) u k) := by
  have e := (index_at t).2.2.2.2.1
  unfold iblk
  rw [View.read_apply]
  show V m c main_arg4 _ = _
  rw [V_main_arg4]
  congr 1
  funext a
  apply Fin.ext
  match a with
  | ⟨0, _⟩ => show win0_4.index t 0 * 1 + 1 * 0 = t.val / 8; rw [e]; simp
  | ⟨1, _⟩ => show win0_4.index t 1 * 6 + 1 * u.val = u.val; rw [e]; simp
  | ⟨2, _⟩ => show win0_4.index t 2 * 1024 + 1 * k.val = k.val; rw [e]; simp

theorem blk_gain (c : Dev nD) (t : Fin cfg0.N) (l : Fin 1024) :
    (iblk m c 5 t : Vec Ideal S1x1024 .f32) (ix2 (0 : Fin 1) l) = m ((c : Thread nD τ).loc main_arg5) (ix1 l) := by
  have e := (index_at t).2.2.2.2.2.1
  unfold iblk
  rw [View.read_apply]
  show V m c main_v2 _ = _
  rw [V_gain]
  have hi : ∀ y : S1x1024.Idx, y = ix2 (0 : Fin 1) l → shapeCast S1x1024 (m ((c : Thread nD τ).loc main_arg5)) shapeCasts_S1024_S1x1024 y
      = m ((c : Thread nD τ).loc main_arg5) (ix1 l) := by
    rintro y rfl
    pointwise []
  refine hi _ ?_
  funext a
  apply Fin.ext
  match a with
  | ⟨0, _⟩ => show win0_5.index t 0 * 1 + 1 * 0 = 0; rw [e]; simp
  | ⟨1, _⟩ => show win0_5.index t 1 * 1024 + 1 * l.val = l.val; rw [e]; simp

theorem blk_shift (c : Dev nD) (t : Fin cfg0.N) (l : Fin 1024) :
    (iblk m c 6 t : Vec Ideal S1x1024 .f32) (ix2 (0 : Fin 1) l) = m ((c : Thread nD τ).loc main_arg6) (ix1 l) := by
  have e := (index_at t).2.2.2.2.2.2.1
  unfold iblk
  rw [View.read_apply]
  show V m c main_v3 _ = _
  rw [V_shift]
  have hi : ∀ y : S1x1024.Idx, y = ix2 (0 : Fin 1) l → shapeCast S1x1024 (m ((c : Thread nD τ).loc main_arg6)) shapeCasts_S1024_S1x1024 y
      = m ((c : Thread nD τ).loc main_arg6) (ix1 l) := by
    rintro y rfl
    pointwise []
  refine hi _ ?_
  funext a
  apply Fin.ext
  match a with
  | ⟨0, _⟩ => show win0_6.index t 0 * 1 + 1 * 0 = 0; rw [e]; simp
  | ⟨1, _⟩ => show win0_6.index t 1 * 1024 + 1 * l.val = l.val; rw [e]; simp

/-- The router's weights, transposed by the host. -/
theorem blk_router (c : Dev nD) (t : Fin cfg0.N) (u : Fin 8) (k : Fin 1024) :
    (iblk m c 7 t : Vec Ideal S8x1024 .f32) (ix2 u k) = m ((c : Thread nD τ).loc main_arg7) (ix2 k u) := by
  have e := (index_at t).2.2.2.2.2.2.2.1
  unfold iblk
  rw [View.read_apply]
  show V m c main_v1 _ = _
  rw [V_router]
  have hi : ∀ y : S8x1024.Idx, y = ix2 u k → transpose S8x1024 [1, 0] (m ((c : Thread nD τ).loc main_arg7)) transposes_S1024x8_S8x1024_1_0 y
      = m ((c : Thread nD τ).loc main_arg7) (ix2 k u) := by
    rintro y rfl
    pointwise []
  refine hi _ ?_
  funext a
  apply Fin.ext
  match a with
  | ⟨0, _⟩ => show win0_7.index t 0 * 8 + 1 * u.val = u.val; rw [e]; simp
  | ⟨1, _⟩ => show win0_7.index t 1 * 1024 + 1 * k.val = k.val; rw [e]; simp

/-- The first result's row. -/
def row (c : Dev nD) (r : Fin 65536) : Fin 1024 → EReal :=
  MixSpec.after (fun k => m ((c : Thread nD τ).loc main_arg0) (ix2 r k)) (fun k => m ((c : Thread nD τ).loc main_arg1) (ix2 r k))
    (fun k => m ((c : Thread nD τ).loc main_arg2) (ix2 r k)) (fun k l => m ((c : Thread nD τ).loc main_arg3) (ix2 k l))
    (fun l => m ((c : Thread nD τ).loc main_arg4) (ix3 (⟨r.val / 4096, by omega⟩ : Fin 16) (2 : Fin 6) l))
    (fun l => m ((c : Thread nD τ).loc main_arg5) (ix1 l)) (fun l => m ((c : Thread nD τ).loc main_arg6) (ix1 l))

/-- The second result's row. -/
def next (c : Dev nD) (r : Fin 65536) (l : Fin 1024) : EReal :=
  ProjSpec.modulated (row m c r l) (m ((c : Thread nD τ).loc main_arg4) (ix3 (⟨r.val / 4096, by omega⟩ : Fin 16) (4 : Fin 6) l))
    (m ((c : Thread nD τ).loc main_arg4) (ix3 (⟨r.val / 4096, by omega⟩ : Fin 16) (3 : Fin 6) l))

/-- A point's row is the arrays' row where the block sits. -/
theorem brow_at (c : Dev nD) (t : Fin cfg0.N) (r : Fin 512) :
    brow (iblk m c 0 t) (iblk m c 1 t) (iblk m c 2 t) (iblk m c 3 t) (iblk m c 4 t) (iblk m c 5 t) (iblk m c 6 t) r
      = row m c (⟨t.val * 512 + r.val, by have := lt128 t; omega⟩ : Fin 65536) := by
  unfold brow row
  have d8 : (t.val * 512 + r.val) / 4096 = t.val / 8 := by omega
  simp only [blk_ya, blk_ob, blk_x, blk_w, blk_mod, blk_gain, blk_shift, d8]

theorem bnext_at (c : Dev nD) (t : Fin cfg0.N) (r : Fin 512) :
    bnext (iblk m c 0 t) (iblk m c 1 t) (iblk m c 2 t) (iblk m c 3 t) (iblk m c 4 t) (iblk m c 5 t) (iblk m c 6 t) r
      = next m c (⟨t.val * 512 + r.val, by have := lt128 t; omega⟩ : Fin 65536) := by
  unfold bnext next
  have d8 : (t.val * 512 + r.val) / 4096 = t.val / 8 := by omega
  simp only [brow_at, blk_mod, d8]

/-- Where a row sits: its block and its place in it. -/
theorem place (p : Fin 65536) : ∃ (t : Fin cfg0.N) (r : Fin 512), p = (⟨t.val * 512 + r.val, by have := lt128 t; omega⟩ : Fin 65536) :=
  ⟨⟨p.val / 512, by have : cfg0.N = 128 := N_0; omega⟩, ⟨p.val % 512, by omega⟩, by apply Fin.ext; show p.val = p.val / 512 * 512 + p.val % 512; omega⟩

theorem finalA (c : Dev nD) (p : Fin 65536) (l : Fin 1024) : (dats m 0 c).arrAt 8 cfg0.N (ix2 p l) = row m c p l := by
  obtain ⟨t, r, rfl⟩ := place p
  refine Eq.trans ?_ ((outA_at (iblk m c 0 t) (iblk m c 1 t) (iblk m c 2 t) (iblk m c 3 t) (iblk m c 4 t) (iblk m c 5 t)
    (iblk m c 6 t) (iblk m c 7 t) r l).trans (congrFun (brow_at m c t r) l))
  have e := (index_at t).2.2.2.2.2.2.2.2.1
  refine Eq.trans ?_ (congrFun ((Value.blocks8 m c t (flush0_8 t)).trans (Value.flushed8 m c t)) (ix2 r l))
  rw [View.read_apply]
  congr 1
  funext a
  apply Fin.ext
  match a with
  | ⟨0, _⟩ => show t.val * 512 + r.val = win0_8.index t 0 * 512 + 1 * r.val; rw [e]; simp
  | ⟨1, _⟩ => show l.val = win0_8.index t 1 * 1024 + 1 * l.val; rw [e]; simp

theorem finalB (c : Dev nD) (p : Fin 65536) (l : Fin 1024) : (dats m 0 c).arrAt 9 cfg0.N (ix2 p l) = next m c p l := by
  obtain ⟨t, r, rfl⟩ := place p
  refine Eq.trans ?_ ((outB_at (iblk m c 0 t) (iblk m c 1 t) (iblk m c 2 t) (iblk m c 3 t) (iblk m c 4 t) (iblk m c 5 t)
    (iblk m c 6 t) (iblk m c 7 t) r l).trans (congrFun (bnext_at m c t r) l))
  have e := (index_at t).2.2.2.2.2.2.2.2.2.1
  refine Eq.trans ?_ (congrFun ((Value.blocks9 m c t (flush0_9 t)).trans (Value.flushed9 m c t)) (ix2 r l))
  rw [View.read_apply]
  congr 1
  funext a
  apply Fin.ext
  match a with
  | ⟨0, _⟩ => show t.val * 512 + r.val = win0_9.index t 0 * 512 + 1 * r.val; rw [e]; simp
  | ⟨1, _⟩ => show l.val = win0_9.index t 1 * 1024 + 1 * l.val; rw [e]; simp

/-- The router's logits of a row. -/
theorem blogits_at (c : Dev nD) (t : Fin cfg0.N) (r : Fin 512) (j : Fin 128) :
    MixSpec.logits (bnext (iblk m c 0 t) (iblk m c 1 t) (iblk m c 2 t) (iblk m c 3 t) (iblk m c 4 t) (iblk m c 5 t) (iblk m c 6 t) r)
      (fun k u => (iblk m c 7 t : Vec Ideal S8x1024 .f32) (ix2 u k)) j
      = MixSpec.logits (next m c (⟨t.val * 512 + r.val, by have := lt128 t; omega⟩ : Fin 65536))
        (fun k u => m ((c : Thread nD τ).loc main_arg7) (ix2 k u)) j := by
  simp only [bnext_at, blk_router]

theorem finalC (c : Dev nD) (p : Fin 65536) (j : Fin 128) :
    (dats m 0 c).arrAt 10 cfg0.N (ix2 p j) = MixSpec.logits (next m c p) (fun k u => m ((c : Thread nD τ).loc main_arg7) (ix2 k u)) j := by
  obtain ⟨t, r, rfl⟩ := place p
  refine Eq.trans ?_ ((outC_at (iblk m c 0 t) (iblk m c 1 t) (iblk m c 2 t) (iblk m c 3 t) (iblk m c 4 t) (iblk m c 5 t)
    (iblk m c 6 t) (iblk m c 7 t) r j).trans (blogits_at m c t r j))
  have e := (index_at t).2.2.2.2.2.2.2.2.2.2
  refine Eq.trans ?_ (congrFun ((Value.blocks10 m c t (flush0_10 t)).trans (Value.flushed10 m c t)) (ix2 r j))
  rw [View.read_apply]
  congr 1
  funext a
  apply Fin.ext
  match a with
  | ⟨0, _⟩ => show t.val * 512 + r.val = win0_10.index t 0 * 512 + 1 * r.val; rw [e]; simp
  | ⟨1, _⟩ => show j.val = win0_10.index t 1 * 128 + 1 * j.val; rw [e]; simp

end Cert.RoutedIdeal.Body

end
-- ==== Proof.MixRoutedRef.lean ====
/-
  The results of the output projection's references read at an entry over the extended reals.
-/
module

public import proofs.«01_k».proof.Proof.Gen.MixedRoutedIdeal.Run
public import proofs.«01_k».proof.Proof.MixSpec

@[expose] public section

set_option maxRecDepth 16384

noncomputable section

namespace Cert.MixedRoutedIdeal.Read

open Cert.MixedRoutedIdeal Idealize.ShloMosaic Idealize.ShloMosaic.TcCoe Idealize.SL.Sem

variable (m : (ℓ : Loc nD τ sig) → Buf (Elt Ideal) ℓ)

/-- The first result's row. -/
def row (c : Dev nD) (r : Fin 65536) : Fin 1024 → EReal :=
  MixSpec.after (fun k => m ((c : Thread nD τ).loc main_arg0) (ix2 r k)) (fun k => m ((c : Thread nD τ).loc main_arg1) (ix2 r k))
    (fun k => m ((c : Thread nD τ).loc main_arg2) (ix2 r k)) (fun k l => m ((c : Thread nD τ).loc main_arg3) (ix2 k l))
    (fun l => m ((c : Thread nD τ).loc main_arg4) (ix3 (⟨r.val / 4096, by omega⟩ : Fin 16) (2 : Fin 6) l))
    (fun l => m ((c : Thread nD τ).loc main_arg5) (ix1 l)) (fun l => m ((c : Thread nD τ).loc main_arg6) (ix1 l))

/-- The second result's row. -/
def next (c : Dev nD) (r : Fin 65536) (l : Fin 1024) : EReal :=
  ProjSpec.modulated (row m c r l) (m ((c : Thread nD τ).loc main_arg4) (ix3 (⟨r.val / 4096, by omega⟩ : Fin 16) (4 : Fin 6) l))
    (m ((c : Thread nD τ).loc main_arg4) (ix3 (⟨r.val / 4096, by omega⟩ : Fin 16) (3 : Fin 6) l))

theorem first_at (c : Dev nD) (r : Fin 65536) (l : Fin 1024) : Value.res_main_v37 m c (ix2 r l) = row m c r l := by
  unfold Value.res_main_v37
  pointwise []
  rfl

theorem second_at (c : Dev nD) (r : Fin 65536) (l : Fin 1024) : Value.res_main_v49 m c (ix2 r l) = next m c r l := by
  unfold Value.res_main_v49
  pointwise []
  rfl

theorem third_at (c : Dev nD) (r : Fin 65536) (j : Fin 128) :
    Value.res_main_v52 m c (ix2 r j) = MixSpec.logits (next m c r) (fun k e => m ((c : Thread nD τ).loc main_arg7) (ix2 k e)) j := by
  unfold Value.res_main_v52
  pointwise []
  rfl

end Cert.MixedRoutedIdeal.Read

end
-- ==== Proof.MixClaims.lean ====
/-
  The claims on the output projection's two calls: the frames of each call as printed, of its reading over the extended
  reals and of its reference, and the equality of their results.
-/
module

public import proofs.«01_k».proof.Defs
public import proofs.«01_k».proof.Proof.Gen.Outproj.Frame
public import proofs.«01_k».proof.Proof.Gen.Routed.Frame
public import proofs.«01_k».proof.Proof.MixValue
public import proofs.«01_k».proof.Proof.MixRef
public import proofs.«01_k».proof.Proof.MixRoutedValue
public import proofs.«01_k».proof.Proof.MixRoutedRef
public import proofs.«01_k».proof.Proof.ProjClaims
public import Idealize.ShloMosaic.Lib.Quiescent

@[expose] public section

noncomputable section

namespace Cert.Proof.MixClaims

open Idealize.ShloMosaic Idealize.ShloMosaic.TcCoe Idealize.SL.Sem

theorem frame_dense : Cert.quiescent_Outproj := fun m ρ _ => Cert.Outproj.Gen.frame m ρ

theorem frame_dense_ideal : Cert.quiescent_OutprojIdeal := fun m ρ _ => Cert.OutprojIdeal.Gen.frame m ρ

theorem frame_routed : Cert.quiescent_Routed := fun m ρ _ => Cert.Routed.Gen.frame m ρ

theorem frame_routed_ideal : Cert.quiescent_RoutedIdeal := fun m ρ _ => Cert.RoutedIdeal.Gen.frame m ρ

/-- The references are straight runs of host operations and declare no semaphore. -/
theorem frame_dense_reference : Cert.quiescent_MixedIdeal := fun m ρ _ =>
  (θ_run Cert.MixedIdeal.defs _ _).mono (fun r h => ⟨fun c => (h c).2.2, sem_eq_zero_of_no_sems (by decide) r.2⟩)
    (Cert.MixedIdeal.Value.run m ρ)

theorem frame_routed_reference : Cert.quiescent_MixedRoutedIdeal := fun m ρ _ =>
  (θ_run Cert.MixedRoutedIdeal.defs _ _).mono (fun r h => ⟨fun c => (h c).2.2.2, sem_eq_zero_of_no_sems (by decide) r.2⟩)
    (Cert.MixedRoutedIdeal.Value.run m ρ)

theorem equal_dense : Cert.algebraic_OutprojIdeal_MixedIdeal := by
  intro m g m' g' _ he
  refine ⟨fun c => (Cert.OutprojIdeal.Gen.dats m 0 c).arrAt 7 Cert.OutprojIdeal.cfg0.N,
    fun c => (Cert.OutprojIdeal.Gen.dats m 0 c).arrAt 8 Cert.OutprojIdeal.cfg0.N, Cert.OutprojIdeal.Value.run_blocks m g, ?_⟩
  refine (θ_run Cert.MixedIdeal.defs _ _).mono (fun r h c => ?_) (Cert.MixedIdeal.Value.run m' g')
  obtain ⟨h0, h1, h2, h3, h4, h5, h6⟩ := he c
  obtain ⟨e1, e2, ha⟩ := h c
  have hrow : ∀ p, Cert.MixedIdeal.Read.row m' c p = Cert.OutprojIdeal.Body.row m c p := by
    intro p; unfold Cert.MixedIdeal.Read.row Cert.OutprojIdeal.Body.row; rw [h0, h1, h2, h3, h4, h5, h6]
  have hnext : ∀ p l, Cert.MixedIdeal.Read.next m' c p l = Cert.OutprojIdeal.Body.next m c p l := by
    intro p l; unfold Cert.MixedIdeal.Read.next Cert.OutprojIdeal.Body.next; rw [hrow, h4]
  refine ⟨?_, ?_, ha⟩
  · funext i
    obtain ⟨p, l, rfl⟩ := ProjClaims.pair (n := 65536) (k := 1024) i
    exact (congrFun e1 (ix2 p l)).trans ((Cert.MixedIdeal.Read.first_at m' c p l).trans
      ((congrFun (hrow p) l).trans (Cert.OutprojIdeal.Body.finalA m c p l).symm))
  · funext i
    obtain ⟨p, l, rfl⟩ := ProjClaims.pair (n := 65536) (k := 1024) i
    exact (congrFun e2 (ix2 p l)).trans ((Cert.MixedIdeal.Read.second_at m' c p l).trans
      ((hnext p l).trans (Cert.OutprojIdeal.Body.finalB m c p l).symm))

theorem equal_routed : Cert.algebraic_RoutedIdeal_MixedRoutedIdeal := by
  intro m g m' g' _ he
  refine ⟨fun c => (Cert.RoutedIdeal.Gen.dats m 0 c).arrAt 8 Cert.RoutedIdeal.cfg0.N,
    fun c => (Cert.RoutedIdeal.Gen.dats m 0 c).arrAt 9 Cert.RoutedIdeal.cfg0.N,
    fun c => (Cert.RoutedIdeal.Gen.dats m 0 c).arrAt 10 Cert.RoutedIdeal.cfg0.N, Cert.RoutedIdeal.Value.run_blocks m g, ?_⟩
  refine (θ_run Cert.MixedRoutedIdeal.defs _ _).mono (fun r h c => ?_) (Cert.MixedRoutedIdeal.Value.run m' g')
  obtain ⟨h0, h1, h2, h3, h4, h5, h6, h7⟩ := he c
  obtain ⟨e1, e2, e3, ha⟩ := h c
  have hrow : ∀ p, Cert.MixedRoutedIdeal.Read.row m' c p = Cert.RoutedIdeal.Body.row m c p := by
    intro p; unfold Cert.MixedRoutedIdeal.Read.row Cert.RoutedIdeal.Body.row; rw [h0, h1, h2, h3, h4, h5, h6]
  have hnext : ∀ p, Cert.MixedRoutedIdeal.Read.next m' c p = Cert.RoutedIdeal.Body.next m c p := by
    intro p; funext l; unfold Cert.MixedRoutedIdeal.Read.next Cert.RoutedIdeal.Body.next; rw [hrow, h4]
  refine ⟨?_, ?_, ?_, ha⟩
  · funext i
    obtain ⟨p, l, rfl⟩ := ProjClaims.pair (n := 65536) (k := 1024) i
    exact (congrFun e1 (ix2 p l)).trans ((Cert.MixedRoutedIdeal.Read.first_at m' c p l).trans
      ((congrFun (hrow p) l).trans (Cert.RoutedIdeal.Body.finalA m c p l).symm))
  · funext i
    obtain ⟨p, l, rfl⟩ := ProjClaims.pair (n := 65536) (k := 1024) i
    exact (congrFun e2 (ix2 p l)).trans ((Cert.MixedRoutedIdeal.Read.second_at m' c p l).trans
      ((congrFun (hnext p) l).trans (Cert.RoutedIdeal.Body.finalB m c p l).symm))
  · funext i
    obtain ⟨p, j, rfl⟩ := ProjClaims.pair (n := 65536) (k := 128) i
    refine (congrFun e3 (ix2 p j)).trans ((Cert.MixedRoutedIdeal.Read.third_at m' c p j).trans
      (Eq.trans ?_ (Cert.RoutedIdeal.Body.finalC m c p j).symm))
    rw [hnext, h7]

end Cert.Proof.MixClaims

end
-- ==== Proof.ModulationValue.lean ====
/-
  The modulation call over the extended reals: what each block reads of the host's arrays, what a point leaves in the result's
  buffer, and the result entry by entry.
-/
module

public import proofs.«01_k».proof.Proof.Gen.ModulationIdeal.Value
public import proofs.«01_k».proof.Proof.FfnSpec
public import Idealize.ShloMosaic.Lib.StableHlo.Run

@[expose] public section

set_option maxRecDepth 16384

noncomputable section

namespace Cert.ModulationSpec

/-- An entry of the modulation: the conditioning's silu through a column of the layer's weight, plus the bias. -/
def entry (c w : Fin 1024 → EReal) (b : EReal) : EReal := (∑ k, FfnSpec.silu (c k) * w k) + b

end Cert.ModulationSpec

namespace Cert.ModulationIdeal.Body

open Cert.ModulationIdeal Cert.ModulationIdeal.Gen Idealize.ShloMosaic Idealize.ShloMosaic.TcCoe Idealize.SL.Sem

theorem off3 : (![0, 0, 0] : Fin 3 → ℕ) = fun _ => 0 := by funext a; match a with | ⟨0, _⟩ => rfl | ⟨1, _⟩ => rfl | ⟨2, _⟩ => rfl

/-- What a point leaves in the result's buffer. -/
theorem out_at (x0 : Vec Ideal S16x1024 .f32) (x1 : Vec Ideal S1x1024x1536 .f32) (x2 : Vec Ideal S1x1x1536 .f32)
    (b : Fin 16) (n : Fin 1536) :
    out0_3 x0 x1 x2 (ix3 (0 : Fin 1) b n) = ModulationSpec.entry (fun k => x0 (ix2 b k)) (fun k => x1 (ix3 (0 : Fin 1) k n))
      (x2 (ix3 (0 : Fin 1) (0 : Fin 1) n)) := by
  unfold out0_3
  rw [View.canon_unit_zero off3]
  pointwise [k0_pay1, View.ld]
  simp only [zero_sub]
  rfl

variable (m : (ℓ : Loc nD τ sig) → Buf (Elt Ideal) ℓ)

/-- The bias the region finds: the host's reshape of the argument. -/
theorem V_bias (c : Dev nD) : V m c main_v0 = shapeCast S4x1x6144 (m ((c : Thread nD τ).loc main_arg2)) shapeCasts_S4x6144_S4x1x6144 := by
  show StableHlo.after hostOps0 _ main_v0 = _
  simp only [hostOps0]
  after_results_simp <;> rfl

theorem lt16 (t : Fin cfg0.N) : t.val < 16 := lt_of_lt_of_eq t.isLt N_0

/-- Where each window's block sits at a point: four column blocks to a layer. -/
theorem index_at : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] :=
  (by decide +kernel : ∀ t : Fin grid0.N, _)

theorem blk_c (c : Dev nD) (t : Fin cfg0.N) (b : Fin 16) (k : Fin 1024) :
    (iblk m c 0 t : Vec Ideal S16x1024 .f32) (ix2 b k) = m ((c : Thread nD τ).loc main_arg0) (ix2 b k) := by
  have e := (index_at t).1
  unfold iblk
  rw [View.read_apply]
  show V m c main_arg0 _ = _
  rw [V_main_arg0]
  congr 1
  funext a
  apply Fin.ext
  match a with
  | ⟨0, _⟩ => show win0_0.index t 0 * 16 + 1 * b.val = b.val; rw [e]; simp
  | ⟨1, _⟩ => show win0_0.index t 1 * 1024 + 1 * k.val = k.val; rw [e]; simp

theorem blk_w (c : Dev nD) (t : Fin cfg0.N) (k : Fin 1024) (n : Fin 1536) :
    (iblk m c 1 t : Vec Ideal S1x1024x1536 .f32) (ix3 (0 : Fin 1) k n) = m ((c : Thread nD τ).loc main_arg1)
      (ix3 (⟨t.val / 4, by have := lt16 t; omega⟩ : Fin 4) k (⟨t.val % 4 * 1536 + n.val, by omega⟩ : Fin 6144)) := by
  have e := (index_at t).2.1
  unfold iblk
  rw [View.read_apply]
  show V m c main_arg1 _ = _
  rw [V_main_arg1]
  congr 1
  funext a
  apply Fin.ext
  match a with
  | ⟨0, _⟩ => show win0_1.index t 0 * 1 + 1 * 0 = t.val / 4; rw [e]; simp
  | ⟨1, _⟩ => show win0_1.index t 1 * 1024 + 1 * k.val = k.val; rw [e]; simp
  | ⟨2, _⟩ => show win0_1.index t 2 * 1536 + 1 * n.val = t.val % 4 * 1536 + n.val; rw [e]; simp

theorem blk_b (c : Dev nD) (t : Fin cfg0.N) (n : Fin 1536) :
    (iblk m c 2 t : Vec Ideal S1x1x1536 .f32) (ix3 (0 : Fin 1) (0 : Fin 1) n) = m ((c : Thread nD τ).loc main_arg2)
      (ix2 (⟨t.val / 4, by have := lt16 t; omega⟩ : Fin 4) (⟨t.val % 4 * 1536 + n.val, by omega⟩ : Fin 6144)) := by
  have e := (index_at t).2.2.1
  unfold iblk
  rw [View.read_apply]
  show V m c main_v0 _ = _
  rw [V_bias]
  have hi : ∀ (l : Fin 4) (q : Fin 6144) (y : S4x1x6144.Idx), y = ix3 l (0 : Fin 1) q →
      shapeCast S4x1x6144 (m ((c : Thread nD τ).loc main_arg2)) shapeCasts_S4x6144_S4x1x6144 y
        = m ((c : Thread nD τ).loc main_arg2) (ix2 l q) := by
    rintro l q y rfl
    refine shapeCast_apply _ _ _ _ ?_
    refine (Shape.rowMajor_val_two (d := S4x6144.size) (ix2 l q)).trans (Eq.trans ?_ (Shape.rowMajor_val_three (d := S4x1x6144.size) (ix3 l (0 : Fin 1) q)).symm)
    show l.val * 6144 + q.val = (l.val * 1 + 0) * 6144 + q.val
    omega
  refine hi _ _ _ ?_
  funext a
  apply Fin.ext
  match a with
  | ⟨0, _⟩ => show win0_2.index t 0 * 1 + 1 * 0 = t.val / 4; rw [e]; simp
  | ⟨1, _⟩ => show win0_2.index t 1 * 1 + 1 * 0 = 0; rw [e]; simp
  | ⟨2, _⟩ => show win0_2.index t 2 * 1536 + 1 * n.val = t.val % 4 * 1536 + n.val; rw [e]; simp

/-- Where a layer's column sits: its block and its place in it. -/
theorem place (l : Fin 4) (q : Fin 6144) : ∃ (t : Fin cfg0.N) (n : Fin 1536),
    l = (⟨t.val / 4, by have := lt16 t; omega⟩ : Fin 4) ∧ q = (⟨t.val % 4 * 1536 + n.val, by omega⟩ : Fin 6144) :=
  ⟨⟨l.val * 4 + q.val / 1536, by have : cfg0.N = 16 := N_0; omega⟩, ⟨q.val % 1536, by omega⟩,
    by apply Fin.ext; show l.val = (l.val * 4 + q.val / 1536) / 4; omega,
    by apply Fin.ext; show q.val = (l.val * 4 + q.val / 1536) % 4 * 1536 + q.val % 1536; omega⟩

theorem final (c : Dev nD) (l : Fin 4) (b : Fin 16) (q : Fin 6144) :
    (dats m 0 c).arrAt 3 cfg0.N (ix3 l b q) = ModulationSpec.entry (fun k => m ((c : Thread nD τ).loc main_arg0) (ix2 b k))
      (fun k => m ((c : Thread nD τ).loc main_arg1) (ix3 l k q)) (m ((c : Thread nD τ).loc main_arg2) (ix2 l q)) := by
  obtain ⟨t, n, rfl, rfl⟩ := place l q
  refine Eq.trans ?_ ((out_at (iblk m c 0 t) (iblk m c 1 t) (iblk m c 2 t) b n).trans (by simp only [blk_c, blk_w, blk_b]))
  have e := (index_at t).2.2.2
  refine Eq.trans ?_ (congrFun ((Value.blocks3 m c t (flush0_3 t)).trans (Value.flushed3 m c t)) (ix3 (0 : Fin 1) b n))
  rw [View.read_apply]
  congr 1
  funext a
  apply Fin.ext
  match a with
  | ⟨0, _⟩ => show t.val / 4 = win0_3.index t 0 * 1 + 1 * 0; rw [e]; simp
  | ⟨1, _⟩ => show b.val = win0_3.index t 1 * 16 + 1 * b.val; rw [e]; simp
  | ⟨2, _⟩ => show t.val % 4 * 1536 + n.val = win0_3.index t 2 * 1536 + 1 * n.val; rw [e]; simp

end Cert.ModulationIdeal.Body

end
-- ==== Proof.ModulationClaims.lean ====
/-
  The claims on the modulation call: the frames of the call as printed, of its reading over the extended reals and of its
  reference, and the equality of the two results.
-/
module

public import proofs.«01_k».proof.Defs
public import proofs.«01_k».proof.Proof.Gen.Modulation.Frame
public import proofs.«01_k».proof.Proof.Gen.ConditionedIdeal.Run
public import proofs.«01_k».proof.Proof.ModulationValue
public import proofs.«01_k».proof.Proof.ProjClaims
public import Idealize.ShloMosaic.Lib.Quiescent

@[expose] public section

set_option maxRecDepth 16384

noncomputable section

namespace Cert.Proof.ModulationClaims

open Idealize.ShloMosaic Idealize.ShloMosaic.TcCoe Idealize.SL.Sem

theorem frame_call : Cert.quiescent_Modulation := fun m ρ _ => Cert.Modulation.Gen.frame m ρ

theorem frame_ideal : Cert.quiescent_ModulationIdeal := fun m ρ _ => Cert.ModulationIdeal.Gen.frame m ρ

/-- The reference is a straight run of host operations and declares no semaphore. -/
theorem frame_reference : Cert.quiescent_ConditionedIdeal := fun m ρ _ =>
  (θ_run Cert.ConditionedIdeal.defs _ _).mono (fun r h => ⟨fun c => (h c).2, sem_eq_zero_of_no_sems (by decide) r.2⟩)
    (Cert.ConditionedIdeal.Value.run m ρ)

/-- The reference's run with its result read entry by entry. -/
theorem run_entries (m : (ℓ : Loc Cert.ConditionedIdeal.nD Cert.ConditionedIdeal.τ Cert.ConditionedIdeal.sig) → Buf (Elt Ideal) ℓ)
    (ρ : Dev Cert.ConditionedIdeal.nD → PrngReg) :
    θ_run Cert.ConditionedIdeal.defs (onTc (τ := Cert.ConditionedIdeal.τ) (Cert.ConditionedIdeal.main (F := Ideal))) ⟨m, fun _ => 0, ρ⟩
      fun r => ∀ c : Dev Cert.ConditionedIdeal.nD,
        (∀ (l : Fin 4) (b : Fin 16) (q : Fin 6144), r.2.mem ((c.tc : Thread _ _).loc Cert.ConditionedIdeal.main_v40) (ix3 l b q)
          = ModulationSpec.entry (fun k => m ((c.tc : Thread _ _).loc Cert.ConditionedIdeal.main_arg0) (ix2 b k))
            (fun k => m ((c.tc : Thread _ _).loc Cert.ConditionedIdeal.main_arg1) (ix3 l k q))
            (m ((c.tc : Thread _ _).loc Cert.ConditionedIdeal.main_arg2) (ix2 l q)))
        ∧ r.2.mem ((c.tc : Thread _ _).loc Cert.ConditionedIdeal.main_arg0) = m ((c.tc : Thread _ _).loc Cert.ConditionedIdeal.main_arg0)
        ∧ r.2.mem ((c.tc : Thread _ _).loc Cert.ConditionedIdeal.main_arg1) = m ((c.tc : Thread _ _).loc Cert.ConditionedIdeal.main_arg1)
        ∧ r.2.mem ((c.tc : Thread _ _).loc Cert.ConditionedIdeal.main_arg2) = m ((c.tc : Thread _ _).loc Cert.ConditionedIdeal.main_arg2) := by
  refine (θ_run Cert.ConditionedIdeal.defs _ _).mono (fun r h c => ⟨fun l b q => ?_, (h c).2⟩) (Cert.ConditionedIdeal.Value.run m ρ)
  refine (congrFun (h c).1 (ix3 l b q)).trans ?_
  match l with
  | 0 => pointwise []; rfl
  | 1 => pointwise []; rfl
  | 2 => pointwise []; rfl
  | 3 => pointwise []; rfl

theorem equal_modulation : Cert.algebraic_ModulationIdeal_ConditionedIdeal := by
  intro m g m' g' _ he
  refine ⟨fun c => (Cert.ModulationIdeal.Gen.dats m 0 c).arrAt 3 Cert.ModulationIdeal.cfg0.N, Cert.ModulationIdeal.Value.run_blocks m g, ?_⟩
  refine (θ_run Cert.ConditionedIdeal.defs _ _).mono (fun r h c => ?_) (run_entries m' g')
  obtain ⟨h0, h1, h2⟩ := he c
  obtain ⟨e1, ha⟩ := h c
  refine ⟨?_, ha⟩
  funext i
  obtain ⟨l, b, q, rfl⟩ := ProjClaims.triple (n := 4) (k := 16) (l := 6144) i
  refine (e1 l b q).trans (Eq.trans ?_ (Cert.ModulationIdeal.Body.final m c l b q).symm)
  rw [h0, h1, h2]

end Cert.Proof.ModulationClaims

end
-- ==== Proof.lean ====
/-
  The certificate: the sparse attention's kernel and its plain reference both run to the end, leave their
  arguments as they were and every semaphore counter at zero; so do the dense feed-forward call, its reading over the
  extended reals and its reference, and the last two end with the same result; so do the grouped expert call, its
  reading and its reference, and the last two end with the same rows in the used tiles; so do the input projections, their
  reading and their reference, and the last two end with the same four results; so do the output projection of the dense
  and of the routed layers, their readings and their references, each pair ending with the same results;
  and so do the modulation, its reading and its reference, with the same result.
-/
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.Kernel.Frame
public import proofs.«01_k».proof.Proof.Gen.Plain
public import proofs.«01_k».proof.Proof.Gen.Plain.Launch
public import proofs.«01_k».proof.Proof.Gen.Plain.Points
public import proofs.«01_k».proof.Proof.Gen.Plain.Frame
public import proofs.«01_k».proof.Proof.RunKernel
public import proofs.«01_k».proof.Proof.RunPlain
public import proofs.«01_k».proof.Proof.Gen.Ffn
public import proofs.«01_k».proof.Proof.Gen.Ffn.Launch
public import proofs.«01_k».proof.Proof.Gen.Ffn.Frame
public import proofs.«01_k».proof.Proof.Gen.FfnIdeal.Launch
public import proofs.«01_k».proof.Proof.Gen.FfnIdeal.Frame
public import proofs.«01_k».proof.Proof.Gen.FfnIdeal.Value
public import proofs.«01_k».proof.Proof.Gen.SwigluIdeal.Run
public import proofs.«01_k».proof.Proof.FfnClaims
public import proofs.«01_k».proof.Proof.Gen.Grouped
public import proofs.«01_k».proof.Proof.Gen.Grouped.Launch
public import proofs.«01_k».proof.Proof.Gen.GroupedIdeal.Launch
public import proofs.«01_k».proof.Proof.Gen.GroupedIdeal.Skeleton
public import proofs.«01_k».proof.Proof.Gen.ExpertsIdeal.Run
public import proofs.«01_k».proof.Proof.GroupedClaims
public import proofs.«01_k».proof.Proof.Gen.Proj
public import proofs.«01_k».proof.Proof.Gen.Proj.Launch
public import proofs.«01_k».proof.Proof.Gen.Proj.Frame
public import proofs.«01_k».proof.Proof.Gen.ProjIdeal.Launch
public import proofs.«01_k».proof.Proof.Gen.ProjIdeal.Frame
public import proofs.«01_k».proof.Proof.Gen.ProjIdeal.Value
public import proofs.«01_k».proof.Proof.Gen.ProjectionsIdeal.Run
public import proofs.«01_k».proof.Proof.ProjClaims
public import proofs.«01_k».proof.Proof.Gen.Outproj
public import proofs.«01_k».proof.Proof.Gen.Outproj.Launch
public import proofs.«01_k».proof.Proof.Gen.Outproj.Frame
public import proofs.«01_k».proof.Proof.Gen.OutprojIdeal.Launch
public import proofs.«01_k».proof.Proof.Gen.OutprojIdeal.Frame
public import proofs.«01_k».proof.Proof.Gen.OutprojIdeal.Value
public import proofs.«01_k».proof.Proof.Gen.Routed
public import proofs.«01_k».proof.Proof.Gen.Routed.Launch
public import proofs.«01_k».proof.Proof.Gen.Routed.Frame
public import proofs.«01_k».proof.Proof.Gen.RoutedIdeal.Launch
public import proofs.«01_k».proof.Proof.Gen.RoutedIdeal.Frame
public import proofs.«01_k».proof.Proof.Gen.RoutedIdeal.Value
public import proofs.«01_k».proof.Proof.Gen.MixedIdeal.Run
public import proofs.«01_k».proof.Proof.Gen.MixedRoutedIdeal.Run
public import proofs.«01_k».proof.Proof.MixClaims
public import proofs.«01_k».proof.Proof.ModulationClaims
public import proofs.«01_k».proof.Proof.Gen.Modulation
public import proofs.«01_k».proof.Proof.Gen.Modulation.Launch
public import proofs.«01_k».proof.Proof.Gen.Modulation.Frame
public import proofs.«01_k».proof.Proof.Gen.ModulationIdeal.Launch
public import proofs.«01_k».proof.Proof.Gen.ModulationIdeal.Frame
public import proofs.«01_k».proof.Proof.Gen.ModulationIdeal.Value
public import proofs.«01_k».proof.Proof.Gen.ConditionedIdeal.Run
public import Idealize.ShloMosaic.Adequacy
public import Idealize.ShloMosaic.Init

@[expose] public section

/-- The claims, under the generated side conditions. No operation of these calls is replaced, so their `preserves`
    state nothing. -/
theorem Cert.Proof.claim : Cert.Claim :=
  ⟨Cert.Kernel.Gen.facts, Cert.Plain.Gen.facts, Cert.Ffn.Gen.facts, Cert.FfnIdeal.Gen.facts, Cert.SwigluIdeal.Gen.facts,
    Cert.Grouped.Gen.facts, Cert.GroupedIdeal.Gen.facts, Cert.ExpertsIdeal.Gen.facts, Cert.Proj.Gen.facts,
    Cert.ProjIdeal.Gen.facts, Cert.ProjectionsIdeal.Gen.facts, Cert.Outproj.Gen.facts, Cert.OutprojIdeal.Gen.facts,
    Cert.MixedIdeal.Gen.facts, Cert.Routed.Gen.facts, Cert.RoutedIdeal.Gen.facts, Cert.MixedRoutedIdeal.Gen.facts,
    Cert.Modulation.Gen.facts, Cert.ModulationIdeal.Gen.facts, Cert.ConditionedIdeal.Gen.facts,
    Cert.Proof.GroupedFrame.named_facts,
    Cert.Proof.GroupedClaims.rows_facts,
    fun m ρ _ => Cert.Proof.RunKernel.frame (F := Idealize.ShloMosaic.Bits) m ρ,
    fun m ρ _ => Cert.Proof.RunPlain.frame (F := Idealize.ShloMosaic.Bits) m ρ,
    Cert.Proof.FfnClaims.frame_call, Cert.Proof.FfnClaims.frame_ideal, Cert.Proof.FfnClaims.frame_reference,
    Cert.Proof.GroupedFrame.frame_call, Cert.Proof.GroupedFrame.frame_ideal, Cert.Proof.GroupedClaims.frame_reference,
    Cert.Proof.GroupedClaims.frame_reference_named,
    Cert.Proof.ProjClaims.frame_call, Cert.Proof.ProjClaims.frame_ideal, Cert.Proof.ProjClaims.frame_reference,
    Cert.Proof.MixClaims.frame_dense, Cert.Proof.MixClaims.frame_dense_ideal, Cert.Proof.MixClaims.frame_dense_reference,
    Cert.Proof.MixClaims.frame_routed, Cert.Proof.MixClaims.frame_routed_ideal, Cert.Proof.MixClaims.frame_routed_reference,
    Cert.Proof.ModulationClaims.frame_call, Cert.Proof.ModulationClaims.frame_ideal, Cert.Proof.ModulationClaims.frame_reference,
    trivial, Cert.Proof.FfnClaims.equal_results, trivial, Cert.Proof.GroupedClaims.equal_rows,
    trivial, Cert.Proof.ProjClaims.equal_projections,
    trivial, Cert.Proof.MixClaims.equal_dense, trivial, Cert.Proof.MixClaims.equal_routed,
    trivial, Cert.Proof.ModulationClaims.equal_modulation⟩

end
